-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v22_0)) (v3 : (c : Dev Cert.KernelIdeal.nD) → Buf (Elt Ideal) ((c.tc : Thread Cert.KernelIdeal.nD Cert.KernelIdeal.τ).loc Cert.KernelIdeal.main_v23_0)) (v4 : (c : Dev Cert.KernelIdeal.nD) → Buf (Elt Ideal) ((c.tc : Thread Cert.KernelIdeal.nD Cert.KernelIdeal.τ).loc Cert.KernelIdeal.main_v27_1)) (v5 : (c : Dev Cert.KernelIdeal.nD) → Buf (Elt Ideal) ((c.tc : Thread Cert.KernelIdeal.nD Cert.KernelIdeal.τ).loc Cert.KernelIdeal.main_v37_0)) (v6 : (c : Dev Cert.KernelIdeal.nD) → Buf (Elt Ideal) ((c.tc : Thread Cert.KernelIdeal.nD Cert.KernelIdeal.τ).loc Cert.KernelIdeal.main_v38_0)) (v7 : (c : Dev Cert.KernelIdeal.nD) → Buf (Elt Ideal) ((c.tc : Thread Cert.KernelIdeal.nD Cert.KernelIdeal.τ).loc Cert.KernelIdeal.main_v41_1)) (v8 : (c : Dev Cert.KernelIdeal.nD) → Buf (Elt Ideal) ((c.tc : Thread Cert.KernelIdeal.nD Cert.KernelIdeal.τ).loc Cert.KernelIdeal.main_v21_1)) (v9 : (c : Dev Cert.KernelIdeal.nD) → Buf (Elt Ideal) ((c.tc : Thread Cert.KernelIdeal.nD Cert.KernelIdeal.τ).loc Cert.KernelIdeal.main_v24_1)) (v10 : (c : Dev Cert.KernelIdeal.nD) → Buf (Elt Ideal) ((c.tc : Thread Cert.KernelIdeal.nD Cert.KernelIdeal.τ).loc Cert.KernelIdeal.main_v36)) (v11 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v22_0) = v2 c
          ∧ r.2.mem ((c.tc : Thread Cert.KernelIdeal.nD Cert.KernelIdeal.τ).loc Cert.KernelIdeal.main_v23_0) = v3 c
          ∧ r.2.mem ((c.tc : Thread Cert.KernelIdeal.nD Cert.KernelIdeal.τ).loc Cert.KernelIdeal.main_v27_1) = v4 c
          ∧ r.2.mem ((c.tc : Thread Cert.KernelIdeal.nD Cert.KernelIdeal.τ).loc Cert.KernelIdeal.main_v37_0) = v5 c
          ∧ r.2.mem ((c.tc : Thread Cert.KernelIdeal.nD Cert.KernelIdeal.τ).loc Cert.KernelIdeal.main_v38_0) = v6 c
          ∧ r.2.mem ((c.tc : Thread Cert.KernelIdeal.nD Cert.KernelIdeal.τ).loc Cert.KernelIdeal.main_v41_1) = v7 c
          ∧ r.2.mem ((c.tc : Thread Cert.KernelIdeal.nD Cert.KernelIdeal.τ).loc Cert.KernelIdeal.main_v21_1) = v8 c
          ∧ r.2.mem ((c.tc : Thread Cert.KernelIdeal.nD Cert.KernelIdeal.τ).loc Cert.KernelIdeal.main_v24_1) = v9 c
          ∧ r.2.mem ((c.tc : Thread Cert.KernelIdeal.nD Cert.KernelIdeal.τ).loc Cert.KernelIdeal.main_v36) = v10 c
          ∧ r.2.mem ((c.tc : Thread Cert.KernelIdeal.nD Cert.KernelIdeal.τ).loc Cert.KernelIdeal.main_v39) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v127) = v5 c
          ∧ r.2.mem ((c.tc : Thread Cert.ReferenceIdeal.nD Cert.ReferenceIdeal.τ).loc Cert.ReferenceIdeal.main_v128) = v6 c
          ∧ r.2.mem ((c.tc : Thread Cert.ReferenceIdeal.nD Cert.ReferenceIdeal.τ).loc Cert.ReferenceIdeal.main_v164) = v7 c
          ∧ r.2.mem ((c.tc : Thread Cert.ReferenceIdeal.nD Cert.ReferenceIdeal.τ).loc Cert.ReferenceIdeal.main_v110) = v8 c
          ∧ r.2.mem ((c.tc : Thread Cert.ReferenceIdeal.nD Cert.ReferenceIdeal.τ).loc Cert.ReferenceIdeal.main_v111) = v9 c
          ∧ r.2.mem ((c.tc : Thread Cert.ReferenceIdeal.nD Cert.ReferenceIdeal.τ).loc Cert.ReferenceIdeal.main_v213) = v10 c
          ∧ r.2.mem ((c.tc : Thread Cert.ReferenceIdeal.nD Cert.ReferenceIdeal.τ).loc Cert.ReferenceIdeal.main_v214) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "inv_ln2" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x2048x4096 : Shape := ⟨3, ![4, 2048, 4096]⟩
abbrev S32x64x4096 : Shape := ⟨3, ![32, 64, 4096]⟩
abbrev S8192x2048 : Shape := ⟨2, ![8192, 2048]⟩
abbrev S2048x2048 : Shape := ⟨2, ![2048, 2048]⟩
abbrev S1x32x2x2048 : Shape := ⟨4, ![1, 32, 2, 2048]⟩
abbrev S1x4096x24576 : Shape := ⟨3, ![1, 4096, 24576]⟩
abbrev S1x24576 : Shape := ⟨2, ![1, 24576]⟩
abbrev S1x3x2048 : Shape := ⟨3, ![1, 3, 2048]⟩
abbrev S1x2048 : Shape := ⟨2, ![1, 2048]⟩
abbrev S1x2048x4096 : Shape := ⟨3, ![1, 2048, 4096]⟩
abbrev S1x4096x4096 : Shape := ⟨3, ![1, 4096, 4096]⟩
abbrev S1x4096 : Shape := ⟨2, ![1, 4096]⟩
abbrev S4096x24576 : Shape := ⟨2, ![4096, 24576]⟩
abbrev S24576 : Shape := ⟨1, ![24576]⟩
abbrev S3x2048 : Shape := ⟨2, ![3, 2048]⟩
abbrev S2048 : Shape := ⟨1, ![2048]⟩
abbrev S2048x4096 : Shape := ⟨2, ![2048, 4096]⟩
abbrev S4096x4096 : Shape := ⟨2, ![4096, 4096]⟩
abbrev S4096 : Shape := ⟨1, ![4096]⟩
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1x512 : Shape := ⟨2, ![1, 512]⟩
abbrev S4096x256 : Shape := ⟨2, ![4096, 256]⟩
abbrev S1024x512 : Shape := ⟨2, ![1024, 512]⟩
abbrev S1x8192 : Shape := ⟨2, ![1, 8192]⟩
abbrev S4096x16384 : Shape := ⟨2, ![4096, 16384]⟩
abbrev S8192x8192 : Shape := ⟨2, ![8192, 8192]⟩
abbrev S4096x1024 : Shape := ⟨2, ![4096, 1024]⟩
abbrev S1x1024 : Shape := ⟨2, ![1, 1024]⟩
abbrev S1024x1024 : Shape := ⟨2, ![1024, 1024]⟩
abbrev S2048x256 : Shape := ⟨2, ![2048, 256]⟩
abbrev S8192x16x128 : Shape := ⟨3, ![8192, 16, 128]⟩
abbrev S1024x8x128 : Shape := ⟨3, ![1024, 8, 128]⟩
abbrev S2048x128 : Shape := ⟨2, ![2048, 128]⟩
abbrev S_ : Shape := ⟨0, ![]⟩
abbrev S4x2x2048 : Shape := ⟨3, ![4, 2, 2048]⟩
abbrev S2048x512 : Shape := ⟨2, ![2048, 512]⟩
abbrev S1x2x512 : Shape := ⟨3, ![1, 2, 512]⟩
abbrev S3x512 : Shape := ⟨2, ![3, 512]⟩
abbrev S2x512 : Shape := ⟨2, ![2, 512]⟩
abbrev S1024x2048 : Shape := ⟨2, ![1024, 2048]⟩
abbrev S2048x1024 : Shape := ⟨2, ![2048, 1024]⟩
abbrev S256x4096 : Shape := ⟨2, ![256, 4096]⟩
abbrev S256 : Shape := ⟨1, ![256]⟩
abbrev S256x1 : Shape := ⟨2, ![256, 1]⟩
abbrev S32x2x2048 : Shape := ⟨3, ![32, 2, 2048]⟩
abbrev S2048x8192 : Shape := ⟨2, ![2048, 8192]⟩
abbrev S2048x16x128 : Shape := ⟨3, ![2048, 16, 128]⟩
abbrev S64x2048 : Shape := ⟨2, ![64, 2048]⟩
abbrev S1x2x2048 : Shape := ⟨3, ![1, 2, 2048]⟩
abbrev S2x2048 : Shape := ⟨2, ![2, 2048]⟩

abbrev nBuf : Space → Nat
  | .hbm => 70
  | .vmem => 228
  | .smem => 0
  | _ => 0

abbrev vmemTy0_0 (i : Nat) : BufTy := match i % 128 with
  | 0 => ⟨S1024x4096, .bf16⟩
  | 1 => ⟨S1024x4096, .bf16⟩
  | 2 => ⟨S4096x512, .bf16⟩
  | 3 => ⟨S4096x512, .bf16⟩
  | 4 => ⟨S4096x512, .bf16⟩
  | 5 => ⟨S4096x512, .bf16⟩
  | 6 => ⟨S1x512, .f32⟩
  | 7 => ⟨S1x512, .f32⟩
  | 8 => ⟨S1x512, .f32⟩
  | 9 => ⟨S1x512, .f32⟩
  | 10 => ⟨S4096x256, .f32⟩
  | 11 => ⟨S4096x256, .f32⟩
  | 12 => ⟨S4096x256, .bf16⟩
  | 13 => ⟨S4096x256, .bf16⟩
  | 14 => ⟨S1024x512, .f32⟩
  | 15 => ⟨S1024x512, .f32⟩
  | 16 => ⟨S1024x4096, .bf16⟩
  | 17 => ⟨S1024x4096, .bf16⟩
  | 18 => ⟨S4096x1024, .bf16⟩
  | 19 => ⟨S4096x1024, .bf16⟩
  | 20 => ⟨S1x1024, .f32⟩
  | 21 => ⟨S1x1024, .f32⟩
  | 22 => ⟨S4096x256, .f32⟩
  | 23 => ⟨S4096x256, .f32⟩
  | 24 => ⟨S4096x256, .bf16⟩
  | 25 => ⟨S4096x256, .bf16⟩
  | 26 => ⟨S1024x1024, .bf16⟩
  | 27 => ⟨S1024x1024, .bf16⟩
  | 28 => ⟨S1024x4096, .bf16⟩
  | 29 => ⟨S1024x4096, .bf16⟩
  | 30 => ⟨S4096x1024, .bf16⟩
  | 31 => ⟨S4096x1024, .bf16⟩
  | 32 => ⟨S1x1024, .f32⟩
  | 33 => ⟨S1x1024, .f32⟩
  | 34 => ⟨S2048x256, .f32⟩
  | 35 => ⟨S2048x256, .f32⟩
  | 36 => ⟨S2048x256, .bf16⟩
  | 37 => ⟨S2048x256, .bf16⟩
  | 38 => ⟨S1024x1024, .bf16⟩
  | 39 => ⟨S1024x1024, .bf16⟩
  | 40 => ⟨S1024x4096, .bf16⟩
  | 41 => ⟨S1024x4096, .bf16⟩
  | 42 => ⟨S4096x1024, .bf16⟩
  | 43 => ⟨S4096x1024, .bf16⟩
  | 44 => ⟨S1x1024, .f32⟩
  | 45 => ⟨S1x1024, .f32⟩
  | 46 => ⟨S1024x8x128, .f32⟩
  | 47 => ⟨S1024x8x128, .f32⟩
  | 48 => ⟨S1024x1024, .bf16⟩
  | 49 => ⟨S1024x1024, .bf16⟩
  | 50 => ⟨S1024x4096, .bf16⟩
  | 51 => ⟨S1024x4096, .bf16⟩
  | 52 => ⟨S4096x1024, .bf16⟩
  | 53 => ⟨S4096x1024, .bf16⟩
  | 54 => ⟨S1x1024, .f32⟩
  | 55 => ⟨S1x1024, .f32⟩
  | 56 => ⟨S1024x8x128, .f32⟩
  | 57 => ⟨S1024x8x128, .f32⟩
  | 58 => ⟨S1024x1024, .bf16⟩
  | 59 => ⟨S1024x1024, .bf16⟩
  | 60 => ⟨S1024x4096, .bf16⟩
  | 61 => ⟨S1024x4096, .bf16⟩
  | 62 => ⟨S4096x1024, .bf16⟩
  | 63 => ⟨S4096x1024, .bf16⟩
  | 64 => ⟨S1x1024, .f32⟩
  | 65 => ⟨S1x1024, .f32⟩
  | 66 => ⟨S4096x256, .f32⟩
  | 67 => ⟨S4096x256, .f32⟩
  | 68 => ⟨S4096x256, .bf16⟩
  | 69 => ⟨S4096x256, .bf16⟩
  | 70 => ⟨S1024x1024, .bf16⟩
  | 71 => ⟨S1024x1024, .bf16⟩
  | 72 => ⟨S1024x4096, .bf16⟩
  | 73 => ⟨S1024x4096, .bf16⟩
  | 74 => ⟨S4096x512, .bf16⟩
  | 75 => ⟨S4096x512, .bf16⟩
  | 76 => ⟨S4096x512, .bf16⟩
  | 77 => ⟨S4096x512, .bf16⟩
  | 78 => ⟨S1x512, .f32⟩
  | 79 => ⟨S1x512, .f32⟩
  | 80 => ⟨S1x512, .f32⟩
  | 81 => ⟨S1x512, .f32⟩
  | 82 => ⟨S2048x128, .f32⟩
  | 83 => ⟨S2048x128, .f32⟩
  | 84 => ⟨S2048x128, .bf16⟩
  | 85 => ⟨S2048x128, .bf16⟩
  | 86 => ⟨S1024x512, .bf16⟩
  | 87 => ⟨S1024x512, .bf16⟩
  | 88 => ⟨S2048x512, .f32⟩
  | 89 => ⟨S2048x512, .f32⟩
  | 90 => ⟨S2048x512, .bf16⟩
  | 91 => ⟨S2048x512, .bf16⟩
  | 92 => ⟨S1x2x512, .f32⟩
  | 93 => ⟨S1x2x512, .f32⟩
  | 94 => ⟨S3x512, .f32⟩
  | 95 => ⟨S3x512, .f32⟩
  | 96 => ⟨S1x512, .f32⟩
  | 97 => ⟨S1x512, .f32⟩
  | 98 => ⟨S2048x512, .bf16⟩
  | 99 => ⟨S2048x512, .bf16⟩
  | 100 => ⟨S1x2x512, .f32⟩
  | 101 => ⟨S1x2x512, .f32⟩
  | 102 => ⟨S1024x2048, .bf16⟩
  | 103 => ⟨S1024x2048, .bf16⟩
  | 104 => ⟨S1024x2048, .bf16⟩
  | 105 => ⟨S1024x2048, .bf16⟩
  | 106 => ⟨S2048x1024, .bf16⟩
  | 107 => ⟨S2048x1024, .bf16⟩
  | 108 => ⟨S2048x1024, .bf16⟩
  | 109 => ⟨S2048x1024, .bf16⟩
  | 110 => ⟨S1024x1024, .bf16⟩
  | 111 => ⟨S1024x1024, .bf16⟩
  | 112 => ⟨S1024x1024, .bf16⟩
  | 113 => ⟨S1024x1024, .bf16⟩
  | 114 => ⟨S1024x1024, .bf16⟩
  | 115 => ⟨S1024x1024, .bf16⟩
  | 116 => ⟨S256x4096, .bf16⟩
  | 117 => ⟨S256x4096, .bf16⟩
  | 118 => ⟨S4096x4096, .bf16⟩
  | 119 => ⟨S256x4096, .f32⟩
  | 120 => ⟨S256x4096, .f32⟩
  | 121 => ⟨S1x4096, .f32⟩
  | 122 => ⟨S1x4096, .f32⟩
  | 123 => ⟨S256x4096, .f32⟩
  | 124 => ⟨S256x4096, .f32⟩
  | 125 => ⟨S1024x4096, .bf16⟩
  | 126 => ⟨S1024x4096, .bf16⟩
  | 127 => ⟨S4096x1024, .bf16⟩
  | _ => ⟨S4x2048x4096, .f32⟩

abbrev vmemTy0_1 (i : Nat) : BufTy := match i % 128 with
  | 0 => ⟨S4096x1024, .bf16⟩
  | 1 => ⟨S1x1024, .f32⟩
  | 2 => ⟨S1x1024, .f32⟩
  | 3 => ⟨S1024x1024, .bf16⟩
  | 4 => ⟨S1024x1024, .bf16⟩
  | 5 => ⟨S1024x4096, .bf16⟩
  | 6 => ⟨S1024x4096, .bf16⟩
  | 7 => ⟨S4096x512, .bf16⟩
  | 8 => ⟨S4096x512, .bf16⟩
  | 9 => ⟨S4096x512, .bf16⟩
  | 10 => ⟨S4096x512, .bf16⟩
  | 11 => ⟨S1x512, .f32⟩
  | 12 => ⟨S1x512, .f32⟩
  | 13 => ⟨S1x512, .f32⟩
  | 14 => ⟨S1x512, .f32⟩
  | 15 => ⟨S1024x512, .f32⟩
  | 16 => ⟨S1024x512, .f32⟩
  | 17 => ⟨S1024x4096, .bf16⟩
  | 18 => ⟨S1024x4096, .bf16⟩
  | 19 => ⟨S4096x1024, .bf16⟩
  | 20 => ⟨S4096x1024, .bf16⟩
  | 21 => ⟨S1x1024, .f32⟩
  | 22 => ⟨S1x1024, .f32⟩
  | 23 => ⟨S1024x1024, .bf16⟩
  | 24 => ⟨S1024x1024, .bf16⟩
  | 25 => ⟨S1024x4096, .bf16⟩
  | 26 => ⟨S1024x4096, .bf16⟩
  | 27 => ⟨S4096x1024, .bf16⟩
  | 28 => ⟨S4096x1024, .bf16⟩
  | 29 => ⟨S1x1024, .f32⟩
  | 30 => ⟨S1x1024, .f32⟩
  | 31 => ⟨S1024x8x128, .f32⟩
  | 32 => ⟨S1024x8x128, .f32⟩
  | 33 => ⟨S1024x1024, .bf16⟩
  | 34 => ⟨S1024x1024, .bf16⟩
  | 35 => ⟨S1024x4096, .bf16⟩
  | 36 => ⟨S1024x4096, .bf16⟩
  | 37 => ⟨S4096x1024, .bf16⟩
  | 38 => ⟨S4096x1024, .bf16⟩
  | 39 => ⟨S1x1024, .f32⟩
  | 40 => ⟨S1x1024, .f32⟩
  | 41 => ⟨S1024x8x128, .f32⟩
  | 42 => ⟨S1024x8x128, .f32⟩
  | 43 => ⟨S1024x1024, .bf16⟩
  | 44 => ⟨S1024x1024, .bf16⟩
  | 45 => ⟨S1024x4096, .bf16⟩
  | 46 => ⟨S1024x4096, .bf16⟩
  | 47 => ⟨S4096x1024, .bf16⟩
  | 48 => ⟨S4096x1024, .bf16⟩
  | 49 => ⟨S1x1024, .f32⟩
  | 50 => ⟨S1x1024, .f32⟩
  | 51 => ⟨S1024x1024, .bf16⟩
  | 52 => ⟨S1024x1024, .bf16⟩
  | 53 => ⟨S1024x4096, .bf16⟩
  | 54 => ⟨S1024x4096, .bf16⟩
  | 55 => ⟨S4096x512, .bf16⟩
  | 56 => ⟨S4096x512, .bf16⟩
  | 57 => ⟨S4096x512, .bf16⟩
  | 58 => ⟨S4096x512, .bf16⟩
  | 59 => ⟨S1x512, .f32⟩
  | 60 => ⟨S1x512, .f32⟩
  | 61 => ⟨S1x512, .f32⟩
  | 62 => ⟨S1x512, .f32⟩
  | 63 => ⟨S1024x512, .bf16⟩
  | 64 => ⟨S1024x512, .bf16⟩
  | 65 => ⟨S64x2048, .f32⟩
  | 66 => ⟨S64x2048, .f32⟩
  | 67 => ⟨S64x2048, .bf16⟩
  | 68 => ⟨S64x2048, .bf16⟩
  | 69 => ⟨S1x2x2048, .f32⟩
  | 70 => ⟨S1x2x2048, .f32⟩
  | 71 => ⟨S3x2048, .f32⟩
  | 72 => ⟨S1x2048, .f32⟩
  | 73 => ⟨S64x2048, .bf16⟩
  | 74 => ⟨S64x2048, .bf16⟩
  | 75 => ⟨S1x2x2048, .f32⟩
  | 76 => ⟨S1x2x2048, .f32⟩
  | 77 => ⟨S1024x2048, .bf16⟩
  | 78 => ⟨S1024x2048, .bf16⟩
  | 79 => ⟨S1024x2048, .bf16⟩
  | 80 => ⟨S1024x2048, .bf16⟩
  | 81 => ⟨S2048x1024, .bf16⟩
  | 82 => ⟨S2048x1024, .bf16⟩
  | 83 => ⟨S2048x1024, .bf16⟩
  | 84 => ⟨S2048x1024, .bf16⟩
  | 85 => ⟨S1024x1024, .bf16⟩
  | 86 => ⟨S1024x1024, .bf16⟩
  | 87 => ⟨S1024x1024, .bf16⟩
  | 88 => ⟨S1024x1024, .bf16⟩
  | 89 => ⟨S1024x1024, .bf16⟩
  | 90 => ⟨S1024x1024, .bf16⟩
  | 91 => ⟨S256x4096, .bf16⟩
  | 92 => ⟨S256x4096, .bf16⟩
  | 93 => ⟨S4096x4096, .bf16⟩
  | 94 => ⟨S256x4096, .f32⟩
  | 95 => ⟨S256x4096, .f32⟩
  | 96 => ⟨S1x4096, .f32⟩
  | 97 => ⟨S1x4096, .f32⟩
  | 98 => ⟨S256x4096, .f32⟩
  | 99 => ⟨S256x4096, .f32⟩
  | _ => ⟨S4x2048x4096, .f32⟩

abbrev vmemTy (i : Nat) : BufTy := match i / 128 with
  | 0 => vmemTy0_0 i
  | 1 => vmemTy0_1 i
  | _ => ⟨S4x2048x4096, .f32⟩

abbrev bufTy : (tb : Table) → Fin (tcTables nBuf tb) → BufTy
  | .hbm, ⟨0, _⟩ => ⟨S4x2048x4096, .f32⟩
  | .hbm, ⟨1, _⟩ => ⟨S32x64x4096, .f32⟩
  | .hbm, ⟨2, _⟩ => ⟨S8192x2048, .bf16⟩
  | .hbm, ⟨3, _⟩ => ⟨S2048x2048, .bf16⟩
  | .hbm, ⟨4, _⟩ => ⟨S1x32x2x2048, .f32⟩
  | .hbm, ⟨5, _⟩ => ⟨S1x4096x24576, .f32⟩
  | .hbm, ⟨6, _⟩ => ⟨S1x24576, .f32⟩
  | .hbm, ⟨7, _⟩ => ⟨S1x3x2048, .f32⟩
  | .hbm, ⟨8, _⟩ => ⟨S1x2048, .f32⟩
  | .hbm, ⟨9, _⟩ => ⟨S1x2048x4096, .f32⟩
  | .hbm, ⟨10, _⟩ => ⟨S1x2048x4096, .f32⟩
  | .hbm, ⟨11, _⟩ => ⟨S1x4096x4096, .f32⟩
  | .hbm, ⟨12, _⟩ => ⟨S1x4096, .f32⟩
  | .hbm, ⟨13, _⟩ => ⟨S1x4096, .f32⟩
  | .hbm, ⟨14, _⟩ => ⟨S4096x24576, .f32⟩
  | .hbm, ⟨15, _⟩ => ⟨S24576, .f32⟩
  | .hbm, ⟨16, _⟩ => ⟨S1x24576, .f32⟩
  | .hbm, ⟨17, _⟩ => ⟨S3x2048, .f32⟩
  | .hbm, ⟨18, _⟩ => ⟨S2048, .f32⟩
  | .hbm, ⟨19, _⟩ => ⟨S1x2048, .f32⟩
  | .hbm, ⟨20, _⟩ => ⟨S2048x4096, .f32⟩
  | .hbm, ⟨21, _⟩ => ⟨S2048x4096, .f32⟩
  | .hbm, ⟨22, _⟩ => ⟨S4096x4096, .f32⟩
  | .hbm, ⟨23, _⟩ => ⟨S4096, .f32⟩
  | .hbm, ⟨24, _⟩ => ⟨S1x4096, .f32⟩
  | .hbm, ⟨25, _⟩ => ⟨S4096, .f32⟩
  | .hbm, ⟨26, _⟩ => ⟨S1x4096, .f32⟩
  | .hbm, ⟨27, _⟩ => ⟨S8192x4096, .f32⟩
  | .hbm, ⟨28, _⟩ => ⟨S8192x4096, .bf16⟩
  | .hbm, ⟨29, _⟩ => ⟨S4096x4096, .f32⟩
  | .hbm, ⟨30, _⟩ => ⟨S4096x4096, .bf16⟩
  | .hbm, ⟨31, _⟩ => ⟨S1x4096, .f32⟩
  | .hbm, ⟨32, _⟩ => ⟨S4096x8192, .bf16⟩
  | .hbm, ⟨33, _⟩ => ⟨S8192x2048, .f32⟩
  | .hbm, ⟨34, _⟩ => ⟨S1x8192, .f32⟩
  | .hbm, ⟨35, _⟩ => ⟨S4096x16384, .bf16⟩
  | .hbm, ⟨36, _⟩ => ⟨S8192x8192, .bf16⟩
  | .hbm, ⟨37, _⟩ => ⟨S2048x4096, .bf16⟩
  | .hbm, ⟨38, _⟩ => ⟨S8192x2048, .bf16⟩
  | .hbm, ⟨39, _⟩ => ⟨S8192x16x128, .f32⟩
  | .hbm, ⟨40, _⟩ => ⟨S8192x2048, .bf16⟩
  | .hbm, ⟨41, _⟩ => ⟨S8192x16x128, .f32⟩
  | .hbm, ⟨42, _⟩ => ⟨S8192x2048, .bf16⟩
  | .hbm, ⟨43, _⟩ => ⟨S4096x4096, .bf16⟩
  | .hbm, ⟨44, _⟩ => ⟨S8192x2048, .bf16⟩
  | .hbm, ⟨45, _⟩ => ⟨S2048x4096, .bf16⟩
  | .hbm, ⟨46, _⟩ => ⟨S8192x2048, .bf16⟩
  | .hbm, ⟨47, _⟩ => ⟨S_, .f32⟩
  | .hbm, ⟨48, _⟩ => ⟨S4x2x2048, .f32⟩
  | .hbm, ⟨49, _⟩ => ⟨S8192x2048, .bf16⟩
  | .hbm, ⟨50, _⟩ => ⟨S4x2x2048, .f32⟩
  | .hbm, ⟨51, _⟩ => ⟨S8192x4096, .bf16⟩
  | .hbm, ⟨52, _⟩ => ⟨S8192x4096, .f32⟩
  | .hbm, ⟨53, _⟩ => ⟨S32x2x2048, .f32⟩
  | .hbm, ⟨54, _⟩ => ⟨S2048x4096, .f32⟩
  | .hbm, ⟨55, _⟩ => ⟨S2048x4096, .bf16⟩
  | .hbm, ⟨56, _⟩ => ⟨S1x8192, .f32⟩
  | .hbm, ⟨57, _⟩ => ⟨S2048x8192, .bf16⟩
  | .hbm, ⟨58, _⟩ => ⟨S2048x2048, .f32⟩
  | .hbm, ⟨59, _⟩ => ⟨S2048x2048, .bf16⟩
  | .hbm, ⟨60, _⟩ => ⟨S2048x16x128, .f32⟩
  | .hbm, ⟨61, _⟩ => ⟨S2048x2048, .bf16⟩
  | .hbm, ⟨62, _⟩ => ⟨S2048x16x128, .f32⟩
  | .hbm, ⟨63, _⟩ => ⟨S2048x2048, .bf16⟩
  | .hbm, ⟨64, _⟩ => ⟨S2048x2048, .bf16⟩
  | .hbm, ⟨65, _⟩ => ⟨S2048x2048, .bf16⟩
  | .hbm, ⟨66, _⟩ => ⟨S2048x2048, .bf16⟩
  | .hbm, ⟨67, _⟩ => ⟨S32x2x2048, .f32⟩
  | .hbm, ⟨68, _⟩ => ⟨S2048x4096, .bf16⟩
  | .hbm, ⟨69, _⟩ => ⟨S2048x4096, .f32⟩
  | .local _ .vmem, ⟨i, _⟩ => vmemTy i
  | _, _ => ⟨S4x2048x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 228 → Bool
  | ⟨i, _⟩ => dmaSemScopedAt i

abbrev sig : RefSig :=
  ofTc nBuf bufTy 0 228 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v21_0 : Ref sig .tc := ⟨.hbm, 37, rfl⟩
abbrev main_v21_1 : Ref sig .tc := ⟨.hbm, 38, rfl⟩
abbrev main_v22_0 : Ref sig .tc := ⟨.hbm, 39, rfl⟩
abbrev main_v22_1 : Ref sig .tc := ⟨.hbm, 40, rfl⟩
abbrev main_v23_0 : Ref sig .tc := ⟨.hbm, 41, rfl⟩
abbrev main_v23_1 : Ref sig .tc := ⟨.hbm, 42, rfl⟩
abbrev main_v24_0 : Ref sig .tc := ⟨.hbm, 43, rfl⟩
abbrev main_v24_1 : Ref sig .tc := ⟨.hbm, 44, rfl⟩
abbrev main_v25_0 : Ref sig .tc := ⟨.hbm, 45, rfl⟩
abbrev main_v25_1 : Ref sig .tc := ⟨.hbm, 46, rfl⟩
abbrev main_cst : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_v38_0 : Ref sig .tc := ⟨.hbm, 62, rfl⟩
abbrev main_v38_1 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg3_1 : Ref sig .tc := ⟨.vmem, 57, rfl⟩
abbrev cc4_stg4_0 : Ref sig .tc := ⟨.vmem, 58, rfl⟩
abbrev cc4_stg4_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg3_1 : Ref sig .tc := ⟨.vmem, 67, rfl⟩
abbrev cc5_stg4_0 : Ref sig .tc := ⟨.vmem, 68, rfl⟩
abbrev cc5_stg4_1 : Ref sig .tc := ⟨.vmem, 69, rfl⟩
abbrev cc5_stg5_0 : Ref sig .tc := ⟨.vmem, 70, rfl⟩
abbrev cc5_stg5_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc6_stg3_0 : Ref sig .tc := ⟨.vmem, 78, rfl⟩
abbrev cc6_stg3_1 : Ref sig .tc := ⟨.vmem, 79, rfl⟩
abbrev cc6_stg4_0 : Ref sig .tc := ⟨.vmem, 80, rfl⟩
abbrev cc6_stg4_1 : Ref sig .tc := ⟨.vmem, 81, rfl⟩
abbrev cc6_stg5_0 : Ref sig .tc := ⟨.vmem, 82, rfl⟩
abbrev cc6_stg5_1 : Ref sig .tc := ⟨.vmem, 83, rfl⟩
abbrev cc6_stg6_0 : Ref sig .tc := ⟨.vmem, 84, rfl⟩
abbrev cc6_stg6_1 : Ref sig .tc := ⟨.vmem, 85, rfl⟩
abbrev cc6_stg7_0 : Ref sig .tc := ⟨.vmem, 86, rfl⟩
abbrev cc6_stg7_1 : Ref sig .tc := ⟨.vmem, 87, rfl⟩
abbrev cc7_stg0_0 : Ref sig .tc := ⟨.vmem, 88, rfl⟩
abbrev cc7_stg0_1 : Ref sig .tc := ⟨.vmem, 89, rfl⟩
abbrev cc7_stg1_0 : Ref sig .tc := ⟨.vmem, 90, rfl⟩
abbrev cc7_stg1_1 : Ref sig .tc := ⟨.vmem, 91, rfl⟩
abbrev cc7_stg2_0 : Ref sig .tc := ⟨.vmem, 92, rfl⟩
abbrev cc7_stg2_1 : Ref sig .tc := ⟨.vmem, 93, rfl⟩
abbrev cc7_stg3_0 : Ref sig .tc := ⟨.vmem, 94, rfl⟩
abbrev cc7_stg3_1 : Ref sig .tc := ⟨.vmem, 95, rfl⟩
abbrev cc7_stg4_0 : Ref sig .tc := ⟨.vmem, 96, rfl⟩
abbrev cc7_stg4_1 : Ref sig .tc := ⟨.vmem, 97, rfl⟩
abbrev cc7_stg5_0 : Ref sig .tc := ⟨.vmem, 98, rfl⟩
abbrev cc7_stg5_1 : Ref sig .tc := ⟨.vmem, 99, rfl⟩
abbrev cc7_stg6_0 : Ref sig .tc := ⟨.vmem, 100, rfl⟩
abbrev cc7_stg6_1 : Ref sig .tc := ⟨.vmem, 101, rfl⟩
abbrev cc8_stg0_0 : Ref sig .tc := ⟨.vmem, 102, rfl⟩
abbrev cc8_stg0_1 : Ref sig .tc := ⟨.vmem, 103, rfl⟩
abbrev cc8_stg1_0 : Ref sig .tc := ⟨.vmem, 104, rfl⟩
abbrev cc8_stg1_1 : Ref sig .tc := ⟨.vmem, 105, rfl⟩
abbrev cc8_stg2_0 : Ref sig .tc := ⟨.vmem, 106, rfl⟩
abbrev cc8_stg2_1 : Ref sig .tc := ⟨.vmem, 107, rfl⟩
abbrev cc8_stg3_0 : Ref sig .tc := ⟨.vmem, 108, rfl⟩
abbrev cc8_stg3_1 : Ref sig .tc := ⟨.vmem, 109, rfl⟩
abbrev cc8_stg4_0 : Ref sig .tc := ⟨.vmem, 110, rfl⟩
abbrev cc8_stg4_1 : Ref sig .tc := ⟨.vmem, 111, rfl⟩
abbrev cc8_stg5_0 : Ref sig .tc := ⟨.vmem, 112, rfl⟩
abbrev cc8_stg5_1 : Ref sig .tc := ⟨.vmem, 113, rfl⟩
abbrev cc8_stg6_0 : Ref sig .tc := ⟨.vmem, 114, rfl⟩
abbrev cc8_stg6_1 : Ref sig .tc := ⟨.vmem, 115, rfl⟩
abbrev cc9_stg0_0 : Ref sig .tc := ⟨.vmem, 116, rfl⟩
abbrev cc9_stg0_1 : Ref sig .tc := ⟨.vmem, 117, rfl⟩
abbrev cc9_stg1_0 : Ref sig .tc := ⟨.vmem, 118, rfl⟩
abbrev cc9_stg2_0 : Ref sig .tc := ⟨.vmem, 119, rfl⟩
abbrev cc9_stg2_1 : Ref sig .tc := ⟨.vmem, 120, rfl⟩
abbrev cc9_stg3_0 : Ref sig .tc := ⟨.vmem, 121, rfl⟩
abbrev cc9_stg4_0 : Ref sig .tc := ⟨.vmem, 122, rfl⟩
abbrev cc9_stg5_0 : Ref sig .tc := ⟨.vmem, 123, rfl⟩
abbrev cc9_stg5_1 : Ref sig .tc := ⟨.vmem, 124, rfl⟩
abbrev cc10_stg0_0 : Ref sig .tc := ⟨.vmem, 125, rfl⟩
abbrev cc10_stg0_1 : Ref sig .tc := ⟨.vmem, 126, rfl⟩
abbrev cc10_stg1_0 : Ref sig .tc := ⟨.vmem, 127, rfl⟩
abbrev cc10_stg1_1 : Ref sig .tc := ⟨.vmem, 128, rfl⟩
abbrev cc10_stg2_0 : Ref sig .tc := ⟨.vmem, 129, rfl⟩
abbrev cc10_stg2_1 : Ref sig .tc := ⟨.vmem, 130, rfl⟩
abbrev cc10_stg3_0 : Ref sig .tc := ⟨.vmem, 131, rfl⟩
abbrev cc10_stg3_1 : Ref sig .tc := ⟨.vmem, 132, rfl⟩
abbrev cc11_stg0_0 : Ref sig .tc := ⟨.vmem, 133, rfl⟩
abbrev cc11_stg0_1 : Ref sig .tc := ⟨.vmem, 134, rfl⟩
abbrev cc11_stg1_0 : Ref sig .tc := ⟨.vmem, 135, rfl⟩
abbrev cc11_stg1_1 : Ref sig .tc := ⟨.vmem, 136, rfl⟩
abbrev cc11_stg2_0 : Ref sig .tc := ⟨.vmem, 137, rfl⟩
abbrev cc11_stg2_1 : Ref sig .tc := ⟨.vmem, 138, rfl⟩
abbrev cc11_stg3_0 : Ref sig .tc := ⟨.vmem, 139, rfl⟩
abbrev cc11_stg3_1 : Ref sig .tc := ⟨.vmem, 140, rfl⟩
abbrev cc11_stg4_0 : Ref sig .tc := ⟨.vmem, 141, rfl⟩
abbrev cc11_stg4_1 : Ref sig .tc := ⟨.vmem, 142, rfl⟩
abbrev cc11_stg5_0 : Ref sig .tc := ⟨.vmem, 143, rfl⟩
abbrev cc11_stg5_1 : Ref sig .tc := ⟨.vmem, 144, rfl⟩
abbrev cc12_stg0_0 : Ref sig .tc := ⟨.vmem, 145, rfl⟩
abbrev cc12_stg0_1 : Ref sig .tc := ⟨.vmem, 146, rfl⟩
abbrev cc12_stg1_0 : Ref sig .tc := ⟨.vmem, 147, rfl⟩
abbrev cc12_stg1_1 : Ref sig .tc := ⟨.vmem, 148, rfl⟩
abbrev cc12_stg2_0 : Ref sig .tc := ⟨.vmem, 149, rfl⟩
abbrev cc12_stg2_1 : Ref sig .tc := ⟨.vmem, 150, rfl⟩
abbrev cc12_stg3_0 : Ref sig .tc := ⟨.vmem, 151, rfl⟩
abbrev cc12_stg3_1 : Ref sig .tc := ⟨.vmem, 152, rfl⟩
abbrev cc13_stg0_0 : Ref sig .tc := ⟨.vmem, 153, rfl⟩
abbrev cc13_stg0_1 : Ref sig .tc := ⟨.vmem, 154, rfl⟩
abbrev cc13_stg1_0 : Ref sig .tc := ⟨.vmem, 155, rfl⟩
abbrev cc13_stg1_1 : Ref sig .tc := ⟨.vmem, 156, rfl⟩
abbrev cc13_stg2_0 : Ref sig .tc := ⟨.vmem, 157, rfl⟩
abbrev cc13_stg2_1 : Ref sig .tc := ⟨.vmem, 158, rfl⟩
abbrev cc13_stg3_0 : Ref sig .tc := ⟨.vmem, 159, rfl⟩
abbrev cc13_stg3_1 : Ref sig .tc := ⟨.vmem, 160, rfl⟩
abbrev cc13_stg4_0 : Ref sig .tc := ⟨.vmem, 161, rfl⟩
abbrev cc13_stg4_1 : Ref sig .tc := ⟨.vmem, 162, rfl⟩
abbrev cc14_stg0_0 : Ref sig .tc := ⟨.vmem, 163, rfl⟩
abbrev cc14_stg0_1 : Ref sig .tc := ⟨.vmem, 164, rfl⟩
abbrev cc14_stg1_0 : Ref sig .tc := ⟨.vmem, 165, rfl⟩
abbrev cc14_stg1_1 : Ref sig .tc := ⟨.vmem, 166, rfl⟩
abbrev cc14_stg2_0 : Ref sig .tc := ⟨.vmem, 167, rfl⟩
abbrev cc14_stg2_1 : Ref sig .tc := ⟨.vmem, 168, rfl⟩
abbrev cc14_stg3_0 : Ref sig .tc := ⟨.vmem, 169, rfl⟩
abbrev cc14_stg3_1 : Ref sig .tc := ⟨.vmem, 170, rfl⟩
abbrev cc14_stg4_0 : Ref sig .tc := ⟨.vmem, 171, rfl⟩
abbrev cc14_stg4_1 : Ref sig .tc := ⟨.vmem, 172, rfl⟩
abbrev cc15_stg0_0 : Ref sig .tc := ⟨.vmem, 173, rfl⟩
abbrev cc15_stg0_1 : Ref sig .tc := ⟨.vmem, 174, rfl⟩
abbrev cc15_stg1_0 : Ref sig .tc := ⟨.vmem, 175, rfl⟩
abbrev cc15_stg1_1 : Ref sig .tc := ⟨.vmem, 176, rfl⟩
abbrev cc15_stg2_0 : Ref sig .tc := ⟨.vmem, 177, rfl⟩
abbrev cc15_stg2_1 : Ref sig .tc := ⟨.vmem, 178, rfl⟩
abbrev cc15_stg3_0 : Ref sig .tc := ⟨.vmem, 179, rfl⟩
abbrev cc15_stg3_1 : Ref sig .tc := ⟨.vmem, 180, rfl⟩
abbrev cc16_stg0_0 : Ref sig .tc := ⟨.vmem, 181, rfl⟩
abbrev cc16_stg0_1 : Ref sig .tc := ⟨.vmem, 182, rfl⟩
abbrev cc16_stg1_0 : Ref sig .tc := ⟨.vmem, 183, rfl⟩
abbrev cc16_stg1_1 : Ref sig .tc := ⟨.vmem, 184, rfl⟩
abbrev cc16_stg2_0 : Ref sig .tc := ⟨.vmem, 185, rfl⟩
abbrev cc16_stg2_1 : Ref sig .tc := ⟨.vmem, 186, rfl⟩
abbrev cc16_stg3_0 : Ref sig .tc := ⟨.vmem, 187, rfl⟩
abbrev cc16_stg3_1 : Ref sig .tc := ⟨.vmem, 188, rfl⟩
abbrev cc16_stg4_0 : Ref sig .tc := ⟨.vmem, 189, rfl⟩
abbrev cc16_stg4_1 : Ref sig .tc := ⟨.vmem, 190, rfl⟩
abbrev cc16_stg5_0 : Ref sig .tc := ⟨.vmem, 191, rfl⟩
abbrev cc16_stg5_1 : Ref sig .tc := ⟨.vmem, 192, rfl⟩
abbrev cc17_stg0_0 : Ref sig .tc := ⟨.vmem, 193, rfl⟩
abbrev cc17_stg0_1 : Ref sig .tc := ⟨.vmem, 194, rfl⟩
abbrev cc17_stg1_0 : Ref sig .tc := ⟨.vmem, 195, rfl⟩
abbrev cc17_stg1_1 : Ref sig .tc := ⟨.vmem, 196, rfl⟩
abbrev cc17_stg2_0 : Ref sig .tc := ⟨.vmem, 197, rfl⟩
abbrev cc17_stg2_1 : Ref sig .tc := ⟨.vmem, 198, rfl⟩
abbrev cc17_stg3_0 : Ref sig .tc := ⟨.vmem, 199, rfl⟩
abbrev cc17_stg4_0 : Ref sig .tc := ⟨.vmem, 200, rfl⟩
abbrev cc17_stg5_0 : Ref sig .tc := ⟨.vmem, 201, rfl⟩
abbrev cc17_stg5_1 : Ref sig .tc := ⟨.vmem, 202, rfl⟩
abbrev cc17_stg6_0 : Ref sig .tc := ⟨.vmem, 203, rfl⟩
abbrev cc17_stg6_1 : Ref sig .tc := ⟨.vmem, 204, rfl⟩
abbrev cc18_stg0_0 : Ref sig .tc := ⟨.vmem, 205, rfl⟩
abbrev cc18_stg0_1 : Ref sig .tc := ⟨.vmem, 206, rfl⟩
abbrev cc18_stg1_0 : Ref sig .tc := ⟨.vmem, 207, rfl⟩
abbrev cc18_stg1_1 : Ref sig .tc := ⟨.vmem, 208, rfl⟩
abbrev cc18_stg2_0 : Ref sig .tc := ⟨.vmem, 209, rfl⟩
abbrev cc18_stg2_1 : Ref sig .tc := ⟨.vmem, 210, rfl⟩
abbrev cc18_stg3_0 : Ref sig .tc := ⟨.vmem, 211, rfl⟩
abbrev cc18_stg3_1 : Ref sig .tc := ⟨.vmem, 212, rfl⟩
abbrev cc18_stg4_0 : Ref sig .tc := ⟨.vmem, 213, rfl⟩
abbrev cc18_stg4_1 : Ref sig .tc := ⟨.vmem, 214, rfl⟩
abbrev cc18_stg5_0 : Ref sig .tc := ⟨.vmem, 215, rfl⟩
abbrev cc18_stg5_1 : Ref sig .tc := ⟨.vmem, 216, rfl⟩
abbrev cc18_stg6_0 : Ref sig .tc := ⟨.vmem, 217, rfl⟩
abbrev cc18_stg6_1 : Ref sig .tc := ⟨.vmem, 218, rfl⟩
abbrev cc19_stg0_0 : Ref sig .tc := ⟨.vmem, 219, rfl⟩
abbrev cc19_stg0_1 : Ref sig .tc := ⟨.vmem, 220, rfl⟩
abbrev cc19_stg1_0 : Ref sig .tc := ⟨.vmem, 221, rfl⟩
abbrev cc19_stg2_0 : Ref sig .tc := ⟨.vmem, 222, rfl⟩
abbrev cc19_stg2_1 : Ref sig .tc := ⟨.vmem, 223, rfl⟩
abbrev cc19_stg3_0 : Ref sig .tc := ⟨.vmem, 224, rfl⟩
abbrev cc19_stg4_0 : Ref sig .tc := ⟨.vmem, 225, rfl⟩
abbrev cc19_stg5_0 : Ref sig .tc := ⟨.vmem, 226, rfl⟩
abbrev cc19_stg5_1 : Ref sig .tc := ⟨.vmem, 227, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57
abbrev cc4_sem4_0 : DmaSem sig := 58
abbrev cc4_sem4_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem3_1 : DmaSem sig := 67
abbrev cc5_sem4_0 : DmaSem sig := 68
abbrev cc5_sem4_1 : DmaSem sig := 69
abbrev cc5_sem5_0 : DmaSem sig := 70
abbrev cc5_sem5_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc6_sem3_0 : DmaSem sig := 78
abbrev cc6_sem3_1 : DmaSem sig := 79
abbrev cc6_sem4_0 : DmaSem sig := 80
abbrev cc6_sem4_1 : DmaSem sig := 81
abbrev cc6_sem5_0 : DmaSem sig := 82
abbrev cc6_sem5_1 : DmaSem sig := 83
abbrev cc6_sem6_0 : DmaSem sig := 84
abbrev cc6_sem6_1 : DmaSem sig := 85
abbrev cc6_sem7_0 : DmaSem sig := 86
abbrev cc6_sem7_1 : DmaSem sig := 87
abbrev cc7_sem0_0 : DmaSem sig := 88
abbrev cc7_sem0_1 : DmaSem sig := 89
abbrev cc7_sem1_0 : DmaSem sig := 90
abbrev cc7_sem1_1 : DmaSem sig := 91
abbrev cc7_sem2_0 : DmaSem sig := 92
abbrev cc7_sem2_1 : DmaSem sig := 93
abbrev cc7_sem3_0 : DmaSem sig := 94
abbrev cc7_sem3_1 : DmaSem sig := 95
abbrev cc7_sem4_0 : DmaSem sig := 96
abbrev cc7_sem4_1 : DmaSem sig := 97
abbrev cc7_sem5_0 : DmaSem sig := 98
abbrev cc7_sem5_1 : DmaSem sig := 99
abbrev cc7_sem6_0 : DmaSem sig := 100
abbrev cc7_sem6_1 : DmaSem sig := 101
abbrev cc8_sem0_0 : DmaSem sig := 102
abbrev cc8_sem0_1 : DmaSem sig := 103
abbrev cc8_sem1_0 : DmaSem sig := 104
abbrev cc8_sem1_1 : DmaSem sig := 105
abbrev cc8_sem2_0 : DmaSem sig := 106
abbrev cc8_sem2_1 : DmaSem sig := 107
abbrev cc8_sem3_0 : DmaSem sig := 108
abbrev cc8_sem3_1 : DmaSem sig := 109
abbrev cc8_sem4_0 : DmaSem sig := 110
abbrev cc8_sem4_1 : DmaSem sig := 111
abbrev cc8_sem5_0 : DmaSem sig := 112
abbrev cc8_sem5_1 : DmaSem sig := 113
abbrev cc8_sem6_0 : DmaSem sig := 114
abbrev cc8_sem6_1 : DmaSem sig := 115
abbrev cc9_sem0_0 : DmaSem sig := 116
abbrev cc9_sem0_1 : DmaSem sig := 117
abbrev cc9_sem1_0 : DmaSem sig := 118
abbrev cc9_sem2_0 : DmaSem sig := 119
abbrev cc9_sem2_1 : DmaSem sig := 120
abbrev cc9_sem3_0 : DmaSem sig := 121
abbrev cc9_sem4_0 : DmaSem sig := 122
abbrev cc9_sem5_0 : DmaSem sig := 123
abbrev cc9_sem5_1 : DmaSem sig := 124
abbrev cc10_sem0_0 : DmaSem sig := 125
abbrev cc10_sem0_1 : DmaSem sig := 126
abbrev cc10_sem1_0 : DmaSem sig := 127
abbrev cc10_sem1_1 : DmaSem sig := 128
abbrev cc10_sem2_0 : DmaSem sig := 129
abbrev cc10_sem2_1 : DmaSem sig := 130
abbrev cc10_sem3_0 : DmaSem sig := 131
abbrev cc10_sem3_1 : DmaSem sig := 132
abbrev cc11_sem0_0 : DmaSem sig := 133
abbrev cc11_sem0_1 : DmaSem sig := 134
abbrev cc11_sem1_0 : DmaSem sig := 135
abbrev cc11_sem1_1 : DmaSem sig := 136
abbrev cc11_sem2_0 : DmaSem sig := 137
abbrev cc11_sem2_1 : DmaSem sig := 138
abbrev cc11_sem3_0 : DmaSem sig := 139
abbrev cc11_sem3_1 : DmaSem sig := 140
abbrev cc11_sem4_0 : DmaSem sig := 141
abbrev cc11_sem4_1 : DmaSem sig := 142
abbrev cc11_sem5_0 : DmaSem sig := 143
abbrev cc11_sem5_1 : DmaSem sig := 144
abbrev cc12_sem0_0 : DmaSem sig := 145
abbrev cc12_sem0_1 : DmaSem sig := 146
abbrev cc12_sem1_0 : DmaSem sig := 147
abbrev cc12_sem1_1 : DmaSem sig := 148
abbrev cc12_sem2_0 : DmaSem sig := 149
abbrev cc12_sem2_1 : DmaSem sig := 150
abbrev cc12_sem3_0 : DmaSem sig := 151
abbrev cc12_sem3_1 : DmaSem sig := 152
abbrev cc13_sem0_0 : DmaSem sig := 153
abbrev cc13_sem0_1 : DmaSem sig := 154
abbrev cc13_sem1_0 : DmaSem sig := 155
abbrev cc13_sem1_1 : DmaSem sig := 156
abbrev cc13_sem2_0 : DmaSem sig := 157
abbrev cc13_sem2_1 : DmaSem sig := 158
abbrev cc13_sem3_0 : DmaSem sig := 159
abbrev cc13_sem3_1 : DmaSem sig := 160
abbrev cc13_sem4_0 : DmaSem sig := 161
abbrev cc13_sem4_1 : DmaSem sig := 162
abbrev cc14_sem0_0 : DmaSem sig := 163
abbrev cc14_sem0_1 : DmaSem sig := 164
abbrev cc14_sem1_0 : DmaSem sig := 165
abbrev cc14_sem1_1 : DmaSem sig := 166
abbrev cc14_sem2_0 : DmaSem sig := 167
abbrev cc14_sem2_1 : DmaSem sig := 168
abbrev cc14_sem3_0 : DmaSem sig := 169
abbrev cc14_sem3_1 : DmaSem sig := 170
abbrev cc14_sem4_0 : DmaSem sig := 171
abbrev cc14_sem4_1 : DmaSem sig := 172
abbrev cc15_sem0_0 : DmaSem sig := 173
abbrev cc15_sem0_1 : DmaSem sig := 174
abbrev cc15_sem1_0 : DmaSem sig := 175
abbrev cc15_sem1_1 : DmaSem sig := 176
abbrev cc15_sem2_0 : DmaSem sig := 177
abbrev cc15_sem2_1 : DmaSem sig := 178
abbrev cc15_sem3_0 : DmaSem sig := 179
abbrev cc15_sem3_1 : DmaSem sig := 180
abbrev cc16_sem0_0 : DmaSem sig := 181
abbrev cc16_sem0_1 : DmaSem sig := 182
abbrev cc16_sem1_0 : DmaSem sig := 183
abbrev cc16_sem1_1 : DmaSem sig := 184
abbrev cc16_sem2_0 : DmaSem sig := 185
abbrev cc16_sem2_1 : DmaSem sig := 186
abbrev cc16_sem3_0 : DmaSem sig := 187
abbrev cc16_sem3_1 : DmaSem sig := 188
abbrev cc16_sem4_0 : DmaSem sig := 189
abbrev cc16_sem4_1 : DmaSem sig := 190
abbrev cc16_sem5_0 : DmaSem sig := 191
abbrev cc16_sem5_1 : DmaSem sig := 192
abbrev cc17_sem0_0 : DmaSem sig := 193
abbrev cc17_sem0_1 : DmaSem sig := 194
abbrev cc17_sem1_0 : DmaSem sig := 195
abbrev cc17_sem1_1 : DmaSem sig := 196
abbrev cc17_sem2_0 : DmaSem sig := 197
abbrev cc17_sem2_1 : DmaSem sig := 198
abbrev cc17_sem3_0 : DmaSem sig := 199
abbrev cc17_sem4_0 : DmaSem sig := 200
abbrev cc17_sem5_0 : DmaSem sig := 201
abbrev cc17_sem5_1 : DmaSem sig := 202
abbrev cc17_sem6_0 : DmaSem sig := 203
abbrev cc17_sem6_1 : DmaSem sig := 204
abbrev cc18_sem0_0 : DmaSem sig := 205
abbrev cc18_sem0_1 : DmaSem sig := 206
abbrev cc18_sem1_0 : DmaSem sig := 207
abbrev cc18_sem1_1 : DmaSem sig := 208
abbrev cc18_sem2_0 : DmaSem sig := 209
abbrev cc18_sem2_1 : DmaSem sig := 210
abbrev cc18_sem3_0 : DmaSem sig := 211
abbrev cc18_sem3_1 : DmaSem sig := 212
abbrev cc18_sem4_0 : DmaSem sig := 213
abbrev cc18_sem4_1 : DmaSem sig := 214
abbrev cc18_sem5_0 : DmaSem sig := 215
abbrev cc18_sem5_1 : DmaSem sig := 216
abbrev cc18_sem6_0 : DmaSem sig := 217
abbrev cc18_sem6_1 : DmaSem sig := 218
abbrev cc19_sem0_0 : DmaSem sig := 219
abbrev cc19_sem0_1 : DmaSem sig := 220
abbrev cc19_sem1_0 : DmaSem sig := 221
abbrev cc19_sem2_0 : DmaSem sig := 222
abbrev cc19_sem2_1 : DmaSem sig := 223
abbrev cc19_sem3_0 : DmaSem sig := 224
abbrev cc19_sem4_0 : DmaSem sig := 225
abbrev cc19_sem5_0 : DmaSem sig := 226
abbrev cc19_sem5_1 : DmaSem sig := 227

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc2_transform_4 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x8x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc5_transform_4 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S4096x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S4096x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc6_transform_3 (i : grid6.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc6_transform_4 (i : grid6.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc6_transform_5 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc6_transform_6 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S4096x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S2048x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S2048x128 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1024x512 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_6 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage7_0 : Fin 2 → Memref sig .tc .vmem S2048x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x2x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S3x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S1x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true]

abbrev stage7_5 : Fin 2 → Memref sig .tc .vmem S2048x512 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S1x2x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev grid8 : Pipeline.Grid := ⟨2, ![8, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1024x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S2048x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S2048x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 2 → Memref sig .tc .vmem S1024x1024 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S1024x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S1024x1024 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S4096x4096 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x4096 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x4096 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x4096 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S256x4096 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![2, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1024x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![2, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc11_transform_2 (i : grid11.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc11_transform_3 (i : grid11.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc11_transform_4 (i : grid11.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S1024x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S4096x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S4096x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S1x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![false, true]

abbrev stage11_4 : Fin 2 → Memref sig .tc .vmem S1x512 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![false, true]

abbrev stage11_5 : Fin 2 → Memref sig .tc .vmem S1024x512 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, true]

abbrev grid12 : Pipeline.Grid := ⟨2, ![2, 2], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S1024x4096 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 2 → Memref sig .tc .vmem S4096x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![false, true]

abbrev stage12_3 : Fin 2 → Memref sig .tc .vmem S1024x1024 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]

abbrev grid13 : Pipeline.Grid := ⟨2, ![2, 2], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc13_transform_2 (i : grid13.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc13_transform_3 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc13_transform_4 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 2 → Memref sig .tc .vmem S1024x4096 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false]

abbrev stage13_1 : Fin 2 → Memref sig .tc .vmem S4096x1024 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S1x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true]

abbrev stage13_3 : Fin 2 → Memref sig .tc .vmem S1024x8x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true]

abbrev stage13_4 : Fin 2 → Memref sig .tc .vmem S1024x1024 .bf16 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true, true]

abbrev grid14 : Pipeline.Grid := ⟨2, ![2, 2], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc14_transform_2 (i : grid14.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc14_transform_3 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc14_transform_4 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 2 → Memref sig .tc .vmem S1024x4096 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S4096x1024 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true]

abbrev stage14_3 : Fin 2 → Memref sig .tc .vmem S1024x8x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true]

abbrev stage14_4 : Fin 2 → Memref sig .tc .vmem S1024x1024 .bf16 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true, true]

abbrev grid15 : Pipeline.Grid := ⟨2, ![2, 2], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc15_transform_2 (i : grid15.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 2 → Memref sig .tc .vmem S1024x4096 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 2 → Memref sig .tc .vmem S4096x1024 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![false, true]

abbrev stage15_3 : Fin 2 → Memref sig .tc .vmem S1024x1024 .bf16 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true]

abbrev grid16 : Pipeline.Grid := ⟨2, ![2, 4], ![false, false]⟩

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc16_transform_2 (i : grid16.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc16_transform_3 (i : grid16.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc16_transform_4 (i : grid16.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc16_transform_5 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage16_0 : Fin 2 → Memref sig .tc .vmem S1024x4096 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false]

abbrev stage16_1 : Fin 2 → Memref sig .tc .vmem S4096x512 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S4096x512 .bf16 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![false, true]

abbrev stage16_3 : Fin 2 → Memref sig .tc .vmem S1x512 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![false, true]

abbrev stage16_4 : Fin 2 → Memref sig .tc .vmem S1x512 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![false, true]

abbrev stage16_5 : Fin 2 → Memref sig .tc .vmem S1024x512 .bf16 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true, true]

abbrev grid17 : Pipeline.Grid := ⟨2, ![32, 1], ![false, false]⟩

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc17_transform_2 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc17_transform_4 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc17_transform_5 (i : grid17.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc17_transform_6 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage17_0 : Fin 2 → Memref sig .tc .vmem S64x2048 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 2 → Memref sig .tc .vmem S64x2048 .bf16 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, true]

abbrev stage17_2 : Fin 2 → Memref sig .tc .vmem S1x2x2048 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true]

abbrev stage17_3 : Fin 1 → Memref sig .tc .vmem S3x2048 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false, true]

abbrev stage17_4 : Fin 1 → Memref sig .tc .vmem S1x2048 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false, true]

abbrev stage17_5 : Fin 2 → Memref sig .tc .vmem S64x2048 .bf16 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true, true]

abbrev stage17_6 : Fin 2 → Memref sig .tc .vmem S1x2x2048 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true, true]

abbrev grid18 : Pipeline.Grid := ⟨2, ![2, 4], ![false, false]⟩

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc18_transform_3 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc18_transform_4 (i : grid18.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc18_transform_5 (i : grid18.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc18_transform_6 (i : grid18.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage18_0 : Fin 2 → Memref sig .tc .vmem S1024x2048 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false]

abbrev stage18_1 : Fin 2 → Memref sig .tc .vmem S1024x2048 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true, false]

abbrev stage18_2 : Fin 2 → Memref sig .tc .vmem S2048x1024 .bf16 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![false, true]

abbrev stage18_3 : Fin 2 → Memref sig .tc .vmem S2048x1024 .bf16 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![false, true]

abbrev stage18_4 : Fin 2 → Memref sig .tc .vmem S1024x1024 .bf16 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true, true]

abbrev stage18_5 : Fin 2 → Memref sig .tc .vmem S1024x1024 .bf16 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true, true]

abbrev stage18_6 : Fin 2 → Memref sig .tc .vmem S1024x1024 .bf16 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true, true]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S256x4096 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S4096x4096 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S256x4096 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 1 → Memref sig .tc .vmem S1x4096 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x4096 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S256x4096 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]
-- ==== ReferenceIdeal.lean ====
abbrev S4x2048x4096 : Shape := ⟨3, ![4, 2048, 4096]⟩
abbrev S32x64x4096 : Shape := ⟨3, ![32, 64, 4096]⟩
abbrev S8192x2048 : Shape := ⟨2, ![8192, 2048]⟩
abbrev S2048x2048 : Shape := ⟨2, ![2048, 2048]⟩
abbrev S1x32x2x2048 : Shape := ⟨4, ![1, 32, 2, 2048]⟩
abbrev S1x4096x24576 : Shape := ⟨3, ![1, 4096, 24576]⟩
abbrev S1x24576 : Shape := ⟨2, ![1, 24576]⟩
abbrev S1x3x2048 : Shape := ⟨3, ![1, 3, 2048]⟩
abbrev S1x2048 : Shape := ⟨2, ![1, 2048]⟩
abbrev S1x2048x4096 : Shape := ⟨3, ![1, 2048, 4096]⟩
abbrev S1x4096x4096 : Shape := ⟨3, ![1, 4096, 4096]⟩
abbrev S1x4096 : Shape := ⟨2, ![1, 4096]⟩
abbrev S4096x24576 : Shape := ⟨2, ![4096, 24576]⟩
abbrev S24576 : Shape := ⟨1, ![24576]⟩
abbrev S3x2048 : Shape := ⟨2, ![3, 2048]⟩
abbrev S2048 : Shape := ⟨1, ![2048]⟩
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S4x2x2048 : Shape := ⟨3, ![4, 2, 2048]⟩
abbrev S4x2048x24576 : Shape := ⟨3, ![4, 2048, 24576]⟩
abbrev S1x1x24576 : Shape := ⟨3, ![1, 1, 24576]⟩
abbrev S4x2048x2048 : Shape := ⟨3, ![4, 2048, 2048]⟩
abbrev S8192x16x128 : Shape := ⟨3, ![8192, 16, 128]⟩
abbrev S4x2050x2048 : Shape := ⟨3, ![4, 2050, 2048]⟩
abbrev S1x1x2048 : Shape := ⟨3, ![1, 1, 2048]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S32x2x2048 : Shape := ⟨3, ![32, 2, 2048]⟩
abbrev S32x64x24576 : Shape := ⟨3, ![32, 64, 24576]⟩
abbrev S32x64x2048 : Shape := ⟨3, ![32, 64, 2048]⟩
abbrev S2048x16x128 : Shape := ⟨3, ![2048, 16, 128]⟩
abbrev S32x66x2048 : Shape := ⟨3, ![32, 66, 2048]⟩
abbrev S32x64 : Shape := ⟨2, ![32, 64]⟩
abbrev S32x64x1 : Shape := ⟨3, ![32, 64, 1]⟩

abbrev nBuf : Space → Nat
  | .hbm => 286
  | .vmem => 0
  | .smem => 0
  | _ => 0

abbrev hbmTy0_0 (i : Nat) : BufTy := match i % 128 with
  | 0 => ⟨S4x2048x4096, .f32⟩
  | 1 => ⟨S32x64x4096, .f32⟩
  | 2 => ⟨S8192x2048, .bf16⟩
  | 3 => ⟨S2048x2048, .bf16⟩
  | 4 => ⟨S1x32x2x2048, .f32⟩
  | 5 => ⟨S1x4096x24576, .f32⟩
  | 6 => ⟨S1x24576, .f32⟩
  | 7 => ⟨S1x3x2048, .f32⟩
  | 8 => ⟨S1x2048, .f32⟩
  | 9 => ⟨S1x2048x4096, .f32⟩
  | 10 => ⟨S1x2048x4096, .f32⟩
  | 11 => ⟨S1x4096x4096, .f32⟩
  | 12 => ⟨S1x4096, .f32⟩
  | 13 => ⟨S1x4096, .f32⟩
  | 14 => ⟨S4096x24576, .f32⟩
  | 15 => ⟨S24576, .f32⟩
  | 16 => ⟨S3x2048, .f32⟩
  | 17 => ⟨S2048, .f32⟩
  | 18 => ⟨S2048x4096, .f32⟩
  | 19 => ⟨S2048x4096, .f32⟩
  | 20 => ⟨S4096x4096, .f32⟩
  | 21 => ⟨S4096, .f32⟩
  | 22 => ⟨S4096, .f32⟩
  | 23 => ⟨S_, .f32⟩
  | 24 => ⟨S4x2x2048, .f32⟩
  | 25 => ⟨S4x2048x24576, .f32⟩
  | 26 => ⟨S1x1x24576, .f32⟩
  | 27 => ⟨S4x2048x24576, .f32⟩
  | 28 => ⟨S4x2048x24576, .f32⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S4x2048x4096, .f32⟩
  | 38 => ⟨S4x2048x4096, .f32⟩
  | 39 => ⟨S8192x16x128, .f32⟩
  | 40 => ⟨S8192x16x128, .f32⟩
  | 41 => ⟨S_, .f32⟩
  | 42 => ⟨S4x2048x2048, .f32⟩
  | 43 => ⟨S4x2048x2048, .f32⟩
  | 44 => ⟨S4x2048x2048, .bf16⟩
  | 45 => ⟨S4x2048x2048, .f32⟩
  | 46 => ⟨S4x2048x2048, .f32⟩
  | 47 => ⟨S_, .f32⟩
  | 48 => ⟨S4x2048x2048, .f32⟩
  | 49 => ⟨S4x2048x2048, .f32⟩
  | 50 => ⟨S_, .f32⟩
  | 51 => ⟨S4x2048x2048, .f32⟩
  | 52 => ⟨S4x2048x2048, .f32⟩
  | 53 => ⟨S4x2048x2048, .f32⟩
  | 54 => ⟨S4x2048x2048, .bf16⟩
  | 55 => ⟨S8192x2048, .f32⟩
  | 56 => ⟨S4x2048x2048, .f32⟩
  | 57 => ⟨S4x2048x4096, .f32⟩
  | 58 => ⟨S4x2048x2048, .f32⟩
  | 59 => ⟨S4x2050x2048, .f32⟩
  | 60 => ⟨S4x2048x2048, .f32⟩
  | 61 => ⟨S1x2048, .f32⟩
  | 62 => ⟨S2048, .f32⟩
  | 63 => ⟨S1x1x2048, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S4x2048x2048, .f32⟩
  | 70 => ⟨S1x2048, .f32⟩
  | 71 => ⟨S2048, .f32⟩
  | 72 => ⟨S1x1x2048, .f32⟩
  | 73 => ⟨S4x2048x2048, .f32⟩
  | 74 => ⟨S4x2048x2048, .f32⟩
  | 75 => ⟨S4x2048x2048, .f32⟩
  | 76 => ⟨S4x2048x2048, .f32⟩
  | 77 => ⟨S1x2048, .f32⟩
  | 78 => ⟨S2048, .f32⟩
  | 79 => ⟨S1x1x2048, .f32⟩
  | 80 => ⟨S4x2048x2048, .f32⟩
  | 81 => ⟨S4x2048x2048, .f32⟩
  | 82 => ⟨S4x2048x2048, .f32⟩
  | 83 => ⟨S1x1x2048, .f32⟩
  | 84 => ⟨S4x2048x2048, .f32⟩
  | 85 => ⟨S4x2048x2048, .f32⟩
  | 86 => ⟨S4x2x2048, .f32⟩
  | 87 => ⟨S4x2048x2048, .f32⟩
  | 88 => ⟨S4x2048x2048, .f32⟩
  | 89 => ⟨S_, .f32⟩
  | 90 => ⟨S4x2048x2048, .f32⟩
  | 91 => ⟨S4x2048x2048, .f32⟩
  | 92 => ⟨S_, .f32⟩
  | 93 => ⟨S4x2048x2048, .f32⟩
  | 94 => ⟨S4x2048x2048, .f32⟩
  | 95 => ⟨S4x2048x2048, .f32⟩
  | 96 => ⟨S4x2048x2048, .f32⟩
  | 97 => ⟨S4x2048x2048, .f32⟩
  | 98 => ⟨S4x2048x4096, .f32⟩
  | 99 => ⟨S4x2048x4096, .f32⟩
  | 100 => ⟨S4x2048x4096, .f32⟩
  | 101 => ⟨S_, .f32⟩
  | 102 => ⟨S4x2048x4096, .f32⟩
  | 103 => ⟨S4x2048x4096, .f32⟩
  | 104 => ⟨S_, .f32⟩
  | 105 => ⟨S4x2048x4096, .f32⟩
  | 106 => ⟨S4x2048x4096, .f32⟩
  | 107 => ⟨S4x2048x4096, .f32⟩
  | 108 => ⟨S4x2048x4096, .f32⟩
  | 109 => ⟨S4x2048x4096, .f32⟩
  | 110 => ⟨S_, .f32⟩
  | 111 => ⟨S4x2048x4096, .f32⟩
  | 112 => ⟨S4x2048x4096, .f32⟩
  | 113 => ⟨S_, .f32⟩
  | 114 => ⟨S4x2048x4096, .f32⟩
  | 115 => ⟨S4x2048x4096, .f32⟩
  | 116 => ⟨S4x2048x4096, .f32⟩
  | 117 => ⟨S4x2048x4096, .f32⟩
  | 118 => ⟨S4x2048x4096, .f32⟩
  | 119 => ⟨S_, .f32⟩
  | 120 => ⟨S4x2048x4096, .f32⟩
  | 121 => ⟨S4x2048x4096, .f32⟩
  | 122 => ⟨S4x2048x4096, .f32⟩
  | 123 => ⟨S_, .f32⟩
  | 124 => ⟨S4x2048, .f32⟩
  | 125 => ⟨S4x2048x1, .f32⟩
  | 126 => ⟨S_, .f32⟩
  | 127 => ⟨S4x2048x1, .f32⟩
  | _ => ⟨S4x2048x4096, .f32⟩

abbrev hbmTy0_1 (i : Nat) : BufTy := match i % 128 with
  | 0 => ⟨S4x2048x1, .f32⟩
  | 1 => ⟨S4x2048x4096, .f32⟩
  | 2 => ⟨S4x2048x4096, .f32⟩
  | 3 => ⟨S4x2048x4096, .f32⟩
  | 4 => ⟨S_, .f32⟩
  | 5 => ⟨S4x2048, .f32⟩
  | 6 => ⟨S4x2048x1, .f32⟩
  | 7 => ⟨S_, .f32⟩
  | 8 => ⟨S4x2048x1, .f32⟩
  | 9 => ⟨S4x2048x1, .f32⟩
  | 10 => ⟨S4x2048x4096, .f32⟩
  | 11 => ⟨S4x2048x4096, .f32⟩
  | 12 => ⟨S_, .f32⟩
  | 13 => ⟨S4x2048x1, .f32⟩
  | 14 => ⟨S4x2048x1, .f32⟩
  | 15 => ⟨S4x2048x1, .f32⟩
  | 16 => ⟨S4x2048x4096, .f32⟩
  | 17 => ⟨S4x2048x4096, .f32⟩
  | 18 => ⟨S1x1x4096, .f32⟩
  | 19 => ⟨S4x2048x4096, .f32⟩
  | 20 => ⟨S4x2048x4096, .f32⟩
  | 21 => ⟨S1x1x4096, .f32⟩
  | 22 => ⟨S4x2048x4096, .f32⟩
  | 23 => ⟨S4x2048x4096, .f32⟩
  | 24 => ⟨S8192x4096, .f32⟩
  | 25 => ⟨S8192x2048, .bf16⟩
  | 26 => ⟨S8192x2048, .bf16⟩
  | 27 => ⟨S32x2x2048, .f32⟩
  | 28 => ⟨S32x64x24576, .f32⟩
  | 29 => ⟨S1x1x24576, .f32⟩
  | 30 => ⟨S32x64x24576, .f32⟩
  | 31 => ⟨S32x64x24576, .f32⟩
  | 32 => ⟨S32x64x2048, .f32⟩
  | 33 => ⟨S32x64x2048, .f32⟩
  | 34 => ⟨S32x64x2048, .f32⟩
  | 35 => ⟨S32x64x2048, .f32⟩
  | 36 => ⟨S32x64x2048, .f32⟩
  | 37 => ⟨S32x64x2048, .f32⟩
  | 38 => ⟨S32x64x2048, .f32⟩
  | 39 => ⟨S32x64x2048, .f32⟩
  | 40 => ⟨S32x64x4096, .f32⟩
  | 41 => ⟨S32x64x4096, .f32⟩
  | 42 => ⟨S2048x16x128, .f32⟩
  | 43 => ⟨S2048x16x128, .f32⟩
  | 44 => ⟨S_, .f32⟩
  | 45 => ⟨S32x64x2048, .f32⟩
  | 46 => ⟨S32x64x2048, .f32⟩
  | 47 => ⟨S32x64x2048, .bf16⟩
  | 48 => ⟨S32x64x2048, .f32⟩
  | 49 => ⟨S32x64x2048, .f32⟩
  | 50 => ⟨S_, .f32⟩
  | 51 => ⟨S32x64x2048, .f32⟩
  | 52 => ⟨S32x64x2048, .f32⟩
  | 53 => ⟨S_, .f32⟩
  | 54 => ⟨S32x64x2048, .f32⟩
  | 55 => ⟨S32x64x2048, .f32⟩
  | 56 => ⟨S32x64x2048, .f32⟩
  | 57 => ⟨S32x64x2048, .bf16⟩
  | 58 => ⟨S2048x2048, .f32⟩
  | 59 => ⟨S32x64x2048, .f32⟩
  | 60 => ⟨S32x64x4096, .f32⟩
  | 61 => ⟨S32x64x2048, .f32⟩
  | 62 => ⟨S32x66x2048, .f32⟩
  | 63 => ⟨S32x64x2048, .f32⟩
  | 64 => ⟨S1x2048, .f32⟩
  | 65 => ⟨S2048, .f32⟩
  | 66 => ⟨S1x1x2048, .f32⟩
  | 67 => ⟨S32x64x2048, .f32⟩
  | 68 => ⟨S32x64x2048, .f32⟩
  | 69 => ⟨S_, .f32⟩
  | 70 => ⟨S32x64x2048, .f32⟩
  | 71 => ⟨S32x64x2048, .f32⟩
  | 72 => ⟨S32x64x2048, .f32⟩
  | 73 => ⟨S1x2048, .f32⟩
  | 74 => ⟨S2048, .f32⟩
  | 75 => ⟨S1x1x2048, .f32⟩
  | 76 => ⟨S32x64x2048, .f32⟩
  | 77 => ⟨S32x64x2048, .f32⟩
  | 78 => ⟨S32x64x2048, .f32⟩
  | 79 => ⟨S32x64x2048, .f32⟩
  | 80 => ⟨S1x2048, .f32⟩
  | 81 => ⟨S2048, .f32⟩
  | 82 => ⟨S1x1x2048, .f32⟩
  | 83 => ⟨S32x64x2048, .f32⟩
  | 84 => ⟨S32x64x2048, .f32⟩
  | 85 => ⟨S32x64x2048, .f32⟩
  | 86 => ⟨S1x1x2048, .f32⟩
  | 87 => ⟨S32x64x2048, .f32⟩
  | 88 => ⟨S32x64x2048, .f32⟩
  | 89 => ⟨S32x2x2048, .f32⟩
  | 90 => ⟨S32x64x2048, .f32⟩
  | 91 => ⟨S32x64x2048, .f32⟩
  | 92 => ⟨S_, .f32⟩
  | 93 => ⟨S32x64x2048, .f32⟩
  | 94 => ⟨S32x64x2048, .f32⟩
  | 95 => ⟨S_, .f32⟩
  | 96 => ⟨S32x64x2048, .f32⟩
  | 97 => ⟨S32x64x2048, .f32⟩
  | 98 => ⟨S32x64x2048, .f32⟩
  | 99 => ⟨S32x64x2048, .f32⟩
  | 100 => ⟨S32x64x2048, .f32⟩
  | 101 => ⟨S32x64x4096, .f32⟩
  | 102 => ⟨S32x64x4096, .f32⟩
  | 103 => ⟨S32x64x4096, .f32⟩
  | 104 => ⟨S_, .f32⟩
  | 105 => ⟨S32x64x4096, .f32⟩
  | 106 => ⟨S32x64x4096, .f32⟩
  | 107 => ⟨S_, .f32⟩
  | 108 => ⟨S32x64x4096, .f32⟩
  | 109 => ⟨S32x64x4096, .f32⟩
  | 110 => ⟨S32x64x4096, .f32⟩
  | 111 => ⟨S32x64x4096, .f32⟩
  | 112 => ⟨S32x64x4096, .f32⟩
  | 113 => ⟨S_, .f32⟩
  | 114 => ⟨S32x64x4096, .f32⟩
  | 115 => ⟨S32x64x4096, .f32⟩
  | 116 => ⟨S_, .f32⟩
  | 117 => ⟨S32x64x4096, .f32⟩
  | 118 => ⟨S32x64x4096, .f32⟩
  | 119 => ⟨S32x64x4096, .f32⟩
  | 120 => ⟨S32x64x4096, .f32⟩
  | 121 => ⟨S32x64x4096, .f32⟩
  | 122 => ⟨S_, .f32⟩
  | 123 => ⟨S32x64x4096, .f32⟩
  | 124 => ⟨S32x64x4096, .f32⟩
  | 125 => ⟨S32x64x4096, .f32⟩
  | 126 => ⟨S_, .f32⟩
  | 127 => ⟨S32x64, .f32⟩
  | _ => ⟨S4x2048x4096, .f32⟩

abbrev hbmTy0_2 (i : Nat) : BufTy := match i % 128 with
  | 0 => ⟨S32x64x1, .f32⟩
  | 1 => ⟨S_, .f32⟩
  | 2 => ⟨S32x64x1, .f32⟩
  | 3 => ⟨S32x64x1, .f32⟩
  | 4 => ⟨S32x64x4096, .f32⟩
  | 5 => ⟨S32x64x4096, .f32⟩
  | 6 => ⟨S32x64x4096, .f32⟩
  | 7 => ⟨S_, .f32⟩
  | 8 => ⟨S32x64, .f32⟩
  | 9 => ⟨S32x64x1, .f32⟩
  | 10 => ⟨S_, .f32⟩
  | 11 => ⟨S32x64x1, .f32⟩
  | 12 => ⟨S32x64x1, .f32⟩
  | 13 => ⟨S32x64x4096, .f32⟩
  | 14 => ⟨S32x64x4096, .f32⟩
  | 15 => ⟨S_, .f32⟩
  | 16 => ⟨S32x64x1, .f32⟩
  | 17 => ⟨S32x64x1, .f32⟩
  | 18 => ⟨S32x64x1, .f32⟩
  | 19 => ⟨S32x64x4096, .f32⟩
  | 20 => ⟨S32x64x4096, .f32⟩
  | 21 => ⟨S1x1x4096, .f32⟩
  | 22 => ⟨S32x64x4096, .f32⟩
  | 23 => ⟨S32x64x4096, .f32⟩
  | 24 => ⟨S1x1x4096, .f32⟩
  | 25 => ⟨S32x64x4096, .f32⟩
  | 26 => ⟨S32x64x4096, .f32⟩
  | 27 => ⟨S2048x4096, .f32⟩
  | 28 => ⟨S2048x2048, .bf16⟩
  | 29 => ⟨S2048x2048, .bf16⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_1 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_2 : Ref sig .tc := ⟨.hbm, 101, rfl⟩
abbrev main_v68 : Ref sig .tc := ⟨.hbm, 102, rfl⟩
abbrev main_v69 : Ref sig .tc := ⟨.hbm, 103, rfl⟩
abbrev main_cst_3 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_4 : Ref sig .tc := ⟨.hbm, 110, rfl⟩
abbrev main_v75 : Ref sig .tc := ⟨.hbm, 111, rfl⟩
abbrev main_v76 : Ref sig .tc := ⟨.hbm, 112, rfl⟩
abbrev main_cst_5 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_6 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_7 : Ref sig .tc := ⟨.hbm, 123, rfl⟩
abbrev main_v85 : Ref sig .tc := ⟨.hbm, 124, rfl⟩
abbrev main_v86 : Ref sig .tc := ⟨.hbm, 125, rfl⟩
abbrev main_cst_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_9 : Ref sig .tc := ⟨.hbm, 132, rfl⟩
abbrev main_v92 : Ref sig .tc := ⟨.hbm, 133, rfl⟩
abbrev main_v93 : Ref sig .tc := ⟨.hbm, 134, rfl⟩
abbrev main_cst_10 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_11 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_12 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_call2_v0 : Ref sig .tc := ⟨.hbm, 176, rfl⟩
abbrev main_call2_v1 : Ref sig .tc := ⟨.hbm, 177, rfl⟩
abbrev main_call2_cst : Ref sig .tc := ⟨.hbm, 178, rfl⟩
abbrev main_call2_v2 : Ref sig .tc := ⟨.hbm, 179, rfl⟩
abbrev main_call2_v3 : Ref sig .tc := ⟨.hbm, 180, rfl⟩
abbrev main_call2_cst_0 : Ref sig .tc := ⟨.hbm, 181, rfl⟩
abbrev main_call2_v4 : Ref sig .tc := ⟨.hbm, 182, rfl⟩
abbrev main_call2_v5 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_13 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_call3_v0 : Ref sig .tc := ⟨.hbm, 218, rfl⟩
abbrev main_call3_v1 : Ref sig .tc := ⟨.hbm, 219, rfl⟩
abbrev main_call3_cst : Ref sig .tc := ⟨.hbm, 220, rfl⟩
abbrev main_call3_v2 : Ref sig .tc := ⟨.hbm, 221, rfl⟩
abbrev main_call3_v3 : Ref sig .tc := ⟨.hbm, 222, rfl⟩
abbrev main_call3_cst_0 : Ref sig .tc := ⟨.hbm, 223, rfl⟩
abbrev main_call3_v4 : Ref sig .tc := ⟨.hbm, 224, rfl⟩
abbrev main_call3_v5 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_14 : Ref sig .tc := ⟨.hbm, 232, rfl⟩
abbrev main_v171 : Ref sig .tc := ⟨.hbm, 233, rfl⟩
abbrev main_v172 : Ref sig .tc := ⟨.hbm, 234, rfl⟩
abbrev main_cst_15 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_16 : Ref sig .tc := ⟨.hbm, 241, rfl⟩
abbrev main_v178 : Ref sig .tc := ⟨.hbm, 242, rfl⟩
abbrev main_v179 : Ref sig .tc := ⟨.hbm, 243, rfl⟩
abbrev main_cst_17 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_18 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_19 : Ref sig .tc := ⟨.hbm, 254, rfl⟩
abbrev main_v188 : Ref sig .tc := ⟨.hbm, 255, rfl⟩
abbrev main_v189 : Ref sig .tc := ⟨.hbm, 256, rfl⟩
abbrev main_cst_20 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_21 : Ref sig .tc := ⟨.hbm, 263, rfl⟩
abbrev main_v195 : Ref sig .tc := ⟨.hbm, 264, rfl⟩
abbrev main_v196 : Ref sig .tc := ⟨.hbm, 265, rfl⟩
abbrev main_cst_22 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_23 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩

abbrev nD : Nat := 1
abbrev τ : Topo := Topo.v7x

variable {F : FTy → Type} [FloatOps F]
-- ==== Kernel2.lean ====
abbrev S2048x2048 : Shape := ⟨2, ![2048, 2048]⟩
abbrev S32x1024x16x128 : Shape := ⟨4, ![32, 1024, 16, 128]⟩
abbrev S64x2048 : Shape := ⟨2, ![64, 2048]⟩
abbrev S2x16x1024x128 : Shape := ⟨4, ![2, 16, 1024, 128]⟩
abbrev S2x2x16 : Shape := ⟨3, ![2, 2, 16]⟩
abbrev S256x256 : Shape := ⟨2, ![256, 256]⟩
abbrev S64x64 : Shape := ⟨2, ![64, 64]⟩
abbrev S1x1x1 : Shape := ⟨3, ![1, 1, 1]⟩
abbrev S_ : Shape := ⟨0, ![]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S64x128 : Shape := ⟨2, ![64, 128]⟩
abbrev S64x1024 : Shape := ⟨2, ![64, 1024]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S32x1024x16x128, .f32⟩
  | .hbm, ⟨2, _⟩ => ⟨S32x1024x16x128, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S64x2048, .bf16⟩
  | .local _ .vmem, ⟨9, _⟩ => ⟨S64x2048, .bf16⟩
  | .local _ .vmem, ⟨10, _⟩ => ⟨S2x16x1024x128, .f32⟩
  | .local _ .vmem, ⟨11, _⟩ => ⟨S2x16x1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32 : BitVec 32 := 1#32
  let v22 : BitVec 32 := Scalar.addi arg0 c1_i32
  let c32_i32 : BitVec 32 := 32#32
  let v23 : BitVec 1 := Scalar.cmpi .slt v22 c32_i32
  let v24 : BitVec 32 := Scalar.extui v23
  let c0_i32_2 : BitVec 32 := 0#32
  let v25 : BitVec 1 := Scalar.cmpi .ne v24 c0_i32_2
  v25

def k0_off1 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_607 : BitVec 32 := 0#32
  let c0_i32_608 : BitVec 32 := 0#32
  ![v927.toNat, 0, 0]
def k0_off2 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_606 : BitVec 32 := 0#32
  let c0_i32_609 : BitVec 32 := 0#32
  let c0_i32_610 : BitVec 32 := 0#32
  ![v927.toNat, 0, 0, 0]
def k0_off3 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_611 : BitVec 32 := 0#32
  let c0_i32_605 : BitVec 32 := 0#32
  let c0_i32_612 : BitVec 32 := 0#32
  ![v926.toNat, 0, 0, 0]
def k0_off4 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_615 : BitVec 32 := 0#32
  let c1_i32_616 : BitVec 32 := 1#32
  ![v927.toNat, 0, 1]
def k0_off5 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_614 : BitVec 32 := 1#32
  let c0_i32_617 : BitVec 32 := 0#32
  let c0_i32_618 : BitVec 32 := 0#32
  ![v927.toNat, 1, 0, 0]
def k0_off6 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_619 : BitVec 32 := 0#32
  let c1_i32_613 : BitVec 32 := 1#32
  let c0_i32_620 : BitVec 32 := 0#32
  ![v926.toNat, 0, 1, 0]
def k0_off7 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_623 : BitVec 32 := 0#32
  let c2_i32_624 : BitVec 32 := 2#32
  ![v927.toNat, 0, 2]
def k0_off8 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c2_i32_622 : BitVec 32 := 2#32
  let c0_i32_625 : BitVec 32 := 0#32
  let c0_i32_626 : BitVec 32 := 0#32
  ![v927.toNat, 2, 0, 0]
def k0_off9 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_627 : BitVec 32 := 0#32
  let c2_i32_621 : BitVec 32 := 2#32
  let c0_i32_628 : BitVec 32 := 0#32
  ![v926.toNat, 0, 2, 0]
def k0_off10 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_631 : BitVec 32 := 0#32
  let c3_i32_632 : BitVec 32 := 3#32
  ![v927.toNat, 0, 3]
def k0_off11 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c3_i32_630 : BitVec 32 := 3#32
  let c0_i32_633 : BitVec 32 := 0#32
  let c0_i32_634 : BitVec 32 := 0#32
  ![v927.toNat, 3, 0, 0]
def k0_off12 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_635 : BitVec 32 := 0#32
  let c3_i32_629 : BitVec 32 := 3#32
  let c0_i32_636 : BitVec 32 := 0#32
  ![v926.toNat, 0, 3, 0]
def k0_off13 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_639 : BitVec 32 := 0#32
  let c4_i32_640 : BitVec 32 := 4#32
  ![v927.toNat, 0, 4]
def k0_off14 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c4_i32_638 : BitVec 32 := 4#32
  let c0_i32_641 : BitVec 32 := 0#32
  let c0_i32_642 : BitVec 32 := 0#32
  ![v927.toNat, 4, 0, 0]
def k0_off15 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_643 : BitVec 32 := 0#32
  let c4_i32_637 : BitVec 32 := 4#32
  let c0_i32_644 : BitVec 32 := 0#32
  ![v926.toNat, 0, 4, 0]
def k0_off16 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_647 : BitVec 32 := 0#32
  let c5_i32_648 : BitVec 32 := 5#32
  ![v927.toNat, 0, 5]
def k0_off17 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c5_i32_646 : BitVec 32 := 5#32
  let c0_i32_649 : BitVec 32 := 0#32
  let c0_i32_650 : BitVec 32 := 0#32
  ![v927.toNat, 5, 0, 0]
def k0_off18 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_651 : BitVec 32 := 0#32
  let c5_i32_645 : BitVec 32 := 5#32
  let c0_i32_652 : BitVec 32 := 0#32
  ![v926.toNat, 0, 5, 0]
def k0_off19 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_655 : BitVec 32 := 0#32
  let c6_i32_656 : BitVec 32 := 6#32
  ![v927.toNat, 0, 6]
def k0_off20 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c6_i32_654 : BitVec 32 := 6#32
  let c0_i32_657 : BitVec 32 := 0#32
  let c0_i32_658 : BitVec 32 := 0#32
  ![v927.toNat, 6, 0, 0]
def k0_off21 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_659 : BitVec 32 := 0#32
  let c6_i32_653 : BitVec 32 := 6#32
  let c0_i32_660 : BitVec 32 := 0#32
  ![v926.toNat, 0, 6, 0]
def k0_off22 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_663 : BitVec 32 := 0#32
  let c7_i32_664 : BitVec 32 := 7#32
  ![v927.toNat, 0, 7]
def k0_off23 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c7_i32_662 : BitVec 32 := 7#32
  let c0_i32_665 : BitVec 32 := 0#32
  let c0_i32_666 : BitVec 32 := 0#32
  ![v927.toNat, 7, 0, 0]
def k0_off24 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_667 : BitVec 32 := 0#32
  let c7_i32_661 : BitVec 32 := 7#32
  let c0_i32_668 : BitVec 32 := 0#32
  ![v926.toNat, 0, 7, 0]
def k0_off25 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_671 : BitVec 32 := 0#32
  let c8_i32_672 : BitVec 32 := 8#32
  ![v927.toNat, 0, 8]
def k0_off26 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c8_i32_670 : BitVec 32 := 8#32
  let c0_i32_673 : BitVec 32 := 0#32
  let c0_i32_674 : BitVec 32 := 0#32
  ![v927.toNat, 8, 0, 0]
def k0_off27 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_675 : BitVec 32 := 0#32
  let c8_i32_669 : BitVec 32 := 8#32
  let c0_i32_676 : BitVec 32 := 0#32
  ![v926.toNat, 0, 8, 0]
def k0_off28 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_679 : BitVec 32 := 0#32
  let c9_i32_680 : BitVec 32 := 9#32
  ![v927.toNat, 0, 9]
def k0_off29 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c9_i32_678 : BitVec 32 := 9#32
  let c0_i32_681 : BitVec 32 := 0#32
  let c0_i32_682 : BitVec 32 := 0#32
  ![v927.toNat, 9, 0, 0]
def k0_off30 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_683 : BitVec 32 := 0#32
  let c9_i32_677 : BitVec 32 := 9#32
  let c0_i32_684 : BitVec 32 := 0#32
  ![v926.toNat, 0, 9, 0]
def k0_off31 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_687 : BitVec 32 := 0#32
  let c10_i32_688 : BitVec 32 := 10#32
  ![v927.toNat, 0, 10]
def k0_off32 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c10_i32_686 : BitVec 32 := 10#32
  let c0_i32_689 : BitVec 32 := 0#32
  let c0_i32_690 : BitVec 32 := 0#32
  ![v927.toNat, 10, 0, 0]
def k0_off33 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_691 : BitVec 32 := 0#32
  let c10_i32_685 : BitVec 32 := 10#32
  let c0_i32_692 : BitVec 32 := 0#32
  ![v926.toNat, 0, 10, 0]
def k0_off34 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_695 : BitVec 32 := 0#32
  let c11_i32_696 : BitVec 32 := 11#32
  ![v927.toNat, 0, 11]
def k0_off35 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c11_i32_694 : BitVec 32 := 11#32
  let c0_i32_697 : BitVec 32 := 0#32
  let c0_i32_698 : BitVec 32 := 0#32
  ![v927.toNat, 11, 0, 0]
def k0_off36 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_699 : BitVec 32 := 0#32
  let c11_i32_693 : BitVec 32 := 11#32
  let c0_i32_700 : BitVec 32 := 0#32
  ![v926.toNat, 0, 11, 0]
def k0_off37 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_703 : BitVec 32 := 0#32
  let c12_i32_704 : BitVec 32 := 12#32
  ![v927.toNat, 0, 12]
def k0_off38 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c12_i32_702 : BitVec 32 := 12#32
  let c0_i32_705 : BitVec 32 := 0#32
  let c0_i32_706 : BitVec 32 := 0#32
  ![v927.toNat, 12, 0, 0]
def k0_off39 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_707 : BitVec 32 := 0#32
  let c12_i32_701 : BitVec 32 := 12#32
  let c0_i32_708 : BitVec 32 := 0#32
  ![v926.toNat, 0, 12, 0]
def k0_off40 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_711 : BitVec 32 := 0#32
  let c13_i32_712 : BitVec 32 := 13#32
  ![v927.toNat, 0, 13]
def k0_off41 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c13_i32_710 : BitVec 32 := 13#32
  let c0_i32_713 : BitVec 32 := 0#32
  let c0_i32_714 : BitVec 32 := 0#32
  ![v927.toNat, 13, 0, 0]
def k0_off42 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_715 : BitVec 32 := 0#32
  let c13_i32_709 : BitVec 32 := 13#32
  let c0_i32_716 : BitVec 32 := 0#32
  ![v926.toNat, 0, 13, 0]
def k0_off43 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_719 : BitVec 32 := 0#32
  let c14_i32_720 : BitVec 32 := 14#32
  ![v927.toNat, 0, 14]
def k0_off44 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c14_i32_718 : BitVec 32 := 14#32
  let c0_i32_721 : BitVec 32 := 0#32
  let c0_i32_722 : BitVec 32 := 0#32
  ![v927.toNat, 14, 0, 0]
def k0_off45 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_723 : BitVec 32 := 0#32
  let c14_i32_717 : BitVec 32 := 14#32
  let c0_i32_724 : BitVec 32 := 0#32
  ![v926.toNat, 0, 14, 0]
def k0_off46 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c0_i32_727 : BitVec 32 := 0#32
  let c15_i32_728 : BitVec 32 := 15#32
  ![v927.toNat, 0, 15]
def k0_off47 (i : grid0.Coords) : Fin 4 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c15_i32_726 : BitVec 32 := 15#32
  let c0_i32_729 : BitVec 32 := 0#32
  let c0_i32_730 : BitVec 32 := 0#32
  ![v927.toNat, 15, 0, 0]
def k0_off48 (i : grid0.Coords) : Fin 4 → Nat :=
  let arg0 : BitVec 32 := BitVec.ofNat 32 (i 0).val
  let c1_i32_603 : BitVec 32 := 1#32
  let v926 : BitVec 32 := Scalar.addi arg0 c1_i32_603
  let c0_i32_731 : BitVec 32 := 0#32
  let c15_i32_725 : BitVec 32 := 15#32
  let c0_i32_732 : BitVec 32 := 0#32
  ![v926.toNat, 0, 15, 0]
def k0_off49 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_735 : BitVec 32 := 1#32
  let c0_i32_736 : BitVec 32 := 0#32
  ![v927.toNat, 1, 0]
def k0_off50 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_743 : BitVec 32 := 1#32
  let c1_i32_744 : BitVec 32 := 1#32
  ![v927.toNat, 1, 1]
def k0_off51 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_751 : BitVec 32 := 1#32
  let c2_i32_752 : BitVec 32 := 2#32
  ![v927.toNat, 1, 2]
def k0_off52 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_759 : BitVec 32 := 1#32
  let c3_i32_760 : BitVec 32 := 3#32
  ![v927.toNat, 1, 3]
def k0_off53 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_767 : BitVec 32 := 1#32
  let c4_i32_768 : BitVec 32 := 4#32
  ![v927.toNat, 1, 4]
def k0_off54 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_775 : BitVec 32 := 1#32
  let c5_i32_776 : BitVec 32 := 5#32
  ![v927.toNat, 1, 5]
def k0_off55 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_783 : BitVec 32 := 1#32
  let c6_i32_784 : BitVec 32 := 6#32
  ![v927.toNat, 1, 6]
def k0_off56 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_791 : BitVec 32 := 1#32
  let c7_i32_792 : BitVec 32 := 7#32
  ![v927.toNat, 1, 7]
def k0_off57 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_799 : BitVec 32 := 1#32
  let c8_i32_800 : BitVec 32 := 8#32
  ![v927.toNat, 1, 8]
def k0_off58 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_807 : BitVec 32 := 1#32
  let c9_i32_808 : BitVec 32 := 9#32
  ![v927.toNat, 1, 9]
def k0_off59 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_815 : BitVec 32 := 1#32
  let c10_i32_816 : BitVec 32 := 10#32
  ![v927.toNat, 1, 10]
def k0_off60 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_823 : BitVec 32 := 1#32
  let c11_i32_824 : BitVec 32 := 11#32
  ![v927.toNat, 1, 11]
def k0_off61 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_831 : BitVec 32 := 1#32
  let c12_i32_832 : BitVec 32 := 12#32
  ![v927.toNat, 1, 12]
def k0_off62 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_839 : BitVec 32 := 1#32
  let c13_i32_840 : BitVec 32 := 13#32
  ![v927.toNat, 1, 13]
def k0_off63 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_847 : BitVec 32 := 1#32
  let c14_i32_848 : BitVec 32 := 14#32
  ![v927.toNat, 1, 14]
def k0_off64 (i : grid0.Coords) : Fin 3 → Nat :=
  let c1_i32_604 : BitVec 32 := 1#32
  let arg0 : BitVec 32 := BitVec.ofNat 32 (i 0).val
  let c2_i32 : BitVec 32 := 2#32
  let v18 : BitVec 32 := Scalar.remsi arg0 c2_i32
  let v927 : BitVec 32 := Scalar.subi c1_i32_604 v18
  let c1_i32_855 : BitVec 32 := 1#32
  let c15_i32_856 : BitVec 32 := 15#32
  ![v927.toNat, 1, 15]
def k0_off65 (i : grid0.Coords) : Fin 3 → Nat :=
  let arg0 : BitVec 32 := BitVec.ofNat 32 (i 0).val
  let c2_i32 : BitVec 32 := 2#32
  let v18 : BitVec 32 := Scalar.remsi arg0 c2_i32
  let c0_i32_5 : BitVec 32 := 0#32
  let c0_i32_6 : BitVec 32 := 0#32
  ![v18.toNat, 0, 0]
def k0_off66 (i : grid0.Coords) : Fin 4 → Nat :=
  let arg0 : BitVec 32 := BitVec.ofNat 32 (i 0).val
  let c2_i32 : BitVec 32 := 2#32
  let v18 : BitVec 32 := Scalar.remsi arg0 c2_i32
  let c0_i32_4 : BitVec 32 := 0#32
  let c0_i32_7 : BitVec 32 := 0#32
  let c0_i32_8 : BitVec 32 := 0#32
  ![v18.toNat, 0, 0, 0]
def k0_off67 (i : grid0.Coords) : Fin 4 → Nat :=
  let arg0 : BitVec 32 := BitVec.ofNat 32 (i 0).val
  let c0_i32_9 : BitVec 32 := 0#32
  let c0_i32_3 : BitVec 32 := 0#32
  let c0_i32_10 : BitVec 32 := 0#32
  ![arg0.toNat, 0, 0, 0]
def k0_off68 (i : grid0.Coords) : Fin 3 → Nat :=
  let arg0 : BitVec 32 := BitVec.ofNat 32 (i 0).val
  let c2_i32 : BitVec 32 := 2#32
  let v18 : BitVec 32 := Scalar.remsi arg0 c2_i32
  let c0_i32_13 : BitVec 32 := 0#32
  let c1_i32_14 : BitVec 32 := 1#32
  ![v18.toNat, 0, 1]
def k0_off69 (i : grid0.Coords) : Fin 4 → Nat :=
  let arg0 : BitVec 32 := BitVec.ofNat 32 (i 0).val
  let c2_i32 : BitVec 32 := 2#32
  let v18 : BitVec 32 := Scalar.remsi arg0 c2_i32
  let c1_i32_12 : BitVec 32 := 1#32
  let c0_i32_15 : BitVec 32 := 0#32
  let c0_i32_16 : BitVec 32 := 0#32
  ![v18.toNat, 1, 0, 0]
def k0_off70 (i : grid0.Coords) : Fin 4 → Nat :=
  let arg0 : BitVec 32 := BitVec.ofNat 32 (i 0).val
  let c0_i32_17 : BitVec 32 := 0#32
  let c1_i32_11 : BitVec 32 := 1#32
  let c0_i32_18 : BitVec 32 := 0#32
  ![arg0.toNat, 0, 1, 0]
def k0_off71 (i : grid0.Coords) : Fin 3 → Nat :=
  let arg0 : BitVec 32 := BitVec.ofNat 32 (i 0).val
  let c2_i32 : BitVec 32 := 2#32
  let v18 : BitVec 32 := Scalar.remsi arg0 c2_i32
  let c0_i32_21 : BitVec 32 := 0#32
  let c2_i32_22 : BitVec 32 := 2#32
  ![v18.toNat, 0, 2]
def k0_off72 (i : grid0.Coords) : Fin 4 → Nat :=
  let arg0 : BitVec 32 := BitVec.ofNat 32 (i 0).val
  let c2_i32 : BitVec 32 := 2#32
  let v18 : BitVec 32 := Scalar.remsi arg0 c2_i32
  let c2_i32_20 : BitVec 32 := 2#32
  let c0_i32_23 : BitVec 32 := 0#32
  let c0_i32_24 : BitVec 32 := 0#32
  ![v18.toNat, 2, 0, 0]
def k0_off73 (i : grid0.Coords) : Fin 4 → Nat :=
  let arg0 : BitVec 32 := BitVec.ofNat 32 (i 0).val
  let c0_i32_25 : BitVec 32 := 0#32
  let c2_i32_19 : BitVec 32 := 2#32
  let c0_i32_26 : BitVec 32 := 0#32
  ![arg0.toNat, 0, 2, 0]
def k0_off74 (i : grid0.Coords) : Fin 3 → Nat :=
  let arg0 : BitVec 32 := BitVec.ofNat 32 (i 0).val
  let c2_i32 : BitVec 32 := 2#32
  let v18 : BitVec 32 := Scalar.remsi arg0 c2_i32
  let c0_i32_28 : BitVec 32 := 0#32
  let c3_i32_29 : BitVec 32 := 3#32
  ![v18.toNat, 0, 3]
def k0_off75 (i : grid0.Coords) : Fin 4 → Nat :=
  let arg0 : BitVec 32 := BitVec.ofNat 32 (i 0).val
  let c2_i32 : BitVec 32 := 2#32
  let v18 : BitVec 32 := Scalar.remsi arg0 c2_i32
  let c3_i32_27 : BitVec 32 := 3#32
  let c0_i32_30 : BitVec 32 := 0#32
  let c0_i32_31 : BitVec 32 := 0#32
  ![v18.toNat, 3, 0, 0]
def k0_off76 (i : grid0.Coords) : Fin 4 → Nat :=
  let arg0 : BitVec 32 := BitVec.ofNat 32 (i 0).val
  let c0_i32_32 : BitVec 32 := 0#32
  let c3_i32 : BitVec 32 := 3#32
  let c0_i32_33 : BitVec 32 := 0#32
  ![arg0.toNat, 0, 3, 0]
def k0_off77 (i : grid0.Coords) : Fin 3 → Nat :=
  let arg0 : BitVec 32 := BitVec.ofNat 32 (i 0).val
  let c2_i32 : BitVec 32 := 2#32
  let v18 : BitVec 32 := Scalar.remsi arg0 c2_i32
  let c0_i32_35 : BitVec 32 := 0#32
  let c4_i32_36 : BitVec 32 := 4#32
  ![v18.toNat, 0, 4]
def k0_off78 (i : grid0.Coords) : Fin 4 → Nat :=
  let arg0 : BitVec 32 := BitVec.ofNat 32 (i 0).val
  let c2_i32 : BitVec 32 := 2#32
  let v18 : BitVec 32 := Scalar.remsi arg0 c2_i32
  let c4_i32_34 : BitVec 32 := 4#32
  let c0_i32_37 : BitVec 32 := 0#32
  let c0_i32_38 : BitVec 32 := 0#32
  ![v18.toNat, 4, 0, 0]
def k0_off79 (i : grid0.Coords) : Fin 4 → Nat :=
  let arg0 : BitVec 32 := BitVec.ofNat 32 (i 0).val
  let c0_i32_39 : BitVec 32 := 0#32
  let c4_i32 : BitVec 32 := 4#32
  let c0_i32_40 : BitVec 32 := 0#32
  ![arg0.toNat, 0, 4, 0]
def k0_off80 (i : grid0.Coords) : Fin 3 → Nat :=
  let arg0 : BitVec 32 := BitVec.ofNat 32 (i 0).val
  let c2_i32 : BitVec 32 := 2#32
  let v18 : BitVec 32 := Scalar.remsi arg0 c2_i32
  let c0_i32_42 : BitVec 32 := 0#32
  let c5_i32_43 : BitVec 32 := 5#32
  ![v18.toNat, 0, 5]
def k0_off81 (i : grid0.Coords) : Fin 4 → Nat :=
  let arg0 : BitVec 32 := BitVec.ofNat 32 (i 0).val
  let c2_i32 : BitVec 32 := 2#32
  let v18 : BitVec 32 := Scalar.remsi arg0 c2_i32
  let c5_i32_41 : BitVec 32 := 5#32
  let c0_i32_44 : BitVec 32 := 0#32
  let c0_i32_45 : BitVec 32 := 0#32
  ![v18.toNat, 5, 0, 0]
def k0_off82 (i : grid0.Coords) : Fin 4 → Nat :=
  let arg0 : BitVec 32 := BitVec.ofNat 32 (i 0).val
  let c0_i32_46 : BitVec 32 := 0#32
  let c5_i32 : BitVec 32 := 5#32
  let c0_i32_47 : BitVec 32 := 0#32
  ![arg0.toNat, 0, 5, 0]
def k0_off83 (i : grid0.Coords) : Fin 3 → Nat :=
  let arg0 : BitVec 32 := BitVec.ofNat 32 (i 0).val
  let c2_i32 : BitVec 32 := 2#32
  let v18 : BitVec 32 := Scalar.remsi arg0 c2_i32
  let c0_i32_49 : BitVec 32 := 0#32
  let c6_i32_50 : BitVec 32 := 6#32
  ![v18.toNat, 0, 6]
def k0_off84 (i : grid0.Coords) : Fin 4 → Nat :=
  let arg0 : BitVec 32 := BitVec.ofNat 32 (i 0).val
  let c2_i32 : BitVec 32 := 2#32
  let v18 : BitVec 32 := Scalar.remsi arg0 c2_i32
  let c6_i32_48 : BitVec 32 := 6#32
  let c0_i32_51 : BitVec 32 := 0#32
  let c0_i32_52 : BitVec 32 := 0#32
  ![v18.toNat, 6, 0, 0]
def k0_off85 (i : grid0.Coords) : Fin 4 → Nat :=
  let arg0 : BitVec 32 := BitVec.ofNat 32 (i 0).val
  let c0_i32_53 : BitVec 32 := 0#32
  let c6_i32 : BitVec 32 := 6#32
  let c0_i32_54 : BitVec 32 := 0#32
  ![arg0.toNat, 0, 6, 0]
def k0_off86 (i : grid0.Coords) : Fin 3 → Nat :=
  let arg0 : BitVec 32 := BitVec.ofNat 32 (i 0).val
  let c2_i32 : BitVec 32 := 2#32
  let v18 : BitVec 32 := Scalar.remsi arg0 c2_i32
  let c0_i32_56 : BitVec 32 := 0#32
  let c7_i32_57 : BitVec 32 := 7#32
  ![v18.toNat, 0, 7]
def k0_off87 (i : grid0.Coords) : Fin 4 → Nat :=
  let arg0 : BitVec 32 := BitVec.ofNat 32 (i 0).val
  let c2_i32 : BitVec 32 := 2#32
  let v18 : BitVec 32 := Scalar.remsi arg0 c2_i32
  let c7_i32_55 : BitVec 32 := 7#32
  let c0_i32_58 : BitVec 32 := 0#32
  let c0_i32_59 : BitVec 32 := 0#32
  ![v18.toNat, 7, 0, 0]
def k0_off88 (i : grid0.Coords) : Fin 4 → Nat :=
  let arg0 : BitVec 32 := BitVec.ofNat 32 (i 0).val
  let c0_i32_60 : BitVec 32 := 0#32
  let c7_i32 : BitVec 32 := 7#32
  let c0_i32_61 : BitVec 32 := 0#32
  ![arg0.toNat, 0, 7, 0]
def k0_off89 (i : grid0.Coords) : Fin 3 → Nat :=
  let arg0 : BitVec 32 := BitVec.ofNat 32 (i 0).val
  let c2_i32 : BitVec 32 := 2#32
  let v18 : BitVec 32 := Scalar.remsi arg0 c2_i32
  let c0_i32_63 : BitVec 32 := 0#32
  let c8_i32_64 : BitVec 32 := 8#32
  ![v18.toNat, 0, 8]
def k0_off90 (i : grid0.Coords) : Fin 4 → Nat :=
  let arg0 : BitVec 32 := BitVec.ofNat 32 (i 0).val
  let c2_i32 : BitVec 32 := 2#32
  let v18 : BitVec 32 := Scalar.remsi arg0 c2_i32
  let c8_i32_62 : BitVec 32 := 8#32
  let c0_i32_65 : BitVec 32 := 0#32
  let c0_i32_66 : BitVec 32 := 0#32
  ![v18.toNat, 8, 0, 0]
def k0_off91 (i : grid0.Coords) : Fin 4 → Nat :=
  let arg0 : BitVec 32 := BitVec.ofNat 32 (i 0).val
  let c0_i32_67 : BitVec 32 := 0#32
  let c8_i32 : BitVec 32 := 8#32
  let c0_i32_68 : BitVec 32 := 0#32
  ![arg0.toNat, 0, 8, 0]
def k0_off92 (i : grid0.Coords) : Fin 3 → Nat :=
  let arg0 : BitVec 32 := BitVec.ofNat 32 (i 0).val
  let c2_i32 : BitVec 32 := 2#32
  let v18 : BitVec 32 := Scalar.remsi arg0 c2_i32
  let c0_i32_70 : BitVec 32 := 0#32
  let c9_i32_71 : BitVec 32 := 9#32
  ![v18.toNat, 0, 9]
def k0_off93 (i : grid0.Coords) : Fin 4 → Nat :=
  let arg0 : BitVec 32 := BitVec.ofNat 32 (i 0).val
  let c2_i32 : BitVec 32 := 2#32
  let v18 : BitVec 32 := Scalar.remsi arg0 c2_i32
  let c9_i32_69 : BitVec 32 := 9#32
  let c0_i32_72 : BitVec 32 := 0#32
  let c0_i32_73 : BitVec 32 := 0#32
  ![v18.toNat, 9, 0, 0]
def k0_off94 (i : grid0.Coords) : Fin 4 → Nat :=
  let arg0 : BitVec 32 := BitVec.ofNat 32 (i 0).val
  let c0_i32_74 : BitVec 32 := 0#32
  let c9_i32 : BitVec 32 := 9#32
  let c0_i32_75 : BitVec 32 := 0#32
  ![arg0.toNat, 0, 9, 0]
def k0_off95 (i : grid0.Coords) : Fin 3 → Nat :=
  let arg0 : BitVec 32 := BitVec.ofNat 32 (i 0).val
  let c2_i32 : BitVec 32 := 2#32
  let v18 : BitVec 32 := Scalar.remsi arg0 c2_i32
  let c0_i32_77 : BitVec 32 := 0#32
  let c10_i32_78 : BitVec 32 := 10#32
  ![v18.toNat, 0, 10]
def k0_off96 (i : grid0.Coords) : Fin 4 → Nat :=
  let arg0 : BitVec 32 := BitVec.ofNat 32 (i 0).val
  let c2_i32 : BitVec 32 := 2#32
  let v18 : BitVec 32 := Scalar.remsi arg0 c2_i32
  let c10_i32_76 : BitVec 32 := 10#32
  let c0_i32_79 : BitVec 32 := 0#32
  let c0_i32_80 : BitVec 32 := 0#32
  ![v18.toNat, 10, 0, 0]
def k0_off97 (i : grid0.Coords) : Fin 4 → Nat :=
  let arg0 : BitVec 32 := BitVec.ofNat 32 (i 0).val
  let c0_i32_81 : BitVec 32 := 0#32
  let c10_i32 : BitVec 32 := 10#32
  let c0_i32_82 : BitVec 32 := 0#32
  ![arg0.toNat, 0, 10, 0]
def k0_off98 (i : grid0.Coords) : Fin 3 → Nat :=
  let arg0 : BitVec 32 := BitVec.ofNat 32 (i 0).val
  let c2_i32 : BitVec 32 := 2#32
  let v18 : BitVec 32 := Scalar.remsi arg0 c2_i32
  let c0_i32_84 : BitVec 32 := 0#32
  let c11_i32_85 : BitVec 32 := 11#32
  ![v18.toNat, 0, 11]
def k0_off99 (i : grid0.Coords) : Fin 4 → Nat :=
  let arg0 : BitVec 32 := BitVec.ofNat 32 (i 0).val
  let c2_i32 : BitVec 32 := 2#32
  let v18 : BitVec 32 := Scalar.remsi arg0 c2_i32
  let c11_i32_83 : BitVec 32 := 11#32
  let c0_i32_86 : BitVec 32 := 0#32
  let c0_i32_87 : BitVec 32 := 0#32
  ![v18.toNat, 11, 0, 0]
def k0_off100 (i : grid0.Coords) : Fin 4 → Nat :=
  let arg0 : BitVec 32 := BitVec.ofNat 32 (i 0).val
  let c0_i32_88 : BitVec 32 := 0#32
  let c11_i32 : BitVec 32 := 11#32
  let c0_i32_89 : BitVec 32 := 0#32
  ![arg0.toNat, 0, 11, 0]
def k0_off101 (i : grid0.Coords) : Fin 3 → Nat :=
  let arg0 : BitVec 32 := BitVec.ofNat 32 (i 0).val
  let c2_i32 : BitVec 32 := 2#32
  let v18 : BitVec 32 := Scalar.remsi arg0 c2_i32
  let c0_i32_91 : BitVec 32 := 0#32
  let c12_i32_92 : BitVec 32 := 12#32
  ![v18.toNat, 0, 12]
def k0_off102 (i : grid0.Coords) : Fin 4 → Nat :=
  let arg0 : BitVec 32 := BitVec.ofNat 32 (i 0).val
  let c2_i32 : BitVec 32 := 2#32
  let v18 : BitVec 32 := Scalar.remsi arg0 c2_i32
  let c12_i32_90 : BitVec 32 := 12#32
  let c0_i32_93 : BitVec 32 := 0#32
  let c0_i32_94 : BitVec 32 := 0#32
  ![v18.toNat, 12, 0, 0]
def k0_off103 (i : grid0.Coords) : Fin 4 → Nat :=
  let arg0 : BitVec 32 := BitVec.ofNat 32 (i 0).val
  let c0_i32_95 : BitVec 32 := 0#32
  let c12_i32 : BitVec 32 := 12#32
  let c0_i32_96 : BitVec 32 := 0#32
  ![arg0.toNat, 0, 12, 0]
def k0_off104 (i : grid0.Coords) : Fin 3 → Nat :=
  let arg0 : BitVec 32 := BitVec.ofNat 32 (i 0).val
  let c2_i32 : BitVec 32 := 2#32
  let v18 : BitVec 32 := Scalar.remsi arg0 c2_i32
  let c0_i32_98 : BitVec 32 := 0#32
  let c13_i32_99 : BitVec 32 := 13#32
  ![v18.toNat, 0, 13]
def k0_off105 (i : grid0.Coords) : Fin 4 → Nat :=
  let arg0 : BitVec 32 := BitVec.ofNat 32 (i 0).val
  let c2_i32 : BitVec 32 := 2#32
  let v18 : BitVec 32 := Scalar.remsi arg0 c2_i32
  let c13_i32_97 : BitVec 32 := 13#32
  let c0_i32_100 : BitVec 32 := 0#32
  let c0_i32_101 : BitVec 32 := 0#32
  ![v18.toNat, 13, 0, 0]
def k0_off106 (i : grid0.Coords) : Fin 4 → Nat :=
  let arg0 : BitVec 32 := BitVec.ofNat 32 (i 0).val
  let c0_i32_102 : BitVec 32 := 0#32
  let c13_i32 : BitVec 32 := 13#32
  let c0_i32_103 : BitVec 32 := 0#32
  ![arg0.toNat, 0, 13, 0]
def k0_off107 (i : grid0.Coords) : Fin 3 → Nat :=
  let arg0 : BitVec 32 := BitVec.ofNat 32 (i 0).val
  let c2_i32 : BitVec 32 := 2#32
  let v18 : BitVec 32 := Scalar.remsi arg0 c2_i32
  let c0_i32_105 : BitVec 32 := 0#32
  let c14_i32_106 : BitVec 32 := 14#32
  ![v18.toNat, 0, 14]
def k0_off108 (i : grid0.Coords) : Fin 4 → Nat :=
  let arg0 : BitVec 32 := BitVec.ofNat 32 (i 0).val
  let c2_i32 : BitVec 32 := 2#32
  let v18 : BitVec 32 := Scalar.remsi arg0 c2_i32
  let c14_i32_104 : BitVec 32 := 14#32
  let c0_i32_107 : BitVec 32 := 0#32
  let c0_i32_108 : BitVec 32 := 0#32
  ![v18.toNat, 14, 0, 0]
def k0_off109 (i : grid0.Coords) : Fin 4 → Nat :=
  let arg0 : BitVec 32 := BitVec.ofNat 32 (i 0).val
  let c0_i32_109 : BitVec 32 := 0#32
  let c14_i32 : BitVec 32 := 14#32
  let c0_i32_110 : BitVec 32 := 0#32
  ![arg0.toNat, 0, 14, 0]
def k0_off110 (i : grid0.Coords) : Fin 3 → Nat :=
  let arg0 : BitVec 32 := BitVec.ofNat 32 (i 0).val
  let c2_i32 : BitVec 32 := 2#32
  let v18 : BitVec 32 := Scalar.remsi arg0 c2_i32
  let c0_i32_112 : BitVec 32 := 0#32
  let c15_i32_113 : BitVec 32 := 15#32
  ![v18.toNat, 0, 15]
def k0_off111 (i : grid0.Coords) : Fin 4 → Nat :=
  let arg0 : BitVec 32 := BitVec.ofNat 32 (i 0).val
  let c2_i32 : BitVec 32 := 2#32
  let v18 : BitVec 32 := Scalar.remsi arg0 c2_i32
  let c15_i32_111 : BitVec 32 := 15#32
  let c0_i32_114 : BitVec 32 := 0#32
  let c0_i32_115 : BitVec 32 := 0#32
  ![v18.toNat, 15, 0, 0]
def k0_off112 (i : grid0.Coords) : Fin 4 → Nat :=
  let arg0 : BitVec 32 := BitVec.ofNat 32 (i 0).val
  let c0_i32_116 : BitVec 32 := 0#32
  let c15_i32 : BitVec 32 := 15#32
  let c0_i32_117 : BitVec 32 := 0#32
  ![arg0.toNat, 0, 15, 0]
def k0_off113 (i : grid0.Coords) : Fin 3 → Nat :=
  let arg0 : BitVec 32 := BitVec.ofNat 32 (i 0).val
  let c2_i32 : BitVec 32 := 2#32
  let v18 : BitVec 32 := Scalar.remsi arg0 c2_i32
  let c1_i32_120 : BitVec 32 := 1#32
  let c0_i32_121 : BitVec 32 := 0#32
  ![v18.toNat, 1, 0]
def k0_off114 (i : grid0.Coords) : Fin 3 → Nat :=
  let arg0 : BitVec 32 := BitVec.ofNat 32 (i 0).val
  let c2_i32 : BitVec 32 := 2#32
  let v18 : BitVec 32 := Scalar.remsi arg0 c2_i32
  let c1_i32_128 : BitVec 32 := 1#32
  let c1_i32_129 : BitVec 32 := 1#32
  ![v18.toNat, 1, 1]
def k0_off115 (i : grid0.Coords) : Fin 3 → Nat :=
  let arg0 : BitVec 32 := BitVec.ofNat 32 (i 0).val
  let c2_i32 : BitVec 32 := 2#32
  let v18 : BitVec 32 := Scalar.remsi arg0 c2_i32
  let c1_i32_136 : BitVec 32 := 1#32
  let c2_i32_137 : BitVec 32 := 2#32
  ![v18.toNat, 1, 2]
def k0_off116 (i : grid0.Coords) : Fin 3 → Nat :=
  let arg0 : BitVec 32 := BitVec.ofNat 32 (i 0).val
  let c2_i32 : BitVec 32 := 2#32
  let v18 : BitVec 32 := Scalar.remsi arg0 c2_i32
  let c1_i32_144 : BitVec 32 := 1#32
  let c3_i32_145 : BitVec 32 := 3#32
  ![v18.toNat, 1, 3]
def k0_off117 (i : grid0.Coords) : Fin 3 → Nat :=
  let arg0 : BitVec 32 := BitVec.ofNat 32 (i 0).val
  let c2_i32 : BitVec 32 := 2#32
  let v18 : BitVec 32 := Scalar.remsi arg0 c2_i32
  let c1_i32_152 : BitVec 32 := 1#32
  let c4_i32_153 : BitVec 32 := 4#32
  ![v18.toNat, 1, 4]
def k0_off118 (i : grid0.Coords) : Fin 3 → Nat :=
  let arg0 : BitVec 32 := BitVec.ofNat 32 (i 0).val
  let c2_i32 : BitVec 32 := 2#32
  let v18 : BitVec 32 := Scalar.remsi arg0 c2_i32
  let c1_i32_160 : BitVec 32 := 1#32
  let c5_i32_161 : BitVec 32 := 5#32
  ![v18.toNat, 1, 5]
def k0_off119 (i : grid0.Coords) : Fin 3 → Nat :=
  let arg0 : BitVec 32 := BitVec.ofNat 32 (i 0).val
  let c2_i32 : BitVec 32 := 2#32
  let v18 : BitVec 32 := Scalar.remsi arg0 c2_i32
  let c1_i32_168 : BitVec 32 := 1#32
  let c6_i32_169 : BitVec 32 := 6#32
  ![v18.toNat, 1, 6]
def k0_off120 (i : grid0.Coords) : Fin 3 → Nat :=
  let arg0 : BitVec 32 := BitVec.ofNat 32 (i 0).val
  let c2_i32 : BitVec 32 := 2#32
  let v18 : BitVec 32 := Scalar.remsi arg0 c2_i32
  let c1_i32_176 : BitVec 32 := 1#32
  let c7_i32_177 : BitVec 32 := 7#32
  ![v18.toNat, 1, 7]
def k0_off121 (i : grid0.Coords) : Fin 3 → Nat :=
  let arg0 : BitVec 32 := BitVec.ofNat 32 (i 0).val
  let c2_i32 : BitVec 32 := 2#32
  let v18 : BitVec 32 := Scalar.remsi arg0 c2_i32
  let c1_i32_184 : BitVec 32 := 1#32
  let c8_i32_185 : BitVec 32 := 8#32
  ![v18.toNat, 1, 8]
def k0_off122 (i : grid0.Coords) : Fin 3 → Nat :=
  let arg0 : BitVec 32 := BitVec.ofNat 32 (i 0).val
  let c2_i32 : BitVec 32 := 2#32
  let v18 : BitVec 32 := Scalar.remsi arg0 c2_i32
  let c1_i32_192 : BitVec 32 := 1#32
  let c9_i32_193 : BitVec 32 := 9#32
  ![v18.toNat, 1, 9]
def k0_off123 (i : grid0.Coords) : Fin 3 → Nat :=
  let arg0 : BitVec 32 := BitVec.ofNat 32 (i 0).val
  let c2_i32 : BitVec 32 := 2#32
  let v18 : BitVec 32 := Scalar.remsi arg0 c2_i32
  let c1_i32_200 : BitVec 32 := 1#32
  let c10_i32_201 : BitVec 32 := 10#32
  ![v18.toNat, 1, 10]
def k0_off124 (i : grid0.Coords) : Fin 3 → Nat :=
  let arg0 : BitVec 32 := BitVec.ofNat 32 (i 0).val
  let c2_i32 : BitVec 32 := 2#32
  let v18 : BitVec 32 := Scalar.remsi arg0 c2_i32
  let c1_i32_208 : BitVec 32 := 1#32
  let c11_i32_209 : BitVec 32 := 11#32
  ![v18.toNat, 1, 11]
def k0_off125 (i : grid0.Coords) : Fin 3 → Nat :=
  let arg0 : BitVec 32 := BitVec.ofNat 32 (i 0).val
  let c2_i32 : BitVec 32 := 2#32
  let v18 : BitVec 32 := Scalar.remsi arg0 c2_i32
  let c1_i32_216 : BitVec 32 := 1#32
  let c12_i32_217 : BitVec 32 := 12#32
  ![v18.toNat, 1, 12]
def k0_off126 (i : grid0.Coords) : Fin 3 → Nat :=
  let arg0 : BitVec 32 := BitVec.ofNat 32 (i 0).val
  let c2_i32 : BitVec 32 := 2#32
  let v18 : BitVec 32 := Scalar.remsi arg0 c2_i32
  let c1_i32_224 : BitVec 32 := 1#32
  let c13_i32_225 : BitVec 32 := 13#32
  ![v18.toNat, 1, 13]
def k0_off127 (i : grid0.Coords) : Fin 3 → Nat :=
  let arg0 : BitVec 32 := BitVec.ofNat 32 (i 0).val
  let c2_i32 : BitVec 32 := 2#32
  let v18 : BitVec 32 := Scalar.remsi arg0 c2_i32
  let c1_i32_232 : BitVec 32 := 1#32
  let c14_i32_233 : BitVec 32 := 14#32
  ![v18.toNat, 1, 14]
def k0_off128 (i : grid0.Coords) : Fin 3 → Nat :=
  let arg0 : BitVec 32 := BitVec.ofNat 32 (i 0).val
  let c2_i32 : BitVec 32 := 2#32
  let v18 : BitVec 32 := Scalar.remsi arg0 c2_i32
  let c1_i32_240 : BitVec 32 := 1#32
  let c15_i32_241 : BitVec 32 := 15#32
  ![v18.toNat, 1, 15]
def k0_off129 (i : grid0.Coords) : Fin 4 → Nat :=
  let arg0 : BitVec 32 := BitVec.ofNat 32 (i 0).val
  let c2_i32 : BitVec 32 := 2#32
  let v18 : BitVec 32 := Scalar.remsi arg0 c2_i32
  let v219 : Index := Scalar.indexCast v18
  let c0_247 : Index := 0#32
  let c0_248 : Index := 0#32
  let c0_249 : Index := 0#32
  ![v219.toNat, 0, 0, 0]
def k0_off130 (i : grid0.Coords) : Fin 4 → Nat :=
  let arg0 : BitVec 32 := BitVec.ofNat 32 (i 0).val
  let c2_i32 : BitVec 32 := 2#32
  let v18 : BitVec 32 := Scalar.remsi arg0 c2_i32
  let v228 : Index := Scalar.indexCast v18
  let c1 : Index := 1#32
  let c0_255 : Index := 0#32
  let c0_256 : Index := 0#32
  ![v228.toNat, 1, 0, 0]
def k0_off131 (i : grid0.Coords) : Fin 4 → Nat :=
  let arg0 : BitVec 32 := BitVec.ofNat 32 (i 0).val
  let c2_i32 : BitVec 32 := 2#32
  let v18 : BitVec 32 := Scalar.remsi arg0 c2_i32
  let v237 : Index := Scalar.indexCast v18
  let c2 : Index := 2#32
  let c0_262 : Index := 0#32
  let c0_263 : Index := 0#32
  ![v237.toNat, 2, 0, 0]
def k0_off132 (i : grid0.Coords) : Fin 4 → Nat :=
  let arg0 : BitVec 32 := BitVec.ofNat 32 (i 0).val
  let c2_i32 : BitVec 32 := 2#32
  let v18 : BitVec 32 := Scalar.remsi arg0 c2_i32
  let v246 : Index := Scalar.indexCast v18
  let c3 : Index := 3#32
  let c0_269 : Index := 0#32
  let c0_270 : Index := 0#32
  ![v246.toNat, 3, 0, 0]
def k0_off133 (i : grid0.Coords) : Fin 4 → Nat :=
  let arg0 : BitVec 32 := BitVec.ofNat 32 (i 0).val
  let c2_i32 : BitVec 32 := 2#32
  let v18 : BitVec 32 := Scalar.remsi arg0 c2_i32
  let v396 : Index := Scalar.indexCast v18
  let c4 : Index := 4#32
  let c0_337 : Index := 0#32
  let c0_338 : Index := 0#32
  ![v396.toNat, 4, 0, 0]
def k0_off134 (i : grid0.Coords) : Fin 4 → Nat :=
  let arg0 : BitVec 32 := BitVec.ofNat 32 (i 0).val
  let c2_i32 : BitVec 32 := 2#32
  let v18 : BitVec 32 := Scalar.remsi arg0 c2_i32
  let v405 : Index := Scalar.indexCast v18
  let c5 : Index := 5#32
  let c0_344 : Index := 0#32
  let c0_345 : Index := 0#32
  ![v405.toNat, 5, 0, 0]
def k0_off135 (i : grid0.Coords) : Fin 4 → Nat :=
  let arg0 : BitVec 32 := BitVec.ofNat 32 (i 0).val
  let c2_i32 : BitVec 32 := 2#32
  let v18 : BitVec 32 := Scalar.remsi arg0 c2_i32
  let v414 : Index := Scalar.indexCast v18
  let c6 : Index := 6#32
  let c0_351 : Index := 0#32
  let c0_352 : Index := 0#32
  ![v414.toNat, 6, 0, 0]
def k0_off136 (i : grid0.Coords) : Fin 4 → Nat :=
  let arg0 : BitVec 32 := BitVec.ofNat 32 (i 0).val
  let c2_i32 : BitVec 32 := 2#32
  let v18 : BitVec 32 := Scalar.remsi arg0 c2_i32
  let v423 : Index := Scalar.indexCast v18
  let c7 : Index := 7#32
  let c0_358 : Index := 0#32
  let c0_359 : Index := 0#32
  ![v423.toNat, 7, 0, 0]
def k0_off137 (i : grid0.Coords) : Fin 4 → Nat :=
  let arg0 : BitVec 32 := BitVec.ofNat 32 (i 0).val
  let c2_i32 : BitVec 32 := 2#32
  let v18 : BitVec 32 := Scalar.remsi arg0 c2_i32
  let v573 : Index := Scalar.indexCast v18
  let c8 : Index := 8#32
  let c0_426 : Index := 0#32
  let c0_427 : Index := 0#32
  ![v573.toNat, 8, 0, 0]
def k0_off138 (i : grid0.Coords) : Fin 4 → Nat :=
  let arg0 : BitVec 32 := BitVec.ofNat 32 (i 0).val
  let c2_i32 : BitVec 32 := 2#32
  let v18 : BitVec 32 := Scalar.remsi arg0 c2_i32
  let v582 : Index := Scalar.indexCast v18
  let c9 : Index := 9#32
  let c0_433 : Index := 0#32
  let c0_434 : Index := 0#32
  ![v582.toNat, 9, 0, 0]
def k0_off139 (i : grid0.Coords) : Fin 4 → Nat :=
  let arg0 : BitVec 32 := BitVec.ofNat 32 (i 0).val
  let c2_i32 : BitVec 32 := 2#32
  let v18 : BitVec 32 := Scalar.remsi arg0 c2_i32
  let v591 : Index := Scalar.indexCast v18
  let c10 : Index := 10#32
  let c0_440 : Index := 0#32
  let c0_441 : Index := 0#32
  ![v591.toNat, 10, 0, 0]
def k0_off140 (i : grid0.Coords) : Fin 4 → Nat :=
  let arg0 : BitVec 32 := BitVec.ofNat 32 (i 0).val
  let c2_i32 : BitVec 32 := 2#32
  let v18 : BitVec 32 := Scalar.remsi arg0 c2_i32
  let v600 : Index := Scalar.indexCast v18
  let c11 : Index := 11#32
  let c0_447 : Index := 0#32
  let c0_448 : Index := 0#32
  ![v600.toNat, 11, 0, 0]
def k0_off141 (i : grid0.Coords) : Fin 4 → Nat :=
  let arg0 : BitVec 32 := BitVec.ofNat 32 (i 0).val
  let c2_i32 : BitVec 32 := 2#32
  let v18 : BitVec 32 := Scalar.remsi arg0 c2_i32
  let v750 : Index := Scalar.indexCast v18
  let c12 : Index := 12#32
  let c0_515 : Index := 0#32
  let c0_516 : Index := 0#32
  ![v750.toNat, 12, 0, 0]
def k0_off142 (i : grid0.Coords) : Fin 4 → Nat :=
  let arg0 : BitVec 32 := BitVec.ofNat 32 (i 0).val
  let c2_i32 : BitVec 32 := 2#32
  let v18 : BitVec 32 := Scalar.remsi arg0 c2_i32
  let v759 : Index := Scalar.indexCast v18
  let c13 : Index := 13#32
  let c0_522 : Index := 0#32
  let c0_523 : Index := 0#32
  ![v759.toNat, 13, 0, 0]
def k0_off143 (i : grid0.Coords) : Fin 4 → Nat :=
  let arg0 : BitVec 32 := BitVec.ofNat 32 (i 0).val
  let c2_i32 : BitVec 32 := 2#32
  let v18 : BitVec 32 := Scalar.remsi arg0 c2_i32
  let v768 : Index := Scalar.indexCast v18
  let c14 : Index := 14#32
  let c0_529 : Index := 0#32
  let c0_530 : Index := 0#32
  ![v768.toNat, 14, 0, 0]
def k0_off144 (i : grid0.Coords) : Fin 4 → Nat :=
  let arg0 : BitVec 32 := BitVec.ofNat 32 (i 0).val
  let c2_i32 : BitVec 32 := 2#32
  let v18 : BitVec 32 := Scalar.remsi arg0 c2_i32
  let v777 : Index := Scalar.indexCast v18
  let c15 : Index := 15#32
  let c0_536 : Index := 0#32
  let c0_537 : Index := 0#32
  ![v777.toNat, 15, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F] [Named F]
def κ : String → Option EReal := fun
  | "inv_ln2" => some (((Real.log 2)⁻¹ : ℝ) : EReal)
  | _ => none
-- ==== Reference2Ideal.lean ====
abbrev S2048x2048 : Shape := ⟨2, ![2048, 2048]⟩
abbrev S32x1024x16x128 : Shape := ⟨4, ![32, 1024, 16, 128]⟩
abbrev S_ : Shape := ⟨0, ![]⟩
abbrev S32x64x16x128 : Shape := ⟨4, ![32, 64, 16, 128]⟩
abbrev S32x1088x16x128 : Shape := ⟨4, ![32, 1088, 16, 128]⟩
abbrev S1088 : Shape := ⟨1, ![1088]⟩
abbrev S1x1088 : Shape := ⟨2, ![1, 1088]⟩
abbrev S64 : Shape := ⟨1, ![64]⟩
abbrev S64x1 : Shape := ⟨2, ![64, 1]⟩
abbrev S64x1088 : Shape := ⟨2, ![64, 1088]⟩
abbrev S32x16x64x1088 : Shape := ⟨4, ![32, 16, 64, 1088]⟩
abbrev S1x1x64x1088 : Shape := ⟨4, ![1, 1, 64, 1088]⟩
abbrev S1088x1 : Shape := ⟨2, ![1088, 1]⟩
abbrev S1088x1088 : Shape := ⟨2, ![1088, 1088]⟩
abbrev S32x16x64x1x1088 : Shape := ⟨5, ![32, 16, 64, 1, 1088]⟩
abbrev S32x16x64x1088x1088 : Shape := ⟨5, ![32, 16, 64, 1088, 1088]⟩
abbrev S32x16x128x64 : Shape := ⟨4, ![32, 16, 128, 64]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S32x1024x16x128, .f32⟩
  | .hbm, ⟨2, _⟩ => ⟨S32x1024x16x128, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S32x64x16x128, .f32⟩
  | .hbm, ⟨10, _⟩ => ⟨S32x1088x16x128, .f32⟩
  | .hbm, ⟨11, _⟩ => ⟨S2048x2048, .f32⟩
  | .hbm, ⟨12, _⟩ => ⟨S32x64x16x128, .f32⟩
  | .hbm, ⟨13, _⟩ => ⟨S32x1088x16x128, .f32⟩
  | .hbm, ⟨14, _⟩ => ⟨S1088, .i32⟩
  | .hbm, ⟨15, _⟩ => ⟨S1x1088, .i32⟩
  | .hbm, ⟨16, _⟩ => ⟨S64, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S64x1088, .i32⟩
  | .hbm, ⟨22, _⟩ => ⟨S64x1088, .i32⟩
  | .hbm, ⟨23, _⟩ => ⟨S64x1088, .i1⟩
  | .hbm, ⟨24, _⟩ => ⟨S2048x2048, .f32⟩
  | .hbm, ⟨25, _⟩ => ⟨S32x64x16x128, .f32⟩
  | .hbm, ⟨26, _⟩ => ⟨S32x16x64x1088, .f32⟩
  | .hbm, ⟨27, _⟩ => ⟨S_, .f32⟩
  | .hbm, ⟨28, _⟩ => ⟨S_, .f32⟩
  | .hbm, ⟨29, _⟩ => ⟨S64x1088, .f32⟩
  | .hbm, ⟨30, _⟩ => ⟨S64x1088, .f32⟩
  | .hbm, ⟨31, _⟩ => ⟨S64x1088, .f32⟩
  | .hbm, ⟨32, _⟩ => ⟨S1x1x64x1088, .f32⟩
  | .hbm, ⟨33, _⟩ => ⟨S32x16x64x1088, .f32⟩
  | .hbm, ⟨34, _⟩ => ⟨S32x16x64x1088, .f32⟩
  | .hbm, ⟨35, _⟩ => ⟨S_, .f32⟩
  | .hbm, ⟨36, _⟩ => ⟨S32x16x64x1088, .f32⟩
  | .hbm, ⟨37, _⟩ => ⟨S32x16x64x1088, .f32⟩
  | .hbm, ⟨38, _⟩ => ⟨S32x16x64x1088, .f32⟩
  | .hbm, ⟨39, _⟩ => ⟨S32x16x64x1088, .f32⟩
  | .hbm, ⟨40, _⟩ => ⟨S32x16x64x1088, .f32⟩
  | .hbm, ⟨41, _⟩ => ⟨S32x16x64x1088, .f32⟩
  | .hbm, ⟨42, _⟩ => ⟨S32x16x64x1088, .f32⟩
  | .hbm, ⟨43, _⟩ => ⟨S_, .f32⟩
  | .hbm, ⟨44, _⟩ => ⟨S32x16x64x1088, .f32⟩
  | .hbm, ⟨45, _⟩ => ⟨S32x16x64x1088, .f32⟩
  | .hbm, ⟨46, _⟩ => ⟨S32x16x64x1088, .f32⟩
  | .hbm, ⟨47, _⟩ => ⟨S32x16x64x1088, .f32⟩
  | .hbm, ⟨48, _⟩ => ⟨S32x16x64x1088, .f32⟩
  | .hbm, ⟨49, _⟩ => ⟨S32x16x64x1088, .f32⟩
  | .hbm, ⟨50, _⟩ => ⟨S32x16x64x1088, .f32⟩
  | .hbm, ⟨51, _⟩ => ⟨S1x1088, .i32⟩
  | .hbm, ⟨52, _⟩ => ⟨S1088x1, .i32⟩
  | .hbm, ⟨53, _⟩ => ⟨S1088x1088, .i32⟩
  | .hbm, ⟨54, _⟩ => ⟨S1088x1088, .i32⟩
  | .hbm, ⟨55, _⟩ => ⟨S1088x1088, .i1⟩
  | .hbm, ⟨56, _⟩ => ⟨S32x16x64x1x1088, .f32⟩
  | .hbm, ⟨57, _⟩ => ⟨S_, .f32⟩
  | .hbm, ⟨58, _⟩ => ⟨S_, .f32⟩
  | .hbm, ⟨59, _⟩ => ⟨S32x16x64x1088x1088, .i1⟩
  | .hbm, ⟨60, _⟩ => ⟨S32x16x64x1088x1088, .f32⟩
  | .hbm, ⟨61, _⟩ => ⟨S32x16x64x1088x1088, .f32⟩
  | .hbm, ⟨62, _⟩ => ⟨S32x16x64x1088x1088, .f32⟩
  | .hbm, ⟨63, _⟩ => ⟨S_, .f32⟩
  | .hbm, ⟨64, _⟩ => ⟨S32x16x64x1088, .f32⟩
  | .hbm, ⟨65, _⟩ => ⟨S32x16x64x1088, .f32⟩
  | .hbm, ⟨66, _⟩ => ⟨S32x16x64x1088, .f32⟩
  | .hbm, ⟨67, _⟩ => ⟨S32x16x64x1088, .f32⟩
  | .hbm, ⟨68, _⟩ => ⟨S32x16x64x1088, .f32⟩
  | .hbm, ⟨69, _⟩ => ⟨S32x16x128x64, .f32⟩
  | .hbm, ⟨70, _⟩ => ⟨S32x64x16x128, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel3.lean ====
abbrev S8192x2048 : Shape := ⟨2, ![8192, 2048]⟩
abbrev S2048x512 : Shape := ⟨2, ![2048, 512]⟩
abbrev S512x256 : Shape := ⟨2, ![512, 256]⟩
abbrev S2x4x256x256 : Shape := ⟨4, ![2, 4, 256, 256]⟩
abbrev S4x256x128 : Shape := ⟨3, ![4, 256, 128]⟩
abbrev S256x256 : Shape := ⟨2, ![256, 256]⟩
abbrev S1x1x256x256 : Shape := ⟨4, ![1, 1, 256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1 : Shape := ⟨1, ![1]⟩
abbrev S1x1x1 : Shape := ⟨3, ![1, 1, 1]⟩

abbrev nBuf : Space → Nat
  | .hbm => 5
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x256, .f32⟩
  | .local _ .vmem, ⟨11, _⟩ => ⟨S2x4x256x256, .f32⟩
  | .local _ .vmem, ⟨12, _⟩ => ⟨S2x4x256x256, .f32⟩
  | .local _ .vmem, ⟨13, _⟩ => ⟨S2x4x256x256, .f32⟩
  | .local _ .vmem, ⟨14, _⟩ => ⟨S4x256x128, .f32⟩
  | .local _ .vmem, ⟨15, _⟩ => ⟨S4x256x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (arg13 : BitVec 32) (arg15 : BitVec 32) (arg18 : BitVec 32) (v281 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c7_i32 : BitVec 32 := 7#32
  let v294 : BitVec 32 := Scalar.minsi v288 c7_i32
  let c256_i32 : BitVec 32 := 256#32
  let v295 : BitVec 32 := Scalar.muli v294 c256_i32
  v295

def k0_mult2 (arg13 : BitVec 32) (arg14 : BitVec 32) (arg15 : BitVec 32) (arg18 : BitVec 32) (v281 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c7_i32_202 : BitVec 32 := 7#32
  let v297 : BitVec 32 := Scalar.minsi v290 c7_i32_202
  let c256_i32_203 : BitVec 32 := 256#32
  let v298 : BitVec 32 := Scalar.muli v297 c256_i32_203
  v298
def k0_mult3 (arg13 : BitVec 32) (arg14 : BitVec 32) (arg15 : BitVec 32) (arg18 : BitVec 32) (v281 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c1_i32_199 : BitVec 32 := 1#32
  let v287 : BitVec 32 := Scalar.addi arg13 c1_i32_199
  let v288 : BitVec 32 := Scalar.select v286 v287 arg13
  let v300 : BitVec 1 := Scalar.cmpi .eq v290 v288
  let c0_i32_204 : BitVec 32 := 0#32
  let c256_i32_205 : BitVec 32 := 256#32
  let v301 : BitVec 32 := Scalar.select v300 c0_i32_204 c256_i32_205
  v301
def k0_off1 (arg13 : BitVec 32) (arg14 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c1_i32_199 : BitVec 32 := 1#32
  let v287 : BitVec 32 := Scalar.addi arg13 c1_i32_199
  let v288 : BitVec 32 := Scalar.select v286 v287 arg13
  let v300 : BitVec 1 := Scalar.cmpi .eq v290 v288
  let c0_i32_204 : BitVec 32 := 0#32
  let c256_i32_205 : BitVec 32 := 256#32
  let v301 : BitVec 32 := Scalar.select v300 c0_i32_204 c256_i32_205
  let v302 : BitVec 32 := v301
  let v303 : Index := Scalar.indexCast v302
  let c0_206 : Index := 0#32
  ![v303.toNat, 0]
def k0_off2 (arg13 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c7_i32 : BitVec 32 := 7#32
  let v294 : BitVec 32 := Scalar.minsi v288 c7_i32
  let c256_i32 : BitVec 32 := 256#32
  let v295 : BitVec 32 := Scalar.muli v294 c256_i32
  let v296 : BitVec 32 := v295
  let v305 : Index := Scalar.indexCast v296
  let c0_207 : Index := 0#32
  ![v305.toNat, 0]
def k0_off3 (arg13 : BitVec 32) (arg14 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c7_i32_202 : BitVec 32 := 7#32
  let v297 : BitVec 32 := Scalar.minsi v290 c7_i32_202
  let c256_i32_203 : BitVec 32 := 256#32
  let v298 : BitVec 32 := Scalar.muli v297 c256_i32_203
  let v299 : BitVec 32 := v298
  let v307 : Index := Scalar.indexCast v299
  let c0_208 : Index := 0#32
  ![v307.toNat, 0]
def k0_off4 (arg13 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c7_i32 : BitVec 32 := 7#32
  let v294 : BitVec 32 := Scalar.minsi v288 c7_i32
  let c256_i32 : BitVec 32 := 256#32
  let v295 : BitVec 32 := Scalar.muli v294 c256_i32
  let v296 : BitVec 32 := v295
  let v310 : Index := Scalar.indexCast v296
  let c128 : Index := 128#32
  ![v310.toNat, 128]
def k0_off5 (arg13 : BitVec 32) (arg14 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c7_i32_202 : BitVec 32 := 7#32
  let v297 : BitVec 32 := Scalar.minsi v290 c7_i32_202
  let c256_i32_203 : BitVec 32 := 256#32
  let v298 : BitVec 32 := Scalar.muli v297 c256_i32_203
  let v299 : BitVec 32 := v298
  let v312 : Index := Scalar.indexCast v299
  let c128_210 : Index := 128#32
  ![v312.toNat, 128]
def k0_off6 (arg13 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c7_i32 : BitVec 32 := 7#32
  let v294 : BitVec 32 := Scalar.minsi v288 c7_i32
  let c256_i32 : BitVec 32 := 256#32
  let v295 : BitVec 32 := Scalar.muli v294 c256_i32
  let v296 : BitVec 32 := v295
  let v315 : Index := Scalar.indexCast v296
  let c256_212 : Index := 256#32
  ![v315.toNat, 256]
def k0_off7 (arg13 : BitVec 32) (arg14 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c7_i32_202 : BitVec 32 := 7#32
  let v297 : BitVec 32 := Scalar.minsi v290 c7_i32_202
  let c256_i32_203 : BitVec 32 := 256#32
  let v298 : BitVec 32 := Scalar.muli v297 c256_i32_203
  let v299 : BitVec 32 := v298
  let v317 : Index := Scalar.indexCast v299
  let c256_213 : Index := 256#32
  ![v317.toNat, 256]
def k0_off8 (arg13 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c7_i32 : BitVec 32 := 7#32
  let v294 : BitVec 32 := Scalar.minsi v288 c7_i32
  let c256_i32 : BitVec 32 := 256#32
  let v295 : BitVec 32 := Scalar.muli v294 c256_i32
  let v296 : BitVec 32 := v295
  let v320 : Index := Scalar.indexCast v296
  let c384 : Index := 384#32
  ![v320.toNat, 384]
def k0_off9 (arg13 : BitVec 32) (arg14 : BitVec 32) (arg15 : BitVec 32) (arg18 : BitVec 32) (v281 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_200 : BitVec 32 := 1#32
  let v289 : BitVec 32 := Scalar.addi arg13 c1_i32_200
  let v290 : BitVec 32 := Scalar.select v286 v289 arg14
  let c7_i32_202 : BitVec 32 := 7#32
  let v297 : BitVec 32 := Scalar.minsi v290 c7_i32_202
  let c256_i32_203 : BitVec 32 := 256#32
  let v298 : BitVec 32 := Scalar.muli v297 c256_i32_203
  let v299 : BitVec 32 := v298
  let v322 : Index := Scalar.indexCast v299
  let c384_215 : Index := 384#32
  ![v322.toNat, 384]

def k0_chk1 (arg13 : BitVec 32) (arg14 : BitVec 32) (arg15 : BitVec 32) (arg18 : BitVec 32) (v281 : BitVec 1) : Prop :=
  (256 ∣ (k0_mult1 arg13 arg15 arg18 v281).toNat) ∧
  (256 ∣ (k0_mult2 arg13 arg14 arg15 arg18 v281).toNat) ∧
  (256 ∣ (k0_mult3 arg13 arg14 arg15 arg18 v281).toNat) ∧
  (∀ a, (k0_off1 arg13 arg14 arg15 arg18 v281) a + S256x256.size a ≤ S512x256.size a) ∧
  (∀ a, (k0_off2 arg13 arg15 arg18 v281) a + S256x128.size a ≤ S2048x512.size a) ∧
  (∀ a, (k0_off3 arg13 arg14 arg15 arg18 v281) a + S256x128.size a ≤ S2048x512.size a) ∧
  (∀ a, (k0_off4 arg13 arg15 arg18 v281) a + S256x128.size a ≤ S2048x512.size a) ∧
  (∀ a, (k0_off5 arg13 arg14 arg15 arg18 v281) a + S256x128.size a ≤ S2048x512.size a) ∧
  (∀ a, (k0_off6 arg13 arg15 arg18 v281) a + S256x128.size a ≤ S2048x512.size a) ∧
  (∀ a, (k0_off7 arg13 arg14 arg15 arg18 v281) a + S256x128.size a ≤ S2048x512.size a) ∧
  (∀ a, (k0_off8 arg13 arg15 arg18 v281) a + S256x128.size a ≤ S2048x512.size a) ∧
  (∀ a, (k0_off9 arg13 arg14 arg15 arg18 v281) a + S256x128.size a ≤ S2048x512.size a)
theorem k0_mult1_dvd : ∀ (arg13 : BitVec 32) (arg14 : BitVec 32) (arg15 : BitVec 32) (arg18 : BitVec 32) (v281 : BitVec 1) (k0_hw1 : k0_chk1 arg13 arg14 arg15 arg18 v281), 256 ∣ (k0_mult1 arg13 arg15 arg18 v281).toNat := fun arg13 arg14 arg15 arg18 v281 k0_hw1 => k0_hw1.1
theorem k0_mult2_dvd : ∀ (arg13 : BitVec 32) (arg14 : BitVec 32) (arg15 : BitVec 32) (arg18 : BitVec 32) (v281 : BitVec 1) (k0_hw1 : k0_chk1 arg13 arg14 arg15 arg18 v281), 256 ∣ (k0_mult2 arg13 arg14 arg15 arg18 v281).toNat := fun arg13 arg14 arg15 arg18 v281 k0_hw1 => k0_hw1.2.1
theorem k0_mult3_dvd : ∀ (arg13 : BitVec 32) (arg14 : BitVec 32) (arg15 : BitVec 32) (arg18 : BitVec 32) (v281 : BitVec 1) (k0_hw1 : k0_chk1 arg13 arg14 arg15 arg18 v281), 256 ∣ (k0_mult3 arg13 arg14 arg15 arg18 v281).toNat := fun arg13 arg14 arg15 arg18 v281 k0_hw1 => k0_hw1.2.2.1
theorem k0_off1_inb : ∀ (arg13 : BitVec 32) (arg14 : BitVec 32) (arg15 : BitVec 32) (arg18 : BitVec 32) (v281 : BitVec 1) (k0_hw1 : k0_chk1 arg13 arg14 arg15 arg18 v281), ∀ a, (k0_off1 arg13 arg14 arg15 arg18 v281) a + S256x256.size a ≤ S512x256.size a := fun arg13 arg14 arg15 arg18 v281 k0_hw1 => k0_hw1.2.2.2.1
theorem k0_off2_inb : ∀ (arg13 : BitVec 32) (arg14 : BitVec 32) (arg15 : BitVec 32) (arg18 : BitVec 32) (v281 : BitVec 1) (k0_hw1 : k0_chk1 arg13 arg14 arg15 arg18 v281), ∀ a, (k0_off2 arg13 arg15 arg18 v281) a + S256x128.size a ≤ S2048x512.size a := fun arg13 arg14 arg15 arg18 v281 k0_hw1 => k0_hw1.2.2.2.2.1
theorem k0_off3_inb : ∀ (arg13 : BitVec 32) (arg14 : BitVec 32) (arg15 : BitVec 32) (arg18 : BitVec 32) (v281 : BitVec 1) (k0_hw1 : k0_chk1 arg13 arg14 arg15 arg18 v281), ∀ a, (k0_off3 arg13 arg14 arg15 arg18 v281) a + S256x128.size a ≤ S2048x512.size a := fun arg13 arg14 arg15 arg18 v281 k0_hw1 => k0_hw1.2.2.2.2.2.1
theorem k0_off4_inb : ∀ (arg13 : BitVec 32) (arg14 : BitVec 32) (arg15 : BitVec 32) (arg18 : BitVec 32) (v281 : BitVec 1) (k0_hw1 : k0_chk1 arg13 arg14 arg15 arg18 v281), ∀ a, (k0_off4 arg13 arg15 arg18 v281) a + S256x128.size a ≤ S2048x512.size a := fun arg13 arg14 arg15 arg18 v281 k0_hw1 => k0_hw1.2.2.2.2.2.2.1
theorem k0_off5_inb : ∀ (arg13 : BitVec 32) (arg14 : BitVec 32) (arg15 : BitVec 32) (arg18 : BitVec 32) (v281 : BitVec 1) (k0_hw1 : k0_chk1 arg13 arg14 arg15 arg18 v281), ∀ a, (k0_off5 arg13 arg14 arg15 arg18 v281) a + S256x128.size a ≤ S2048x512.size a := fun arg13 arg14 arg15 arg18 v281 k0_hw1 => k0_hw1.2.2.2.2.2.2.2.1
theorem k0_off6_inb : ∀ (arg13 : BitVec 32) (arg14 : BitVec 32) (arg15 : BitVec 32) (arg18 : BitVec 32) (v281 : BitVec 1) (k0_hw1 : k0_chk1 arg13 arg14 arg15 arg18 v281), ∀ a, (k0_off6 arg13 arg15 arg18 v281) a + S256x128.size a ≤ S2048x512.size a := fun arg13 arg14 arg15 arg18 v281 k0_hw1 => k0_hw1.2.2.2.2.2.2.2.2.1
theorem k0_off7_inb : ∀ (arg13 : BitVec 32) (arg14 : BitVec 32) (arg15 : BitVec 32) (arg18 : BitVec 32) (v281 : BitVec 1) (k0_hw1 : k0_chk1 arg13 arg14 arg15 arg18 v281), ∀ a, (k0_off7 arg13 arg14 arg15 arg18 v281) a + S256x128.size a ≤ S2048x512.size a := fun arg13 arg14 arg15 arg18 v281 k0_hw1 => k0_hw1.2.2.2.2.2.2.2.2.2.1
theorem k0_off8_inb : ∀ (arg13 : BitVec 32) (arg14 : BitVec 32) (arg15 : BitVec 32) (arg18 : BitVec 32) (v281 : BitVec 1) (k0_hw1 : k0_chk1 arg13 arg14 arg15 arg18 v281), ∀ a, (k0_off8 arg13 arg15 arg18 v281) a + S256x128.size a ≤ S2048x512.size a := fun arg13 arg14 arg15 arg18 v281 k0_hw1 => k0_hw1.2.2.2.2.2.2.2.2.2.2.1
theorem k0_off9_inb : ∀ (arg13 : BitVec 32) (arg14 : BitVec 32) (arg15 : BitVec 32) (arg18 : BitVec 32) (v281 : BitVec 1) (k0_hw1 : k0_chk1 arg13 arg14 arg15 arg18 v281), ∀ a, (k0_off9 arg13 arg14 arg15 arg18 v281) a + S256x128.size a ≤ S2048x512.size a := fun arg13 arg14 arg15 arg18 v281 k0_hw1 => k0_hw1.2.2.2.2.2.2.2.2.2.2.2

def k0_mult4 (arg20 : BitVec 32) : BitVec 32 :=
  let c256_i32_217 : BitVec 32 := 256#32
  let v325 : BitVec 32 := Scalar.muli arg20 c256_i32_217
  v325

def k0_mult5 (arg19 : BitVec 32) : BitVec 32 :=
  let c256_i32_218 : BitVec 32 := 256#32
  let v327 : BitVec 32 := Scalar.muli arg19 c256_i32_218
  v327

def k0_off10 (arg20 : BitVec 32) : Fin 2 → Nat :=
  let c256_i32_217 : BitVec 32 := 256#32
  let v325 : BitVec 32 := Scalar.muli arg20 c256_i32_217
  let v326 : BitVec 32 := v325
  let v341 : Index := Scalar.indexCast v326
  let c0_232 : Index := 0#32
  ![v341.toNat, 0]
def k0_off11 (arg19 : BitVec 32) : Fin 2 → Nat :=
  let c256_i32_218 : BitVec 32 := 256#32
  let v327 : BitVec 32 := Scalar.muli arg19 c256_i32_218
  let v328 : BitVec 32 := v327
  let v345 : Index := Scalar.indexCast v328
  let c0_234 : Index := 0#32
  ![v345.toNat, 0]
def k0_off12 (arg20 : BitVec 32) : Fin 2 → Nat :=
  let c256_i32_217 : BitVec 32 := 256#32
  let v325 : BitVec 32 := Scalar.muli arg20 c256_i32_217
  let v326 : BitVec 32 := v325
  let v366 : Index := Scalar.indexCast v326
  let c128_251 : Index := 128#32
  ![v366.toNat, 128]
def k0_off13 (arg19 : BitVec 32) : Fin 2 → Nat :=
  let c256_i32_218 : BitVec 32 := 256#32
  let v327 : BitVec 32 := Scalar.muli arg19 c256_i32_218
  let v328 : BitVec 32 := v327
  let v370 : Index := Scalar.indexCast v328
  let c128_253 : Index := 128#32
  ![v370.toNat, 128]
def k0_off14 (arg20 : BitVec 32) : Fin 2 → Nat :=
  let c256_i32_217 : BitVec 32 := 256#32
  let v325 : BitVec 32 := Scalar.muli arg20 c256_i32_217
  let v326 : BitVec 32 := v325
  let v391 : Index := Scalar.indexCast v326
  let c256_270 : Index := 256#32
  ![v391.toNat, 256]
def k0_off15 (arg19 : BitVec 32) : Fin 2 → Nat :=
  let c256_i32_218 : BitVec 32 := 256#32
  let v327 : BitVec 32 := Scalar.muli arg19 c256_i32_218
  let v328 : BitVec 32 := v327
  let v395 : Index := Scalar.indexCast v328
  let c256_272 : Index := 256#32
  ![v395.toNat, 256]
def k0_off16 (arg20 : BitVec 32) : Fin 2 → Nat :=
  let c256_i32_217 : BitVec 32 := 256#32
  let v325 : BitVec 32 := Scalar.muli arg20 c256_i32_217
  let v326 : BitVec 32 := v325
  let v416 : Index := Scalar.indexCast v326
  let c384_289 : Index := 384#32
  ![v416.toNat, 384]

def k0_chk2 (arg20 : BitVec 32) : Prop :=
  (256 ∣ (k0_mult4 arg20).toNat) ∧
  (∀ a, (k0_off10 arg20) a + S256x128.size a ≤ S2048x512.size a) ∧
  (∀ a, (k0_off12 arg20) a + S256x128.size a ≤ S2048x512.size a) ∧
  (∀ a, (k0_off14 arg20) a + S256x128.size a ≤ S2048x512.size a) ∧
  (∀ a, (k0_off16 arg20) a + S256x128.size a ≤ S2048x512.size a)
theorem k0_mult4_dvd : ∀ (arg20 : BitVec 32) (k0_hw2 : k0_chk2 arg20), 256 ∣ (k0_mult4 arg20).toNat := fun arg20 k0_hw2 => k0_hw2.1
theorem k0_off10_inb : ∀ (arg20 : BitVec 32) (k0_hw2 : k0_chk2 arg20), ∀ a, (k0_off10 arg20) a + S256x128.size a ≤ S2048x512.size a := fun arg20 k0_hw2 => k0_hw2.2.1
theorem k0_off12_inb : ∀ (arg20 : BitVec 32) (k0_hw2 : k0_chk2 arg20), ∀ a, (k0_off12 arg20) a + S256x128.size a ≤ S2048x512.size a := fun arg20 k0_hw2 => k0_hw2.2.2.1
theorem k0_off14_inb : ∀ (arg20 : BitVec 32) (k0_hw2 : k0_chk2 arg20), ∀ a, (k0_off14 arg20) a + S256x128.size a ≤ S2048x512.size a := fun arg20 k0_hw2 => k0_hw2.2.2.2.1
theorem k0_off16_inb : ∀ (arg20 : BitVec 32) (k0_hw2 : k0_chk2 arg20), ∀ a, (k0_off16 arg20) a + S256x128.size a ≤ S2048x512.size a := fun arg20 k0_hw2 => k0_hw2.2.2.2.2

def k0_off17 (arg19 : BitVec 32) : Fin 2 → Nat :=
  let c256_i32_218 : BitVec 32 := 256#32
  let v327 : BitVec 32 := Scalar.muli arg19 c256_i32_218
  let v328 : BitVec 32 := v327
  let v420 : Index := Scalar.indexCast v328
  let c384_291 : Index := 384#32
  ![v420.toNat, 384]

def k0_chk3 (arg19 : BitVec 32) : Prop :=
  (256 ∣ (k0_mult5 arg19).toNat) ∧
  (∀ a, (k0_off11 arg19) a + S256x128.size a ≤ S2048x512.size a) ∧
  (∀ (hinb : ∀ a, (k0_off11 arg19) a + S256x128.size a ≤ S2048x512.size a), (Rect.unit (s := S2048x512) (k0_off11 arg19) S256x128.size hinb).PackedRows (EltTy.packing .bf16)) ∧
  (∀ a, (k0_off13 arg19) a + S256x128.size a ≤ S2048x512.size a) ∧
  (∀ (hinb : ∀ a, (k0_off13 arg19) a + S256x128.size a ≤ S2048x512.size a), (Rect.unit (s := S2048x512) (k0_off13 arg19) S256x128.size hinb).PackedRows (EltTy.packing .bf16)) ∧
  (∀ a, (k0_off15 arg19) a + S256x128.size a ≤ S2048x512.size a) ∧
  (∀ (hinb : ∀ a, (k0_off15 arg19) a + S256x128.size a ≤ S2048x512.size a), (Rect.unit (s := S2048x512) (k0_off15 arg19) S256x128.size hinb).PackedRows (EltTy.packing .bf16)) ∧
  (∀ a, (k0_off17 arg19) a + S256x128.size a ≤ S2048x512.size a) ∧
  (∀ (hinb : ∀ a, (k0_off17 arg19) a + S256x128.size a ≤ S2048x512.size a), (Rect.unit (s := S2048x512) (k0_off17 arg19) S256x128.size hinb).PackedRows (EltTy.packing .bf16))
theorem k0_mult5_dvd : ∀ (arg19 : BitVec 32) (k0_hw3 : k0_chk3 arg19), 256 ∣ (k0_mult5 arg19).toNat := fun arg19 k0_hw3 => k0_hw3.1
theorem k0_off11_inb : ∀ (arg19 : BitVec 32) (k0_hw3 : k0_chk3 arg19), ∀ a, (k0_off11 arg19) a + S256x128.size a ≤ S2048x512.size a := fun arg19 k0_hw3 => k0_hw3.2.1
theorem k0_off11_packedbf16 : ∀ (arg19 : BitVec 32) (k0_hw3 : k0_chk3 arg19), (Rect.unit (s := S2048x512) (k0_off11 arg19) S256x128.size (k0_off11_inb arg19 k0_hw3)).PackedRows (EltTy.packing .bf16) := fun arg19 k0_hw3 => k0_hw3.2.2.1 (k0_off11_inb arg19 k0_hw3)
theorem k0_off13_inb : ∀ (arg19 : BitVec 32) (k0_hw3 : k0_chk3 arg19), ∀ a, (k0_off13 arg19) a + S256x128.size a ≤ S2048x512.size a := fun arg19 k0_hw3 => k0_hw3.2.2.2.1
theorem k0_off13_packedbf16 : ∀ (arg19 : BitVec 32) (k0_hw3 : k0_chk3 arg19), (Rect.unit (s := S2048x512) (k0_off13 arg19) S256x128.size (k0_off13_inb arg19 k0_hw3)).PackedRows (EltTy.packing .bf16) := fun arg19 k0_hw3 => k0_hw3.2.2.2.2.1 (k0_off13_inb arg19 k0_hw3)
theorem k0_off15_inb : ∀ (arg19 : BitVec 32) (k0_hw3 : k0_chk3 arg19), ∀ a, (k0_off15 arg19) a + S256x128.size a ≤ S2048x512.size a := fun arg19 k0_hw3 => k0_hw3.2.2.2.2.2.1
theorem k0_off15_packedbf16 : ∀ (arg19 : BitVec 32) (k0_hw3 : k0_chk3 arg19), (Rect.unit (s := S2048x512) (k0_off15 arg19) S256x128.size (k0_off15_inb arg19 k0_hw3)).PackedRows (EltTy.packing .bf16) := fun arg19 k0_hw3 => k0_hw3.2.2.2.2.2.2.1 (k0_off15_inb arg19 k0_hw3)
theorem k0_off17_inb : ∀ (arg19 : BitVec 32) (k0_hw3 : k0_chk3 arg19), ∀ a, (k0_off17 arg19) a + S256x128.size a ≤ S2048x512.size a := fun arg19 k0_hw3 => k0_hw3.2.2.2.2.2.2.2.1
theorem k0_off17_packedbf16 : ∀ (arg19 : BitVec 32) (k0_hw3 : k0_chk3 arg19), (Rect.unit (s := S2048x512) (k0_off17 arg19) S256x128.size (k0_off17_inb arg19 k0_hw3)).PackedRows (EltTy.packing .bf16) := fun arg19 k0_hw3 => k0_hw3.2.2.2.2.2.2.2.2 (k0_off17_inb arg19 k0_hw3)

def k0_mult6 (arg13 : BitVec 32) (arg14 : BitVec 32) (arg15 : BitVec 32) (arg18 : BitVec 32) (v281 : BitVec 1) (v651 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_433 : BitVec 32 := 1#32
  let v657 : BitVec 32 := Scalar.addi v463 c1_i32_433
  let v658 : BitVec 32 := Scalar.select v656 v657 v463
  let c7_i32_436 : BitVec 32 := 7#32
  let v664 : BitVec 32 := Scalar.minsi v658 c7_i32_436
  let c256_i32_437 : BitVec 32 := 256#32
  let v665 : BitVec 32 := Scalar.muli v664 c256_i32_437
  v665

def k0_mult7 (arg13 : BitVec 32) (arg14 : BitVec 32) (arg15 : BitVec 32) (arg18 : BitVec 32) (v281 : BitVec 1) (v651 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c7_i32_438 : BitVec 32 := 7#32
  let v667 : BitVec 32 := Scalar.minsi v660 c7_i32_438
  let c256_i32_439 : BitVec 32 := 256#32
  let v668 : BitVec 32 := Scalar.muli v667 c256_i32_439
  v668
def k0_mult8 (arg13 : BitVec 32) (arg14 : BitVec 32) (arg15 : BitVec 32) (arg18 : BitVec 32) (v281 : BitVec 1) (v651 : BitVec 1) : BitVec 32 :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c1_i32_433 : BitVec 32 := 1#32
  let v657 : BitVec 32 := Scalar.addi v463 c1_i32_433
  let v658 : BitVec 32 := Scalar.select v656 v657 v463
  let v670 : BitVec 1 := Scalar.cmpi .eq v660 v658
  let c0_i32_440 : BitVec 32 := 0#32
  let c256_i32_441 : BitVec 32 := 256#32
  let v671 : BitVec 32 := Scalar.select v670 c0_i32_440 c256_i32_441
  v671
def k0_off18 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c1_i32_433 : BitVec 32 := 1#32
  let v657 : BitVec 32 := Scalar.addi v463 c1_i32_433
  let v658 : BitVec 32 := Scalar.select v656 v657 v463
  let v670 : BitVec 1 := Scalar.cmpi .eq v660 v658
  let c0_i32_440 : BitVec 32 := 0#32
  let c256_i32_441 : BitVec 32 := 256#32
  let v671 : BitVec 32 := Scalar.select v670 c0_i32_440 c256_i32_441
  let v672 : BitVec 32 := v671
  let v673 : Index := Scalar.indexCast v672
  let c0_442 : Index := 0#32
  ![v673.toNat, 0]
def k0_off19 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_433 : BitVec 32 := 1#32
  let v657 : BitVec 32 := Scalar.addi v463 c1_i32_433
  let v658 : BitVec 32 := Scalar.select v656 v657 v463
  let c7_i32_436 : BitVec 32 := 7#32
  let v664 : BitVec 32 := Scalar.minsi v658 c7_i32_436
  let c256_i32_437 : BitVec 32 := 256#32
  let v665 : BitVec 32 := Scalar.muli v664 c256_i32_437
  let v666 : BitVec 32 := v665
  let v675 : Index := Scalar.indexCast v666
  let c0_443 : Index := 0#32
  ![v675.toNat, 0]
def k0_off20 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c7_i32_438 : BitVec 32 := 7#32
  let v667 : BitVec 32 := Scalar.minsi v660 c7_i32_438
  let c256_i32_439 : BitVec 32 := 256#32
  let v668 : BitVec 32 := Scalar.muli v667 c256_i32_439
  let v669 : BitVec 32 := v668
  let v677 : Index := Scalar.indexCast v669
  let c0_444 : Index := 0#32
  ![v677.toNat, 0]
def k0_off21 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_433 : BitVec 32 := 1#32
  let v657 : BitVec 32 := Scalar.addi v463 c1_i32_433
  let v658 : BitVec 32 := Scalar.select v656 v657 v463
  let c7_i32_436 : BitVec 32 := 7#32
  let v664 : BitVec 32 := Scalar.minsi v658 c7_i32_436
  let c256_i32_437 : BitVec 32 := 256#32
  let v665 : BitVec 32 := Scalar.muli v664 c256_i32_437
  let v666 : BitVec 32 := v665
  let v680 : Index := Scalar.indexCast v666
  let c128_446 : Index := 128#32
  ![v680.toNat, 128]
def k0_off22 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c7_i32_438 : BitVec 32 := 7#32
  let v667 : BitVec 32 := Scalar.minsi v660 c7_i32_438
  let c256_i32_439 : BitVec 32 := 256#32
  let v668 : BitVec 32 := Scalar.muli v667 c256_i32_439
  let v669 : BitVec 32 := v668
  let v682 : Index := Scalar.indexCast v669
  let c128_447 : Index := 128#32
  ![v682.toNat, 128]
def k0_off23 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_433 : BitVec 32 := 1#32
  let v657 : BitVec 32 := Scalar.addi v463 c1_i32_433
  let v658 : BitVec 32 := Scalar.select v656 v657 v463
  let c7_i32_436 : BitVec 32 := 7#32
  let v664 : BitVec 32 := Scalar.minsi v658 c7_i32_436
  let c256_i32_437 : BitVec 32 := 256#32
  let v665 : BitVec 32 := Scalar.muli v664 c256_i32_437
  let v666 : BitVec 32 := v665
  let v685 : Index := Scalar.indexCast v666
  let c256_449 : Index := 256#32
  ![v685.toNat, 256]
def k0_off24 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c7_i32_438 : BitVec 32 := 7#32
  let v667 : BitVec 32 := Scalar.minsi v660 c7_i32_438
  let c256_i32_439 : BitVec 32 := 256#32
  let v668 : BitVec 32 := Scalar.muli v667 c256_i32_439
  let v669 : BitVec 32 := v668
  let v687 : Index := Scalar.indexCast v669
  let c256_450 : Index := 256#32
  ![v687.toNat, 256]
def k0_off25 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_433 : BitVec 32 := 1#32
  let v657 : BitVec 32 := Scalar.addi v463 c1_i32_433
  let v658 : BitVec 32 := Scalar.select v656 v657 v463
  let c7_i32_436 : BitVec 32 := 7#32
  let v664 : BitVec 32 := Scalar.minsi v658 c7_i32_436
  let c256_i32_437 : BitVec 32 := 256#32
  let v665 : BitVec 32 := Scalar.muli v664 c256_i32_437
  let v666 : BitVec 32 := v665
  let v690 : Index := Scalar.indexCast v666
  let c384_452 : Index := 384#32
  ![v690.toNat, 384]
def k0_off26 (arg13 : BitVec 32) (arg14 : BitVec 32) (arg15 : BitVec 32) (arg18 : BitVec 32) (v281 : BitVec 1) (v651 : BitVec 1) : Fin 2 → Nat :=
  let c1_i32_197 : BitVec 32 := 1#32
  let v280 : BitVec 1 := Scalar.cmpi .eq arg18 c1_i32_197
  let v282 : BitVec 1 := Scalar.andi v280 v281
  let v283 : BitVec 1 := Scalar.cmpi .eq arg13 arg15
  let c8_i32 : BitVec 32 := 8#32
  let v284 : BitVec 1 := Scalar.cmpi .slt arg13 c8_i32
  let v285 : BitVec 1 := Scalar.andi v283 v284
  let v286 : BitVec 1 := Scalar.andi v282 v285
  let c1_i32_199 : BitVec 32 := 1#32
  let v287 : BitVec 32 := Scalar.addi arg13 c1_i32_199
  let v288 : BitVec 32 := Scalar.select v286 v287 arg13
  let c8_i32_201 : BitVec 32 := 8#32
  let v293 : BitVec 1 := Scalar.cmpi .slt v288 c8_i32_201
  let v469 : BitVec 32 := Scalar.extui v293
  let c1_i32_430 : BitVec 32 := 1#32
  let v650 : BitVec 1 := Scalar.cmpi .eq v469 c1_i32_430
  let v652 : BitVec 1 := Scalar.andi v650 v651
  let c1_i32_200 : BitVec 32 := 1#32
  let v289 : BitVec 32 := Scalar.addi arg13 c1_i32_200
  let v290 : BitVec 32 := Scalar.select v286 v289 arg14
  let c0_i32_329 : BitVec 32 := 0#32
  let v460 : BitVec 1 := Scalar.cmpi .eq v290 c0_i32_329
  let v461 : BitVec 1 := Scalar.andi v460 v293
  let c1_i32_330 : BitVec 32 := 1#32
  let v462 : BitVec 32 := Scalar.addi v288 c1_i32_330
  let v463 : BitVec 32 := Scalar.select v461 v462 v288
  let c7_i32_332 : BitVec 32 := 7#32
  let v466 : BitVec 32 := Scalar.minsi v288 c7_i32_332
  let v653 : BitVec 1 := Scalar.cmpi .eq v463 v466
  let c8_i32_432 : BitVec 32 := 8#32
  let v654 : BitVec 1 := Scalar.cmpi .slt v463 c8_i32_432
  let v655 : BitVec 1 := Scalar.andi v653 v654
  let v656 : BitVec 1 := Scalar.andi v652 v655
  let c1_i32_434 : BitVec 32 := 1#32
  let v659 : BitVec 32 := Scalar.addi v463 c1_i32_434
  let c1_i32_331 : BitVec 32 := 1#32
  let v464 : BitVec 32 := Scalar.subi v290 c1_i32_331
  let v465 : BitVec 32 := Scalar.select v460 v463 v464
  let v660 : BitVec 32 := Scalar.select v656 v659 v465
  let c7_i32_438 : BitVec 32 := 7#32
  let v667 : BitVec 32 := Scalar.minsi v660 c7_i32_438
  let c256_i32_439 : BitVec 32 := 256#32
  let v668 : BitVec 32 := Scalar.muli v667 c256_i32_439
  let v669 : BitVec 32 := v668
  let v692 : Index := Scalar.indexCast v669
  let c384_453 : Index := 384#32
  ![v692.toNat, 384]

def k0_chk4 (arg13 : BitVec 32) (arg14 : BitVec 32) (arg15 : BitVec 32) (arg18 : BitVec 32) (v281 : BitVec 1) (v651 : BitVec 1) : Prop :=
  (256 ∣ (k0_mult6 arg13 arg14 arg15 arg18 v281 v651).toNat) ∧
  (256 ∣ (k0_mult7 arg13 arg14 arg15 arg18 v281 v651).toNat) ∧
  (256 ∣ (k0_mult8 arg13 arg14 arg15 arg18 v281 v651).toNat) ∧
  (∀ a, (k0_off18 arg13 arg14 arg15 arg18 v281 v651) a + S256x256.size a ≤ S512x256.size a) ∧
  (∀ a, (k0_off19 arg13 arg14 arg15 arg18 v281 v651) a + S256x128.size a ≤ S2048x512.size a) ∧
  (∀ a, (k0_off20 arg13 arg14 arg15 arg18 v281 v651) a + S256x128.size a ≤ S2048x512.size a) ∧
  (∀ a, (k0_off21 arg13 arg14 arg15 arg18 v281 v651) a + S256x128.size a ≤ S2048x512.size a) ∧
  (∀ a, (k0_off22 arg13 arg14 arg15 arg18 v281 v651) a + S256x128.size a ≤ S2048x512.size a) ∧
  (∀ a, (k0_off23 arg13 arg14 arg15 arg18 v281 v651) a + S256x128.size a ≤ S2048x512.size a) ∧
  (∀ a, (k0_off24 arg13 arg14 arg15 arg18 v281 v651) a + S256x128.size a ≤ S2048x512.size a) ∧
  (∀ a, (k0_off25 arg13 arg14 arg15 arg18 v281 v651) a + S256x128.size a ≤ S2048x512.size a) ∧
  (∀ a, (k0_off26 arg13 arg14 arg15 arg18 v281 v651) a + S256x128.size a ≤ S2048x512.size a)
theorem k0_mult6_dvd : ∀ (arg13 : BitVec 32) (arg14 : BitVec 32) (arg15 : BitVec 32) (arg18 : BitVec 32) (v281 : BitVec 1) (v651 : BitVec 1) (k0_hw4 : k0_chk4 arg13 arg14 arg15 arg18 v281 v651), 256 ∣ (k0_mult6 arg13 arg14 arg15 arg18 v281 v651).toNat := fun arg13 arg14 arg15 arg18 v281 v651 k0_hw4 => k0_hw4.1
theorem k0_mult7_dvd : ∀ (arg13 : BitVec 32) (arg14 : BitVec 32) (arg15 : BitVec 32) (arg18 : BitVec 32) (v281 : BitVec 1) (v651 : BitVec 1) (k0_hw4 : k0_chk4 arg13 arg14 arg15 arg18 v281 v651), 256 ∣ (k0_mult7 arg13 arg14 arg15 arg18 v281 v651).toNat := fun arg13 arg14 arg15 arg18 v281 v651 k0_hw4 => k0_hw4.2.1
theorem k0_mult8_dvd : ∀ (arg13 : BitVec 32) (arg14 : BitVec 32) (arg15 : BitVec 32) (arg18 : BitVec 32) (v281 : BitVec 1) (v651 : BitVec 1) (k0_hw4 : k0_chk4 arg13 arg14 arg15 arg18 v281 v651), 256 ∣ (k0_mult8 arg13 arg14 arg15 arg18 v281 v651).toNat := fun arg13 arg14 arg15 arg18 v281 v651 k0_hw4 => k0_hw4.2.2.1
theorem k0_off18_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off18 arg13 arg14 arg15 arg18 v281 v651) a + S256x256.size a ≤ S512x256.size a := fun arg13 arg14 arg15 arg18 v281 v651 k0_hw4 => k0_hw4.2.2.2.1
theorem k0_off19_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off19 arg13 arg14 arg15 arg18 v281 v651) a + S256x128.size a ≤ S2048x512.size a := fun arg13 arg14 arg15 arg18 v281 v651 k0_hw4 => k0_hw4.2.2.2.2.1
theorem k0_off20_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off20 arg13 arg14 arg15 arg18 v281 v651) a + S256x128.size a ≤ S2048x512.size a := fun arg13 arg14 arg15 arg18 v281 v651 k0_hw4 => k0_hw4.2.2.2.2.2.1
theorem k0_off21_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off21 arg13 arg14 arg15 arg18 v281 v651) a + S256x128.size a ≤ S2048x512.size a := fun arg13 arg14 arg15 arg18 v281 v651 k0_hw4 => k0_hw4.2.2.2.2.2.2.1
theorem k0_off22_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off22 arg13 arg14 arg15 arg18 v281 v651) a + S256x128.size a ≤ S2048x512.size a := fun arg13 arg14 arg15 arg18 v281 v651 k0_hw4 => k0_hw4.2.2.2.2.2.2.2.1
theorem k0_off23_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off23 arg13 arg14 arg15 arg18 v281 v651) a + S256x128.size a ≤ S2048x512.size a := fun arg13 arg14 arg15 arg18 v281 v651 k0_hw4 => k0_hw4.2.2.2.2.2.2.2.2.1
theorem k0_off24_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off24 arg13 arg14 arg15 arg18 v281 v651) a + S256x128.size a ≤ S2048x512.size a := fun arg13 arg14 arg15 arg18 v281 v651 k0_hw4 => k0_hw4.2.2.2.2.2.2.2.2.2.1
theorem k0_off25_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off25 arg13 arg14 arg15 arg18 v281 v651) a + S256x128.size a ≤ S2048x512.size a := fun arg13 arg14 arg15 arg18 v281 v651 k0_hw4 => k0_hw4.2.2.2.2.2.2.2.2.2.2.1
theorem k0_off26_inb : ∀ (arg13 : BitVec 32) (arg14 : BitVec 32) (arg15 : BitVec 32) (arg18 : BitVec 32) (v281 : BitVec 1) (v651 : BitVec 1) (k0_hw4 : k0_chk4 arg13 arg14 arg15 arg18 v281 v651), ∀ a, (k0_off26 arg13 arg14 arg15 arg18 v281 v651) a + S256x128.size a ≤ S2048x512.size a := fun arg13 arg14 arg15 arg18 v281 v651 k0_hw4 => k0_hw4.2.2.2.2.2.2.2.2.2.2.2

def k0_mult9 (arg16 : BitVec 32) : BitVec 32 :=
  let c256_i32_455 : BitVec 32 := 256#32
  let v695 : BitVec 32 := Scalar.muli arg16 c256_i32_455
  v695

def k0_mult10 (arg15 : BitVec 32) : BitVec 32 :=
  let c256_i32_456 : BitVec 32 := 256#32
  let v697 : BitVec 32 := Scalar.muli arg15 c256_i32_456
  v697

def k0_off27 (arg16 : BitVec 32) : Fin 2 → Nat :=
  let c256_i32_455 : BitVec 32 := 256#32
  let v695 : BitVec 32 := Scalar.muli arg16 c256_i32_455
  let v696 : BitVec 32 := v695
  let v711 : Index := Scalar.indexCast v696
  let c0_470 : Index := 0#32
  ![v711.toNat, 0]
def k0_off28 (arg15 : BitVec 32) : Fin 2 → Nat :=
  let c256_i32_456 : BitVec 32 := 256#32
  let v697 : BitVec 32 := Scalar.muli arg15 c256_i32_456
  let v698 : BitVec 32 := v697
  let v715 : Index := Scalar.indexCast v698
  let c0_472 : Index := 0#32
  ![v715.toNat, 0]
def k0_off29 (arg16 : BitVec 32) : Fin 2 → Nat :=
  let c256_i32_455 : BitVec 32 := 256#32
  let v695 : BitVec 32 := Scalar.muli arg16 c256_i32_455
  let v696 : BitVec 32 := v695
  let v736 : Index := Scalar.indexCast v696
  let c128_489 : Index := 128#32
  ![v736.toNat, 128]
def k0_off30 (arg15 : BitVec 32) : Fin 2 → Nat :=
  let c256_i32_456 : BitVec 32 := 256#32
  let v697 : BitVec 32 := Scalar.muli arg15 c256_i32_456
  let v698 : BitVec 32 := v697
  let v740 : Index := Scalar.indexCast v698
  let c128_491 : Index := 128#32
  ![v740.toNat, 128]
def k0_off31 (arg16 : BitVec 32) : Fin 2 → Nat :=
  let c256_i32_455 : BitVec 32 := 256#32
  let v695 : BitVec 32 := Scalar.muli arg16 c256_i32_455
  let v696 : BitVec 32 := v695
  let v761 : Index := Scalar.indexCast v696
  let c256_508 : Index := 256#32
  ![v761.toNat, 256]
def k0_off32 (arg15 : BitVec 32) : Fin 2 → Nat :=
  let c256_i32_456 : BitVec 32 := 256#32
  let v697 : BitVec 32 := Scalar.muli arg15 c256_i32_456
  let v698 : BitVec 32 := v697
  let v765 : Index := Scalar.indexCast v698
  let c256_510 : Index := 256#32
  ![v765.toNat, 256]
def k0_off33 (arg16 : BitVec 32) : Fin 2 → Nat :=
  let c256_i32_455 : BitVec 32 := 256#32
  let v695 : BitVec 32 := Scalar.muli arg16 c256_i32_455
  let v696 : BitVec 32 := v695
  let v786 : Index := Scalar.indexCast v696
  let c384_527 : Index := 384#32
  ![v786.toNat, 384]

def k0_chk5 (arg16 : BitVec 32) : Prop :=
  (256 ∣ (k0_mult9 arg16).toNat) ∧
  (∀ a, (k0_off27 arg16) a + S256x128.size a ≤ S2048x512.size a) ∧
  (∀ a, (k0_off29 arg16) a + S256x128.size a ≤ S2048x512.size a) ∧
  (∀ a, (k0_off31 arg16) a + S256x128.size a ≤ S2048x512.size a) ∧
  (∀ a, (k0_off33 arg16) a + S256x128.size a ≤ S2048x512.size a)
theorem k0_mult9_dvd : ∀ (arg16 : BitVec 32) (k0_hw5 : k0_chk5 arg16), 256 ∣ (k0_mult9 arg16).toNat := fun arg16 k0_hw5 => k0_hw5.1
theorem k0_off27_inb : ∀ (arg16 : BitVec 32) (k0_hw5 : k0_chk5 arg16), ∀ a, (k0_off27 arg16) a + S256x128.size a ≤ S2048x512.size a := fun arg16 k0_hw5 => k0_hw5.2.1
theorem k0_off29_inb : ∀ (arg16 : BitVec 32) (k0_hw5 : k0_chk5 arg16), ∀ a, (k0_off29 arg16) a + S256x128.size a ≤ S2048x512.size a := fun arg16 k0_hw5 => k0_hw5.2.2.1
theorem k0_off31_inb : ∀ (arg16 : BitVec 32) (k0_hw5 : k0_chk5 arg16), ∀ a, (k0_off31 arg16) a + S256x128.size a ≤ S2048x512.size a := fun arg16 k0_hw5 => k0_hw5.2.2.2.1
theorem k0_off33_inb : ∀ (arg16 : BitVec 32) (k0_hw5 : k0_chk5 arg16), ∀ a, (k0_off33 arg16) a + S256x128.size a ≤ S2048x512.size a := fun arg16 k0_hw5 => k0_hw5.2.2.2.2

def k0_off34 (arg15 : BitVec 32) : Fin 2 → Nat :=
  let c256_i32_456 : BitVec 32 := 256#32
  let v697 : BitVec 32 := Scalar.muli arg15 c256_i32_456
  let v698 : BitVec 32 := v697
  let v790 : Index := Scalar.indexCast v698
  let c384_529 : Index := 384#32
  ![v790.toNat, 384]

def k0_chk6 (arg15 : BitVec 32) : Prop :=
  (256 ∣ (k0_mult10 arg15).toNat) ∧
  (∀ a, (k0_off28 arg15) a + S256x128.size a ≤ S2048x512.size a) ∧
  (∀ (hinb : ∀ a, (k0_off28 arg15) a + S256x128.size a ≤ S2048x512.size a), (Rect.unit (s := S2048x512) (k0_off28 arg15) S256x128.size hinb).PackedRows (EltTy.packing .bf16)) ∧
  (∀ a, (k0_off30 arg15) a + S256x128.size a ≤ S2048x512.size a) ∧
  (∀ (hinb : ∀ a, (k0_off30 arg15) a + S256x128.size a ≤ S2048x512.size a), (Rect.unit (s := S2048x512) (k0_off30 arg15) S256x128.size hinb).PackedRows (EltTy.packing .bf16)) ∧
  (∀ a, (k0_off32 arg15) a + S256x128.size a ≤ S2048x512.size a) ∧
  (∀ (hinb : ∀ a, (k0_off32 arg15) a + S256x128.size a ≤ S2048x512.size a), (Rect.unit (s := S2048x512) (k0_off32 arg15) S256x128.size hinb).PackedRows (EltTy.packing .bf16)) ∧
  (∀ a, (k0_off34 arg15) a + S256x128.size a ≤ S2048x512.size a) ∧
  (∀ (hinb : ∀ a, (k0_off34 arg15) a + S256x128.size a ≤ S2048x512.size a), (Rect.unit (s := S2048x512) (k0_off34 arg15) S256x128.size hinb).PackedRows (EltTy.packing .bf16))
theorem k0_mult10_dvd : ∀ (arg15 : BitVec 32) (k0_hw6 : k0_chk6 arg15), 256 ∣ (k0_mult10 arg15).toNat := fun arg15 k0_hw6 => k0_hw6.1
theorem k0_off28_inb : ∀ (arg15 : BitVec 32) (k0_hw6 : k0_chk6 arg15), ∀ a, (k0_off28 arg15) a + S256x128.size a ≤ S2048x512.size a := fun arg15 k0_hw6 => k0_hw6.2.1
theorem k0_off28_packedbf16 : ∀ (arg15 : BitVec 32) (k0_hw6 : k0_chk6 arg15), (Rect.unit (s := S2048x512) (k0_off28 arg15) S256x128.size (k0_off28_inb arg15 k0_hw6)).PackedRows (EltTy.packing .bf16) := fun arg15 k0_hw6 => k0_hw6.2.2.1 (k0_off28_inb arg15 k0_hw6)
theorem k0_off30_inb : ∀ (arg15 : BitVec 32) (k0_hw6 : k0_chk6 arg15), ∀ a, (k0_off30 arg15) a + S256x128.size a ≤ S2048x512.size a := fun arg15 k0_hw6 => k0_hw6.2.2.2.1
theorem k0_off30_packedbf16 : ∀ (arg15 : BitVec 32) (k0_hw6 : k0_chk6 arg15), (Rect.unit (s := S2048x512) (k0_off30 arg15) S256x128.size (k0_off30_inb arg15 k0_hw6)).PackedRows (EltTy.packing .bf16) := fun arg15 k0_hw6 => k0_hw6.2.2.2.2.1 (k0_off30_inb arg15 k0_hw6)
theorem k0_off32_inb : ∀ (arg15 : BitVec 32) (k0_hw6 : k0_chk6 arg15), ∀ a, (k0_off32 arg15) a + S256x128.size a ≤ S2048x512.size a := fun arg15 k0_hw6 => k0_hw6.2.2.2.2.2.1
theorem k0_off32_packedbf16 : ∀ (arg15 : BitVec 32) (k0_hw6 : k0_chk6 arg15), (Rect.unit (s := S2048x512) (k0_off32 arg15) S256x128.size (k0_off32_inb arg15 k0_hw6)).PackedRows (EltTy.packing .bf16) := fun arg15 k0_hw6 => k0_hw6.2.2.2.2.2.2.1 (k0_off32_inb arg15 k0_hw6)
theorem k0_off34_inb : ∀ (arg15 : BitVec 32) (k0_hw6 : k0_chk6 arg15), ∀ a, (k0_off34 arg15) a + S256x128.size a ≤ S2048x512.size a := fun arg15 k0_hw6 => k0_hw6.2.2.2.2.2.2.2.1
theorem k0_off34_packedbf16 : ∀ (arg15 : BitVec 32) (k0_hw6 : k0_chk6 arg15), (Rect.unit (s := S2048x512) (k0_off34 arg15) S256x128.size (k0_off34_inb arg15 k0_hw6)).PackedRows (EltTy.packing .bf16) := fun arg15 k0_hw6 => k0_hw6.2.2.2.2.2.2.2.2 (k0_off34_inb arg15 k0_hw6)

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Proof.Val.Math.lean ====
module

public import Idealize.ShloMosaic.Lib.Pipeline.ValueKit

@[expose] public section

noncomputable section

open Idealize.ShloMosaic

/-! # The layer's mathematics at the ideal values, one number at a time

`B` batch entries of `T` positions each. Every function takes the batch entry, the position and the column. -/

namespace Cert.Layer

variable {B T : ℕ}

/-- The projection of every position by the input weight, plus its bias. -/
def proj (x : FVec Ideal ⟨3, ![B, T, 4096]⟩ .f32) (w : FVec Ideal ⟨3, ![1, 4096, 24576]⟩ .f32)
    (bi : FVec Ideal ⟨2, ![1, 24576]⟩ .f32) (b : Fin B) (t : Fin T) (n : Fin 24576) : EReal :=
  (∑ k : Fin 4096, x (ix3 b t k) * w (ix3 0 k n)) + bi (ix2 0 n)

/-- The logistic function. -/
def sg (v : EReal) : EReal := Ideal.div 1 (1 + Ideal.exp (-v))

/-- The convolution's input: one column block of the projection times another. -/
def uu (P : Fin B → Fin T → Fin 24576 → EReal) (b : Fin B) (t : Fin T) (n : Fin 2048) : EReal :=
  P b t ⟨10240 + n.val, by omega⟩ * P b t ⟨12288 + n.val, by omega⟩

/-- The convolution's gate: one column block through silu, times another. -/
def gateB (P : Fin B → Fin T → Fin 24576 → EReal) (b : Fin B) (t : Fin T) (n : Fin 2048) : EReal :=
  P b t ⟨14336 + n.val, by omega⟩ * sg (P b t ⟨14336 + n.val, by omega⟩) * P b t ⟨8192 + n.val, by omega⟩

/-- The causal convolution of width three along the positions; the two positions before the first come from `past`. -/
def conv (u : Fin B → Fin T → Fin 2048 → EReal) (past : Fin B → Fin 2 → Fin 2048 → EReal)
    (cw : Fin 3 → Fin 2048 → EReal) (cb : Fin 2048 → EReal) (b : Fin B) (t : Fin T) (n : Fin 2048) : EReal :=
  cb n
    + (if t.val = 0 then past b 0 n else if t.val = 1 then past b 1 n else u b ⟨t.val - 2, by omega⟩ n) * cw 0 n
    + (if t.val = 0 then past b 1 n else u b ⟨t.val - 1, by omega⟩ n) * cw 1 n
    + u b t n * cw 2 n

/-- The convolution's branch: the gate times the convolution. -/
def yb (P : Fin B → Fin T → Fin 24576 → EReal) (past : Fin B → Fin 2 → Fin 2048 → EReal)
    (cw : FVec Ideal ⟨3, ![1, 3, 2048]⟩ .f32) (cb : FVec Ideal ⟨2, ![1, 2048]⟩ .f32)
    (b : Fin B) (t : Fin T) (n : Fin 2048) : EReal :=
  gateB P b t n * conv (uu P) past (fun r n => cw (ix3 0 r n)) (fun n => cb (ix2 0 n)) b t n

/-- The convolution's branch from its two earlier positions however they are given. -/
theorem yb_eq (P : Fin B → Fin T → Fin 24576 → EReal) (past : Fin B → Fin 2 → Fin 2048 → EReal)
    (cw : FVec Ideal ⟨3, ![1, 3, 2048]⟩ .f32) (cb : FVec Ideal ⟨2, ![1, 2048]⟩ .f32)
    (b : Fin B) (t : Fin T) (n : Fin 2048) (y z : EReal)
    (hy : y = if t.val = 0 then past b 0 n else if t.val = 1 then past b 1 n else uu P b ⟨t.val - 2, by omega⟩ n)
    (hz : z = if t.val = 0 then past b 1 n else uu P b ⟨t.val - 1, by omega⟩ n) :
    gateB P b t n * (cb (ix2 0 n) + y * cw (ix3 0 0 n) + z * cw (ix3 0 1 n) + uu P b t n * cw (ix3 0 2 n))
      = yb P past cw cb b t n := by
  subst hy hz; rfl

/-- The two branches, each through its output weight and times its gate, added. -/
def merged (P : Fin B → Fin T → Fin 24576 → EReal) (ya y : Fin B → Fin T → Fin 2048 → EReal)
    (wa wb : FVec Ideal ⟨3, ![1, 2048, 4096]⟩ .f32) (b : Fin B) (t : Fin T) (n : Fin 4096) : EReal :=
  sg (P b t ⟨16384 + n.val, by omega⟩) * (∑ k : Fin 2048, ya b t k * wa (ix3 0 k n))
    + sg (P b t ⟨20480 + n.val, by omega⟩) * (∑ k : Fin 2048, y b t k * wb (ix3 0 k n))

/-- The merged branches from the first product and the second gate however they are given. -/
theorem merged_eq (P : Fin B → Fin T → Fin 24576 → EReal) (ya y : Fin B → Fin T → Fin 2048 → EReal)
    (wa wb : FVec Ideal ⟨3, ![1, 2048, 4096]⟩ .f32) (b : Fin B) (t : Fin T) (n : Fin 4096) (s g : EReal)
    (hs : s = ∑ k : Fin 2048, ya b t k * wa (ix3 0 k n)) (hg : g = sg (P b t ⟨20480 + n.val, by omega⟩)) :
    sg (P b t ⟨16384 + n.val, by omega⟩) * s + g * (∑ k : Fin 2048, y b t k * wb (ix3 0 k n))
      = merged P ya y wa wb b t n := by
  subst hs hg; rfl

/-- The scaled input plus the merged branches through the last weight. -/
def pre (x : FVec Ideal ⟨3, ![B, T, 4096]⟩ .f32) (g : Fin B → Fin T → Fin 4096 → EReal)
    (wo : FVec Ideal ⟨3, ![1, 4096, 4096]⟩ .f32) (b : Fin B) (t : Fin T) (n : Fin 4096) : EReal :=
  Ideal.ofBits .f32 0x3F9837F0#32 * x (ix3 b t n) + ∑ k : Fin 4096, g b t k * wo (ix3 0 k n)

/-- The mean of a row. -/
def mean (v : Fin 4096 → EReal) : EReal := Ideal.div (∑ n : Fin 4096, v n) (Ideal.ofBits .f32 0x45800000#32)

/-- The layer norm of a row. -/
def layerNorm (v : Fin 4096 → EReal) (lg lb : FVec Ideal ⟨2, ![1, 4096]⟩ .f32) (n : Fin 4096) : EReal :=
  (v n - mean v) * Ideal.rsqrt (mean (fun l => (v l - mean v) * (v l - mean v)) + Ideal.ofBits .f32 0x3727C5AC#32)
    * lg (ix2 0 n) + lb (ix2 0 n)

end Cert.Layer
-- ==== Proof.Val.R0.lean ====
module

public import proofs.«01_k».proof.Proof.Gen.KernelIdeal.Frame.Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 0's windows at every grid point. -/
theorem idx0 : ∀ t : Fin cfg0.N, win0_0.index t = ![t.val / 4, 0] ∧ win0_1.index t = ![0, t.val % 4] ∧ win0_2.index t = ![0, 4 + t.val % 4] ∧ win0_3.index t = ![0, t.val % 4] ∧ win0_4.index t = ![0, 4 + t.val % 4] ∧ win0_5.index t = ![0, 64 + t.val] ∧ win0_6.index t = ![0, t.val] ∧ win0_7.index t = ![t.val / 4, t.val % 4] :=
  (by decide +kernel : ∀ t : Fin grid0.N, _)

/-- The rounded copy of a block of columns of a weight. -/
abbrev g0_6 (Z : FVec Ideal S4096x24576 .f32) : FVec Ideal S4096x8192 .bf16 :=
  fun j => Z (ix2 (j 0) ⟨16384 + (j 1).val, by have h0 := (j 0).isLt; have h1 := (j 1).isLt; simp at h0 h1; omega⟩)

/-- What region 0's body stores for window 6 at an index of the block is that function at the index it is written to. -/
theorem pt0_6 (c : Dev nD) (t : Fin cfg0.N) (y) : k0_pay2 (iblk0 V c 5 t) y
    = g0_6 (V c main_v0) (((cfg0.win 6).blk t).view.emb y) := by
  pointwise [k0_pay2, g0_6]
  blk_point [iblk0, idx0 t]

/-- The array of window 6 after region 0. -/
theorem fin0_6 (c : Dev nD) : (dat0 V c).arrAt 6 cfg0.N = g0_6 (V c main_v0) := by
  refine (dat0 V c).arrAt_eq_of_covers 6 _ (by decide +kernel) fun t _ y => ?_
  blk_simp
  rw [after0_6]; frame_out
  exact pt0_6 V c t y

/-- The product of two column blocks of the projection. -/
abbrev g0_7 (X : FVec Ideal S8192x4096 .bf16) (Wt : FVec Ideal S4096x4096 .bf16) (b : FVec Ideal S1x4096 .f32) : FVec Ideal S8192x2048 .f32 :=
  fun j => ((∑ k : Fin 4096, X (ix2 (j 0) k) * Wt (ix2 k ⟨(j 1).val, by have h0 := (j 0).isLt; have h1 := (j 1).isLt; simp at h0 h1; omega⟩)) + b (ix2 0 ⟨(j 1).val, by have h0 := (j 0).isLt; have h1 := (j 1).isLt; simp at h0 h1; omega⟩)) * ((∑ k : Fin 4096, X (ix2 (j 0) k) * Wt (ix2 k ⟨2048 + (j 1).val, by have h0 := (j 0).isLt; have h1 := (j 1).isLt; simp at h0 h1; omega⟩)) + b (ix2 0 ⟨2048 + (j 1).val, by have h0 := (j 0).isLt; have h1 := (j 1).isLt; simp at h0 h1; omega⟩))

/-- What region 0's body stores for window 7 at an index of the block is that function at the index it is written to. -/
theorem pt0_7 (c : Dev nD) (t : Fin cfg0.N) (y) : k0_pay1 (iblk0 V c 0 t) (iblk0 V c 1 t) (iblk0 V c 3 t) (iblk0 V c 2 t) (iblk0 V c 4 t) y
    = g0_7 (V c main_v14) (V c main_v16) (V c main_v17) (((cfg0.win 7).blk t).view.emb y) := by
  pointwise [k0_pay1, g0_7]
  blk_point [iblk0, idx0 t]

/-- The array of window 7 after region 0. -/
theorem fin0_7 (c : Dev nD) : (dat0 V c).arrAt 7 cfg0.N = g0_7 (V c main_v14) (V c main_v16) (V c main_v17) := by
  refine (dat0 V c).arrAt_eq_of_covers 7 _ (by decide +kernel) fun t _ y => ?_
  blk_simp
  rw [after0_7]; frame_out
  exact pt0_7 V c t y

end Cert.KernelIdeal.Val
-- ==== Proof.Val.R1.lean ====
module

public import proofs.«01_k».proof.Proof.Gen.KernelIdeal.Frame.Region1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 1's windows at every grid point. -/
theorem idx1 : ∀ t : Fin cfg1.N, win1_0.index t = ![t.val / 8, 0] ∧ win1_1.index t = ![0, t.val % 8] ∧ win1_2.index t = ![0, t.val % 8] ∧ win1_3.index t = ![0, t.val] ∧ win1_4.index t = ![0, t.val] ∧ win1_5.index t = ![t.val / 8, t.val % 8] :=
  (by decide +kernel : ∀ t : Fin grid1.N, _)

/-- The rounded copy of a block of columns of a weight. -/
abbrev g1_4 (Z : FVec Ideal S4096x24576 .f32) : FVec Ideal S4096x16384 .bf16 :=
  fun j => Z (ix2 (j 0) ⟨(j 1).val, by have h0 := (j 0).isLt; have h1 := (j 1).isLt; simp at h0 h1; omega⟩)

/-- What region 1's body stores for window 4 at an index of the block is that function at the index it is written to. -/
theorem pt1_4 (c : Dev nD) (t : Fin cfg1.N) (y) : k1_pay2 (iblk1 V c 3 t) y
    = g1_4 (V c main_v0) (((cfg1.win 4).blk t).view.emb y) := by
  pointwise [k1_pay2, g1_4]
  blk_point [iblk1, idx1 t]

/-- The array of window 4 after region 1. -/
theorem fin1_4 (c : Dev nD) : (dat1 V c).arrAt 4 cfg1.N = g1_4 (V c main_v0) := by
  refine (dat1 V c).arrAt_eq_of_covers 4 _ (by decide +kernel) fun t _ y => ?_
  blk_simp
  rw [after1_4]; frame_out
  exact pt1_4 V c t y

/-- The logistic function of the projection of a column block. -/
abbrev g1_5 (X : FVec Ideal S8192x4096 .bf16) (Wt : FVec Ideal S4096x8192 .bf16) (b : FVec Ideal S1x8192 .f32) : FVec Ideal S8192x8192 .bf16 :=
  fun j => Ideal.div 1 (1 + Ideal.exp (0 - ((∑ k : Fin 4096, X (ix2 (j 0) k) * Wt (ix2 k ⟨(j 1).val, by have h0 := (j 0).isLt; have h1 := (j 1).isLt; simp at h0 h1; omega⟩)) + b (ix2 0 ⟨(j 1).val, by have h0 := (j 0).isLt; have h1 := (j 1).isLt; simp at h0 h1; omega⟩))))

/-- What region 1's body stores for window 5 at an index of the block is that function at the index it is written to. -/
theorem pt1_5 (c : Dev nD) (t : Fin cfg1.N) (y) : k1_pay1 (iblk1 V c 0 t) (iblk1 V c 1 t) (iblk1 V c 2 t) y
    = g1_5 (V c main_v14) (V c main_v18_0) (V c main_v19) (((cfg1.win 5).blk t).view.emb y) := by
  pointwise [k1_pay1, g1_5]
  blk_point [iblk1, idx1 t]

/-- The array of window 5 after region 1. -/
theorem fin1_5 (c : Dev nD) : (dat1 V c).arrAt 5 cfg1.N = g1_5 (V c main_v14) (V c main_v18_0) (V c main_v19) := by
  refine (dat1 V c).arrAt_eq_of_covers 5 _ (by decide +kernel) fun t _ y => ?_
  blk_simp
  rw [after1_5]; frame_out
  exact pt1_5 V c t y

end Cert.KernelIdeal.Val
-- ==== Proof.Val.R2.lean ====
module

public import proofs.«01_k».proof.Proof.Gen.KernelIdeal.Frame.Region2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 2's windows at every grid point. -/
theorem idx2 : ∀ t : Fin cfg2.N, win2_0.index t = ![t.val / 2, 0] ∧ win2_1.index t = ![0, t.val % 2] ∧ win2_2.index t = ![0, t.val % 2] ∧ win2_3.index t = ![0, t.val] ∧ win2_4.index t = ![0, t.val] ∧ win2_5.index t = ![t.val / 2, t.val % 2] :=
  (by decide +kernel : ∀ t : Fin grid2.N, _)

/-- The rounded copy of a block of columns of a weight. -/
abbrev g2_4 (Z : FVec Ideal S2048x4096 .f32) : FVec Ideal S2048x4096 .bf16 :=
  fun j => Z (ix2 (j 0) ⟨(j 1).val, by have h0 := (j 0).isLt; have h1 := (j 1).isLt; simp at h0 h1; omega⟩)

/-- What region 2's body stores for window 4 at an index of the block is that function at the index it is written to. -/
theorem pt2_4 (c : Dev nD) (t : Fin cfg2.N) (y) : k2_pay2 (iblk2 V c 3 t) y
    = g2_4 (V c main_v6) (((cfg2.win 4).blk t).view.emb y) := by
  pointwise [k2_pay2, g2_4]
  blk_point [iblk2, idx2 t]

/-- The array of window 4 after region 2. -/
theorem fin2_4 (c : Dev nD) : (dat2 V c).arrAt 4 cfg2.N = g2_4 (V c main_v6) := by
  refine (dat2 V c).arrAt_eq_of_covers 4 _ (by decide +kernel) fun t _ y => ?_
  blk_simp
  rw [after2_4]; frame_out
  exact pt2_4 V c t y

/-- The scaled projection of a column block. -/
abbrev g2_5 (X : FVec Ideal S8192x4096 .bf16) (Wt : FVec Ideal S4096x16384 .bf16) (b : FVec Ideal S1x24576 .f32) : FVec Ideal S8192x2048 .bf16 :=
  fun j => ((∑ k : Fin 4096, X (ix2 (j 0) k) * Wt (ix2 k ⟨(j 1).val, by have h0 := (j 0).isLt; have h1 := (j 1).isLt; simp at h0 h1; omega⟩)) + b (ix2 0 ⟨(j 1).val, by have h0 := (j 0).isLt; have h1 := (j 1).isLt; simp at h0 h1; omega⟩)) * Ideal.ofBits .f32 0x3E0293EE#32

/-- What region 2's body stores for window 5 at an index of the block is that function at the index it is written to. -/
theorem pt2_5 (c : Dev nD) (t : Fin cfg2.N) (y) : k2_pay1 (iblk2 V c 0 t) (iblk2 V c 1 t) (iblk2 V c 2 t) y
    = g2_5 (V c main_v14) (V c main_v20_0) (V c main_v2) (((cfg2.win 5).blk t).view.emb y) := by
  pointwise [k2_pay1, g2_5]
  blk_point [iblk2, idx2 t]

/-- The array of window 5 after region 2. -/
theorem fin2_5 (c : Dev nD) : (dat2 V c).arrAt 5 cfg2.N = g2_5 (V c main_v14) (V c main_v20_0) (V c main_v2) := by
  refine (dat2 V c).arrAt_eq_of_covers 5 _ (by decide +kernel) fun t _ y => ?_
  blk_simp
  rw [after2_5]; frame_out
  exact pt2_5 V c t y

end Cert.KernelIdeal.Val
-- ==== Proof.Val.R3.lean ====
module

public import proofs.«01_k».proof.Proof.Gen.KernelIdeal.Frame.Region3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 3's windows at every grid point. -/
theorem idx3 : ∀ t : Fin cfg3.N, win3_0.index t = ![t.val / 2, 0] ∧ win3_1.index t = ![0, 2 + t.val % 2] ∧ win3_2.index t = ![0, 2 + t.val % 2] ∧ win3_3.index t = ![t.val / 2, t.val % 2, 0] ∧ win3_4.index t = ![t.val / 2, t.val % 2] :=
  (by decide +kernel : ∀ t : Fin grid3.N, _)

/-- The projection of a column block, its columns split into heads. -/
abbrev g3_3 (X : FVec Ideal S8192x4096 .bf16) (Wt : FVec Ideal S4096x16384 .bf16) (b : FVec Ideal S1x24576 .f32) : FVec Ideal S8192x16x128 .f32 :=
  fun j => (∑ k : Fin 4096, X (ix2 (j 0) k) * Wt (ix2 k ⟨2048 + ((j 1).val * 128 + (j 2).val), by have h1 := (j 1).isLt; have h2 := (j 2).isLt; simp at h1 h2; omega⟩)) + b (ix2 0 ⟨2048 + ((j 1).val * 128 + (j 2).val), by have h1 := (j 1).isLt; have h2 := (j 2).isLt; simp at h1 h2; omega⟩)

/-- What region 3's body stores for window 3 at an index of the block is that function at the index it is written to. -/
theorem pt3_3 (c : Dev nD) (t : Fin cfg3.N) (y) : k3_pay3 (iblk3 V c 0 t) (iblk3 V c 1 t) (iblk3 V c 2 t) y
    = g3_3 (V c main_v14) (V c main_v20_0) (V c main_v2) (((cfg3.win 3).blk t).view.emb y) := by
  pointwise [k3_pay3, k3_pay1, g3_3]
  blk_point [iblk3, idx3 t]

/-- The array of window 3 after region 3. -/
theorem fin3_3 (c : Dev nD) : (dat3 V c).arrAt 3 cfg3.N = g3_3 (V c main_v14) (V c main_v20_0) (V c main_v2) := by
  refine (dat3 V c).arrAt_eq_of_covers 3 _ (by decide +kernel) fun t _ y => ?_
  blk_simp
  rw [after3_3]; frame_out
  exact pt3_3 V c t y

end Cert.KernelIdeal.Val
-- ==== Proof.Val.R4.lean ====
module

public import proofs.«01_k».proof.Proof.Gen.KernelIdeal.Frame.Region4
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 4's windows at every grid point. -/
theorem idx4 : ∀ t : Fin cfg4.N, win4_0.index t = ![t.val / 2, 0] ∧ win4_1.index t = ![0, 4 + t.val % 2] ∧ win4_2.index t = ![0, 4 + t.val % 2] ∧ win4_3.index t = ![t.val / 2, t.val % 2, 0] ∧ win4_4.index t = ![t.val / 2, t.val % 2] :=
  (by decide +kernel : ∀ t : Fin grid4.N, _)

/-- The projection of a column block, its columns split into heads. -/
abbrev g4_3 (X : FVec Ideal S8192x4096 .bf16) (Wt : FVec Ideal S4096x16384 .bf16) (b : FVec Ideal S1x24576 .f32) : FVec Ideal S8192x16x128 .f32 :=
  fun j => (∑ k : Fin 4096, X (ix2 (j 0) k) * Wt (ix2 k ⟨4096 + ((j 1).val * 128 + (j 2).val), by have h1 := (j 1).isLt; have h2 := (j 2).isLt; simp at h1 h2; omega⟩)) + b (ix2 0 ⟨4096 + ((j 1).val * 128 + (j 2).val), by have h1 := (j 1).isLt; have h2 := (j 2).isLt; simp at h1 h2; omega⟩)

/-- What region 4's body stores for window 3 at an index of the block is that function at the index it is written to. -/
theorem pt4_3 (c : Dev nD) (t : Fin cfg4.N) (y) : k4_pay3 (iblk4 V c 0 t) (iblk4 V c 1 t) (iblk4 V c 2 t) y
    = g4_3 (V c main_v14) (V c main_v20_0) (V c main_v2) (((cfg4.win 3).blk t).view.emb y) := by
  pointwise [k4_pay3, k4_pay1, g4_3]
  blk_point [iblk4, idx4 t]

/-- The array of window 3 after region 4. -/
theorem fin4_3 (c : Dev nD) : (dat4 V c).arrAt 3 cfg4.N = g4_3 (V c main_v14) (V c main_v20_0) (V c main_v2) := by
  refine (dat4 V c).arrAt_eq_of_covers 3 _ (by decide +kernel) fun t _ y => ?_
  blk_simp
  rw [after4_3]; frame_out
  exact pt4_3 V c t y

end Cert.KernelIdeal.Val
-- ==== Proof.Val.R5.lean ====
module

public import proofs.«01_k».proof.Proof.Gen.KernelIdeal.Frame.Region5
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 5's windows at every grid point. -/
theorem idx5 : ∀ t : Fin cfg5.N, win5_0.index t = ![t.val / 2, 0] ∧ win5_1.index t = ![0, 6 + t.val % 2] ∧ win5_2.index t = ![0, 6 + t.val % 2] ∧ win5_3.index t = ![0, t.val] ∧ win5_4.index t = ![0, t.val] ∧ win5_5.index t = ![t.val / 2, t.val % 2] :=
  (by decide +kernel : ∀ t : Fin grid5.N, _)

/-- The rounded copy of a block of columns of a weight. -/
abbrev g5_4 (Z : FVec Ideal S4096x4096 .f32) : FVec Ideal S4096x4096 .bf16 :=
  fun j => Z (ix2 (j 0) ⟨(j 1).val, by have h0 := (j 0).isLt; have h1 := (j 1).isLt; simp at h0 h1; omega⟩)

/-- What region 5's body stores for window 4 at an index of the block is that function at the index it is written to. -/
theorem pt5_4 (c : Dev nD) (t : Fin cfg5.N) (y) : k5_pay2 (iblk5 V c 3 t) y
    = g5_4 (V c main_v8) (((cfg5.win 4).blk t).view.emb y) := by
  pointwise [k5_pay2, g5_4]
  blk_point [iblk5, idx5 t]

/-- The array of window 4 after region 5. -/
theorem fin5_4 (c : Dev nD) : (dat5 V c).arrAt 4 cfg5.N = g5_4 (V c main_v8) := by
  refine (dat5 V c).arrAt_eq_of_covers 4 _ (by decide +kernel) fun t _ y => ?_
  blk_simp
  rw [after5_4]; frame_out
  exact pt5_4 V c t y

/-- The projection of a column block through silu. -/
abbrev g5_5 (X : FVec Ideal S8192x4096 .bf16) (Wt : FVec Ideal S4096x16384 .bf16) (b : FVec Ideal S1x24576 .f32) : FVec Ideal S8192x2048 .bf16 :=
  fun j => ((∑ k : Fin 4096, X (ix2 (j 0) k) * Wt (ix2 k ⟨6144 + (j 1).val, by have h0 := (j 0).isLt; have h1 := (j 1).isLt; simp at h0 h1; omega⟩)) + b (ix2 0 ⟨6144 + (j 1).val, by have h0 := (j 0).isLt; have h1 := (j 1).isLt; simp at h0 h1; omega⟩)) * Ideal.div 1 (1 + Ideal.exp (0 - ((∑ k : Fin 4096, X (ix2 (j 0) k) * Wt (ix2 k ⟨6144 + (j 1).val, by have h0 := (j 0).isLt; have h1 := (j 1).isLt; simp at h0 h1; omega⟩)) + b (ix2 0 ⟨6144 + (j 1).val, by have h0 := (j 0).isLt; have h1 := (j 1).isLt; simp at h0 h1; omega⟩))))

/-- What region 5's body stores for window 5 at an index of the block is that function at the index it is written to. -/
theorem pt5_5 (c : Dev nD) (t : Fin cfg5.N) (y) : k5_pay1 (iblk5 V c 0 t) (iblk5 V c 1 t) (iblk5 V c 2 t) y
    = g5_5 (V c main_v14) (V c main_v20_0) (V c main_v2) (((cfg5.win 5).blk t).view.emb y) := by
  pointwise [k5_pay1, g5_5]
  blk_point [iblk5, idx5 t]

/-- The array of window 5 after region 5. -/
theorem fin5_5 (c : Dev nD) : (dat5 V c).arrAt 5 cfg5.N = g5_5 (V c main_v14) (V c main_v20_0) (V c main_v2) := by
  refine (dat5 V c).arrAt_eq_of_covers 5 _ (by decide +kernel) fun t _ y => ?_
  blk_simp
  rw [after5_5]; frame_out
  exact pt5_5 V c t y

end Cert.KernelIdeal.Val
-- ==== Proof.Val.R6.lean ====
module

public import proofs.«01_k».proof.Proof.Gen.KernelIdeal.Frame.Region6
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 6's windows at every grid point. -/
theorem idx6 : ∀ t : Fin cfg6.N, win6_0.index t = ![t.val / 4, 0] ∧ win6_1.index t = ![0, 16 + t.val % 4] ∧ win6_2.index t = ![0, 28 + t.val % 4] ∧ win6_3.index t = ![0, 16 + t.val % 4] ∧ win6_4.index t = ![0, 28 + t.val % 4] ∧ win6_5.index t = ![0, t.val] ∧ win6_6.index t = ![0, t.val] ∧ win6_7.index t = ![t.val / 4, t.val % 4] :=
  (by decide +kernel : ∀ t : Fin grid6.N, _)

/-- The rounded copy of a block of columns of a weight. -/
abbrev g6_6 (Z : FVec Ideal S2048x4096 .f32) : FVec Ideal S2048x4096 .bf16 :=
  fun j => Z (ix2 (j 0) ⟨(j 1).val, by have h0 := (j 0).isLt; have h1 := (j 1).isLt; simp at h0 h1; omega⟩)

/-- What region 6's body stores for window 6 at an index of the block is that function at the index it is written to. -/
theorem pt6_6 (c : Dev nD) (t : Fin cfg6.N) (y) : k6_pay2 (iblk6 V c 5 t) y
    = g6_6 (V c main_v7) (((cfg6.win 6).blk t).view.emb y) := by
  pointwise [k6_pay2, g6_6]
  blk_point [iblk6, idx6 t]

/-- The array of window 6 after region 6. -/
theorem fin6_6 (c : Dev nD) : (dat6 V c).arrAt 6 cfg6.N = g6_6 (V c main_v7) := by
  refine (dat6 V c).arrAt_eq_of_covers 6 _ (by decide +kernel) fun t _ y => ?_
  blk_simp
  rw [after6_6]; frame_out
  exact pt6_6 V c t y

/-- One column block of the projection through silu, times another. -/
abbrev g6_7 (X : FVec Ideal S8192x4096 .bf16) (Wt : FVec Ideal S4096x16384 .bf16) (b : FVec Ideal S1x24576 .f32) : FVec Ideal S8192x2048 .bf16 :=
  fun j => ((∑ k : Fin 4096, X (ix2 (j 0) k) * Wt (ix2 k ⟨14336 + (j 1).val, by have h0 := (j 0).isLt; have h1 := (j 1).isLt; simp at h0 h1; omega⟩)) + b (ix2 0 ⟨14336 + (j 1).val, by have h0 := (j 0).isLt; have h1 := (j 1).isLt; simp at h0 h1; omega⟩)) * Ideal.div 1 (1 + Ideal.exp (0 - ((∑ k : Fin 4096, X (ix2 (j 0) k) * Wt (ix2 k ⟨14336 + (j 1).val, by have h0 := (j 0).isLt; have h1 := (j 1).isLt; simp at h0 h1; omega⟩)) + b (ix2 0 ⟨14336 + (j 1).val, by have h0 := (j 0).isLt; have h1 := (j 1).isLt; simp at h0 h1; omega⟩)))) * ((∑ k : Fin 4096, X (ix2 (j 0) k) * Wt (ix2 k ⟨8192 + (j 1).val, by have h0 := (j 0).isLt; have h1 := (j 1).isLt; simp at h0 h1; omega⟩)) + b (ix2 0 ⟨8192 + (j 1).val, by have h0 := (j 0).isLt; have h1 := (j 1).isLt; simp at h0 h1; omega⟩))

/-- What region 6's body stores for window 7 at an index of the block is that function at the index it is written to. -/
theorem pt6_7 (c : Dev nD) (t : Fin cfg6.N) (y) : k6_pay1 (iblk6 V c 0 t) (iblk6 V c 1 t) (iblk6 V c 3 t) (iblk6 V c 2 t) (iblk6 V c 4 t) y
    = g6_7 (V c main_v14) (V c main_v20_0) (V c main_v2) (((cfg6.win 7).blk t).view.emb y) := by
  pointwise [k6_pay1, g6_7]
  blk_point [iblk6, idx6 t]

/-- The array of window 7 after region 6. -/
theorem fin6_7 (c : Dev nD) : (dat6 V c).arrAt 7 cfg6.N = g6_7 (V c main_v14) (V c main_v20_0) (V c main_v2) := by
  refine (dat6 V c).arrAt_eq_of_covers 7 _ (by decide +kernel) fun t _ y => ?_
  blk_simp
  rw [after6_7]; frame_out
  exact pt6_7 V c t y

end Cert.KernelIdeal.Val
-- ==== Proof.Val.C0.lean ====
module

public import proofs.«01_k».proof.Proof.Val.Math
public import proofs.«01_k».proof.Proof.Gen.KernelIdeal.Frame.Fold0
public import Idealize.ShloMosaic.Lib.StableHlo.RunRead
public import proofs.«01_k».proof.Proof.Val.R0
public import proofs.«01_k».proof.Proof.Val.R1
public import proofs.«01_k».proof.Proof.Val.R2
public import proofs.«01_k».proof.Proof.Val.R3
public import proofs.«01_k».proof.Proof.Val.R4
public import proofs.«01_k».proof.Proof.Val.R5
public import proofs.«01_k».proof.Proof.Val.R6

@[expose] public section

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.Layer

variable (m : (ℓ : Loc nD τ sig) → Buf (Elt Ideal) ℓ) (ρ : Dev nD → PrngReg) (c : Dev nD)

/-! The program's arguments at launch, as arrays. -/

/-- Argument 0 at launch. -/
abbrev a0 : FVec Ideal S4x2048x4096 .f32 := m ((c : Thread nD τ).loc main_arg0)
/-- Argument 1 at launch. -/
abbrev a1 : FVec Ideal S32x64x4096 .f32 := m ((c : Thread nD τ).loc main_arg1)
/-- Argument 2 at launch. -/
abbrev a2 : FVec Ideal S8192x2048 .bf16 := m ((c : Thread nD τ).loc main_arg2)
/-- Argument 3 at launch. -/
abbrev a3 : FVec Ideal S2048x2048 .bf16 := m ((c : Thread nD τ).loc main_arg3)
/-- Argument 4 at launch. -/
abbrev a4 : FVec Ideal S1x32x2x2048 .f32 := m ((c : Thread nD τ).loc main_arg4)
/-- Argument 5 at launch. -/
abbrev a5 : FVec Ideal S1x4096x24576 .f32 := m ((c : Thread nD τ).loc main_arg5)
/-- Argument 6 at launch. -/
abbrev a6 : FVec Ideal S1x24576 .f32 := m ((c : Thread nD τ).loc main_arg6)
/-- Argument 7 at launch. -/
abbrev a7 : FVec Ideal S1x3x2048 .f32 := m ((c : Thread nD τ).loc main_arg7)
/-- Argument 8 at launch. -/
abbrev a8 : FVec Ideal S1x2048 .f32 := m ((c : Thread nD τ).loc main_arg8)
/-- Argument 9 at launch. -/
abbrev a9 : FVec Ideal S1x2048x4096 .f32 := m ((c : Thread nD τ).loc main_arg9)
/-- Argument 10 at launch. -/
abbrev a10 : FVec Ideal S1x2048x4096 .f32 := m ((c : Thread nD τ).loc main_arg10)
/-- Argument 11 at launch. -/
abbrev a11 : FVec Ideal S1x4096x4096 .f32 := m ((c : Thread nD τ).loc main_arg11)
/-- Argument 12 at launch. -/
abbrev a12 : FVec Ideal S1x4096 .f32 := m ((c : Thread nD τ).loc main_arg12)
/-- Argument 13 at launch. -/
abbrev a13 : FVec Ideal S1x4096 .f32 := m ((c : Thread nD τ).loc main_arg13)

/-- The prompt rows' projection. -/
abbrev P0 : Fin 4 → Fin 2048 → Fin 24576 → EReal := proj (a0 m c) (a5 m c) (a6 m c)
/-- The sample rows' projection. -/
abbrev P1 : Fin 32 → Fin 64 → Fin 24576 → EReal := proj (a1 m c) (a5 m c) (a6 m c)
/-- The rows before the first of a prompt: zeros. -/
abbrev past0 : Fin 4 → Fin 2 → Fin 2048 → EReal := fun _ _ _ => 0
/-- The rows before the first of a sample: the state. -/
abbrev past1 : Fin 32 → Fin 2 → Fin 2048 → EReal := fun b r n => a4 m c (ix4 0 b r n)
/-- The prompt rows' attention result. -/
abbrev ya0 : Fin 4 → Fin 2048 → Fin 2048 → EReal := fun b t n => a2 m c (ix2 ⟨b.val * 2048 + t.val, by omega⟩ n)
/-- The sample rows' attention result. -/
abbrev ya1 : Fin 32 → Fin 64 → Fin 2048 → EReal := fun b t n => a3 m c (ix2 ⟨b.val * 64 + t.val, by omega⟩ n)
/-- The prompt rows' convolution branch. -/
abbrev yb0 : Fin 4 → Fin 2048 → Fin 2048 → EReal := yb (P0 m c) past0 (a7 m c) (a8 m c)
/-- The sample rows' convolution branch. -/
abbrev yb1 : Fin 32 → Fin 64 → Fin 2048 → EReal := yb (P1 m c) (past1 m c) (a7 m c) (a8 m c)
/-- The prompt rows' merged branches. -/
abbrev mg0 : Fin 4 → Fin 2048 → Fin 4096 → EReal := merged (P0 m c) (ya0 m c) (yb0 m c) (a9 m c) (a10 m c)
/-- The sample rows' merged branches. -/
abbrev mg1 : Fin 32 → Fin 64 → Fin 4096 → EReal := merged (P1 m c) (ya1 m c) (yb1 m c) (a9 m c) (a10 m c)

/-- `v0` after its stretch of host operations. -/
theorem cf_v0 : W1 m ρ c (Proc.devRef .tc main_v0) = (fun j => a5 m c (ix3 0 (j 0) (j 1)) : FVec Ideal S4096x24576 .f32) := by
  show StableHlo.after hostOps0 (W0 m ρ c) (Proc.devRef .tc main_v0) = _
  after_reads_simp
  funext j
  pointwise

/-- `v2` after its stretch of host operations. -/
theorem cf_v2 : W1 m ρ c (Proc.devRef .tc main_v2) = (fun j => a6 m c (ix2 0 (j 1)) : FVec Ideal S1x24576 .f32) := by
  show StableHlo.after hostOps0 (W0 m ρ c) (Proc.devRef .tc main_v2) = _
  after_reads_simp
  funext j
  pointwise

/-- `v3` after its stretch of host operations. -/
theorem cf_v3 : W1 m ρ c (Proc.devRef .tc main_v3) = (fun j => a7 m c (ix3 0 (j 0) (j 1)) : FVec Ideal S3x2048 .f32) := by
  show StableHlo.after hostOps0 (W0 m ρ c) (Proc.devRef .tc main_v3) = _
  after_reads_simp
  funext j
  pointwise

/-- `v5` after its stretch of host operations. -/
theorem cf_v5 : W1 m ρ c (Proc.devRef .tc main_v5) = (fun j => a8 m c (ix2 0 (j 1)) : FVec Ideal S1x2048 .f32) := by
  show StableHlo.after hostOps0 (W0 m ρ c) (Proc.devRef .tc main_v5) = _
  after_reads_simp
  funext j
  pointwise

/-- `v6` after its stretch of host operations. -/
theorem cf_v6 : W1 m ρ c (Proc.devRef .tc main_v6) = (fun j => a9 m c (ix3 0 (j 0) (j 1)) : FVec Ideal S2048x4096 .f32) := by
  show StableHlo.after hostOps0 (W0 m ρ c) (Proc.devRef .tc main_v6) = _
  after_reads_simp
  funext j
  pointwise

/-- `v7` after its stretch of host operations. -/
theorem cf_v7 : W1 m ρ c (Proc.devRef .tc main_v7) = (fun j => a10 m c (ix3 0 (j 0) (j 1)) : FVec Ideal S2048x4096 .f32) := by
  show StableHlo.after hostOps0 (W0 m ρ c) (Proc.devRef .tc main_v7) = _
  after_reads_simp
  funext j
  pointwise

/-- `v8` after its stretch of host operations. -/
theorem cf_v8 : W1 m ρ c (Proc.devRef .tc main_v8) = (fun j => a11 m c (ix3 0 (j 0) (j 1)) : FVec Ideal S4096x4096 .f32) := by
  show StableHlo.after hostOps0 (W0 m ρ c) (Proc.devRef .tc main_v8) = _
  after_reads_simp
  funext j
  pointwise

/-- `v10` after its stretch of host operations. -/
theorem cf_v10 : W1 m ρ c (Proc.devRef .tc main_v10) = (fun j => a12 m c (ix2 0 (j 1)) : FVec Ideal S1x4096 .f32) := by
  show StableHlo.after hostOps0 (W0 m ρ c) (Proc.devRef .tc main_v10) = _
  after_reads_simp
  funext j
  pointwise

/-- `v12` after its stretch of host operations. -/
theorem cf_v12 : W1 m ρ c (Proc.devRef .tc main_v12) = (fun j => a13 m c (ix2 0 (j 1)) : FVec Ideal S1x4096 .f32) := by
  show StableHlo.after hostOps0 (W0 m ρ c) (Proc.devRef .tc main_v12) = _
  after_reads_simp
  funext j
  pointwise

/-- `v13` after its stretch of host operations. -/
theorem cf_v13 : W1 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) := by
  show StableHlo.after hostOps0 (W0 m ρ c) (Proc.devRef .tc main_v13) = _
  after_reads_simp
  funext j
  pointwise

/-- `v14` after its stretch of host operations. -/
theorem cf_v14 : W1 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) := by
  show StableHlo.after hostOps0 (W0 m ρ c) (Proc.devRef .tc main_v14) = _
  after_reads_simp
  funext j
  pointwise

/-- `v16` after its stretch of host operations. -/
theorem cf_v16 : W1 m ρ c (Proc.devRef .tc main_v16) = (fun j => a5 m c (ix3 0 (j 0) ⟨10240 + (j 1).val, by have h1 := (j 1).isLt; simp at h1; omega⟩) : FVec Ideal S4096x4096 .bf16) := by
  show StableHlo.after hostOps0 (W0 m ρ c) (Proc.devRef .tc main_v16) = _
  after_reads_simp
  funext j
  pointwise

/-- `v17` after its stretch of host operations. -/
theorem cf_v17 : W1 m ρ c (Proc.devRef .tc main_v17) = (fun j => a6 m c (ix2 0 ⟨10240 + (j 1).val, by have h1 := (j 1).isLt; simp at h1; omega⟩) : FVec Ideal S1x4096 .f32) := by
  show StableHlo.after hostOps0 (W0 m ρ c) (Proc.devRef .tc main_v17) = _
  after_reads_simp
  funext j
  pointwise

/-- `v18_0` after region 0. -/
theorem cf_v18_0 : W2 m ρ c (Proc.devRef .tc main_v18_0) = (fun j => a5 m c (ix3 0 (j 0) ⟨16384 + (j 1).val, by have h1 := (j 1).isLt; simp at h1; omega⟩) : FVec Ideal S4096x8192 .bf16) := by
  refine (W2_arr m ρ c 6).trans ((fin0_6 (V1 m ρ) c).trans ?_)
  show g0_6 (W1 m ρ c (Proc.devRef .tc main_v0)) = _
  rw [(cf_v0 m ρ c)]
  funext j
  pointwise [g0_6]
  try blk_point []
  all_goals exact congrArg Ideal.exp (zero_sub _)

/-- `v18_1` after region 0. -/
theorem cf_v18_1 : W2 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) := by
  refine (W2_arr m ρ c 7).trans ((fin0_7 (V1 m ρ) c).trans ?_)
  show g0_7 (W1 m ρ c (Proc.devRef .tc main_v14)) (W1 m ρ c (Proc.devRef .tc main_v16)) (W1 m ρ c (Proc.devRef .tc main_v17)) = _
  rw [(cf_v14 m ρ c), (cf_v16 m ρ c), (cf_v17 m ρ c)]
  funext j
  pointwise [g0_7, uu, proj]
  try blk_point []
  all_goals exact congrArg Ideal.exp (zero_sub _)

/-- `v2` at boundary 2. -/
theorem at2_v2 : W2 m ρ c (Proc.devRef .tc main_v2) = (fun j => a6 m c (ix2 0 (j 1)) : FVec Ideal S1x24576 .f32) :=
  (W2_of m ρ c main_v2 (by decide)).trans (cf_v2 m ρ c)

/-- `v19` after its stretch of host operations. -/
theorem cf_v19 : W3 m ρ c (Proc.devRef .tc main_v19) = (fun j => a6 m c (ix2 0 ⟨16384 + (j 1).val, by have h1 := (j 1).isLt; simp at h1; omega⟩) : FVec Ideal S1x8192 .f32) := by
  show StableHlo.after hostOps1 (W2 m ρ c) (Proc.devRef .tc main_v19) = _
  after_reads_simp
  rw [(at2_v2 m ρ c)]
  funext j
  pointwise

/-- `v0` at boundary 2. -/
theorem at2_v0 : W2 m ρ c (Proc.devRef .tc main_v0) = (fun j => a5 m c (ix3 0 (j 0) (j 1)) : FVec Ideal S4096x24576 .f32) :=
  (W2_of m ρ c main_v0 (by decide)).trans (cf_v0 m ρ c)

/-- `v0` at boundary 3. -/
theorem at3_v0 : W3 m ρ c (Proc.devRef .tc main_v0) = (fun j => a5 m c (ix3 0 (j 0) (j 1)) : FVec Ideal S4096x24576 .f32) :=
  (W3_of m ρ c main_v0 (by decide)).trans (at2_v0 m ρ c)

/-- `v20_0` after region 1. -/
theorem cf_v20_0 : W4 m ρ c (Proc.devRef .tc main_v20_0) = (fun j => a5 m c (ix3 0 (j 0) ⟨(j 1).val, by have h1 := (j 1).isLt; simp at h1; omega⟩) : FVec Ideal S4096x16384 .bf16) := by
  refine (W4_arr m ρ c 4).trans ((fin1_4 (V3 m ρ) c).trans ?_)
  show g1_4 (W3 m ρ c (Proc.devRef .tc main_v0)) = _
  rw [(at3_v0 m ρ c)]
  funext j
  pointwise [g1_4]
  try blk_point []
  all_goals exact congrArg Ideal.exp (zero_sub _)

/-- `v14` at boundary 2. -/
theorem at2_v14 : W2 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W2_of m ρ c main_v14 (by decide)).trans (cf_v14 m ρ c)

/-- `v14` at boundary 3. -/
theorem at3_v14 : W3 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W3_of m ρ c main_v14 (by decide)).trans (at2_v14 m ρ c)

/-- `v18_0` at boundary 3. -/
theorem at3_v18_0 : W3 m ρ c (Proc.devRef .tc main_v18_0) = (fun j => a5 m c (ix3 0 (j 0) ⟨16384 + (j 1).val, by have h1 := (j 1).isLt; simp at h1; omega⟩) : FVec Ideal S4096x8192 .bf16) :=
  (W3_of m ρ c main_v18_0 (by decide)).trans (cf_v18_0 m ρ c)

/-- `v20_1` after region 1. -/
theorem cf_v20_1 : W4 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) := by
  refine (W4_arr m ρ c 5).trans ((fin1_5 (V3 m ρ) c).trans ?_)
  show g1_5 (W3 m ρ c (Proc.devRef .tc main_v14)) (W3 m ρ c (Proc.devRef .tc main_v18_0)) (W3 m ρ c (Proc.devRef .tc main_v19)) = _
  rw [(at3_v14 m ρ c), (at3_v18_0 m ρ c), (cf_v19 m ρ c)]
  funext j
  pointwise [g1_5, sg, proj]
  try blk_point []
  all_goals exact congrArg Ideal.exp (zero_sub _)

/-- `v6` at boundary 2. -/
theorem at2_v6 : W2 m ρ c (Proc.devRef .tc main_v6) = (fun j => a9 m c (ix3 0 (j 0) (j 1)) : FVec Ideal S2048x4096 .f32) :=
  (W2_of m ρ c main_v6 (by decide)).trans (cf_v6 m ρ c)

/-- `v6` at boundary 3. -/
theorem at3_v6 : W3 m ρ c (Proc.devRef .tc main_v6) = (fun j => a9 m c (ix3 0 (j 0) (j 1)) : FVec Ideal S2048x4096 .f32) :=
  (W3_of m ρ c main_v6 (by decide)).trans (at2_v6 m ρ c)

/-- `v6` at boundary 4. -/
theorem at4_v6 : W4 m ρ c (Proc.devRef .tc main_v6) = (fun j => a9 m c (ix3 0 (j 0) (j 1)) : FVec Ideal S2048x4096 .f32) :=
  (W4_of m ρ c main_v6 (by decide)).trans (at3_v6 m ρ c)

/-- `v21_0` after region 2. -/
theorem cf_v21_0 : W5 m ρ c (Proc.devRef .tc main_v21_0) = (fun j => a9 m c (ix3 0 (j 0) (j 1)) : FVec Ideal S2048x4096 .bf16) := by
  refine (W5_arr m ρ c 4).trans ((fin2_4 (V4 m ρ) c).trans ?_)
  show g2_4 (W4 m ρ c (Proc.devRef .tc main_v6)) = _
  rw [(at4_v6 m ρ c)]
  funext j
  pointwise [g2_4]
  try blk_point []
  all_goals exact congrArg Ideal.exp (zero_sub _)

/-- `v14` at boundary 4. -/
theorem at4_v14 : W4 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W4_of m ρ c main_v14 (by decide)).trans (at3_v14 m ρ c)

/-- `v2` at boundary 3. -/
theorem at3_v2 : W3 m ρ c (Proc.devRef .tc main_v2) = (fun j => a6 m c (ix2 0 (j 1)) : FVec Ideal S1x24576 .f32) :=
  (W3_of m ρ c main_v2 (by decide)).trans (at2_v2 m ρ c)

/-- `v2` at boundary 4. -/
theorem at4_v2 : W4 m ρ c (Proc.devRef .tc main_v2) = (fun j => a6 m c (ix2 0 (j 1)) : FVec Ideal S1x24576 .f32) :=
  (W4_of m ρ c main_v2 (by decide)).trans (at3_v2 m ρ c)

/-- `v21_1` after region 2. -/
theorem cf_v21_1 : W5 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) := by
  refine (W5_arr m ρ c 5).trans ((fin2_5 (V4 m ρ) c).trans ?_)
  show g2_5 (W4 m ρ c (Proc.devRef .tc main_v14)) (W4 m ρ c (Proc.devRef .tc main_v20_0)) (W4 m ρ c (Proc.devRef .tc main_v2)) = _
  rw [(at4_v14 m ρ c), (cf_v20_0 m ρ c), (at4_v2 m ρ c)]
  funext j
  pointwise [g2_5, proj]
  try blk_point []
  all_goals exact congrArg Ideal.exp (zero_sub _)

/-- `v14` at boundary 5. -/
theorem at5_v14 : W5 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W5_of m ρ c main_v14 (by decide)).trans (at4_v14 m ρ c)

/-- `v20_0` at boundary 5. -/
theorem at5_v20_0 : W5 m ρ c (Proc.devRef .tc main_v20_0) = (fun j => a5 m c (ix3 0 (j 0) ⟨(j 1).val, by have h1 := (j 1).isLt; simp at h1; omega⟩) : FVec Ideal S4096x16384 .bf16) :=
  (W5_of m ρ c main_v20_0 (by decide)).trans (cf_v20_0 m ρ c)

/-- `v2` at boundary 5. -/
theorem at5_v2 : W5 m ρ c (Proc.devRef .tc main_v2) = (fun j => a6 m c (ix2 0 (j 1)) : FVec Ideal S1x24576 .f32) :=
  (W5_of m ρ c main_v2 (by decide)).trans (at4_v2 m ρ c)

/-- `v22_0` after region 3. -/
theorem cf_v22_0 : W6 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) := by
  refine (W6_arr m ρ c 3).trans ((fin3_3 (V5 m ρ) c).trans ?_)
  show g3_3 (W5 m ρ c (Proc.devRef .tc main_v14)) (W5 m ρ c (Proc.devRef .tc main_v20_0)) (W5 m ρ c (Proc.devRef .tc main_v2)) = _
  rw [(at5_v14 m ρ c), (at5_v20_0 m ρ c), (at5_v2 m ρ c)]
  funext j
  pointwise [g3_3, proj]
  try blk_point []
  all_goals exact congrArg Ideal.exp (zero_sub _)

/-- `v14` at boundary 6. -/
theorem at6_v14 : W6 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W6_of m ρ c main_v14 (by decide)).trans (at5_v14 m ρ c)

/-- `v20_0` at boundary 6. -/
theorem at6_v20_0 : W6 m ρ c (Proc.devRef .tc main_v20_0) = (fun j => a5 m c (ix3 0 (j 0) ⟨(j 1).val, by have h1 := (j 1).isLt; simp at h1; omega⟩) : FVec Ideal S4096x16384 .bf16) :=
  (W6_of m ρ c main_v20_0 (by decide)).trans (at5_v20_0 m ρ c)

/-- `v2` at boundary 6. -/
theorem at6_v2 : W6 m ρ c (Proc.devRef .tc main_v2) = (fun j => a6 m c (ix2 0 (j 1)) : FVec Ideal S1x24576 .f32) :=
  (W6_of m ρ c main_v2 (by decide)).trans (at5_v2 m ρ c)

/-- `v23_0` after region 4. -/
theorem cf_v23_0 : W7 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) := by
  refine (W7_arr m ρ c 3).trans ((fin4_3 (V6 m ρ) c).trans ?_)
  show g4_3 (W6 m ρ c (Proc.devRef .tc main_v14)) (W6 m ρ c (Proc.devRef .tc main_v20_0)) (W6 m ρ c (Proc.devRef .tc main_v2)) = _
  rw [(at6_v14 m ρ c), (at6_v20_0 m ρ c), (at6_v2 m ρ c)]
  funext j
  pointwise [g4_3, proj]
  try blk_point []
  all_goals exact congrArg Ideal.exp (zero_sub _)

/-- `v8` at boundary 2. -/
theorem at2_v8 : W2 m ρ c (Proc.devRef .tc main_v8) = (fun j => a11 m c (ix3 0 (j 0) (j 1)) : FVec Ideal S4096x4096 .f32) :=
  (W2_of m ρ c main_v8 (by decide)).trans (cf_v8 m ρ c)

/-- `v8` at boundary 3. -/
theorem at3_v8 : W3 m ρ c (Proc.devRef .tc main_v8) = (fun j => a11 m c (ix3 0 (j 0) (j 1)) : FVec Ideal S4096x4096 .f32) :=
  (W3_of m ρ c main_v8 (by decide)).trans (at2_v8 m ρ c)

/-- `v8` at boundary 4. -/
theorem at4_v8 : W4 m ρ c (Proc.devRef .tc main_v8) = (fun j => a11 m c (ix3 0 (j 0) (j 1)) : FVec Ideal S4096x4096 .f32) :=
  (W4_of m ρ c main_v8 (by decide)).trans (at3_v8 m ρ c)

/-- `v8` at boundary 5. -/
theorem at5_v8 : W5 m ρ c (Proc.devRef .tc main_v8) = (fun j => a11 m c (ix3 0 (j 0) (j 1)) : FVec Ideal S4096x4096 .f32) :=
  (W5_of m ρ c main_v8 (by decide)).trans (at4_v8 m ρ c)

/-- `v8` at boundary 6. -/
theorem at6_v8 : W6 m ρ c (Proc.devRef .tc main_v8) = (fun j => a11 m c (ix3 0 (j 0) (j 1)) : FVec Ideal S4096x4096 .f32) :=
  (W6_of m ρ c main_v8 (by decide)).trans (at5_v8 m ρ c)

/-- `v8` at boundary 7. -/
theorem at7_v8 : W7 m ρ c (Proc.devRef .tc main_v8) = (fun j => a11 m c (ix3 0 (j 0) (j 1)) : FVec Ideal S4096x4096 .f32) :=
  (W7_of m ρ c main_v8 (by decide)).trans (at6_v8 m ρ c)

/-- `v24_0` after region 5. -/
theorem cf_v24_0 : W8 m ρ c (Proc.devRef .tc main_v24_0) = (fun j => a11 m c (ix3 0 (j 0) (j 1)) : FVec Ideal S4096x4096 .bf16) := by
  refine (W8_arr m ρ c 4).trans ((fin5_4 (V7 m ρ) c).trans ?_)
  show g5_4 (W7 m ρ c (Proc.devRef .tc main_v8)) = _
  rw [(at7_v8 m ρ c)]
  funext j
  pointwise [g5_4]
  try blk_point []
  all_goals exact congrArg Ideal.exp (zero_sub _)

/-- `v14` at boundary 7. -/
theorem at7_v14 : W7 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W7_of m ρ c main_v14 (by decide)).trans (at6_v14 m ρ c)

/-- `v20_0` at boundary 7. -/
theorem at7_v20_0 : W7 m ρ c (Proc.devRef .tc main_v20_0) = (fun j => a5 m c (ix3 0 (j 0) ⟨(j 1).val, by have h1 := (j 1).isLt; simp at h1; omega⟩) : FVec Ideal S4096x16384 .bf16) :=
  (W7_of m ρ c main_v20_0 (by decide)).trans (at6_v20_0 m ρ c)

/-- `v2` at boundary 7. -/
theorem at7_v2 : W7 m ρ c (Proc.devRef .tc main_v2) = (fun j => a6 m c (ix2 0 (j 1)) : FVec Ideal S1x24576 .f32) :=
  (W7_of m ρ c main_v2 (by decide)).trans (at6_v2 m ρ c)

/-- `v24_1` after region 5. -/
theorem cf_v24_1 : W8 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) := by
  refine (W8_arr m ρ c 5).trans ((fin5_5 (V7 m ρ) c).trans ?_)
  show g5_5 (W7 m ρ c (Proc.devRef .tc main_v14)) (W7 m ρ c (Proc.devRef .tc main_v20_0)) (W7 m ρ c (Proc.devRef .tc main_v2)) = _
  rw [(at7_v14 m ρ c), (at7_v20_0 m ρ c), (at7_v2 m ρ c)]
  funext j
  pointwise [g5_5, sg, proj]
  try blk_point []
  all_goals exact congrArg Ideal.exp (zero_sub _)

/-- `v7` at boundary 2. -/
theorem at2_v7 : W2 m ρ c (Proc.devRef .tc main_v7) = (fun j => a10 m c (ix3 0 (j 0) (j 1)) : FVec Ideal S2048x4096 .f32) :=
  (W2_of m ρ c main_v7 (by decide)).trans (cf_v7 m ρ c)

/-- `v7` at boundary 3. -/
theorem at3_v7 : W3 m ρ c (Proc.devRef .tc main_v7) = (fun j => a10 m c (ix3 0 (j 0) (j 1)) : FVec Ideal S2048x4096 .f32) :=
  (W3_of m ρ c main_v7 (by decide)).trans (at2_v7 m ρ c)

/-- `v7` at boundary 4. -/
theorem at4_v7 : W4 m ρ c (Proc.devRef .tc main_v7) = (fun j => a10 m c (ix3 0 (j 0) (j 1)) : FVec Ideal S2048x4096 .f32) :=
  (W4_of m ρ c main_v7 (by decide)).trans (at3_v7 m ρ c)

/-- `v7` at boundary 5. -/
theorem at5_v7 : W5 m ρ c (Proc.devRef .tc main_v7) = (fun j => a10 m c (ix3 0 (j 0) (j 1)) : FVec Ideal S2048x4096 .f32) :=
  (W5_of m ρ c main_v7 (by decide)).trans (at4_v7 m ρ c)

/-- `v7` at boundary 6. -/
theorem at6_v7 : W6 m ρ c (Proc.devRef .tc main_v7) = (fun j => a10 m c (ix3 0 (j 0) (j 1)) : FVec Ideal S2048x4096 .f32) :=
  (W6_of m ρ c main_v7 (by decide)).trans (at5_v7 m ρ c)

/-- `v7` at boundary 7. -/
theorem at7_v7 : W7 m ρ c (Proc.devRef .tc main_v7) = (fun j => a10 m c (ix3 0 (j 0) (j 1)) : FVec Ideal S2048x4096 .f32) :=
  (W7_of m ρ c main_v7 (by decide)).trans (at6_v7 m ρ c)

/-- `v7` at boundary 8. -/
theorem at8_v7 : W8 m ρ c (Proc.devRef .tc main_v7) = (fun j => a10 m c (ix3 0 (j 0) (j 1)) : FVec Ideal S2048x4096 .f32) :=
  (W8_of m ρ c main_v7 (by decide)).trans (at7_v7 m ρ c)

/-- `v25_0` after region 6. -/
theorem cf_v25_0 : W9 m ρ c (Proc.devRef .tc main_v25_0) = (fun j => a10 m c (ix3 0 (j 0) (j 1)) : FVec Ideal S2048x4096 .bf16) := by
  refine (W9_arr m ρ c 6).trans ((fin6_6 (V8 m ρ) c).trans ?_)
  show g6_6 (W8 m ρ c (Proc.devRef .tc main_v7)) = _
  rw [(at8_v7 m ρ c)]
  funext j
  pointwise [g6_6]
  try blk_point []
  all_goals exact congrArg Ideal.exp (zero_sub _)

/-- `v14` at boundary 8. -/
theorem at8_v14 : W8 m ρ c (Proc.devRef .tc main_v14) = (fun j => a0 m c (ix3 ⟨(j 0).val / 2048, by have h0 := (j 0).isLt; simp at h0; omega⟩ ⟨(j 0).val % 2048, by omega⟩ (j 1)) : FVec Ideal S8192x4096 .bf16) :=
  (W8_of m ρ c main_v14 (by decide)).trans (at7_v14 m ρ c)

/-- `v20_0` at boundary 8. -/
theorem at8_v20_0 : W8 m ρ c (Proc.devRef .tc main_v20_0) = (fun j => a5 m c (ix3 0 (j 0) ⟨(j 1).val, by have h1 := (j 1).isLt; simp at h1; omega⟩) : FVec Ideal S4096x16384 .bf16) :=
  (W8_of m ρ c main_v20_0 (by decide)).trans (at7_v20_0 m ρ c)

/-- `v2` at boundary 8. -/
theorem at8_v2 : W8 m ρ c (Proc.devRef .tc main_v2) = (fun j => a6 m c (ix2 0 (j 1)) : FVec Ideal S1x24576 .f32) :=
  (W8_of m ρ c main_v2 (by decide)).trans (at7_v2 m ρ c)

/-- `v25_1` after region 6. -/
theorem cf_v25_1 : W9 m ρ c (Proc.devRef .tc main_v25_1) = (fun j => gateB (P0 m c) ⟨(j 0).val / 2048, by have h0 := (j 0).isLt; simp at h0; omega⟩ ⟨(j 0).val % 2048, by omega⟩ (j 1) : FVec Ideal S8192x2048 .bf16) := by
  refine (W9_arr m ρ c 7).trans ((fin6_7 (V8 m ρ) c).trans ?_)
  show g6_7 (W8 m ρ c (Proc.devRef .tc main_v14)) (W8 m ρ c (Proc.devRef .tc main_v20_0)) (W8 m ρ c (Proc.devRef .tc main_v2)) = _
  rw [(at8_v14 m ρ c), (at8_v20_0 m ρ c), (at8_v2 m ρ c)]
  funext j
  pointwise [g6_7, gateB, sg, proj]
  try blk_point []
  all_goals exact congrArg Ideal.exp (zero_sub _)

end Cert.KernelIdeal.Val
-- ==== Proof.Val.R7.lean ====
module

public import proofs.«01_k».proof.Proof.Gen.KernelIdeal.Frame.Region7
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 7's windows at every grid point. -/
theorem idx7 : ∀ t : Fin cfg7.N, win7_0.index t = ![t.val / 4, t.val % 4] ∧ win7_1.index t = ![t.val / 4, t.val % 4] ∧ win7_2.index t = ![t.val / 4, 0, t.val % 4] ∧ win7_3.index t = ![0, t.val % 4] ∧ win7_4.index t = ![0, t.val % 4] ∧ win7_5.index t = ![t.val / 4, t.val % 4] ∧ win7_6.index t = ![t.val / 4, 0, t.val % 4] :=
  (by decide +kernel : ∀ t : Fin grid7.N, _)

/-- A select on the equality of two small words is the `if` on the numbers. -/
theorem select_eq_if7 {α : Type} (n m : ℕ) (hn : n < 2 ^ 32) (hm : m < 2 ^ 32) (a b : α) :
    Scalar.select (IntOp.cmpi .eq (BitVec.ofNat 32 n) (BitVec.ofNat 32 m)) a b = if n = m then a else b := by
  have e : (BitVec.ofNat 32 n = BitVec.ofNat 32 m) ↔ n = m := by
    constructor
    · intro h
      have := congrArg BitVec.toNat h
      simp only [BitVec.toNat_ofNat] at this; omega
    · rintro rfl; rfl
  by_cases h : n = m
  · subst h; simp [IntOp.cmpi, Scalar.select]
  · have h' : (BitVec.ofNat 32 n == BitVec.ofNat 32 m) = false := beq_eq_false_iff_ne.mpr fun q => h (e.1 q)
    simp [IntOp.cmpi, Scalar.select, h, h']

/-- The gate times the causal convolution of width three along the rows of a batch entry; the rows before the first
come from the state. -/
abbrev g7_5 (U : FVec Ideal S8192x2048 .f32) (G : FVec Ideal S8192x2048 .bf16) (P : FVec Ideal S4x2x2048 .f32)
    (w : FVec Ideal S3x2048 .f32) (b : FVec Ideal S1x2048 .f32) : FVec Ideal S8192x2048 .bf16 :=
  fun j => G (ix2 (j 0) (j 1)) * (b (ix2 0 (j 1))
    + (if (j 0).val % 2048 = 0 then P (ix3 ⟨(j 0).val / 2048, by have h0 := (j 0).isLt; simp at h0; omega⟩ 0 (j 1)) else if (j 0).val % 2048 = 1 then P (ix3 ⟨(j 0).val / 2048, by have h0 := (j 0).isLt; simp at h0; omega⟩ 1 (j 1))
        else U (ix2 ⟨(j 0).val - 2, by have h0 := (j 0).isLt; simp at h0; omega⟩ (j 1))) * w (ix2 0 (j 1))
    + (if (j 0).val % 2048 = 0 then P (ix3 ⟨(j 0).val / 2048, by have h0 := (j 0).isLt; simp at h0; omega⟩ 1 (j 1)) else U (ix2 ⟨(j 0).val - 1, by have h0 := (j 0).isLt; simp at h0; omega⟩ (j 1))) * w (ix2 1 (j 1))
    + U (ix2 (j 0) (j 1)) * w (ix2 2 (j 1)))

/-- The last two rows of every batch entry. -/
abbrev g7_6 (U : FVec Ideal S8192x2048 .f32) : FVec Ideal S4x2x2048 .f32 :=
  fun j => U (ix2 ⟨(j 0).val * 2048 + (2046 + (j 1).val), by have h0 := (j 0).isLt; have h1 := (j 1).isLt; simp at h0 h1; omega⟩ (j 2))

set_option maxHeartbeats 2000000 in
/-- What region 7's body stores for window 5 at an index of the block is that function at the index it is written to. -/
theorem pt7_5 (c : Dev nD) (t : Fin cfg7.N) (y) :
    k7_pay1 (k7_pay3 (iblk7 V c 0 t)) (k7_pay4 (iblk7 V c 0 t) (iblk7 V c 2 t) (iblk7 V c 4 t) (View.ld (iblk7 V c 3 t) r7_3) (View.ld (iblk7 V c 3 t) r7_4)) (k7_pay5 (View.ld (iblk7 V c 3 t) r7_5)) (iblk7 V c 1 t) y
    = g7_5 (V c main_v18_1) (V c main_v25_1) (V c main_v26) (V c main_v3) (V c main_v5) (((cfg7.win 5).blk t).view.emb y) := by
  pointwise [k7_pay1, k7_pay3, k7_pay4, k7_pay5, g7_5]
  blk_point [iblk7, idx7 t]
  all_goals
    have hm : (t.val / 4 * 2048 + (y 0).val) % 2048 = (y 0).val := by omega
    simp only [select_eq_if7 _ 0 (show (y 0).val < 2 ^ 32 by omega) (by omega), select_eq_if7 _ 1 (show (y 0).val < 2 ^ 32 by omega) (by omega), hm]
    split_ifs with h0 h1 <;> blk_point [iblk7, idx7 t]

/-- The array of window 5 after region 7. -/
theorem fin7_5 (c : Dev nD) : (dat7 V c).arrAt 5 cfg7.N = g7_5 (V c main_v18_1) (V c main_v25_1) (V c main_v26) (V c main_v3) (V c main_v5) := by
  refine (dat7 V c).arrAt_eq_of_covers 5 _ (by decide +kernel) fun t _ y => ?_
  blk_simp
  rw [after7_5]; frame_out
  exact pt7_5 V c t y

/-- What region 7's body stores for window 6 at an index of the block is that function at the index it is written to. -/
theorem pt7_6 (c : Dev nD) (t : Fin cfg7.N) (y) : k7_pay2 (View.ld (iblk7 V c 0 t) r7_6) y
    = g7_6 (V c main_v18_1) (((cfg7.win 6).blk t).view.emb y) := by
  pointwise [k7_pay2, g7_6]
  blk_point [iblk7, idx7 t]

/-- The array of window 6 after region 7. -/
theorem fin7_6 (c : Dev nD) : (dat7 V c).arrAt 6 cfg7.N = g7_6 (V c main_v18_1) := by
  refine (dat7 V c).arrAt_eq_of_covers 6 _ (by decide +kernel) fun t _ y => ?_
  blk_simp
  rw [after7_6]; frame_out
  exact pt7_6 V c t y

end Cert.KernelIdeal.Val
-- ==== Proof.Val.R8.lean ====
module

public import proofs.«01_k».proof.Proof.Gen.KernelIdeal.Frame.Region8
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 8's windows at every grid point. -/
theorem idx8 : ∀ t : Fin cfg8.N, win8_0.index t = ![t.val / 4, 0] ∧ win8_1.index t = ![t.val / 4, 0] ∧ win8_2.index t = ![0, t.val % 4] ∧ win8_3.index t = ![0, t.val % 4] ∧ win8_4.index t = ![t.val / 4, t.val % 4] ∧ win8_5.index t = ![t.val / 4, 4 + t.val % 4] ∧ win8_6.index t = ![t.val / 4, t.val % 4] :=
  (by decide +kernel : ∀ t : Fin grid8.N, _)

/-- The two products with the output weights, each times its gate, added. -/
abbrev g8_6 (A : FVec Ideal S8192x2048 .bf16) (B : FVec Ideal S8192x2048 .bf16) (U : FVec Ideal S2048x4096 .bf16) (W : FVec Ideal S2048x4096 .bf16) (G : FVec Ideal S8192x8192 .bf16) : FVec Ideal S8192x4096 .bf16 :=
  fun j => G (ix2 (j 0) ⟨(j 1).val, by have h0 := (j 0).isLt; have h1 := (j 1).isLt; simp at h0 h1; omega⟩) * (∑ k : Fin 2048, A (ix2 (j 0) k) * U (ix2 k (j 1))) + G (ix2 (j 0) ⟨4096 + (j 1).val, by have h0 := (j 0).isLt; have h1 := (j 1).isLt; simp at h0 h1; omega⟩) * (∑ k : Fin 2048, B (ix2 (j 0) k) * W (ix2 k (j 1)))

/-- What region 8's body stores for window 6 at an index of the block is that function at the index it is written to. -/
theorem pt8_6 (c : Dev nD) (t : Fin cfg8.N) (y) : k8_pay1 (iblk8 V c 0 t) (iblk8 V c 2 t) (iblk8 V c 1 t) (iblk8 V c 3 t) (iblk8 V c 4 t) (iblk8 V c 5 t) y
    = g8_6 (V c main_arg2) (V c main_v27_0) (V c main_v21_0) (V c main_v25_0) (V c main_v20_1) (((cfg8.win 6).blk t).view.emb y) := by
  pointwise [k8_pay1, g8_6]
  blk_point [iblk8, idx8 t]

/-- The array of window 6 after region 8. -/
theorem fin8_6 (c : Dev nD) : (dat8 V c).arrAt 6 cfg8.N = g8_6 (V c main_arg2) (V c main_v27_0) (V c main_v21_0) (V c main_v25_0) (V c main_v20_1) := by
  refine (dat8 V c).arrAt_eq_of_covers 6 _ (by decide +kernel) fun t _ y => ?_
  blk_simp
  rw [after8_6]; frame_out
  exact pt8_6 V c t y

end Cert.KernelIdeal.Val
-- ==== Proof.Val.R9.lean ====
module

public import proofs.«01_k».proof.Proof.Gen.KernelIdeal.Frame.Region9
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 9's windows at every grid point. -/
theorem idx9 : ∀ t : Fin cfg9.N, win9_0.index t = ![t.val, 0] ∧ win9_1.index t = ![0, 0] ∧ win9_2.index t = ![t.val, 0] ∧ win9_3.index t = ![0, 0] ∧ win9_4.index t = ![0, 0] ∧ win9_5.index t = ![t.val, 0] :=
  (by decide +kernel : ∀ t : Fin grid9.N, _)

/-- The layer norm of the scaled input plus the product with the output weight. -/
abbrev g9_5 (A : FVec Ideal S8192x4096 .bf16) (W : FVec Ideal S4096x4096 .bf16) (X : FVec Ideal S8192x4096 .f32) (g : FVec Ideal S1x4096 .f32) (b : FVec Ideal S1x4096 .f32) : FVec Ideal S8192x4096 .f32 :=
  fun j => ((Ideal.ofBits .f32 0x3F9837F0#32 * X (ix2 (j 0) (j 1)) + ∑ k : Fin 4096, A (ix2 (j 0) k) * W (ix2 k (j 1))) - Ideal.div (∑ n : Fin 4096, (Ideal.ofBits .f32 0x3F9837F0#32 * X (ix2 (j 0) n) + ∑ k : Fin 4096, A (ix2 (j 0) k) * W (ix2 k n))) (Ideal.ofBits .f32 0x45800000#32)) * Ideal.rsqrt (Ideal.div (∑ l : Fin 4096, ((Ideal.ofBits .f32 0x3F9837F0#32 * X (ix2 (j 0) l) + ∑ k : Fin 4096, A (ix2 (j 0) k) * W (ix2 k l)) - Ideal.div (∑ n : Fin 4096, (Ideal.ofBits .f32 0x3F9837F0#32 * X (ix2 (j 0) n) + ∑ k : Fin 4096, A (ix2 (j 0) k) * W (ix2 k n))) (Ideal.ofBits .f32 0x45800000#32)) * ((Ideal.ofBits .f32 0x3F9837F0#32 * X (ix2 (j 0) l) + ∑ k : Fin 4096, A (ix2 (j 0) k) * W (ix2 k l)) - Ideal.div (∑ n : Fin 4096, (Ideal.ofBits .f32 0x3F9837F0#32 * X (ix2 (j 0) n) + ∑ k : Fin 4096, A (ix2 (j 0) k) * W (ix2 k n))) (Ideal.ofBits .f32 0x45800000#32))) (Ideal.ofBits .f32 0x45800000#32) + Ideal.ofBits .f32 0x3727C5AC#32) * g (ix2 0 (j 1)) + b (ix2 0 (j 1))

/-- What region 9's body stores for window 5 at an index of the block is that function at the index it is written to. -/
theorem pt9_5 (c : Dev nD) (t : Fin cfg9.N) (y) : k9_pay1 (iblk9 V c 2 t) (iblk9 V c 0 t) (iblk9 V c 1 t) (iblk9 V c 3 t) (iblk9 V c 4 t) y
    = g9_5 (V c main_v28) (V c main_v24_0) (V c main_v13) (V c main_v10) (V c main_v12) (((cfg9.win 5).blk t).view.emb y) := by
  pointwise [k9_pay1, g9_5]
  blk_point [iblk9, idx9 t]

/-- The array of window 5 after region 9. -/
theorem fin9_5 (c : Dev nD) : (dat9 V c).arrAt 5 cfg9.N = g9_5 (V c main_v28) (V c main_v24_0) (V c main_v13) (V c main_v10) (V c main_v12) := by
  refine (dat9 V c).arrAt_eq_of_covers 5 _ (by decide +kernel) fun t _ y => ?_
  blk_simp
  rw [after9_5]; frame_out
  exact pt9_5 V c t y

end Cert.KernelIdeal.Val
-- ==== Proof.Val.C1.lean ====
module

public import proofs.«01_k».proof.Proof.Val.Math
public import proofs.«01_k».proof.Proof.Gen.KernelIdeal.Frame.Fold0
public import Idealize.ShloMosaic.Lib.StableHlo.RunRead
public import proofs.«01_k».proof.Proof.Val.C0
public import proofs.«01_k».proof.Proof.Val.R7
public import proofs.«01_k».proof.Proof.Val.R8
public import proofs.«01_k».proof.Proof.Val.R9

@[expose] public section

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.Layer

variable (m : (ℓ : Loc nD τ sig) → Buf (Elt Ideal) ℓ) (ρ : Dev nD → PrngReg) (c : Dev nD)

/-- `v26` after its stretch of host operations. -/
theorem cf_v26 : W10 m ρ c (Proc.devRef .tc main_v26) = (fun _ => 0 : FVec Ideal S4x2x2048 .f32) := by
  show StableHlo.after hostOps7 (W9 m ρ c) (Proc.devRef .tc main_v26) = _
  after_reads_simp
  funext j
  pointwise

/-- `v18_1` at boundary 3. -/
theorem at3_v18_1 : W3 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W3_of m ρ c main_v18_1 (by decide)).trans (cf_v18_1 m ρ c)

/-- `v18_1` at boundary 4. -/
theorem at4_v18_1 : W4 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W4_of m ρ c main_v18_1 (by decide)).trans (at3_v18_1 m ρ c)

/-- `v18_1` at boundary 5. -/
theorem at5_v18_1 : W5 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W5_of m ρ c main_v18_1 (by decide)).trans (at4_v18_1 m ρ c)

/-- `v18_1` at boundary 6. -/
theorem at6_v18_1 : W6 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W6_of m ρ c main_v18_1 (by decide)).trans (at5_v18_1 m ρ c)

/-- `v18_1` at boundary 7. -/
theorem at7_v18_1 : W7 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W7_of m ρ c main_v18_1 (by decide)).trans (at6_v18_1 m ρ c)

/-- `v18_1` at boundary 8. -/
theorem at8_v18_1 : W8 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W8_of m ρ c main_v18_1 (by decide)).trans (at7_v18_1 m ρ c)

/-- `v18_1` at boundary 9. -/
theorem at9_v18_1 : W9 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W9_of m ρ c main_v18_1 (by decide)).trans (at8_v18_1 m ρ c)

/-- `v18_1` at boundary 10. -/
theorem at10_v18_1 : W10 m ρ c (Proc.devRef .tc main_v18_1) = (fun j => uu (P0 m c) ⟨(j 0).val / 2048, by have h0 := (j 0).isLt; simp at h0; omega⟩ ⟨(j 0).val % 2048, by omega⟩ (j 1) : FVec Ideal S8192x2048 .f32) :=
  (W10_of m ρ c main_v18_1 (by decide)).trans (at9_v18_1 m ρ c)

/-- `v25_1` at boundary 10. -/
theorem at10_v25_1 : W10 m ρ c (Proc.devRef .tc main_v25_1) = (fun j => gateB (P0 m c) ⟨(j 0).val / 2048, by have h0 := (j 0).isLt; simp at h0; omega⟩ ⟨(j 0).val % 2048, by omega⟩ (j 1) : FVec Ideal S8192x2048 .bf16) :=
  (W10_of m ρ c main_v25_1 (by decide)).trans (cf_v25_1 m ρ c)

/-- `v3` at boundary 2. -/
theorem at2_v3 : W2 m ρ c (Proc.devRef .tc main_v3) = (fun j => a7 m c (ix3 0 (j 0) (j 1)) : FVec Ideal S3x2048 .f32) :=
  (W2_of m ρ c main_v3 (by decide)).trans (cf_v3 m ρ c)

/-- `v3` at boundary 3. -/
theorem at3_v3 : W3 m ρ c (Proc.devRef .tc main_v3) = (fun j => a7 m c (ix3 0 (j 0) (j 1)) : FVec Ideal S3x2048 .f32) :=
  (W3_of m ρ c main_v3 (by decide)).trans (at2_v3 m ρ c)

/-- `v3` at boundary 4. -/
theorem at4_v3 : W4 m ρ c (Proc.devRef .tc main_v3) = (fun j => a7 m c (ix3 0 (j 0) (j 1)) : FVec Ideal S3x2048 .f32) :=
  (W4_of m ρ c main_v3 (by decide)).trans (at3_v3 m ρ c)

/-- `v3` at boundary 5. -/
theorem at5_v3 : W5 m ρ c (Proc.devRef .tc main_v3) = (fun j => a7 m c (ix3 0 (j 0) (j 1)) : FVec Ideal S3x2048 .f32) :=
  (W5_of m ρ c main_v3 (by decide)).trans (at4_v3 m ρ c)

/-- `v3` at boundary 6. -/
theorem at6_v3 : W6 m ρ c (Proc.devRef .tc main_v3) = (fun j => a7 m c (ix3 0 (j 0) (j 1)) : FVec Ideal S3x2048 .f32) :=
  (W6_of m ρ c main_v3 (by decide)).trans (at5_v3 m ρ c)

/-- `v3` at boundary 7. -/
theorem at7_v3 : W7 m ρ c (Proc.devRef .tc main_v3) = (fun j => a7 m c (ix3 0 (j 0) (j 1)) : FVec Ideal S3x2048 .f32) :=
  (W7_of m ρ c main_v3 (by decide)).trans (at6_v3 m ρ c)

/-- `v3` at boundary 8. -/
theorem at8_v3 : W8 m ρ c (Proc.devRef .tc main_v3) = (fun j => a7 m c (ix3 0 (j 0) (j 1)) : FVec Ideal S3x2048 .f32) :=
  (W8_of m ρ c main_v3 (by decide)).trans (at7_v3 m ρ c)

/-- `v3` at boundary 9. -/
theorem at9_v3 : W9 m ρ c (Proc.devRef .tc main_v3) = (fun j => a7 m c (ix3 0 (j 0) (j 1)) : FVec Ideal S3x2048 .f32) :=
  (W9_of m ρ c main_v3 (by decide)).trans (at8_v3 m ρ c)

/-- `v3` at boundary 10. -/
theorem at10_v3 : W10 m ρ c (Proc.devRef .tc main_v3) = (fun j => a7 m c (ix3 0 (j 0) (j 1)) : FVec Ideal S3x2048 .f32) :=
  (W10_of m ρ c main_v3 (by decide)).trans (at9_v3 m ρ c)

/-- `v5` at boundary 2. -/
theorem at2_v5 : W2 m ρ c (Proc.devRef .tc main_v5) = (fun j => a8 m c (ix2 0 (j 1)) : FVec Ideal S1x2048 .f32) :=
  (W2_of m ρ c main_v5 (by decide)).trans (cf_v5 m ρ c)

/-- `v5` at boundary 3. -/
theorem at3_v5 : W3 m ρ c (Proc.devRef .tc main_v5) = (fun j => a8 m c (ix2 0 (j 1)) : FVec Ideal S1x2048 .f32) :=
  (W3_of m ρ c main_v5 (by decide)).trans (at2_v5 m ρ c)

/-- `v5` at boundary 4. -/
theorem at4_v5 : W4 m ρ c (Proc.devRef .tc main_v5) = (fun j => a8 m c (ix2 0 (j 1)) : FVec Ideal S1x2048 .f32) :=
  (W4_of m ρ c main_v5 (by decide)).trans (at3_v5 m ρ c)

/-- `v5` at boundary 5. -/
theorem at5_v5 : W5 m ρ c (Proc.devRef .tc main_v5) = (fun j => a8 m c (ix2 0 (j 1)) : FVec Ideal S1x2048 .f32) :=
  (W5_of m ρ c main_v5 (by decide)).trans (at4_v5 m ρ c)

/-- `v5` at boundary 6. -/
theorem at6_v5 : W6 m ρ c (Proc.devRef .tc main_v5) = (fun j => a8 m c (ix2 0 (j 1)) : FVec Ideal S1x2048 .f32) :=
  (W6_of m ρ c main_v5 (by decide)).trans (at5_v5 m ρ c)

/-- `v5` at boundary 7. -/
theorem at7_v5 : W7 m ρ c (Proc.devRef .tc main_v5) = (fun j => a8 m c (ix2 0 (j 1)) : FVec Ideal S1x2048 .f32) :=
  (W7_of m ρ c main_v5 (by decide)).trans (at6_v5 m ρ c)

/-- `v5` at boundary 8. -/
theorem at8_v5 : W8 m ρ c (Proc.devRef .tc main_v5) = (fun j => a8 m c (ix2 0 (j 1)) : FVec Ideal S1x2048 .f32) :=
  (W8_of m ρ c main_v5 (by decide)).trans (at7_v5 m ρ c)

/-- `v5` at boundary 9. -/
theorem at9_v5 : W9 m ρ c (Proc.devRef .tc main_v5) = (fun j => a8 m c (ix2 0 (j 1)) : FVec Ideal S1x2048 .f32) :=
  (W9_of m ρ c main_v5 (by decide)).trans (at8_v5 m ρ c)

/-- `v5` at boundary 10. -/
theorem at10_v5 : W10 m ρ c (Proc.devRef .tc main_v5) = (fun j => a8 m c (ix2 0 (j 1)) : FVec Ideal S1x2048 .f32) :=
  (W10_of m ρ c main_v5 (by decide)).trans (at9_v5 m ρ c)

/-- `v27_0` after region 7. -/
theorem cf_v27_0 : W11 m ρ c (Proc.devRef .tc main_v27_0) = (fun j => yb0 m c ⟨(j 0).val / 2048, by have h0 := (j 0).isLt; simp at h0; omega⟩ ⟨(j 0).val % 2048, by omega⟩ (j 1) : FVec Ideal S8192x2048 .bf16) := by
  refine (W11_arr m ρ c 5).trans ((fin7_5 (V10 m ρ) c).trans ?_)
  show g7_5 (W10 m ρ c (Proc.devRef .tc main_v18_1)) (W10 m ρ c (Proc.devRef .tc main_v25_1)) (W10 m ρ c (Proc.devRef .tc main_v26)) (W10 m ρ c (Proc.devRef .tc main_v3)) (W10 m ρ c (Proc.devRef .tc main_v5)) = _
  rw [(at10_v18_1 m ρ c), (at10_v25_1 m ρ c), (cf_v26 m ρ c), (at10_v3 m ρ c), (at10_v5 m ρ c)]
  funext j
  have hj : (j 0).val < 8192 := (j 0).isLt
  have e1 : ¬ (j 0).val % 2048 = 0 → uu (P0 m c) ⟨((j 0).val - 1) / 2048, by omega⟩ ⟨((j 0).val - 1) % 2048, by omega⟩ (j 1)
      = uu (P0 m c) ⟨(j 0).val / 2048, by omega⟩ ⟨(j 0).val % 2048 - 1, by omega⟩ (j 1) := fun h =>
    congrArg₂ (fun b t => uu (P0 m c) b t (j 1)) (Fin.ext (by show ((j 0).val - 1) / 2048 = (j 0).val / 2048; omega))
      (Fin.ext (by show ((j 0).val - 1) % 2048 = (j 0).val % 2048 - 1; omega))
  have e2 : ¬ (j 0).val % 2048 = 0 → ¬ (j 0).val % 2048 = 1 → uu (P0 m c) ⟨((j 0).val - 2) / 2048, by omega⟩ ⟨((j 0).val - 2) % 2048, by omega⟩ (j 1)
      = uu (P0 m c) ⟨(j 0).val / 2048, by omega⟩ ⟨(j 0).val % 2048 - 2, by omega⟩ (j 1) := fun h h' =>
    congrArg₂ (fun b t => uu (P0 m c) b t (j 1)) (Fin.ext (by show ((j 0).val - 2) / 2048 = (j 0).val / 2048; omega))
      (Fin.ext (by show ((j 0).val - 2) % 2048 = (j 0).val % 2048 - 2; omega))
  refine yb_eq (P0 m c) (past0) (a7 m c) (a8 m c) ⟨(j 0).val / 2048, by omega⟩ ⟨(j 0).val % 2048, by omega⟩ (j 1) _ _ ?_ ?_
  · by_cases h0 : (j 0).val % 2048 = 0
    · exact (if_pos h0).trans (if_pos h0).symm
    · by_cases h1 : (j 0).val % 2048 = 1
      · exact ((if_neg h0).trans (if_pos h1)).trans ((if_neg h0).trans (if_pos h1)).symm
      · exact ((if_neg h0).trans (if_neg h1)).trans ((e2 h0 h1).trans ((if_neg h0).trans (if_neg h1)).symm)
  · by_cases h0 : (j 0).val % 2048 = 0
    · exact (if_pos h0).trans (if_pos h0).symm
    · exact (if_neg h0).trans ((e1 h0).trans (if_neg h0).symm)

/-- `v27_1` after region 7. -/
theorem cf_v27_1 : W11 m ρ c (Proc.devRef .tc main_v27_1) = (fun j => uu (P0 m c) (j 0) ⟨2046 + (j 1).val, by have h1 := (j 1).isLt; simp at h1; omega⟩ (j 2) : FVec Ideal S4x2x2048 .f32) := by
  refine (W11_arr m ρ c 6).trans ((fin7_6 (V10 m ρ) c).trans ?_)
  show g7_6 (W10 m ρ c (Proc.devRef .tc main_v18_1)) = _
  rw [(at10_v18_1 m ρ c)]
  funext j
  have h0 : (j 0).val < 4 := (j 0).isLt
  have h1 : (j 1).val < 2 := (j 1).isLt
  exact congrArg₂ (fun b t => uu (P0 m c) b t (j 2)) (Fin.ext (by show ((j 0).val * 2048 + (2046 + (j 1).val)) / 2048 = (j 0).val; omega))
    (Fin.ext (by show ((j 0).val * 2048 + (2046 + (j 1).val)) % 2048 = 2046 + (j 1).val; omega))

/-- `v21_0` at boundary 6. -/
theorem at6_v21_0 : W6 m ρ c (Proc.devRef .tc main_v21_0) = (fun j => a9 m c (ix3 0 (j 0) (j 1)) : FVec Ideal S2048x4096 .bf16) :=
  (W6_of m ρ c main_v21_0 (by decide)).trans (cf_v21_0 m ρ c)

/-- `v21_0` at boundary 7. -/
theorem at7_v21_0 : W7 m ρ c (Proc.devRef .tc main_v21_0) = (fun j => a9 m c (ix3 0 (j 0) (j 1)) : FVec Ideal S2048x4096 .bf16) :=
  (W7_of m ρ c main_v21_0 (by decide)).trans (at6_v21_0 m ρ c)

/-- `v21_0` at boundary 8. -/
theorem at8_v21_0 : W8 m ρ c (Proc.devRef .tc main_v21_0) = (fun j => a9 m c (ix3 0 (j 0) (j 1)) : FVec Ideal S2048x4096 .bf16) :=
  (W8_of m ρ c main_v21_0 (by decide)).trans (at7_v21_0 m ρ c)

/-- `v21_0` at boundary 9. -/
theorem at9_v21_0 : W9 m ρ c (Proc.devRef .tc main_v21_0) = (fun j => a9 m c (ix3 0 (j 0) (j 1)) : FVec Ideal S2048x4096 .bf16) :=
  (W9_of m ρ c main_v21_0 (by decide)).trans (at8_v21_0 m ρ c)

/-- `v21_0` at boundary 10. -/
theorem at10_v21_0 : W10 m ρ c (Proc.devRef .tc main_v21_0) = (fun j => a9 m c (ix3 0 (j 0) (j 1)) : FVec Ideal S2048x4096 .bf16) :=
  (W10_of m ρ c main_v21_0 (by decide)).trans (at9_v21_0 m ρ c)

/-- `v21_0` at boundary 11. -/
theorem at11_v21_0 : W11 m ρ c (Proc.devRef .tc main_v21_0) = (fun j => a9 m c (ix3 0 (j 0) (j 1)) : FVec Ideal S2048x4096 .bf16) :=
  (W11_of m ρ c main_v21_0 (by decide)).trans (at10_v21_0 m ρ c)

/-- `v25_0` at boundary 10. -/
theorem at10_v25_0 : W10 m ρ c (Proc.devRef .tc main_v25_0) = (fun j => a10 m c (ix3 0 (j 0) (j 1)) : FVec Ideal S2048x4096 .bf16) :=
  (W10_of m ρ c main_v25_0 (by decide)).trans (cf_v25_0 m ρ c)

/-- `v25_0` at boundary 11. -/
theorem at11_v25_0 : W11 m ρ c (Proc.devRef .tc main_v25_0) = (fun j => a10 m c (ix3 0 (j 0) (j 1)) : FVec Ideal S2048x4096 .bf16) :=
  (W11_of m ρ c main_v25_0 (by decide)).trans (at10_v25_0 m ρ c)

/-- `v20_1` at boundary 5. -/
theorem at5_v20_1 : W5 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W5_of m ρ c main_v20_1 (by decide)).trans (cf_v20_1 m ρ c)

/-- `v20_1` at boundary 6. -/
theorem at6_v20_1 : W6 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W6_of m ρ c main_v20_1 (by decide)).trans (at5_v20_1 m ρ c)

/-- `v20_1` at boundary 7. -/
theorem at7_v20_1 : W7 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W7_of m ρ c main_v20_1 (by decide)).trans (at6_v20_1 m ρ c)

/-- `v20_1` at boundary 8. -/
theorem at8_v20_1 : W8 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W8_of m ρ c main_v20_1 (by decide)).trans (at7_v20_1 m ρ c)

/-- `v20_1` at boundary 9. -/
theorem at9_v20_1 : W9 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W9_of m ρ c main_v20_1 (by decide)).trans (at8_v20_1 m ρ c)

/-- `v20_1` at boundary 10. -/
theorem at10_v20_1 : W10 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W10_of m ρ c main_v20_1 (by decide)).trans (at9_v20_1 m ρ c)

/-- `v20_1` at boundary 11. -/
theorem at11_v20_1 : W11 m ρ c (Proc.devRef .tc main_v20_1) = (fun j => sg (P0 m c ⟨(j 0).val / 2048, by have h0 := (j 0).isLt; simp at h0; omega⟩ ⟨(j 0).val % 2048, by omega⟩ ⟨16384 + (j 1).val, by have h1 := (j 1).isLt; simp at h1; omega⟩) : FVec Ideal S8192x8192 .bf16) :=
  (W11_of m ρ c main_v20_1 (by decide)).trans (at10_v20_1 m ρ c)

/-- `v28` after region 8. -/
theorem cf_v28 : W12 m ρ c (Proc.devRef .tc main_v28) = (fun j => mg0 m c ⟨(j 0).val / 2048, by have h0 := (j 0).isLt; simp at h0; omega⟩ ⟨(j 0).val % 2048, by omega⟩ (j 1) : FVec Ideal S8192x4096 .bf16) := by
  refine (W12_arr m ρ c 6).trans ((fin8_6 (V11 m ρ) c).trans ?_)
  show g8_6 (W11 m ρ c (Proc.devRef .tc main_arg2)) (W11 m ρ c (Proc.devRef .tc main_v27_0)) (W11 m ρ c (Proc.devRef .tc main_v21_0)) (W11 m ρ c (Proc.devRef .tc main_v25_0)) (W11 m ρ c (Proc.devRef .tc main_v20_1)) = _
  rw [show W11 m ρ c (Proc.devRef .tc main_arg2) = _ from (W11_args m ρ c main_arg2 (by decide)), (cf_v27_0 m ρ c), (at11_v21_0 m ρ c), (at11_v25_0 m ρ c), (at11_v20_1 m ρ c)]
  funext j
  have hj : (j 0).val < 8192 := (j 0).isLt
  have h1 : (j 1).val < 4096 := (j 1).isLt
  have eg : sg (P0 m c ⟨(j 0).val / 2048, by omega⟩ ⟨(j 0).val % 2048, by omega⟩ ⟨16384 + (4096 + (j 1).val), by omega⟩)
      = sg (P0 m c ⟨(j 0).val / 2048, by omega⟩ ⟨(j 0).val % 2048, by omega⟩ ⟨20480 + (j 1).val, by omega⟩) :=
    congrArg (fun n => sg (P0 m c _ _ n)) (Fin.ext (by show 16384 + (4096 + (j 1).val) = 20480 + (j 1).val; omega))
  have ey : ∀ k : Fin 2048, a2 m c (ix2 (j 0) k) = ya0 m c ⟨(j 0).val / 2048, by omega⟩ ⟨(j 0).val % 2048, by omega⟩ k := fun k =>
    congrArg (fun i => a2 m c (ix2 i k)) (Fin.ext (by show (j 0).val = (j 0).val / 2048 * 2048 + (j 0).val % 2048; omega))
  exact merged_eq (P0 m c) (ya0 m c) (yb0 m c) (a9 m c) (a10 m c) ⟨(j 0).val / 2048, by omega⟩ ⟨(j 0).val % 2048, by omega⟩ (j 1) _ _
    (Finset.sum_congr rfl fun k _ => congrArg (· * a9 m c (ix3 0 k (j 1))) (ey k)) eg

/-- `v24_0` at boundary 9. -/
theorem at9_v24_0 : W9 m ρ c (Proc.devRef .tc main_v24_0) = (fun j => a11 m c (ix3 0 (j 0) (j 1)) : FVec Ideal S4096x4096 .bf16) :=
  (W9_of m ρ c main_v24_0 (by decide)).trans (cf_v24_0 m ρ c)

/-- `v24_0` at boundary 10. -/
theorem at10_v24_0 : W10 m ρ c (Proc.devRef .tc main_v24_0) = (fun j => a11 m c (ix3 0 (j 0) (j 1)) : FVec Ideal S4096x4096 .bf16) :=
  (W10_of m ρ c main_v24_0 (by decide)).trans (at9_v24_0 m ρ c)

/-- `v24_0` at boundary 11. -/
theorem at11_v24_0 : W11 m ρ c (Proc.devRef .tc main_v24_0) = (fun j => a11 m c (ix3 0 (j 0) (j 1)) : FVec Ideal S4096x4096 .bf16) :=
  (W11_of m ρ c main_v24_0 (by decide)).trans (at10_v24_0 m ρ c)

/-- `v24_0` at boundary 12. -/
theorem at12_v24_0 : W12 m ρ c (Proc.devRef .tc main_v24_0) = (fun j => a11 m c (ix3 0 (j 0) (j 1)) : FVec Ideal S4096x4096 .bf16) :=
  (W12_of m ρ c main_v24_0 (by decide)).trans (at11_v24_0 m ρ c)

/-- `v13` at boundary 2. -/
theorem at2_v13 : W2 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W2_of m ρ c main_v13 (by decide)).trans (cf_v13 m ρ c)

/-- `v13` at boundary 3. -/
theorem at3_v13 : W3 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W3_of m ρ c main_v13 (by decide)).trans (at2_v13 m ρ c)

/-- `v13` at boundary 4. -/
theorem at4_v13 : W4 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W4_of m ρ c main_v13 (by decide)).trans (at3_v13 m ρ c)

/-- `v13` at boundary 5. -/
theorem at5_v13 : W5 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W5_of m ρ c main_v13 (by decide)).trans (at4_v13 m ρ c)

/-- `v13` at boundary 6. -/
theorem at6_v13 : W6 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W6_of m ρ c main_v13 (by decide)).trans (at5_v13 m ρ c)

/-- `v13` at boundary 7. -/
theorem at7_v13 : W7 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W7_of m ρ c main_v13 (by decide)).trans (at6_v13 m ρ c)

/-- `v13` at boundary 8. -/
theorem at8_v13 : W8 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W8_of m ρ c main_v13 (by decide)).trans (at7_v13 m ρ c)

/-- `v13` at boundary 9. -/
theorem at9_v13 : W9 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W9_of m ρ c main_v13 (by decide)).trans (at8_v13 m ρ c)

/-- `v13` at boundary 10. -/
theorem at10_v13 : W10 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W10_of m ρ c main_v13 (by decide)).trans (at9_v13 m ρ c)

/-- `v13` at boundary 11. -/
theorem at11_v13 : W11 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W11_of m ρ c main_v13 (by decide)).trans (at10_v13 m ρ c)

/-- `v13` at boundary 12. -/
theorem at12_v13 : W12 m ρ c (Proc.devRef .tc main_v13) = (fun j => a0 m c (ix3 ⟨(j 0).val / 2048, by have h0 := (j 0).isLt; simp at h0; omega⟩ ⟨(j 0).val % 2048, by omega⟩ (j 1)) : FVec Ideal S8192x4096 .f32) :=
  (W12_of m ρ c main_v13 (by decide)).trans (at11_v13 m ρ c)

/-- `v10` at boundary 2. -/
theorem at2_v10 : W2 m ρ c (Proc.devRef .tc main_v10) = (fun j => a12 m c (ix2 0 (j 1)) : FVec Ideal S1x4096 .f32) :=
  (W2_of m ρ c main_v10 (by decide)).trans (cf_v10 m ρ c)

/-- `v10` at boundary 3. -/
theorem at3_v10 : W3 m ρ c (Proc.devRef .tc main_v10) = (fun j => a12 m c (ix2 0 (j 1)) : FVec Ideal S1x4096 .f32) :=
  (W3_of m ρ c main_v10 (by decide)).trans (at2_v10 m ρ c)

/-- `v10` at boundary 4. -/
theorem at4_v10 : W4 m ρ c (Proc.devRef .tc main_v10) = (fun j => a12 m c (ix2 0 (j 1)) : FVec Ideal S1x4096 .f32) :=
  (W4_of m ρ c main_v10 (by decide)).trans (at3_v10 m ρ c)

/-- `v10` at boundary 5. -/
theorem at5_v10 : W5 m ρ c (Proc.devRef .tc main_v10) = (fun j => a12 m c (ix2 0 (j 1)) : FVec Ideal S1x4096 .f32) :=
  (W5_of m ρ c main_v10 (by decide)).trans (at4_v10 m ρ c)

/-- `v10` at boundary 6. -/
theorem at6_v10 : W6 m ρ c (Proc.devRef .tc main_v10) = (fun j => a12 m c (ix2 0 (j 1)) : FVec Ideal S1x4096 .f32) :=
  (W6_of m ρ c main_v10 (by decide)).trans (at5_v10 m ρ c)

/-- `v10` at boundary 7. -/
theorem at7_v10 : W7 m ρ c (Proc.devRef .tc main_v10) = (fun j => a12 m c (ix2 0 (j 1)) : FVec Ideal S1x4096 .f32) :=
  (W7_of m ρ c main_v10 (by decide)).trans (at6_v10 m ρ c)

/-- `v10` at boundary 8. -/
theorem at8_v10 : W8 m ρ c (Proc.devRef .tc main_v10) = (fun j => a12 m c (ix2 0 (j 1)) : FVec Ideal S1x4096 .f32) :=
  (W8_of m ρ c main_v10 (by decide)).trans (at7_v10 m ρ c)

/-- `v10` at boundary 9. -/
theorem at9_v10 : W9 m ρ c (Proc.devRef .tc main_v10) = (fun j => a12 m c (ix2 0 (j 1)) : FVec Ideal S1x4096 .f32) :=
  (W9_of m ρ c main_v10 (by decide)).trans (at8_v10 m ρ c)

/-- `v10` at boundary 10. -/
theorem at10_v10 : W10 m ρ c (Proc.devRef .tc main_v10) = (fun j => a12 m c (ix2 0 (j 1)) : FVec Ideal S1x4096 .f32) :=
  (W10_of m ρ c main_v10 (by decide)).trans (at9_v10 m ρ c)

/-- `v10` at boundary 11. -/
theorem at11_v10 : W11 m ρ c (Proc.devRef .tc main_v10) = (fun j => a12 m c (ix2 0 (j 1)) : FVec Ideal S1x4096 .f32) :=
  (W11_of m ρ c main_v10 (by decide)).trans (at10_v10 m ρ c)

/-- `v10` at boundary 12. -/
theorem at12_v10 : W12 m ρ c (Proc.devRef .tc main_v10) = (fun j => a12 m c (ix2 0 (j 1)) : FVec Ideal S1x4096 .f32) :=
  (W12_of m ρ c main_v10 (by decide)).trans (at11_v10 m ρ c)

/-- `v12` at boundary 2. -/
theorem at2_v12 : W2 m ρ c (Proc.devRef .tc main_v12) = (fun j => a13 m c (ix2 0 (j 1)) : FVec Ideal S1x4096 .f32) :=
  (W2_of m ρ c main_v12 (by decide)).trans (cf_v12 m ρ c)

/-- `v12` at boundary 3. -/
theorem at3_v12 : W3 m ρ c (Proc.devRef .tc main_v12) = (fun j => a13 m c (ix2 0 (j 1)) : FVec Ideal S1x4096 .f32) :=
  (W3_of m ρ c main_v12 (by decide)).trans (at2_v12 m ρ c)

/-- `v12` at boundary 4. -/
theorem at4_v12 : W4 m ρ c (Proc.devRef .tc main_v12) = (fun j => a13 m c (ix2 0 (j 1)) : FVec Ideal S1x4096 .f32) :=
  (W4_of m ρ c main_v12 (by decide)).trans (at3_v12 m ρ c)

/-- `v12` at boundary 5. -/
theorem at5_v12 : W5 m ρ c (Proc.devRef .tc main_v12) = (fun j => a13 m c (ix2 0 (j 1)) : FVec Ideal S1x4096 .f32) :=
  (W5_of m ρ c main_v12 (by decide)).trans (at4_v12 m ρ c)

/-- `v12` at boundary 6. -/
theorem at6_v12 : W6 m ρ c (Proc.devRef .tc main_v12) = (fun j => a13 m c (ix2 0 (j 1)) : FVec Ideal S1x4096 .f32) :=
  (W6_of m ρ c main_v12 (by decide)).trans (at5_v12 m ρ c)

/-- `v12` at boundary 7. -/
theorem at7_v12 : W7 m ρ c (Proc.devRef .tc main_v12) = (fun j => a13 m c (ix2 0 (j 1)) : FVec Ideal S1x4096 .f32) :=
  (W7_of m ρ c main_v12 (by decide)).trans (at6_v12 m ρ c)

/-- `v12` at boundary 8. -/
theorem at8_v12 : W8 m ρ c (Proc.devRef .tc main_v12) = (fun j => a13 m c (ix2 0 (j 1)) : FVec Ideal S1x4096 .f32) :=
  (W8_of m ρ c main_v12 (by decide)).trans (at7_v12 m ρ c)

/-- `v12` at boundary 9. -/
theorem at9_v12 : W9 m ρ c (Proc.devRef .tc main_v12) = (fun j => a13 m c (ix2 0 (j 1)) : FVec Ideal S1x4096 .f32) :=
  (W9_of m ρ c main_v12 (by decide)).trans (at8_v12 m ρ c)

/-- `v12` at boundary 10. -/
theorem at10_v12 : W10 m ρ c (Proc.devRef .tc main_v12) = (fun j => a13 m c (ix2 0 (j 1)) : FVec Ideal S1x4096 .f32) :=
  (W10_of m ρ c main_v12 (by decide)).trans (at9_v12 m ρ c)

/-- `v12` at boundary 11. -/
theorem at11_v12 : W11 m ρ c (Proc.devRef .tc main_v12) = (fun j => a13 m c (ix2 0 (j 1)) : FVec Ideal S1x4096 .f32) :=
  (W11_of m ρ c main_v12 (by decide)).trans (at10_v12 m ρ c)

/-- `v12` at boundary 12. -/
theorem at12_v12 : W12 m ρ c (Proc.devRef .tc main_v12) = (fun j => a13 m c (ix2 0 (j 1)) : FVec Ideal S1x4096 .f32) :=
  (W12_of m ρ c main_v12 (by decide)).trans (at11_v12 m ρ c)

/-- `v29` after region 9. -/
theorem cf_v29 : W13 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) := by
  refine (W13_arr m ρ c 5).trans ((fin9_5 (V12 m ρ) c).trans ?_)
  show g9_5 (W12 m ρ c (Proc.devRef .tc main_v28)) (W12 m ρ c (Proc.devRef .tc main_v24_0)) (W12 m ρ c (Proc.devRef .tc main_v13)) (W12 m ρ c (Proc.devRef .tc main_v10)) (W12 m ρ c (Proc.devRef .tc main_v12)) = _
  rw [(cf_v28 m ρ c), (at12_v24_0 m ρ c), (at12_v13 m ρ c), (at12_v10 m ρ c), (at12_v12 m ρ c)]
  funext j
  pointwise [g9_5, layerNorm, mean, pre]
  try blk_point []
  all_goals exact congrArg Ideal.exp (zero_sub _)

end Cert.KernelIdeal.Val
-- ==== Proof.Val.R10.lean ====
module

public import proofs.«01_k».proof.Proof.Gen.KernelIdeal.Frame.Region10
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 10's windows at every grid point. -/
theorem idx10 : ∀ t : Fin cfg10.N, win10_0.index t = ![t.val / 8, 0] ∧ win10_1.index t = ![0, t.val % 8] ∧ win10_2.index t = ![0, t.val % 8] ∧ win10_3.index t = ![t.val / 8, t.val % 8] :=
  (by decide +kernel : ∀ t : Fin grid10.N, _)

/-- The logistic function of the projection of a column block. -/
abbrev g10_3 (X : FVec Ideal S2048x4096 .bf16) (Wt : FVec Ideal S4096x8192 .bf16) (b : FVec Ideal S1x8192 .f32) : FVec Ideal S2048x8192 .bf16 :=
  fun j => Ideal.div 1 (1 + Ideal.exp (0 - ((∑ k : Fin 4096, X (ix2 (j 0) k) * Wt (ix2 k ⟨(j 1).val, by have h0 := (j 0).isLt; have h1 := (j 1).isLt; simp at h0 h1; omega⟩)) + b (ix2 0 ⟨(j 1).val, by have h0 := (j 0).isLt; have h1 := (j 1).isLt; simp at h0 h1; omega⟩))))

/-- What region 10's body stores for window 3 at an index of the block is that function at the index it is written to. -/
theorem pt10_3 (c : Dev nD) (t : Fin cfg10.N) (y) : k10_pay1 (iblk10 V c 0 t) (iblk10 V c 1 t) (iblk10 V c 2 t) y
    = g10_3 (V c main_v32) (V c main_v18_0) (V c main_v33) (((cfg10.win 3).blk t).view.emb y) := by
  pointwise [k10_pay1, g10_3]
  blk_point [iblk10, idx10 t]

/-- The array of window 3 after region 10. -/
theorem fin10_3 (c : Dev nD) : (dat10 V c).arrAt 3 cfg10.N = g10_3 (V c main_v32) (V c main_v18_0) (V c main_v33) := by
  refine (dat10 V c).arrAt_eq_of_covers 3 _ (by decide +kernel) fun t _ y => ?_
  blk_simp
  rw [after10_3]; frame_out
  exact pt10_3 V c t y

end Cert.KernelIdeal.Val
-- ==== Proof.Val.R11.lean ====
module

public import proofs.«01_k».proof.Proof.Gen.KernelIdeal.Frame.Region11
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 11's windows at every grid point. -/
theorem idx11 : ∀ t : Fin cfg11.N, win11_0.index t = ![t.val / 4, 0] ∧ win11_1.index t = ![0, 20 + t.val % 4] ∧ win11_2.index t = ![0, 24 + t.val % 4] ∧ win11_3.index t = ![0, 20 + t.val % 4] ∧ win11_4.index t = ![0, 24 + t.val % 4] ∧ win11_5.index t = ![t.val / 4, t.val % 4] :=
  (by decide +kernel : ∀ t : Fin grid11.N, _)

/-- The product of two column blocks of the projection. -/
abbrev g11_5 (X : FVec Ideal S2048x4096 .bf16) (Wt : FVec Ideal S4096x16384 .bf16) (b : FVec Ideal S1x24576 .f32) : FVec Ideal S2048x2048 .f32 :=
  fun j => ((∑ k : Fin 4096, X (ix2 (j 0) k) * Wt (ix2 k ⟨10240 + (j 1).val, by have h0 := (j 0).isLt; have h1 := (j 1).isLt; simp at h0 h1; omega⟩)) + b (ix2 0 ⟨10240 + (j 1).val, by have h0 := (j 0).isLt; have h1 := (j 1).isLt; simp at h0 h1; omega⟩)) * ((∑ k : Fin 4096, X (ix2 (j 0) k) * Wt (ix2 k ⟨12288 + (j 1).val, by have h0 := (j 0).isLt; have h1 := (j 1).isLt; simp at h0 h1; omega⟩)) + b (ix2 0 ⟨12288 + (j 1).val, by have h0 := (j 0).isLt; have h1 := (j 1).isLt; simp at h0 h1; omega⟩))

/-- What region 11's body stores for window 5 at an index of the block is that function at the index it is written to. -/
theorem pt11_5 (c : Dev nD) (t : Fin cfg11.N) (y) : k11_pay1 (iblk11 V c 0 t) (iblk11 V c 1 t) (iblk11 V c 3 t) (iblk11 V c 2 t) (iblk11 V c 4 t) y
    = g11_5 (V c main_v32) (V c main_v20_0) (V c main_v2) (((cfg11.win 5).blk t).view.emb y) := by
  pointwise [k11_pay1, g11_5]
  blk_point [iblk11, idx11 t]

/-- The array of window 5 after region 11. -/
theorem fin11_5 (c : Dev nD) : (dat11 V c).arrAt 5 cfg11.N = g11_5 (V c main_v32) (V c main_v20_0) (V c main_v2) := by
  refine (dat11 V c).arrAt_eq_of_covers 5 _ (by decide +kernel) fun t _ y => ?_
  blk_simp
  rw [after11_5]; frame_out
  exact pt11_5 V c t y

end Cert.KernelIdeal.Val
-- ==== Proof.Val.R12.lean ====
module

public import proofs.«01_k».proof.Proof.Gen.KernelIdeal.Frame.Region12
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 12's windows at every grid point. -/
theorem idx12 : ∀ t : Fin cfg12.N, win12_0.index t = ![t.val / 2, 0] ∧ win12_1.index t = ![0, t.val % 2] ∧ win12_2.index t = ![0, t.val % 2] ∧ win12_3.index t = ![t.val / 2, t.val % 2] :=
  (by decide +kernel : ∀ t : Fin grid12.N, _)

/-- The scaled projection of a column block. -/
abbrev g12_3 (X : FVec Ideal S2048x4096 .bf16) (Wt : FVec Ideal S4096x16384 .bf16) (b : FVec Ideal S1x24576 .f32) : FVec Ideal S2048x2048 .bf16 :=
  fun j => ((∑ k : Fin 4096, X (ix2 (j 0) k) * Wt (ix2 k ⟨(j 1).val, by have h0 := (j 0).isLt; have h1 := (j 1).isLt; simp at h0 h1; omega⟩)) + b (ix2 0 ⟨(j 1).val, by have h0 := (j 0).isLt; have h1 := (j 1).isLt; simp at h0 h1; omega⟩)) * Ideal.ofBits .f32 0x3E0293EE#32

/-- What region 12's body stores for window 3 at an index of the block is that function at the index it is written to. -/
theorem pt12_3 (c : Dev nD) (t : Fin cfg12.N) (y) : k12_pay1 (iblk12 V c 0 t) (iblk12 V c 1 t) (iblk12 V c 2 t) y
    = g12_3 (V c main_v32) (V c main_v20_0) (V c main_v2) (((cfg12.win 3).blk t).view.emb y) := by
  pointwise [k12_pay1, g12_3]
  blk_point [iblk12, idx12 t]

/-- The array of window 3 after region 12. -/
theorem fin12_3 (c : Dev nD) : (dat12 V c).arrAt 3 cfg12.N = g12_3 (V c main_v32) (V c main_v20_0) (V c main_v2) := by
  refine (dat12 V c).arrAt_eq_of_covers 3 _ (by decide +kernel) fun t _ y => ?_
  blk_simp
  rw [after12_3]; frame_out
  exact pt12_3 V c t y

end Cert.KernelIdeal.Val
-- ==== Proof.Val.R13.lean ====
module

public import proofs.«01_k».proof.Proof.Gen.KernelIdeal.Frame.Region13
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 13's windows at every grid point. -/
theorem idx13 : ∀ t : Fin cfg13.N, win13_0.index t = ![t.val / 2, 0] ∧ win13_1.index t = ![0, 2 + t.val % 2] ∧ win13_2.index t = ![0, 2 + t.val % 2] ∧ win13_3.index t = ![t.val / 2, t.val % 2, 0] ∧ win13_4.index t = ![t.val / 2, t.val % 2] :=
  (by decide +kernel : ∀ t : Fin grid13.N, _)

/-- The projection of a column block, its columns split into heads. -/
abbrev g13_3 (X : FVec Ideal S2048x4096 .bf16) (Wt : FVec Ideal S4096x16384 .bf16) (b : FVec Ideal S1x24576 .f32) : FVec Ideal S2048x16x128 .f32 :=
  fun j => (∑ k : Fin 4096, X (ix2 (j 0) k) * Wt (ix2 k ⟨2048 + ((j 1).val * 128 + (j 2).val), by have h1 := (j 1).isLt; have h2 := (j 2).isLt; simp at h1 h2; omega⟩)) + b (ix2 0 ⟨2048 + ((j 1).val * 128 + (j 2).val), by have h1 := (j 1).isLt; have h2 := (j 2).isLt; simp at h1 h2; omega⟩)

/-- What region 13's body stores for window 3 at an index of the block is that function at the index it is written to. -/
theorem pt13_3 (c : Dev nD) (t : Fin cfg13.N) (y) : k13_pay3 (iblk13 V c 0 t) (iblk13 V c 1 t) (iblk13 V c 2 t) y
    = g13_3 (V c main_v32) (V c main_v20_0) (V c main_v2) (((cfg13.win 3).blk t).view.emb y) := by
  pointwise [k13_pay3, k13_pay1, g13_3]
  blk_point [iblk13, idx13 t]

/-- The array of window 3 after region 13. -/
theorem fin13_3 (c : Dev nD) : (dat13 V c).arrAt 3 cfg13.N = g13_3 (V c main_v32) (V c main_v20_0) (V c main_v2) := by
  refine (dat13 V c).arrAt_eq_of_covers 3 _ (by decide +kernel) fun t _ y => ?_
  blk_simp
  rw [after13_3]; frame_out
  exact pt13_3 V c t y

end Cert.KernelIdeal.Val
-- ==== Proof.Val.R14.lean ====
module

public import proofs.«01_k».proof.Proof.Gen.KernelIdeal.Frame.Region14
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 14's windows at every grid point. -/
theorem idx14 : ∀ t : Fin cfg14.N, win14_0.index t = ![t.val / 2, 0] ∧ win14_1.index t = ![0, 4 + t.val % 2] ∧ win14_2.index t = ![0, 4 + t.val % 2] ∧ win14_3.index t = ![t.val / 2, t.val % 2, 0] ∧ win14_4.index t = ![t.val / 2, t.val % 2] :=
  (by decide +kernel : ∀ t : Fin grid14.N, _)

/-- The projection of a column block, its columns split into heads. -/
abbrev g14_3 (X : FVec Ideal S2048x4096 .bf16) (Wt : FVec Ideal S4096x16384 .bf16) (b : FVec Ideal S1x24576 .f32) : FVec Ideal S2048x16x128 .f32 :=
  fun j => (∑ k : Fin 4096, X (ix2 (j 0) k) * Wt (ix2 k ⟨4096 + ((j 1).val * 128 + (j 2).val), by have h1 := (j 1).isLt; have h2 := (j 2).isLt; simp at h1 h2; omega⟩)) + b (ix2 0 ⟨4096 + ((j 1).val * 128 + (j 2).val), by have h1 := (j 1).isLt; have h2 := (j 2).isLt; simp at h1 h2; omega⟩)

/-- What region 14's body stores for window 3 at an index of the block is that function at the index it is written to. -/
theorem pt14_3 (c : Dev nD) (t : Fin cfg14.N) (y) : k14_pay3 (iblk14 V c 0 t) (iblk14 V c 1 t) (iblk14 V c 2 t) y
    = g14_3 (V c main_v32) (V c main_v20_0) (V c main_v2) (((cfg14.win 3).blk t).view.emb y) := by
  pointwise [k14_pay3, k14_pay1, g14_3]
  blk_point [iblk14, idx14 t]

/-- The array of window 3 after region 14. -/
theorem fin14_3 (c : Dev nD) : (dat14 V c).arrAt 3 cfg14.N = g14_3 (V c main_v32) (V c main_v20_0) (V c main_v2) := by
  refine (dat14 V c).arrAt_eq_of_covers 3 _ (by decide +kernel) fun t _ y => ?_
  blk_simp
  rw [after14_3]; frame_out
  exact pt14_3 V c t y

end Cert.KernelIdeal.Val
-- ==== Proof.Val.R15.lean ====
module

public import proofs.«01_k».proof.Proof.Gen.KernelIdeal.Frame.Region15
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 15's windows at every grid point. -/
theorem idx15 : ∀ t : Fin cfg15.N, win15_0.index t = ![t.val / 2, 0] ∧ win15_1.index t = ![0, 6 + t.val % 2] ∧ win15_2.index t = ![0, 6 + t.val % 2] ∧ win15_3.index t = ![t.val / 2, t.val % 2] :=
  (by decide +kernel : ∀ t : Fin grid15.N, _)

/-- The projection of a column block through silu. -/
abbrev g15_3 (X : FVec Ideal S2048x4096 .bf16) (Wt : FVec Ideal S4096x16384 .bf16) (b : FVec Ideal S1x24576 .f32) : FVec Ideal S2048x2048 .bf16 :=
  fun j => ((∑ k : Fin 4096, X (ix2 (j 0) k) * Wt (ix2 k ⟨6144 + (j 1).val, by have h0 := (j 0).isLt; have h1 := (j 1).isLt; simp at h0 h1; omega⟩)) + b (ix2 0 ⟨6144 + (j 1).val, by have h0 := (j 0).isLt; have h1 := (j 1).isLt; simp at h0 h1; omega⟩)) * Ideal.div 1 (1 + Ideal.exp (0 - ((∑ k : Fin 4096, X (ix2 (j 0) k) * Wt (ix2 k ⟨6144 + (j 1).val, by have h0 := (j 0).isLt; have h1 := (j 1).isLt; simp at h0 h1; omega⟩)) + b (ix2 0 ⟨6144 + (j 1).val, by have h0 := (j 0).isLt; have h1 := (j 1).isLt; simp at h0 h1; omega⟩))))

/-- What region 15's body stores for window 3 at an index of the block is that function at the index it is written to. -/
theorem pt15_3 (c : Dev nD) (t : Fin cfg15.N) (y) : k15_pay1 (iblk15 V c 0 t) (iblk15 V c 1 t) (iblk15 V c 2 t) y
    = g15_3 (V c main_v32) (V c main_v20_0) (V c main_v2) (((cfg15.win 3).blk t).view.emb y) := by
  pointwise [k15_pay1, g15_3]
  blk_point [iblk15, idx15 t]

/-- The array of window 3 after region 15. -/
theorem fin15_3 (c : Dev nD) : (dat15 V c).arrAt 3 cfg15.N = g15_3 (V c main_v32) (V c main_v20_0) (V c main_v2) := by
  refine (dat15 V c).arrAt_eq_of_covers 3 _ (by decide +kernel) fun t _ y => ?_
  blk_simp
  rw [after15_3]; frame_out
  exact pt15_3 V c t y

end Cert.KernelIdeal.Val
-- ==== Proof.Val.R16.lean ====
module

public import proofs.«01_k».proof.Proof.Gen.KernelIdeal.Frame.Region16
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 16's windows at every grid point. -/
theorem idx16 : ∀ t : Fin cfg16.N, win16_0.index t = ![t.val / 4, 0] ∧ win16_1.index t = ![0, 16 + t.val % 4] ∧ win16_2.index t = ![0, 28 + t.val % 4] ∧ win16_3.index t = ![0, 16 + t.val % 4] ∧ win16_4.index t = ![0, 28 + t.val % 4] ∧ win16_5.index t = ![t.val / 4, t.val % 4] :=
  (by decide +kernel : ∀ t : Fin grid16.N, _)

/-- One column block of the projection through silu, times another. -/
abbrev g16_5 (X : FVec Ideal S2048x4096 .bf16) (Wt : FVec Ideal S4096x16384 .bf16) (b : FVec Ideal S1x24576 .f32) : FVec Ideal S2048x2048 .bf16 :=
  fun j => ((∑ k : Fin 4096, X (ix2 (j 0) k) * Wt (ix2 k ⟨14336 + (j 1).val, by have h0 := (j 0).isLt; have h1 := (j 1).isLt; simp at h0 h1; omega⟩)) + b (ix2 0 ⟨14336 + (j 1).val, by have h0 := (j 0).isLt; have h1 := (j 1).isLt; simp at h0 h1; omega⟩)) * Ideal.div 1 (1 + Ideal.exp (0 - ((∑ k : Fin 4096, X (ix2 (j 0) k) * Wt (ix2 k ⟨14336 + (j 1).val, by have h0 := (j 0).isLt; have h1 := (j 1).isLt; simp at h0 h1; omega⟩)) + b (ix2 0 ⟨14336 + (j 1).val, by have h0 := (j 0).isLt; have h1 := (j 1).isLt; simp at h0 h1; omega⟩)))) * ((∑ k : Fin 4096, X (ix2 (j 0) k) * Wt (ix2 k ⟨8192 + (j 1).val, by have h0 := (j 0).isLt; have h1 := (j 1).isLt; simp at h0 h1; omega⟩)) + b (ix2 0 ⟨8192 + (j 1).val, by have h0 := (j 0).isLt; have h1 := (j 1).isLt; simp at h0 h1; omega⟩))

/-- What region 16's body stores for window 5 at an index of the block is that function at the index it is written to. -/
theorem pt16_5 (c : Dev nD) (t : Fin cfg16.N) (y) : k16_pay1 (iblk16 V c 0 t) (iblk16 V c 1 t) (iblk16 V c 3 t) (iblk16 V c 2 t) (iblk16 V c 4 t) y
    = g16_5 (V c main_v32) (V c main_v20_0) (V c main_v2) (((cfg16.win 5).blk t).view.emb y) := by
  pointwise [k16_pay1, g16_5]
  blk_point [iblk16, idx16 t]

/-- The array of window 5 after region 16. -/
theorem fin16_5 (c : Dev nD) : (dat16 V c).arrAt 5 cfg16.N = g16_5 (V c main_v32) (V c main_v20_0) (V c main_v2) := by
  refine (dat16 V c).arrAt_eq_of_covers 5 _ (by decide +kernel) fun t _ y => ?_
  blk_simp
  rw [after16_5]; frame_out
  exact pt16_5 V c t y

end Cert.KernelIdeal.Val
-- ==== Proof.Val.C2.lean ====
module

public import proofs.«01_k».proof.Proof.Val.Math
public import proofs.«01_k».proof.Proof.Gen.KernelIdeal.Frame.Fold0
public import Idealize.ShloMosaic.Lib.StableHlo.RunRead
public import proofs.«01_k».proof.Proof.Val.C1
public import proofs.«01_k».proof.Proof.Val.R10
public import proofs.«01_k».proof.Proof.Val.R11
public import proofs.«01_k».proof.Proof.Val.R12
public import proofs.«01_k».proof.Proof.Val.R13
public import proofs.«01_k».proof.Proof.Val.R14
public import proofs.«01_k».proof.Proof.Val.R15
public import proofs.«01_k».proof.Proof.Val.R16

@[expose] public section

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.Layer

variable (m : (ℓ : Loc nD τ sig) → Buf (Elt Ideal) ℓ) (ρ : Dev nD → PrngReg) (c : Dev nD)

/-- `v30` after its stretch of host operations. -/
theorem cf_v30 : W14 m ρ c (Proc.devRef .tc main_v30) = (fun j => a4 m c (ix4 0 (j 0) (j 1) (j 2)) : FVec Ideal S32x2x2048 .f32) := by
  show StableHlo.after hostOps10 (W13 m ρ c) (Proc.devRef .tc main_v30) = _
  after_reads_simp
  rw [show W13 m ρ c (Proc.devRef .tc main_arg4) = _ from (W13_args m ρ c main_arg4 (by decide))]
  funext j
  pointwise

/-- `v31` after its stretch of host operations. -/
theorem cf_v31 : W14 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) := by
  show StableHlo.after hostOps10 (W13 m ρ c) (Proc.devRef .tc main_v31) = _
  after_reads_simp
  rw [show W13 m ρ c (Proc.devRef .tc main_arg1) = _ from (W13_args m ρ c main_arg1 (by decide))]
  funext j
  pointwise

/-- `v32` after its stretch of host operations. -/
theorem cf_v32 : W14 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) := by
  show StableHlo.after hostOps10 (W13 m ρ c) (Proc.devRef .tc main_v32) = _
  after_reads_simp
  rw [show W13 m ρ c (Proc.devRef .tc main_arg1) = _ from (W13_args m ρ c main_arg1 (by decide))]
  funext j
  pointwise

/-- `v2` at boundary 9. -/
theorem at9_v2 : W9 m ρ c (Proc.devRef .tc main_v2) = (fun j => a6 m c (ix2 0 (j 1)) : FVec Ideal S1x24576 .f32) :=
  (W9_of m ρ c main_v2 (by decide)).trans (at8_v2 m ρ c)

/-- `v2` at boundary 10. -/
theorem at10_v2 : W10 m ρ c (Proc.devRef .tc main_v2) = (fun j => a6 m c (ix2 0 (j 1)) : FVec Ideal S1x24576 .f32) :=
  (W10_of m ρ c main_v2 (by decide)).trans (at9_v2 m ρ c)

/-- `v2` at boundary 11. -/
theorem at11_v2 : W11 m ρ c (Proc.devRef .tc main_v2) = (fun j => a6 m c (ix2 0 (j 1)) : FVec Ideal S1x24576 .f32) :=
  (W11_of m ρ c main_v2 (by decide)).trans (at10_v2 m ρ c)

/-- `v2` at boundary 12. -/
theorem at12_v2 : W12 m ρ c (Proc.devRef .tc main_v2) = (fun j => a6 m c (ix2 0 (j 1)) : FVec Ideal S1x24576 .f32) :=
  (W12_of m ρ c main_v2 (by decide)).trans (at11_v2 m ρ c)

/-- `v2` at boundary 13. -/
theorem at13_v2 : W13 m ρ c (Proc.devRef .tc main_v2) = (fun j => a6 m c (ix2 0 (j 1)) : FVec Ideal S1x24576 .f32) :=
  (W13_of m ρ c main_v2 (by decide)).trans (at12_v2 m ρ c)

/-- `v33` after its stretch of host operations. -/
theorem cf_v33 : W14 m ρ c (Proc.devRef .tc main_v33) = (fun j => a6 m c (ix2 0 ⟨16384 + (j 1).val, by have h1 := (j 1).isLt; simp at h1; omega⟩) : FVec Ideal S1x8192 .f32) := by
  show StableHlo.after hostOps10 (W13 m ρ c) (Proc.devRef .tc main_v33) = _
  after_reads_simp
  rw [(at13_v2 m ρ c)]
  funext j
  pointwise

/-- `v18_0` at boundary 4. -/
theorem at4_v18_0 : W4 m ρ c (Proc.devRef .tc main_v18_0) = (fun j => a5 m c (ix3 0 (j 0) ⟨16384 + (j 1).val, by have h1 := (j 1).isLt; simp at h1; omega⟩) : FVec Ideal S4096x8192 .bf16) :=
  (W4_of m ρ c main_v18_0 (by decide)).trans (at3_v18_0 m ρ c)

/-- `v18_0` at boundary 5. -/
theorem at5_v18_0 : W5 m ρ c (Proc.devRef .tc main_v18_0) = (fun j => a5 m c (ix3 0 (j 0) ⟨16384 + (j 1).val, by have h1 := (j 1).isLt; simp at h1; omega⟩) : FVec Ideal S4096x8192 .bf16) :=
  (W5_of m ρ c main_v18_0 (by decide)).trans (at4_v18_0 m ρ c)

/-- `v18_0` at boundary 6. -/
theorem at6_v18_0 : W6 m ρ c (Proc.devRef .tc main_v18_0) = (fun j => a5 m c (ix3 0 (j 0) ⟨16384 + (j 1).val, by have h1 := (j 1).isLt; simp at h1; omega⟩) : FVec Ideal S4096x8192 .bf16) :=
  (W6_of m ρ c main_v18_0 (by decide)).trans (at5_v18_0 m ρ c)

/-- `v18_0` at boundary 7. -/
theorem at7_v18_0 : W7 m ρ c (Proc.devRef .tc main_v18_0) = (fun j => a5 m c (ix3 0 (j 0) ⟨16384 + (j 1).val, by have h1 := (j 1).isLt; simp at h1; omega⟩) : FVec Ideal S4096x8192 .bf16) :=
  (W7_of m ρ c main_v18_0 (by decide)).trans (at6_v18_0 m ρ c)

/-- `v18_0` at boundary 8. -/
theorem at8_v18_0 : W8 m ρ c (Proc.devRef .tc main_v18_0) = (fun j => a5 m c (ix3 0 (j 0) ⟨16384 + (j 1).val, by have h1 := (j 1).isLt; simp at h1; omega⟩) : FVec Ideal S4096x8192 .bf16) :=
  (W8_of m ρ c main_v18_0 (by decide)).trans (at7_v18_0 m ρ c)

/-- `v18_0` at boundary 9. -/
theorem at9_v18_0 : W9 m ρ c (Proc.devRef .tc main_v18_0) = (fun j => a5 m c (ix3 0 (j 0) ⟨16384 + (j 1).val, by have h1 := (j 1).isLt; simp at h1; omega⟩) : FVec Ideal S4096x8192 .bf16) :=
  (W9_of m ρ c main_v18_0 (by decide)).trans (at8_v18_0 m ρ c)

/-- `v18_0` at boundary 10. -/
theorem at10_v18_0 : W10 m ρ c (Proc.devRef .tc main_v18_0) = (fun j => a5 m c (ix3 0 (j 0) ⟨16384 + (j 1).val, by have h1 := (j 1).isLt; simp at h1; omega⟩) : FVec Ideal S4096x8192 .bf16) :=
  (W10_of m ρ c main_v18_0 (by decide)).trans (at9_v18_0 m ρ c)

/-- `v18_0` at boundary 11. -/
theorem at11_v18_0 : W11 m ρ c (Proc.devRef .tc main_v18_0) = (fun j => a5 m c (ix3 0 (j 0) ⟨16384 + (j 1).val, by have h1 := (j 1).isLt; simp at h1; omega⟩) : FVec Ideal S4096x8192 .bf16) :=
  (W11_of m ρ c main_v18_0 (by decide)).trans (at10_v18_0 m ρ c)

/-- `v18_0` at boundary 12. -/
theorem at12_v18_0 : W12 m ρ c (Proc.devRef .tc main_v18_0) = (fun j => a5 m c (ix3 0 (j 0) ⟨16384 + (j 1).val, by have h1 := (j 1).isLt; simp at h1; omega⟩) : FVec Ideal S4096x8192 .bf16) :=
  (W12_of m ρ c main_v18_0 (by decide)).trans (at11_v18_0 m ρ c)

/-- `v18_0` at boundary 13. -/
theorem at13_v18_0 : W13 m ρ c (Proc.devRef .tc main_v18_0) = (fun j => a5 m c (ix3 0 (j 0) ⟨16384 + (j 1).val, by have h1 := (j 1).isLt; simp at h1; omega⟩) : FVec Ideal S4096x8192 .bf16) :=
  (W13_of m ρ c main_v18_0 (by decide)).trans (at12_v18_0 m ρ c)

/-- `v18_0` at boundary 14. -/
theorem at14_v18_0 : W14 m ρ c (Proc.devRef .tc main_v18_0) = (fun j => a5 m c (ix3 0 (j 0) ⟨16384 + (j 1).val, by have h1 := (j 1).isLt; simp at h1; omega⟩) : FVec Ideal S4096x8192 .bf16) :=
  (W14_of m ρ c main_v18_0 (by decide)).trans (at13_v18_0 m ρ c)

/-- `v34` after region 10. -/
theorem cf_v34 : W15 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) := by
  refine (W15_arr m ρ c 3).trans ((fin10_3 (V14 m ρ) c).trans ?_)
  show g10_3 (W14 m ρ c (Proc.devRef .tc main_v32)) (W14 m ρ c (Proc.devRef .tc main_v18_0)) (W14 m ρ c (Proc.devRef .tc main_v33)) = _
  rw [(cf_v32 m ρ c), (at14_v18_0 m ρ c), (cf_v33 m ρ c)]
  funext j
  pointwise [g10_3, sg, proj]
  try blk_point []
  all_goals exact congrArg Ideal.exp (zero_sub _)

/-- `v32` at boundary 15. -/
theorem at15_v32 : W15 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W15_of m ρ c main_v32 (by decide)).trans (cf_v32 m ρ c)

/-- `v20_0` at boundary 9. -/
theorem at9_v20_0 : W9 m ρ c (Proc.devRef .tc main_v20_0) = (fun j => a5 m c (ix3 0 (j 0) ⟨(j 1).val, by have h1 := (j 1).isLt; simp at h1; omega⟩) : FVec Ideal S4096x16384 .bf16) :=
  (W9_of m ρ c main_v20_0 (by decide)).trans (at8_v20_0 m ρ c)

/-- `v20_0` at boundary 10. -/
theorem at10_v20_0 : W10 m ρ c (Proc.devRef .tc main_v20_0) = (fun j => a5 m c (ix3 0 (j 0) ⟨(j 1).val, by have h1 := (j 1).isLt; simp at h1; omega⟩) : FVec Ideal S4096x16384 .bf16) :=
  (W10_of m ρ c main_v20_0 (by decide)).trans (at9_v20_0 m ρ c)

/-- `v20_0` at boundary 11. -/
theorem at11_v20_0 : W11 m ρ c (Proc.devRef .tc main_v20_0) = (fun j => a5 m c (ix3 0 (j 0) ⟨(j 1).val, by have h1 := (j 1).isLt; simp at h1; omega⟩) : FVec Ideal S4096x16384 .bf16) :=
  (W11_of m ρ c main_v20_0 (by decide)).trans (at10_v20_0 m ρ c)

/-- `v20_0` at boundary 12. -/
theorem at12_v20_0 : W12 m ρ c (Proc.devRef .tc main_v20_0) = (fun j => a5 m c (ix3 0 (j 0) ⟨(j 1).val, by have h1 := (j 1).isLt; simp at h1; omega⟩) : FVec Ideal S4096x16384 .bf16) :=
  (W12_of m ρ c main_v20_0 (by decide)).trans (at11_v20_0 m ρ c)

/-- `v20_0` at boundary 13. -/
theorem at13_v20_0 : W13 m ρ c (Proc.devRef .tc main_v20_0) = (fun j => a5 m c (ix3 0 (j 0) ⟨(j 1).val, by have h1 := (j 1).isLt; simp at h1; omega⟩) : FVec Ideal S4096x16384 .bf16) :=
  (W13_of m ρ c main_v20_0 (by decide)).trans (at12_v20_0 m ρ c)

/-- `v20_0` at boundary 14. -/
theorem at14_v20_0 : W14 m ρ c (Proc.devRef .tc main_v20_0) = (fun j => a5 m c (ix3 0 (j 0) ⟨(j 1).val, by have h1 := (j 1).isLt; simp at h1; omega⟩) : FVec Ideal S4096x16384 .bf16) :=
  (W14_of m ρ c main_v20_0 (by decide)).trans (at13_v20_0 m ρ c)

/-- `v20_0` at boundary 15. -/
theorem at15_v20_0 : W15 m ρ c (Proc.devRef .tc main_v20_0) = (fun j => a5 m c (ix3 0 (j 0) ⟨(j 1).val, by have h1 := (j 1).isLt; simp at h1; omega⟩) : FVec Ideal S4096x16384 .bf16) :=
  (W15_of m ρ c main_v20_0 (by decide)).trans (at14_v20_0 m ρ c)

/-- `v2` at boundary 14. -/
theorem at14_v2 : W14 m ρ c (Proc.devRef .tc main_v2) = (fun j => a6 m c (ix2 0 (j 1)) : FVec Ideal S1x24576 .f32) :=
  (W14_of m ρ c main_v2 (by decide)).trans (at13_v2 m ρ c)

/-- `v2` at boundary 15. -/
theorem at15_v2 : W15 m ρ c (Proc.devRef .tc main_v2) = (fun j => a6 m c (ix2 0 (j 1)) : FVec Ideal S1x24576 .f32) :=
  (W15_of m ρ c main_v2 (by decide)).trans (at14_v2 m ρ c)

/-- `v35` after region 11. -/
theorem cf_v35 : W16 m ρ c (Proc.devRef .tc main_v35) = (fun j => uu (P1 m c) ⟨(j 0).val / 64, by have h0 := (j 0).isLt; simp at h0; omega⟩ ⟨(j 0).val % 64, by omega⟩ (j 1) : FVec Ideal S2048x2048 .f32) := by
  refine (W16_arr m ρ c 5).trans ((fin11_5 (V15 m ρ) c).trans ?_)
  show g11_5 (W15 m ρ c (Proc.devRef .tc main_v32)) (W15 m ρ c (Proc.devRef .tc main_v20_0)) (W15 m ρ c (Proc.devRef .tc main_v2)) = _
  rw [(at15_v32 m ρ c), (at15_v20_0 m ρ c), (at15_v2 m ρ c)]
  funext j
  pointwise [g11_5, uu, proj]
  try blk_point []
  all_goals exact congrArg Ideal.exp (zero_sub _)

/-- `v32` at boundary 16. -/
theorem at16_v32 : W16 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W16_of m ρ c main_v32 (by decide)).trans (at15_v32 m ρ c)

/-- `v20_0` at boundary 16. -/
theorem at16_v20_0 : W16 m ρ c (Proc.devRef .tc main_v20_0) = (fun j => a5 m c (ix3 0 (j 0) ⟨(j 1).val, by have h1 := (j 1).isLt; simp at h1; omega⟩) : FVec Ideal S4096x16384 .bf16) :=
  (W16_of m ρ c main_v20_0 (by decide)).trans (at15_v20_0 m ρ c)

/-- `v2` at boundary 16. -/
theorem at16_v2 : W16 m ρ c (Proc.devRef .tc main_v2) = (fun j => a6 m c (ix2 0 (j 1)) : FVec Ideal S1x24576 .f32) :=
  (W16_of m ρ c main_v2 (by decide)).trans (at15_v2 m ρ c)

/-- `v36` after region 12. -/
theorem cf_v36 : W17 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) := by
  refine (W17_arr m ρ c 3).trans ((fin12_3 (V16 m ρ) c).trans ?_)
  show g12_3 (W16 m ρ c (Proc.devRef .tc main_v32)) (W16 m ρ c (Proc.devRef .tc main_v20_0)) (W16 m ρ c (Proc.devRef .tc main_v2)) = _
  rw [(at16_v32 m ρ c), (at16_v20_0 m ρ c), (at16_v2 m ρ c)]
  funext j
  pointwise [g12_3, proj]
  try blk_point []
  all_goals exact congrArg Ideal.exp (zero_sub _)

/-- `v32` at boundary 17. -/
theorem at17_v32 : W17 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W17_of m ρ c main_v32 (by decide)).trans (at16_v32 m ρ c)

/-- `v20_0` at boundary 17. -/
theorem at17_v20_0 : W17 m ρ c (Proc.devRef .tc main_v20_0) = (fun j => a5 m c (ix3 0 (j 0) ⟨(j 1).val, by have h1 := (j 1).isLt; simp at h1; omega⟩) : FVec Ideal S4096x16384 .bf16) :=
  (W17_of m ρ c main_v20_0 (by decide)).trans (at16_v20_0 m ρ c)

/-- `v2` at boundary 17. -/
theorem at17_v2 : W17 m ρ c (Proc.devRef .tc main_v2) = (fun j => a6 m c (ix2 0 (j 1)) : FVec Ideal S1x24576 .f32) :=
  (W17_of m ρ c main_v2 (by decide)).trans (at16_v2 m ρ c)

/-- `v37_0` after region 13. -/
theorem cf_v37_0 : W18 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) := by
  refine (W18_arr m ρ c 3).trans ((fin13_3 (V17 m ρ) c).trans ?_)
  show g13_3 (W17 m ρ c (Proc.devRef .tc main_v32)) (W17 m ρ c (Proc.devRef .tc main_v20_0)) (W17 m ρ c (Proc.devRef .tc main_v2)) = _
  rw [(at17_v32 m ρ c), (at17_v20_0 m ρ c), (at17_v2 m ρ c)]
  funext j
  pointwise [g13_3, proj]
  try blk_point []
  all_goals exact congrArg Ideal.exp (zero_sub _)

/-- `v32` at boundary 18. -/
theorem at18_v32 : W18 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W18_of m ρ c main_v32 (by decide)).trans (at17_v32 m ρ c)

/-- `v20_0` at boundary 18. -/
theorem at18_v20_0 : W18 m ρ c (Proc.devRef .tc main_v20_0) = (fun j => a5 m c (ix3 0 (j 0) ⟨(j 1).val, by have h1 := (j 1).isLt; simp at h1; omega⟩) : FVec Ideal S4096x16384 .bf16) :=
  (W18_of m ρ c main_v20_0 (by decide)).trans (at17_v20_0 m ρ c)

/-- `v2` at boundary 18. -/
theorem at18_v2 : W18 m ρ c (Proc.devRef .tc main_v2) = (fun j => a6 m c (ix2 0 (j 1)) : FVec Ideal S1x24576 .f32) :=
  (W18_of m ρ c main_v2 (by decide)).trans (at17_v2 m ρ c)

/-- `v38_0` after region 14. -/
theorem cf_v38_0 : W19 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) := by
  refine (W19_arr m ρ c 3).trans ((fin14_3 (V18 m ρ) c).trans ?_)
  show g14_3 (W18 m ρ c (Proc.devRef .tc main_v32)) (W18 m ρ c (Proc.devRef .tc main_v20_0)) (W18 m ρ c (Proc.devRef .tc main_v2)) = _
  rw [(at18_v32 m ρ c), (at18_v20_0 m ρ c), (at18_v2 m ρ c)]
  funext j
  pointwise [g14_3, proj]
  try blk_point []
  all_goals exact congrArg Ideal.exp (zero_sub _)

/-- `v32` at boundary 19. -/
theorem at19_v32 : W19 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W19_of m ρ c main_v32 (by decide)).trans (at18_v32 m ρ c)

/-- `v20_0` at boundary 19. -/
theorem at19_v20_0 : W19 m ρ c (Proc.devRef .tc main_v20_0) = (fun j => a5 m c (ix3 0 (j 0) ⟨(j 1).val, by have h1 := (j 1).isLt; simp at h1; omega⟩) : FVec Ideal S4096x16384 .bf16) :=
  (W19_of m ρ c main_v20_0 (by decide)).trans (at18_v20_0 m ρ c)

/-- `v2` at boundary 19. -/
theorem at19_v2 : W19 m ρ c (Proc.devRef .tc main_v2) = (fun j => a6 m c (ix2 0 (j 1)) : FVec Ideal S1x24576 .f32) :=
  (W19_of m ρ c main_v2 (by decide)).trans (at18_v2 m ρ c)

/-- `v39` after region 15. -/
theorem cf_v39 : W20 m ρ c (Proc.devRef .tc main_v39) = (fun j => P1 m c ⟨(j 0).val / 64, by have h0 := (j 0).isLt; simp at h0; omega⟩ ⟨(j 0).val % 64, by omega⟩ ⟨6144 + (j 1).val, by have h1 := (j 1).isLt; simp at h1; omega⟩ * sg (P1 m c ⟨(j 0).val / 64, by have h0 := (j 0).isLt; simp at h0; omega⟩ ⟨(j 0).val % 64, by omega⟩ ⟨6144 + (j 1).val, by have h1 := (j 1).isLt; simp at h1; omega⟩) : FVec Ideal S2048x2048 .bf16) := by
  refine (W20_arr m ρ c 3).trans ((fin15_3 (V19 m ρ) c).trans ?_)
  show g15_3 (W19 m ρ c (Proc.devRef .tc main_v32)) (W19 m ρ c (Proc.devRef .tc main_v20_0)) (W19 m ρ c (Proc.devRef .tc main_v2)) = _
  rw [(at19_v32 m ρ c), (at19_v20_0 m ρ c), (at19_v2 m ρ c)]
  funext j
  pointwise [g15_3, sg, proj]
  try blk_point []
  all_goals exact congrArg Ideal.exp (zero_sub _)

/-- `v32` at boundary 20. -/
theorem at20_v32 : W20 m ρ c (Proc.devRef .tc main_v32) = (fun j => a1 m c (ix3 ⟨(j 0).val / 64, by have h0 := (j 0).isLt; simp at h0; omega⟩ ⟨(j 0).val % 64, by omega⟩ (j 1)) : FVec Ideal S2048x4096 .bf16) :=
  (W20_of m ρ c main_v32 (by decide)).trans (at19_v32 m ρ c)

/-- `v20_0` at boundary 20. -/
theorem at20_v20_0 : W20 m ρ c (Proc.devRef .tc main_v20_0) = (fun j => a5 m c (ix3 0 (j 0) ⟨(j 1).val, by have h1 := (j 1).isLt; simp at h1; omega⟩) : FVec Ideal S4096x16384 .bf16) :=
  (W20_of m ρ c main_v20_0 (by decide)).trans (at19_v20_0 m ρ c)

/-- `v2` at boundary 20. -/
theorem at20_v2 : W20 m ρ c (Proc.devRef .tc main_v2) = (fun j => a6 m c (ix2 0 (j 1)) : FVec Ideal S1x24576 .f32) :=
  (W20_of m ρ c main_v2 (by decide)).trans (at19_v2 m ρ c)

/-- `v40` after region 16. -/
theorem cf_v40 : W21 m ρ c (Proc.devRef .tc main_v40) = (fun j => gateB (P1 m c) ⟨(j 0).val / 64, by have h0 := (j 0).isLt; simp at h0; omega⟩ ⟨(j 0).val % 64, by omega⟩ (j 1) : FVec Ideal S2048x2048 .bf16) := by
  refine (W21_arr m ρ c 5).trans ((fin16_5 (V20 m ρ) c).trans ?_)
  show g16_5 (W20 m ρ c (Proc.devRef .tc main_v32)) (W20 m ρ c (Proc.devRef .tc main_v20_0)) (W20 m ρ c (Proc.devRef .tc main_v2)) = _
  rw [(at20_v32 m ρ c), (at20_v20_0 m ρ c), (at20_v2 m ρ c)]
  funext j
  pointwise [g16_5, gateB, sg, proj]
  try blk_point []
  all_goals exact congrArg Ideal.exp (zero_sub _)

end Cert.KernelIdeal.Val
-- ==== Proof.Val.R17.lean ====
module

public import proofs.«01_k».proof.Proof.Gen.KernelIdeal.Frame.Region17
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 17's windows at every grid point. -/
theorem idx17 : ∀ t : Fin cfg17.N, win17_0.index t = ![t.val, 0] ∧ win17_1.index t = ![t.val, 0] ∧ win17_2.index t = ![t.val, 0, 0] ∧ win17_3.index t = ![0, 0] ∧ win17_4.index t = ![0, 0] ∧ win17_5.index t = ![t.val, 0] ∧ win17_6.index t = ![t.val, 0, 0] :=
  (by decide +kernel : ∀ t : Fin grid17.N, _)

/-- A select on the equality of two small words is the `if` on the numbers. -/
theorem select_eq_if17 {α : Type} (n m : ℕ) (hn : n < 2 ^ 32) (hm : m < 2 ^ 32) (a b : α) :
    Scalar.select (IntOp.cmpi .eq (BitVec.ofNat 32 n) (BitVec.ofNat 32 m)) a b = if n = m then a else b := by
  have e : (BitVec.ofNat 32 n = BitVec.ofNat 32 m) ↔ n = m := by
    constructor
    · intro h
      have := congrArg BitVec.toNat h
      simp only [BitVec.toNat_ofNat] at this; omega
    · rintro rfl; rfl
  by_cases h : n = m
  · subst h; simp [IntOp.cmpi, Scalar.select]
  · have h' : (BitVec.ofNat 32 n == BitVec.ofNat 32 m) = false := beq_eq_false_iff_ne.mpr fun q => h (e.1 q)
    simp [IntOp.cmpi, Scalar.select, h, h']

/-- The gate times the causal convolution of width three along the rows of a batch entry; the rows before the first
come from the state. -/
abbrev g17_5 (U : FVec Ideal S2048x2048 .f32) (G : FVec Ideal S2048x2048 .bf16) (P : FVec Ideal S32x2x2048 .f32)
    (w : FVec Ideal S3x2048 .f32) (b : FVec Ideal S1x2048 .f32) : FVec Ideal S2048x2048 .bf16 :=
  fun j => G (ix2 (j 0) (j 1)) * (b (ix2 0 (j 1))
    + (if (j 0).val % 64 = 0 then P (ix3 ⟨(j 0).val / 64, by have h0 := (j 0).isLt; simp at h0; omega⟩ 0 (j 1)) else if (j 0).val % 64 = 1 then P (ix3 ⟨(j 0).val / 64, by have h0 := (j 0).isLt; simp at h0; omega⟩ 1 (j 1))
        else U (ix2 ⟨(j 0).val - 2, by have h0 := (j 0).isLt; simp at h0; omega⟩ (j 1))) * w (ix2 0 (j 1))
    + (if (j 0).val % 64 = 0 then P (ix3 ⟨(j 0).val / 64, by have h0 := (j 0).isLt; simp at h0; omega⟩ 1 (j 1)) else U (ix2 ⟨(j 0).val - 1, by have h0 := (j 0).isLt; simp at h0; omega⟩ (j 1))) * w (ix2 1 (j 1))
    + U (ix2 (j 0) (j 1)) * w (ix2 2 (j 1)))

/-- The last two rows of every batch entry. -/
abbrev g17_6 (U : FVec Ideal S2048x2048 .f32) : FVec Ideal S32x2x2048 .f32 :=
  fun j => U (ix2 ⟨(j 0).val * 64 + (62 + (j 1).val), by have h0 := (j 0).isLt; have h1 := (j 1).isLt; simp at h0 h1; omega⟩ (j 2))

set_option maxHeartbeats 2000000 in
/-- What region 17's body stores for window 5 at an index of the block is that function at the index it is written to. -/
theorem pt17_5 (c : Dev nD) (t : Fin cfg17.N) (y) :
    k17_pay1 (k17_pay3 (iblk17 V c 0 t)) (k17_pay4 (iblk17 V c 0 t) (iblk17 V c 2 t) (iblk17 V c 4 t) (View.ld (iblk17 V c 3 t) r17_3) (View.ld (iblk17 V c 3 t) r17_4)) (k17_pay5 (View.ld (iblk17 V c 3 t) r17_5)) (iblk17 V c 1 t) y
    = g17_5 (V c main_v35) (V c main_v40) (V c main_v30) (V c main_v3) (V c main_v5) (((cfg17.win 5).blk t).view.emb y) := by
  pointwise [k17_pay1, k17_pay3, k17_pay4, k17_pay5, g17_5]
  blk_point [iblk17, idx17 t]
  all_goals
    have hm : (t.val * 64 + (y 0).val) % 64 = (y 0).val := by omega
    simp only [select_eq_if17 _ 0 (show (y 0).val < 2 ^ 32 by omega) (by omega), select_eq_if17 _ 1 (show (y 0).val < 2 ^ 32 by omega) (by omega), hm]
    split_ifs with h0 h1 <;> blk_point [iblk17, idx17 t]

/-- The array of window 5 after region 17. -/
theorem fin17_5 (c : Dev nD) : (dat17 V c).arrAt 5 cfg17.N = g17_5 (V c main_v35) (V c main_v40) (V c main_v30) (V c main_v3) (V c main_v5) := by
  refine (dat17 V c).arrAt_eq_of_covers 5 _ (by decide +kernel) fun t _ y => ?_
  blk_simp
  rw [after17_5]; frame_out
  exact pt17_5 V c t y

/-- What region 17's body stores for window 6 at an index of the block is that function at the index it is written to. -/
theorem pt17_6 (c : Dev nD) (t : Fin cfg17.N) (y) : k17_pay2 (View.ld (iblk17 V c 0 t) r17_6) y
    = g17_6 (V c main_v35) (((cfg17.win 6).blk t).view.emb y) := by
  pointwise [k17_pay2, g17_6]
  blk_point [iblk17, idx17 t]

/-- The array of window 6 after region 17. -/
theorem fin17_6 (c : Dev nD) : (dat17 V c).arrAt 6 cfg17.N = g17_6 (V c main_v35) := by
  refine (dat17 V c).arrAt_eq_of_covers 6 _ (by decide +kernel) fun t _ y => ?_
  blk_simp
  rw [after17_6]; frame_out
  exact pt17_6 V c t y

end Cert.KernelIdeal.Val
-- ==== Proof.Val.R18.lean ====
module

public import proofs.«01_k».proof.Proof.Gen.KernelIdeal.Frame.Region18
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 18's windows at every grid point. -/
theorem idx18 : ∀ t : Fin cfg18.N, win18_0.index t = ![t.val / 4, 0] ∧ win18_1.index t = ![t.val / 4, 0] ∧ win18_2.index t = ![0, t.val % 4] ∧ win18_3.index t = ![0, t.val % 4] ∧ win18_4.index t = ![t.val / 4, t.val % 4] ∧ win18_5.index t = ![t.val / 4, 4 + t.val % 4] ∧ win18_6.index t = ![t.val / 4, t.val % 4] :=
  (by decide +kernel : ∀ t : Fin grid18.N, _)

/-- The two products with the output weights, each times its gate, added. -/
abbrev g18_6 (A : FVec Ideal S2048x2048 .bf16) (B : FVec Ideal S2048x2048 .bf16) (U : FVec Ideal S2048x4096 .bf16) (W : FVec Ideal S2048x4096 .bf16) (G : FVec Ideal S2048x8192 .bf16) : FVec Ideal S2048x4096 .bf16 :=
  fun j => G (ix2 (j 0) ⟨(j 1).val, by have h0 := (j 0).isLt; have h1 := (j 1).isLt; simp at h0 h1; omega⟩) * (∑ k : Fin 2048, A (ix2 (j 0) k) * U (ix2 k (j 1))) + G (ix2 (j 0) ⟨4096 + (j 1).val, by have h0 := (j 0).isLt; have h1 := (j 1).isLt; simp at h0 h1; omega⟩) * (∑ k : Fin 2048, B (ix2 (j 0) k) * W (ix2 k (j 1)))

/-- What region 18's body stores for window 6 at an index of the block is that function at the index it is written to. -/
theorem pt18_6 (c : Dev nD) (t : Fin cfg18.N) (y) : k18_pay1 (iblk18 V c 0 t) (iblk18 V c 2 t) (iblk18 V c 1 t) (iblk18 V c 3 t) (iblk18 V c 4 t) (iblk18 V c 5 t) y
    = g18_6 (V c main_arg3) (V c main_v41_0) (V c main_v21_0) (V c main_v25_0) (V c main_v34) (((cfg18.win 6).blk t).view.emb y) := by
  pointwise [k18_pay1, g18_6]
  blk_point [iblk18, idx18 t]

/-- The array of window 6 after region 18. -/
theorem fin18_6 (c : Dev nD) : (dat18 V c).arrAt 6 cfg18.N = g18_6 (V c main_arg3) (V c main_v41_0) (V c main_v21_0) (V c main_v25_0) (V c main_v34) := by
  refine (dat18 V c).arrAt_eq_of_covers 6 _ (by decide +kernel) fun t _ y => ?_
  blk_simp
  rw [after18_6]; frame_out
  exact pt18_6 V c t y

end Cert.KernelIdeal.Val
-- ==== Proof.Val.R19.lean ====
module

public import proofs.«01_k».proof.Proof.Gen.KernelIdeal.Frame.Region19
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The block indices of region 19's windows at every grid point. -/
theorem idx19 : ∀ t : Fin cfg19.N, win19_0.index t = ![t.val, 0] ∧ win19_1.index t = ![0, 0] ∧ win19_2.index t = ![t.val, 0] ∧ win19_3.index t = ![0, 0] ∧ win19_4.index t = ![0, 0] ∧ win19_5.index t = ![t.val, 0] :=
  (by decide +kernel : ∀ t : Fin grid19.N, _)

/-- The layer norm of the scaled input plus the product with the output weight. -/
abbrev g19_5 (A : FVec Ideal S2048x4096 .bf16) (W : FVec Ideal S4096x4096 .bf16) (X : FVec Ideal S2048x4096 .f32) (g : FVec Ideal S1x4096 .f32) (b : FVec Ideal S1x4096 .f32) : FVec Ideal S2048x4096 .f32 :=
  fun j => ((Ideal.ofBits .f32 0x3F9837F0#32 * X (ix2 (j 0) (j 1)) + ∑ k : Fin 4096, A (ix2 (j 0) k) * W (ix2 k (j 1))) - Ideal.div (∑ n : Fin 4096, (Ideal.ofBits .f32 0x3F9837F0#32 * X (ix2 (j 0) n) + ∑ k : Fin 4096, A (ix2 (j 0) k) * W (ix2 k n))) (Ideal.ofBits .f32 0x45800000#32)) * Ideal.rsqrt (Ideal.div (∑ l : Fin 4096, ((Ideal.ofBits .f32 0x3F9837F0#32 * X (ix2 (j 0) l) + ∑ k : Fin 4096, A (ix2 (j 0) k) * W (ix2 k l)) - Ideal.div (∑ n : Fin 4096, (Ideal.ofBits .f32 0x3F9837F0#32 * X (ix2 (j 0) n) + ∑ k : Fin 4096, A (ix2 (j 0) k) * W (ix2 k n))) (Ideal.ofBits .f32 0x45800000#32)) * ((Ideal.ofBits .f32 0x3F9837F0#32 * X (ix2 (j 0) l) + ∑ k : Fin 4096, A (ix2 (j 0) k) * W (ix2 k l)) - Ideal.div (∑ n : Fin 4096, (Ideal.ofBits .f32 0x3F9837F0#32 * X (ix2 (j 0) n) + ∑ k : Fin 4096, A (ix2 (j 0) k) * W (ix2 k n))) (Ideal.ofBits .f32 0x45800000#32))) (Ideal.ofBits .f32 0x45800000#32) + Ideal.ofBits .f32 0x3727C5AC#32) * g (ix2 0 (j 1)) + b (ix2 0 (j 1))

/-- What region 19's body stores for window 5 at an index of the block is that function at the index it is written to. -/
theorem pt19_5 (c : Dev nD) (t : Fin cfg19.N) (y) : k19_pay1 (iblk19 V c 2 t) (iblk19 V c 0 t) (iblk19 V c 1 t) (iblk19 V c 3 t) (iblk19 V c 4 t) y
    = g19_5 (V c main_v42) (V c main_v24_0) (V c main_v31) (V c main_v10) (V c main_v12) (((cfg19.win 5).blk t).view.emb y) := by
  pointwise [k19_pay1, g19_5]
  blk_point [iblk19, idx19 t]

/-- The array of window 5 after region 19. -/
theorem fin19_5 (c : Dev nD) : (dat19 V c).arrAt 5 cfg19.N = g19_5 (V c main_v42) (V c main_v24_0) (V c main_v31) (V c main_v10) (V c main_v12) := by
  refine (dat19 V c).arrAt_eq_of_covers 5 _ (by decide +kernel) fun t _ y => ?_
  blk_simp
  rw [after19_5]; frame_out
  exact pt19_5 V c t y

end Cert.KernelIdeal.Val
-- ==== Proof.Val.C3.lean ====
module

public import proofs.«01_k».proof.Proof.Val.Math
public import proofs.«01_k».proof.Proof.Gen.KernelIdeal.Frame.Fold0
public import Idealize.ShloMosaic.Lib.StableHlo.RunRead
public import proofs.«01_k».proof.Proof.Val.C2
public import proofs.«01_k».proof.Proof.Val.R17
public import proofs.«01_k».proof.Proof.Val.R18
public import proofs.«01_k».proof.Proof.Val.R19

@[expose] public section

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.Layer

variable (m : (ℓ : Loc nD τ sig) → Buf (Elt Ideal) ℓ) (ρ : Dev nD → PrngReg) (c : Dev nD)

/-- `v35` at boundary 17. -/
theorem at17_v35 : W17 m ρ c (Proc.devRef .tc main_v35) = (fun j => uu (P1 m c) ⟨(j 0).val / 64, by have h0 := (j 0).isLt; simp at h0; omega⟩ ⟨(j 0).val % 64, by omega⟩ (j 1) : FVec Ideal S2048x2048 .f32) :=
  (W17_of m ρ c main_v35 (by decide)).trans (cf_v35 m ρ c)

/-- `v35` at boundary 18. -/
theorem at18_v35 : W18 m ρ c (Proc.devRef .tc main_v35) = (fun j => uu (P1 m c) ⟨(j 0).val / 64, by have h0 := (j 0).isLt; simp at h0; omega⟩ ⟨(j 0).val % 64, by omega⟩ (j 1) : FVec Ideal S2048x2048 .f32) :=
  (W18_of m ρ c main_v35 (by decide)).trans (at17_v35 m ρ c)

/-- `v35` at boundary 19. -/
theorem at19_v35 : W19 m ρ c (Proc.devRef .tc main_v35) = (fun j => uu (P1 m c) ⟨(j 0).val / 64, by have h0 := (j 0).isLt; simp at h0; omega⟩ ⟨(j 0).val % 64, by omega⟩ (j 1) : FVec Ideal S2048x2048 .f32) :=
  (W19_of m ρ c main_v35 (by decide)).trans (at18_v35 m ρ c)

/-- `v35` at boundary 20. -/
theorem at20_v35 : W20 m ρ c (Proc.devRef .tc main_v35) = (fun j => uu (P1 m c) ⟨(j 0).val / 64, by have h0 := (j 0).isLt; simp at h0; omega⟩ ⟨(j 0).val % 64, by omega⟩ (j 1) : FVec Ideal S2048x2048 .f32) :=
  (W20_of m ρ c main_v35 (by decide)).trans (at19_v35 m ρ c)

/-- `v35` at boundary 21. -/
theorem at21_v35 : W21 m ρ c (Proc.devRef .tc main_v35) = (fun j => uu (P1 m c) ⟨(j 0).val / 64, by have h0 := (j 0).isLt; simp at h0; omega⟩ ⟨(j 0).val % 64, by omega⟩ (j 1) : FVec Ideal S2048x2048 .f32) :=
  (W21_of m ρ c main_v35 (by decide)).trans (at20_v35 m ρ c)

/-- `v30` at boundary 15. -/
theorem at15_v30 : W15 m ρ c (Proc.devRef .tc main_v30) = (fun j => a4 m c (ix4 0 (j 0) (j 1) (j 2)) : FVec Ideal S32x2x2048 .f32) :=
  (W15_of m ρ c main_v30 (by decide)).trans (cf_v30 m ρ c)

/-- `v30` at boundary 16. -/
theorem at16_v30 : W16 m ρ c (Proc.devRef .tc main_v30) = (fun j => a4 m c (ix4 0 (j 0) (j 1) (j 2)) : FVec Ideal S32x2x2048 .f32) :=
  (W16_of m ρ c main_v30 (by decide)).trans (at15_v30 m ρ c)

/-- `v30` at boundary 17. -/
theorem at17_v30 : W17 m ρ c (Proc.devRef .tc main_v30) = (fun j => a4 m c (ix4 0 (j 0) (j 1) (j 2)) : FVec Ideal S32x2x2048 .f32) :=
  (W17_of m ρ c main_v30 (by decide)).trans (at16_v30 m ρ c)

/-- `v30` at boundary 18. -/
theorem at18_v30 : W18 m ρ c (Proc.devRef .tc main_v30) = (fun j => a4 m c (ix4 0 (j 0) (j 1) (j 2)) : FVec Ideal S32x2x2048 .f32) :=
  (W18_of m ρ c main_v30 (by decide)).trans (at17_v30 m ρ c)

/-- `v30` at boundary 19. -/
theorem at19_v30 : W19 m ρ c (Proc.devRef .tc main_v30) = (fun j => a4 m c (ix4 0 (j 0) (j 1) (j 2)) : FVec Ideal S32x2x2048 .f32) :=
  (W19_of m ρ c main_v30 (by decide)).trans (at18_v30 m ρ c)

/-- `v30` at boundary 20. -/
theorem at20_v30 : W20 m ρ c (Proc.devRef .tc main_v30) = (fun j => a4 m c (ix4 0 (j 0) (j 1) (j 2)) : FVec Ideal S32x2x2048 .f32) :=
  (W20_of m ρ c main_v30 (by decide)).trans (at19_v30 m ρ c)

/-- `v30` at boundary 21. -/
theorem at21_v30 : W21 m ρ c (Proc.devRef .tc main_v30) = (fun j => a4 m c (ix4 0 (j 0) (j 1) (j 2)) : FVec Ideal S32x2x2048 .f32) :=
  (W21_of m ρ c main_v30 (by decide)).trans (at20_v30 m ρ c)

/-- `v3` at boundary 11. -/
theorem at11_v3 : W11 m ρ c (Proc.devRef .tc main_v3) = (fun j => a7 m c (ix3 0 (j 0) (j 1)) : FVec Ideal S3x2048 .f32) :=
  (W11_of m ρ c main_v3 (by decide)).trans (at10_v3 m ρ c)

/-- `v3` at boundary 12. -/
theorem at12_v3 : W12 m ρ c (Proc.devRef .tc main_v3) = (fun j => a7 m c (ix3 0 (j 0) (j 1)) : FVec Ideal S3x2048 .f32) :=
  (W12_of m ρ c main_v3 (by decide)).trans (at11_v3 m ρ c)

/-- `v3` at boundary 13. -/
theorem at13_v3 : W13 m ρ c (Proc.devRef .tc main_v3) = (fun j => a7 m c (ix3 0 (j 0) (j 1)) : FVec Ideal S3x2048 .f32) :=
  (W13_of m ρ c main_v3 (by decide)).trans (at12_v3 m ρ c)

/-- `v3` at boundary 14. -/
theorem at14_v3 : W14 m ρ c (Proc.devRef .tc main_v3) = (fun j => a7 m c (ix3 0 (j 0) (j 1)) : FVec Ideal S3x2048 .f32) :=
  (W14_of m ρ c main_v3 (by decide)).trans (at13_v3 m ρ c)

/-- `v3` at boundary 15. -/
theorem at15_v3 : W15 m ρ c (Proc.devRef .tc main_v3) = (fun j => a7 m c (ix3 0 (j 0) (j 1)) : FVec Ideal S3x2048 .f32) :=
  (W15_of m ρ c main_v3 (by decide)).trans (at14_v3 m ρ c)

/-- `v3` at boundary 16. -/
theorem at16_v3 : W16 m ρ c (Proc.devRef .tc main_v3) = (fun j => a7 m c (ix3 0 (j 0) (j 1)) : FVec Ideal S3x2048 .f32) :=
  (W16_of m ρ c main_v3 (by decide)).trans (at15_v3 m ρ c)

/-- `v3` at boundary 17. -/
theorem at17_v3 : W17 m ρ c (Proc.devRef .tc main_v3) = (fun j => a7 m c (ix3 0 (j 0) (j 1)) : FVec Ideal S3x2048 .f32) :=
  (W17_of m ρ c main_v3 (by decide)).trans (at16_v3 m ρ c)

/-- `v3` at boundary 18. -/
theorem at18_v3 : W18 m ρ c (Proc.devRef .tc main_v3) = (fun j => a7 m c (ix3 0 (j 0) (j 1)) : FVec Ideal S3x2048 .f32) :=
  (W18_of m ρ c main_v3 (by decide)).trans (at17_v3 m ρ c)

/-- `v3` at boundary 19. -/
theorem at19_v3 : W19 m ρ c (Proc.devRef .tc main_v3) = (fun j => a7 m c (ix3 0 (j 0) (j 1)) : FVec Ideal S3x2048 .f32) :=
  (W19_of m ρ c main_v3 (by decide)).trans (at18_v3 m ρ c)

/-- `v3` at boundary 20. -/
theorem at20_v3 : W20 m ρ c (Proc.devRef .tc main_v3) = (fun j => a7 m c (ix3 0 (j 0) (j 1)) : FVec Ideal S3x2048 .f32) :=
  (W20_of m ρ c main_v3 (by decide)).trans (at19_v3 m ρ c)

/-- `v3` at boundary 21. -/
theorem at21_v3 : W21 m ρ c (Proc.devRef .tc main_v3) = (fun j => a7 m c (ix3 0 (j 0) (j 1)) : FVec Ideal S3x2048 .f32) :=
  (W21_of m ρ c main_v3 (by decide)).trans (at20_v3 m ρ c)

/-- `v5` at boundary 11. -/
theorem at11_v5 : W11 m ρ c (Proc.devRef .tc main_v5) = (fun j => a8 m c (ix2 0 (j 1)) : FVec Ideal S1x2048 .f32) :=
  (W11_of m ρ c main_v5 (by decide)).trans (at10_v5 m ρ c)

/-- `v5` at boundary 12. -/
theorem at12_v5 : W12 m ρ c (Proc.devRef .tc main_v5) = (fun j => a8 m c (ix2 0 (j 1)) : FVec Ideal S1x2048 .f32) :=
  (W12_of m ρ c main_v5 (by decide)).trans (at11_v5 m ρ c)

/-- `v5` at boundary 13. -/
theorem at13_v5 : W13 m ρ c (Proc.devRef .tc main_v5) = (fun j => a8 m c (ix2 0 (j 1)) : FVec Ideal S1x2048 .f32) :=
  (W13_of m ρ c main_v5 (by decide)).trans (at12_v5 m ρ c)

/-- `v5` at boundary 14. -/
theorem at14_v5 : W14 m ρ c (Proc.devRef .tc main_v5) = (fun j => a8 m c (ix2 0 (j 1)) : FVec Ideal S1x2048 .f32) :=
  (W14_of m ρ c main_v5 (by decide)).trans (at13_v5 m ρ c)

/-- `v5` at boundary 15. -/
theorem at15_v5 : W15 m ρ c (Proc.devRef .tc main_v5) = (fun j => a8 m c (ix2 0 (j 1)) : FVec Ideal S1x2048 .f32) :=
  (W15_of m ρ c main_v5 (by decide)).trans (at14_v5 m ρ c)

/-- `v5` at boundary 16. -/
theorem at16_v5 : W16 m ρ c (Proc.devRef .tc main_v5) = (fun j => a8 m c (ix2 0 (j 1)) : FVec Ideal S1x2048 .f32) :=
  (W16_of m ρ c main_v5 (by decide)).trans (at15_v5 m ρ c)

/-- `v5` at boundary 17. -/
theorem at17_v5 : W17 m ρ c (Proc.devRef .tc main_v5) = (fun j => a8 m c (ix2 0 (j 1)) : FVec Ideal S1x2048 .f32) :=
  (W17_of m ρ c main_v5 (by decide)).trans (at16_v5 m ρ c)

/-- `v5` at boundary 18. -/
theorem at18_v5 : W18 m ρ c (Proc.devRef .tc main_v5) = (fun j => a8 m c (ix2 0 (j 1)) : FVec Ideal S1x2048 .f32) :=
  (W18_of m ρ c main_v5 (by decide)).trans (at17_v5 m ρ c)

/-- `v5` at boundary 19. -/
theorem at19_v5 : W19 m ρ c (Proc.devRef .tc main_v5) = (fun j => a8 m c (ix2 0 (j 1)) : FVec Ideal S1x2048 .f32) :=
  (W19_of m ρ c main_v5 (by decide)).trans (at18_v5 m ρ c)

/-- `v5` at boundary 20. -/
theorem at20_v5 : W20 m ρ c (Proc.devRef .tc main_v5) = (fun j => a8 m c (ix2 0 (j 1)) : FVec Ideal S1x2048 .f32) :=
  (W20_of m ρ c main_v5 (by decide)).trans (at19_v5 m ρ c)

/-- `v5` at boundary 21. -/
theorem at21_v5 : W21 m ρ c (Proc.devRef .tc main_v5) = (fun j => a8 m c (ix2 0 (j 1)) : FVec Ideal S1x2048 .f32) :=
  (W21_of m ρ c main_v5 (by decide)).trans (at20_v5 m ρ c)

/-- `v41_0` after region 17. -/
theorem cf_v41_0 : W22 m ρ c (Proc.devRef .tc main_v41_0) = (fun j => yb1 m c ⟨(j 0).val / 64, by have h0 := (j 0).isLt; simp at h0; omega⟩ ⟨(j 0).val % 64, by omega⟩ (j 1) : FVec Ideal S2048x2048 .bf16) := by
  refine (W22_arr m ρ c 5).trans ((fin17_5 (V21 m ρ) c).trans ?_)
  show g17_5 (W21 m ρ c (Proc.devRef .tc main_v35)) (W21 m ρ c (Proc.devRef .tc main_v40)) (W21 m ρ c (Proc.devRef .tc main_v30)) (W21 m ρ c (Proc.devRef .tc main_v3)) (W21 m ρ c (Proc.devRef .tc main_v5)) = _
  rw [(at21_v35 m ρ c), (cf_v40 m ρ c), (at21_v30 m ρ c), (at21_v3 m ρ c), (at21_v5 m ρ c)]
  funext j
  have hj : (j 0).val < 2048 := (j 0).isLt
  have e1 : ¬ (j 0).val % 64 = 0 → uu (P1 m c) ⟨((j 0).val - 1) / 64, by omega⟩ ⟨((j 0).val - 1) % 64, by omega⟩ (j 1)
      = uu (P1 m c) ⟨(j 0).val / 64, by omega⟩ ⟨(j 0).val % 64 - 1, by omega⟩ (j 1) := fun h =>
    congrArg₂ (fun b t => uu (P1 m c) b t (j 1)) (Fin.ext (by show ((j 0).val - 1) / 64 = (j 0).val / 64; omega))
      (Fin.ext (by show ((j 0).val - 1) % 64 = (j 0).val % 64 - 1; omega))
  have e2 : ¬ (j 0).val % 64 = 0 → ¬ (j 0).val % 64 = 1 → uu (P1 m c) ⟨((j 0).val - 2) / 64, by omega⟩ ⟨((j 0).val - 2) % 64, by omega⟩ (j 1)
      = uu (P1 m c) ⟨(j 0).val / 64, by omega⟩ ⟨(j 0).val % 64 - 2, by omega⟩ (j 1) := fun h h' =>
    congrArg₂ (fun b t => uu (P1 m c) b t (j 1)) (Fin.ext (by show ((j 0).val - 2) / 64 = (j 0).val / 64; omega))
      (Fin.ext (by show ((j 0).val - 2) % 64 = (j 0).val % 64 - 2; omega))
  refine yb_eq (P1 m c) (past1 m c) (a7 m c) (a8 m c) ⟨(j 0).val / 64, by omega⟩ ⟨(j 0).val % 64, by omega⟩ (j 1) _ _ ?_ ?_
  · by_cases h0 : (j 0).val % 64 = 0
    · exact (if_pos h0).trans (if_pos h0).symm
    · by_cases h1 : (j 0).val % 64 = 1
      · exact ((if_neg h0).trans (if_pos h1)).trans ((if_neg h0).trans (if_pos h1)).symm
      · exact ((if_neg h0).trans (if_neg h1)).trans ((e2 h0 h1).trans ((if_neg h0).trans (if_neg h1)).symm)
  · by_cases h0 : (j 0).val % 64 = 0
    · exact (if_pos h0).trans (if_pos h0).symm
    · exact (if_neg h0).trans ((e1 h0).trans (if_neg h0).symm)

/-- `v41_1` after region 17. -/
theorem cf_v41_1 : W22 m ρ c (Proc.devRef .tc main_v41_1) = (fun j => uu (P1 m c) (j 0) ⟨62 + (j 1).val, by have h1 := (j 1).isLt; simp at h1; omega⟩ (j 2) : FVec Ideal S32x2x2048 .f32) := by
  refine (W22_arr m ρ c 6).trans ((fin17_6 (V21 m ρ) c).trans ?_)
  show g17_6 (W21 m ρ c (Proc.devRef .tc main_v35)) = _
  rw [(at21_v35 m ρ c)]
  funext j
  have h0 : (j 0).val < 32 := (j 0).isLt
  have h1 : (j 1).val < 2 := (j 1).isLt
  exact congrArg₂ (fun b t => uu (P1 m c) b t (j 2)) (Fin.ext (by show ((j 0).val * 64 + (62 + (j 1).val)) / 64 = (j 0).val; omega))
    (Fin.ext (by show ((j 0).val * 64 + (62 + (j 1).val)) % 64 = 62 + (j 1).val; omega))

/-- `v21_0` at boundary 12. -/
theorem at12_v21_0 : W12 m ρ c (Proc.devRef .tc main_v21_0) = (fun j => a9 m c (ix3 0 (j 0) (j 1)) : FVec Ideal S2048x4096 .bf16) :=
  (W12_of m ρ c main_v21_0 (by decide)).trans (at11_v21_0 m ρ c)

/-- `v21_0` at boundary 13. -/
theorem at13_v21_0 : W13 m ρ c (Proc.devRef .tc main_v21_0) = (fun j => a9 m c (ix3 0 (j 0) (j 1)) : FVec Ideal S2048x4096 .bf16) :=
  (W13_of m ρ c main_v21_0 (by decide)).trans (at12_v21_0 m ρ c)

/-- `v21_0` at boundary 14. -/
theorem at14_v21_0 : W14 m ρ c (Proc.devRef .tc main_v21_0) = (fun j => a9 m c (ix3 0 (j 0) (j 1)) : FVec Ideal S2048x4096 .bf16) :=
  (W14_of m ρ c main_v21_0 (by decide)).trans (at13_v21_0 m ρ c)

/-- `v21_0` at boundary 15. -/
theorem at15_v21_0 : W15 m ρ c (Proc.devRef .tc main_v21_0) = (fun j => a9 m c (ix3 0 (j 0) (j 1)) : FVec Ideal S2048x4096 .bf16) :=
  (W15_of m ρ c main_v21_0 (by decide)).trans (at14_v21_0 m ρ c)

/-- `v21_0` at boundary 16. -/
theorem at16_v21_0 : W16 m ρ c (Proc.devRef .tc main_v21_0) = (fun j => a9 m c (ix3 0 (j 0) (j 1)) : FVec Ideal S2048x4096 .bf16) :=
  (W16_of m ρ c main_v21_0 (by decide)).trans (at15_v21_0 m ρ c)

/-- `v21_0` at boundary 17. -/
theorem at17_v21_0 : W17 m ρ c (Proc.devRef .tc main_v21_0) = (fun j => a9 m c (ix3 0 (j 0) (j 1)) : FVec Ideal S2048x4096 .bf16) :=
  (W17_of m ρ c main_v21_0 (by decide)).trans (at16_v21_0 m ρ c)

/-- `v21_0` at boundary 18. -/
theorem at18_v21_0 : W18 m ρ c (Proc.devRef .tc main_v21_0) = (fun j => a9 m c (ix3 0 (j 0) (j 1)) : FVec Ideal S2048x4096 .bf16) :=
  (W18_of m ρ c main_v21_0 (by decide)).trans (at17_v21_0 m ρ c)

/-- `v21_0` at boundary 19. -/
theorem at19_v21_0 : W19 m ρ c (Proc.devRef .tc main_v21_0) = (fun j => a9 m c (ix3 0 (j 0) (j 1)) : FVec Ideal S2048x4096 .bf16) :=
  (W19_of m ρ c main_v21_0 (by decide)).trans (at18_v21_0 m ρ c)

/-- `v21_0` at boundary 20. -/
theorem at20_v21_0 : W20 m ρ c (Proc.devRef .tc main_v21_0) = (fun j => a9 m c (ix3 0 (j 0) (j 1)) : FVec Ideal S2048x4096 .bf16) :=
  (W20_of m ρ c main_v21_0 (by decide)).trans (at19_v21_0 m ρ c)

/-- `v21_0` at boundary 21. -/
theorem at21_v21_0 : W21 m ρ c (Proc.devRef .tc main_v21_0) = (fun j => a9 m c (ix3 0 (j 0) (j 1)) : FVec Ideal S2048x4096 .bf16) :=
  (W21_of m ρ c main_v21_0 (by decide)).trans (at20_v21_0 m ρ c)

/-- `v21_0` at boundary 22. -/
theorem at22_v21_0 : W22 m ρ c (Proc.devRef .tc main_v21_0) = (fun j => a9 m c (ix3 0 (j 0) (j 1)) : FVec Ideal S2048x4096 .bf16) :=
  (W22_of m ρ c main_v21_0 (by decide)).trans (at21_v21_0 m ρ c)

/-- `v25_0` at boundary 12. -/
theorem at12_v25_0 : W12 m ρ c (Proc.devRef .tc main_v25_0) = (fun j => a10 m c (ix3 0 (j 0) (j 1)) : FVec Ideal S2048x4096 .bf16) :=
  (W12_of m ρ c main_v25_0 (by decide)).trans (at11_v25_0 m ρ c)

/-- `v25_0` at boundary 13. -/
theorem at13_v25_0 : W13 m ρ c (Proc.devRef .tc main_v25_0) = (fun j => a10 m c (ix3 0 (j 0) (j 1)) : FVec Ideal S2048x4096 .bf16) :=
  (W13_of m ρ c main_v25_0 (by decide)).trans (at12_v25_0 m ρ c)

/-- `v25_0` at boundary 14. -/
theorem at14_v25_0 : W14 m ρ c (Proc.devRef .tc main_v25_0) = (fun j => a10 m c (ix3 0 (j 0) (j 1)) : FVec Ideal S2048x4096 .bf16) :=
  (W14_of m ρ c main_v25_0 (by decide)).trans (at13_v25_0 m ρ c)

/-- `v25_0` at boundary 15. -/
theorem at15_v25_0 : W15 m ρ c (Proc.devRef .tc main_v25_0) = (fun j => a10 m c (ix3 0 (j 0) (j 1)) : FVec Ideal S2048x4096 .bf16) :=
  (W15_of m ρ c main_v25_0 (by decide)).trans (at14_v25_0 m ρ c)

/-- `v25_0` at boundary 16. -/
theorem at16_v25_0 : W16 m ρ c (Proc.devRef .tc main_v25_0) = (fun j => a10 m c (ix3 0 (j 0) (j 1)) : FVec Ideal S2048x4096 .bf16) :=
  (W16_of m ρ c main_v25_0 (by decide)).trans (at15_v25_0 m ρ c)

/-- `v25_0` at boundary 17. -/
theorem at17_v25_0 : W17 m ρ c (Proc.devRef .tc main_v25_0) = (fun j => a10 m c (ix3 0 (j 0) (j 1)) : FVec Ideal S2048x4096 .bf16) :=
  (W17_of m ρ c main_v25_0 (by decide)).trans (at16_v25_0 m ρ c)

/-- `v25_0` at boundary 18. -/
theorem at18_v25_0 : W18 m ρ c (Proc.devRef .tc main_v25_0) = (fun j => a10 m c (ix3 0 (j 0) (j 1)) : FVec Ideal S2048x4096 .bf16) :=
  (W18_of m ρ c main_v25_0 (by decide)).trans (at17_v25_0 m ρ c)

/-- `v25_0` at boundary 19. -/
theorem at19_v25_0 : W19 m ρ c (Proc.devRef .tc main_v25_0) = (fun j => a10 m c (ix3 0 (j 0) (j 1)) : FVec Ideal S2048x4096 .bf16) :=
  (W19_of m ρ c main_v25_0 (by decide)).trans (at18_v25_0 m ρ c)

/-- `v25_0` at boundary 20. -/
theorem at20_v25_0 : W20 m ρ c (Proc.devRef .tc main_v25_0) = (fun j => a10 m c (ix3 0 (j 0) (j 1)) : FVec Ideal S2048x4096 .bf16) :=
  (W20_of m ρ c main_v25_0 (by decide)).trans (at19_v25_0 m ρ c)

/-- `v25_0` at boundary 21. -/
theorem at21_v25_0 : W21 m ρ c (Proc.devRef .tc main_v25_0) = (fun j => a10 m c (ix3 0 (j 0) (j 1)) : FVec Ideal S2048x4096 .bf16) :=
  (W21_of m ρ c main_v25_0 (by decide)).trans (at20_v25_0 m ρ c)

/-- `v25_0` at boundary 22. -/
theorem at22_v25_0 : W22 m ρ c (Proc.devRef .tc main_v25_0) = (fun j => a10 m c (ix3 0 (j 0) (j 1)) : FVec Ideal S2048x4096 .bf16) :=
  (W22_of m ρ c main_v25_0 (by decide)).trans (at21_v25_0 m ρ c)

/-- `v34` at boundary 16. -/
theorem at16_v34 : W16 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W16_of m ρ c main_v34 (by decide)).trans (cf_v34 m ρ c)

/-- `v34` at boundary 17. -/
theorem at17_v34 : W17 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W17_of m ρ c main_v34 (by decide)).trans (at16_v34 m ρ c)

/-- `v34` at boundary 18. -/
theorem at18_v34 : W18 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W18_of m ρ c main_v34 (by decide)).trans (at17_v34 m ρ c)

/-- `v34` at boundary 19. -/
theorem at19_v34 : W19 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W19_of m ρ c main_v34 (by decide)).trans (at18_v34 m ρ c)

/-- `v34` at boundary 20. -/
theorem at20_v34 : W20 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W20_of m ρ c main_v34 (by decide)).trans (at19_v34 m ρ c)

/-- `v34` at boundary 21. -/
theorem at21_v34 : W21 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W21_of m ρ c main_v34 (by decide)).trans (at20_v34 m ρ c)

/-- `v34` at boundary 22. -/
theorem at22_v34 : W22 m ρ c (Proc.devRef .tc main_v34) = (fun j => sg (P1 m c ⟨(j 0).val / 64, by have h0 := (j 0).isLt; simp at h0; omega⟩ ⟨(j 0).val % 64, by omega⟩ ⟨16384 + (j 1).val, by have h1 := (j 1).isLt; simp at h1; omega⟩) : FVec Ideal S2048x8192 .bf16) :=
  (W22_of m ρ c main_v34 (by decide)).trans (at21_v34 m ρ c)

/-- `v42` after region 18. -/
theorem cf_v42 : W23 m ρ c (Proc.devRef .tc main_v42) = (fun j => mg1 m c ⟨(j 0).val / 64, by have h0 := (j 0).isLt; simp at h0; omega⟩ ⟨(j 0).val % 64, by omega⟩ (j 1) : FVec Ideal S2048x4096 .bf16) := by
  refine (W23_arr m ρ c 6).trans ((fin18_6 (V22 m ρ) c).trans ?_)
  show g18_6 (W22 m ρ c (Proc.devRef .tc main_arg3)) (W22 m ρ c (Proc.devRef .tc main_v41_0)) (W22 m ρ c (Proc.devRef .tc main_v21_0)) (W22 m ρ c (Proc.devRef .tc main_v25_0)) (W22 m ρ c (Proc.devRef .tc main_v34)) = _
  rw [show W22 m ρ c (Proc.devRef .tc main_arg3) = _ from (W22_args m ρ c main_arg3 (by decide)), (cf_v41_0 m ρ c), (at22_v21_0 m ρ c), (at22_v25_0 m ρ c), (at22_v34 m ρ c)]
  funext j
  have hj : (j 0).val < 2048 := (j 0).isLt
  have h1 : (j 1).val < 4096 := (j 1).isLt
  have eg : sg (P1 m c ⟨(j 0).val / 64, by omega⟩ ⟨(j 0).val % 64, by omega⟩ ⟨16384 + (4096 + (j 1).val), by omega⟩)
      = sg (P1 m c ⟨(j 0).val / 64, by omega⟩ ⟨(j 0).val % 64, by omega⟩ ⟨20480 + (j 1).val, by omega⟩) :=
    congrArg (fun n => sg (P1 m c _ _ n)) (Fin.ext (by show 16384 + (4096 + (j 1).val) = 20480 + (j 1).val; omega))
  have ey : ∀ k : Fin 2048, a3 m c (ix2 (j 0) k) = ya1 m c ⟨(j 0).val / 64, by omega⟩ ⟨(j 0).val % 64, by omega⟩ k := fun k =>
    congrArg (fun i => a3 m c (ix2 i k)) (Fin.ext (by show (j 0).val = (j 0).val / 64 * 64 + (j 0).val % 64; omega))
  exact merged_eq (P1 m c) (ya1 m c) (yb1 m c) (a9 m c) (a10 m c) ⟨(j 0).val / 64, by omega⟩ ⟨(j 0).val % 64, by omega⟩ (j 1) _ _
    (Finset.sum_congr rfl fun k _ => congrArg (· * a9 m c (ix3 0 k (j 1))) (ey k)) eg

/-- `v24_0` at boundary 13. -/
theorem at13_v24_0 : W13 m ρ c (Proc.devRef .tc main_v24_0) = (fun j => a11 m c (ix3 0 (j 0) (j 1)) : FVec Ideal S4096x4096 .bf16) :=
  (W13_of m ρ c main_v24_0 (by decide)).trans (at12_v24_0 m ρ c)

/-- `v24_0` at boundary 14. -/
theorem at14_v24_0 : W14 m ρ c (Proc.devRef .tc main_v24_0) = (fun j => a11 m c (ix3 0 (j 0) (j 1)) : FVec Ideal S4096x4096 .bf16) :=
  (W14_of m ρ c main_v24_0 (by decide)).trans (at13_v24_0 m ρ c)

/-- `v24_0` at boundary 15. -/
theorem at15_v24_0 : W15 m ρ c (Proc.devRef .tc main_v24_0) = (fun j => a11 m c (ix3 0 (j 0) (j 1)) : FVec Ideal S4096x4096 .bf16) :=
  (W15_of m ρ c main_v24_0 (by decide)).trans (at14_v24_0 m ρ c)

/-- `v24_0` at boundary 16. -/
theorem at16_v24_0 : W16 m ρ c (Proc.devRef .tc main_v24_0) = (fun j => a11 m c (ix3 0 (j 0) (j 1)) : FVec Ideal S4096x4096 .bf16) :=
  (W16_of m ρ c main_v24_0 (by decide)).trans (at15_v24_0 m ρ c)

/-- `v24_0` at boundary 17. -/
theorem at17_v24_0 : W17 m ρ c (Proc.devRef .tc main_v24_0) = (fun j => a11 m c (ix3 0 (j 0) (j 1)) : FVec Ideal S4096x4096 .bf16) :=
  (W17_of m ρ c main_v24_0 (by decide)).trans (at16_v24_0 m ρ c)

/-- `v24_0` at boundary 18. -/
theorem at18_v24_0 : W18 m ρ c (Proc.devRef .tc main_v24_0) = (fun j => a11 m c (ix3 0 (j 0) (j 1)) : FVec Ideal S4096x4096 .bf16) :=
  (W18_of m ρ c main_v24_0 (by decide)).trans (at17_v24_0 m ρ c)

/-- `v24_0` at boundary 19. -/
theorem at19_v24_0 : W19 m ρ c (Proc.devRef .tc main_v24_0) = (fun j => a11 m c (ix3 0 (j 0) (j 1)) : FVec Ideal S4096x4096 .bf16) :=
  (W19_of m ρ c main_v24_0 (by decide)).trans (at18_v24_0 m ρ c)

/-- `v24_0` at boundary 20. -/
theorem at20_v24_0 : W20 m ρ c (Proc.devRef .tc main_v24_0) = (fun j => a11 m c (ix3 0 (j 0) (j 1)) : FVec Ideal S4096x4096 .bf16) :=
  (W20_of m ρ c main_v24_0 (by decide)).trans (at19_v24_0 m ρ c)

/-- `v24_0` at boundary 21. -/
theorem at21_v24_0 : W21 m ρ c (Proc.devRef .tc main_v24_0) = (fun j => a11 m c (ix3 0 (j 0) (j 1)) : FVec Ideal S4096x4096 .bf16) :=
  (W21_of m ρ c main_v24_0 (by decide)).trans (at20_v24_0 m ρ c)

/-- `v24_0` at boundary 22. -/
theorem at22_v24_0 : W22 m ρ c (Proc.devRef .tc main_v24_0) = (fun j => a11 m c (ix3 0 (j 0) (j 1)) : FVec Ideal S4096x4096 .bf16) :=
  (W22_of m ρ c main_v24_0 (by decide)).trans (at21_v24_0 m ρ c)

/-- `v24_0` at boundary 23. -/
theorem at23_v24_0 : W23 m ρ c (Proc.devRef .tc main_v24_0) = (fun j => a11 m c (ix3 0 (j 0) (j 1)) : FVec Ideal S4096x4096 .bf16) :=
  (W23_of m ρ c main_v24_0 (by decide)).trans (at22_v24_0 m ρ c)

/-- `v31` at boundary 15. -/
theorem at15_v31 : W15 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W15_of m ρ c main_v31 (by decide)).trans (cf_v31 m ρ c)

/-- `v31` at boundary 16. -/
theorem at16_v31 : W16 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W16_of m ρ c main_v31 (by decide)).trans (at15_v31 m ρ c)

/-- `v31` at boundary 17. -/
theorem at17_v31 : W17 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W17_of m ρ c main_v31 (by decide)).trans (at16_v31 m ρ c)

/-- `v31` at boundary 18. -/
theorem at18_v31 : W18 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W18_of m ρ c main_v31 (by decide)).trans (at17_v31 m ρ c)

/-- `v31` at boundary 19. -/
theorem at19_v31 : W19 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W19_of m ρ c main_v31 (by decide)).trans (at18_v31 m ρ c)

/-- `v31` at boundary 20. -/
theorem at20_v31 : W20 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W20_of m ρ c main_v31 (by decide)).trans (at19_v31 m ρ c)

/-- `v31` at boundary 21. -/
theorem at21_v31 : W21 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W21_of m ρ c main_v31 (by decide)).trans (at20_v31 m ρ c)

/-- `v31` at boundary 22. -/
theorem at22_v31 : W22 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W22_of m ρ c main_v31 (by decide)).trans (at21_v31 m ρ c)

/-- `v31` at boundary 23. -/
theorem at23_v31 : W23 m ρ c (Proc.devRef .tc main_v31) = (fun j => a1 m c (ix3 ⟨(j 0).val / 64, by have h0 := (j 0).isLt; simp at h0; omega⟩ ⟨(j 0).val % 64, by omega⟩ (j 1)) : FVec Ideal S2048x4096 .f32) :=
  (W23_of m ρ c main_v31 (by decide)).trans (at22_v31 m ρ c)

/-- `v10` at boundary 13. -/
theorem at13_v10 : W13 m ρ c (Proc.devRef .tc main_v10) = (fun j => a12 m c (ix2 0 (j 1)) : FVec Ideal S1x4096 .f32) :=
  (W13_of m ρ c main_v10 (by decide)).trans (at12_v10 m ρ c)

/-- `v10` at boundary 14. -/
theorem at14_v10 : W14 m ρ c (Proc.devRef .tc main_v10) = (fun j => a12 m c (ix2 0 (j 1)) : FVec Ideal S1x4096 .f32) :=
  (W14_of m ρ c main_v10 (by decide)).trans (at13_v10 m ρ c)

/-- `v10` at boundary 15. -/
theorem at15_v10 : W15 m ρ c (Proc.devRef .tc main_v10) = (fun j => a12 m c (ix2 0 (j 1)) : FVec Ideal S1x4096 .f32) :=
  (W15_of m ρ c main_v10 (by decide)).trans (at14_v10 m ρ c)

/-- `v10` at boundary 16. -/
theorem at16_v10 : W16 m ρ c (Proc.devRef .tc main_v10) = (fun j => a12 m c (ix2 0 (j 1)) : FVec Ideal S1x4096 .f32) :=
  (W16_of m ρ c main_v10 (by decide)).trans (at15_v10 m ρ c)

/-- `v10` at boundary 17. -/
theorem at17_v10 : W17 m ρ c (Proc.devRef .tc main_v10) = (fun j => a12 m c (ix2 0 (j 1)) : FVec Ideal S1x4096 .f32) :=
  (W17_of m ρ c main_v10 (by decide)).trans (at16_v10 m ρ c)

/-- `v10` at boundary 18. -/
theorem at18_v10 : W18 m ρ c (Proc.devRef .tc main_v10) = (fun j => a12 m c (ix2 0 (j 1)) : FVec Ideal S1x4096 .f32) :=
  (W18_of m ρ c main_v10 (by decide)).trans (at17_v10 m ρ c)

/-- `v10` at boundary 19. -/
theorem at19_v10 : W19 m ρ c (Proc.devRef .tc main_v10) = (fun j => a12 m c (ix2 0 (j 1)) : FVec Ideal S1x4096 .f32) :=
  (W19_of m ρ c main_v10 (by decide)).trans (at18_v10 m ρ c)

/-- `v10` at boundary 20. -/
theorem at20_v10 : W20 m ρ c (Proc.devRef .tc main_v10) = (fun j => a12 m c (ix2 0 (j 1)) : FVec Ideal S1x4096 .f32) :=
  (W20_of m ρ c main_v10 (by decide)).trans (at19_v10 m ρ c)

/-- `v10` at boundary 21. -/
theorem at21_v10 : W21 m ρ c (Proc.devRef .tc main_v10) = (fun j => a12 m c (ix2 0 (j 1)) : FVec Ideal S1x4096 .f32) :=
  (W21_of m ρ c main_v10 (by decide)).trans (at20_v10 m ρ c)

/-- `v10` at boundary 22. -/
theorem at22_v10 : W22 m ρ c (Proc.devRef .tc main_v10) = (fun j => a12 m c (ix2 0 (j 1)) : FVec Ideal S1x4096 .f32) :=
  (W22_of m ρ c main_v10 (by decide)).trans (at21_v10 m ρ c)

/-- `v10` at boundary 23. -/
theorem at23_v10 : W23 m ρ c (Proc.devRef .tc main_v10) = (fun j => a12 m c (ix2 0 (j 1)) : FVec Ideal S1x4096 .f32) :=
  (W23_of m ρ c main_v10 (by decide)).trans (at22_v10 m ρ c)

/-- `v12` at boundary 13. -/
theorem at13_v12 : W13 m ρ c (Proc.devRef .tc main_v12) = (fun j => a13 m c (ix2 0 (j 1)) : FVec Ideal S1x4096 .f32) :=
  (W13_of m ρ c main_v12 (by decide)).trans (at12_v12 m ρ c)

/-- `v12` at boundary 14. -/
theorem at14_v12 : W14 m ρ c (Proc.devRef .tc main_v12) = (fun j => a13 m c (ix2 0 (j 1)) : FVec Ideal S1x4096 .f32) :=
  (W14_of m ρ c main_v12 (by decide)).trans (at13_v12 m ρ c)

/-- `v12` at boundary 15. -/
theorem at15_v12 : W15 m ρ c (Proc.devRef .tc main_v12) = (fun j => a13 m c (ix2 0 (j 1)) : FVec Ideal S1x4096 .f32) :=
  (W15_of m ρ c main_v12 (by decide)).trans (at14_v12 m ρ c)

/-- `v12` at boundary 16. -/
theorem at16_v12 : W16 m ρ c (Proc.devRef .tc main_v12) = (fun j => a13 m c (ix2 0 (j 1)) : FVec Ideal S1x4096 .f32) :=
  (W16_of m ρ c main_v12 (by decide)).trans (at15_v12 m ρ c)

/-- `v12` at boundary 17. -/
theorem at17_v12 : W17 m ρ c (Proc.devRef .tc main_v12) = (fun j => a13 m c (ix2 0 (j 1)) : FVec Ideal S1x4096 .f32) :=
  (W17_of m ρ c main_v12 (by decide)).trans (at16_v12 m ρ c)

/-- `v12` at boundary 18. -/
theorem at18_v12 : W18 m ρ c (Proc.devRef .tc main_v12) = (fun j => a13 m c (ix2 0 (j 1)) : FVec Ideal S1x4096 .f32) :=
  (W18_of m ρ c main_v12 (by decide)).trans (at17_v12 m ρ c)

/-- `v12` at boundary 19. -/
theorem at19_v12 : W19 m ρ c (Proc.devRef .tc main_v12) = (fun j => a13 m c (ix2 0 (j 1)) : FVec Ideal S1x4096 .f32) :=
  (W19_of m ρ c main_v12 (by decide)).trans (at18_v12 m ρ c)

/-- `v12` at boundary 20. -/
theorem at20_v12 : W20 m ρ c (Proc.devRef .tc main_v12) = (fun j => a13 m c (ix2 0 (j 1)) : FVec Ideal S1x4096 .f32) :=
  (W20_of m ρ c main_v12 (by decide)).trans (at19_v12 m ρ c)

/-- `v12` at boundary 21. -/
theorem at21_v12 : W21 m ρ c (Proc.devRef .tc main_v12) = (fun j => a13 m c (ix2 0 (j 1)) : FVec Ideal S1x4096 .f32) :=
  (W21_of m ρ c main_v12 (by decide)).trans (at20_v12 m ρ c)

/-- `v12` at boundary 22. -/
theorem at22_v12 : W22 m ρ c (Proc.devRef .tc main_v12) = (fun j => a13 m c (ix2 0 (j 1)) : FVec Ideal S1x4096 .f32) :=
  (W22_of m ρ c main_v12 (by decide)).trans (at21_v12 m ρ c)

/-- `v12` at boundary 23. -/
theorem at23_v12 : W23 m ρ c (Proc.devRef .tc main_v12) = (fun j => a13 m c (ix2 0 (j 1)) : FVec Ideal S1x4096 .f32) :=
  (W23_of m ρ c main_v12 (by decide)).trans (at22_v12 m ρ c)

/-- `v43` after region 19. -/
theorem cf_v43 : W24 m ρ c (Proc.devRef .tc main_v43) = (fun j => layerNorm (pre (a1 m c) (mg1 m c) (a11 m c) ⟨(j 0).val / 64, by have h0 := (j 0).isLt; simp at h0; omega⟩ ⟨(j 0).val % 64, by omega⟩) (a12 m c) (a13 m c) (j 1) : FVec Ideal S2048x4096 .f32) := by
  refine (W24_arr m ρ c 5).trans ((fin19_5 (V23 m ρ) c).trans ?_)
  show g19_5 (W23 m ρ c (Proc.devRef .tc main_v42)) (W23 m ρ c (Proc.devRef .tc main_v24_0)) (W23 m ρ c (Proc.devRef .tc main_v31)) (W23 m ρ c (Proc.devRef .tc main_v10)) (W23 m ρ c (Proc.devRef .tc main_v12)) = _
  rw [(cf_v42 m ρ c), (at23_v24_0 m ρ c), (at23_v31 m ρ c), (at23_v10 m ρ c), (at23_v12 m ρ c)]
  funext j
  pointwise [g19_5, layerNorm, mean, pre]
  try blk_point []
  all_goals exact congrArg Ideal.exp (zero_sub _)

/-- `v29` at boundary 14. -/
theorem at14_v29 : W14 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W14_of m ρ c main_v29 (by decide)).trans (cf_v29 m ρ c)

/-- `v29` at boundary 15. -/
theorem at15_v29 : W15 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W15_of m ρ c main_v29 (by decide)).trans (at14_v29 m ρ c)

/-- `v29` at boundary 16. -/
theorem at16_v29 : W16 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W16_of m ρ c main_v29 (by decide)).trans (at15_v29 m ρ c)

/-- `v29` at boundary 17. -/
theorem at17_v29 : W17 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W17_of m ρ c main_v29 (by decide)).trans (at16_v29 m ρ c)

/-- `v29` at boundary 18. -/
theorem at18_v29 : W18 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W18_of m ρ c main_v29 (by decide)).trans (at17_v29 m ρ c)

/-- `v29` at boundary 19. -/
theorem at19_v29 : W19 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W19_of m ρ c main_v29 (by decide)).trans (at18_v29 m ρ c)

/-- `v29` at boundary 20. -/
theorem at20_v29 : W20 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W20_of m ρ c main_v29 (by decide)).trans (at19_v29 m ρ c)

/-- `v29` at boundary 21. -/
theorem at21_v29 : W21 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W21_of m ρ c main_v29 (by decide)).trans (at20_v29 m ρ c)

/-- `v29` at boundary 22. -/
theorem at22_v29 : W22 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W22_of m ρ c main_v29 (by decide)).trans (at21_v29 m ρ c)

/-- `v29` at boundary 23. -/
theorem at23_v29 : W23 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W23_of m ρ c main_v29 (by decide)).trans (at22_v29 m ρ c)

/-- `v29` at boundary 24. -/
theorem at24_v29 : W24 m ρ c (Proc.devRef .tc main_v29) = (fun j => layerNorm (pre (a0 m c) (mg0 m c) (a11 m c) ⟨(j 0).val / 2048, by have h0 := (j 0).isLt; simp at h0; omega⟩ ⟨(j 0).val % 2048, by omega⟩) (a12 m c) (a13 m c) (j 1) : FVec Ideal S8192x4096 .f32) :=
  (W24_of m ρ c main_v29 (by decide)).trans (at23_v29 m ρ c)

/-- `v22_0` at boundary 7. -/
theorem at7_v22_0 : W7 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W7_of m ρ c main_v22_0 (by decide)).trans (cf_v22_0 m ρ c)

/-- `v22_0` at boundary 8. -/
theorem at8_v22_0 : W8 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W8_of m ρ c main_v22_0 (by decide)).trans (at7_v22_0 m ρ c)

/-- `v22_0` at boundary 9. -/
theorem at9_v22_0 : W9 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W9_of m ρ c main_v22_0 (by decide)).trans (at8_v22_0 m ρ c)

/-- `v22_0` at boundary 10. -/
theorem at10_v22_0 : W10 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W10_of m ρ c main_v22_0 (by decide)).trans (at9_v22_0 m ρ c)

/-- `v22_0` at boundary 11. -/
theorem at11_v22_0 : W11 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W11_of m ρ c main_v22_0 (by decide)).trans (at10_v22_0 m ρ c)

/-- `v22_0` at boundary 12. -/
theorem at12_v22_0 : W12 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W12_of m ρ c main_v22_0 (by decide)).trans (at11_v22_0 m ρ c)

/-- `v22_0` at boundary 13. -/
theorem at13_v22_0 : W13 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W13_of m ρ c main_v22_0 (by decide)).trans (at12_v22_0 m ρ c)

/-- `v22_0` at boundary 14. -/
theorem at14_v22_0 : W14 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W14_of m ρ c main_v22_0 (by decide)).trans (at13_v22_0 m ρ c)

/-- `v22_0` at boundary 15. -/
theorem at15_v22_0 : W15 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W15_of m ρ c main_v22_0 (by decide)).trans (at14_v22_0 m ρ c)

/-- `v22_0` at boundary 16. -/
theorem at16_v22_0 : W16 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W16_of m ρ c main_v22_0 (by decide)).trans (at15_v22_0 m ρ c)

/-- `v22_0` at boundary 17. -/
theorem at17_v22_0 : W17 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W17_of m ρ c main_v22_0 (by decide)).trans (at16_v22_0 m ρ c)

/-- `v22_0` at boundary 18. -/
theorem at18_v22_0 : W18 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W18_of m ρ c main_v22_0 (by decide)).trans (at17_v22_0 m ρ c)

/-- `v22_0` at boundary 19. -/
theorem at19_v22_0 : W19 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W19_of m ρ c main_v22_0 (by decide)).trans (at18_v22_0 m ρ c)

/-- `v22_0` at boundary 20. -/
theorem at20_v22_0 : W20 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W20_of m ρ c main_v22_0 (by decide)).trans (at19_v22_0 m ρ c)

/-- `v22_0` at boundary 21. -/
theorem at21_v22_0 : W21 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W21_of m ρ c main_v22_0 (by decide)).trans (at20_v22_0 m ρ c)

/-- `v22_0` at boundary 22. -/
theorem at22_v22_0 : W22 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W22_of m ρ c main_v22_0 (by decide)).trans (at21_v22_0 m ρ c)

/-- `v22_0` at boundary 23. -/
theorem at23_v22_0 : W23 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W23_of m ρ c main_v22_0 (by decide)).trans (at22_v22_0 m ρ c)

/-- `v22_0` at boundary 24. -/
theorem at24_v22_0 : W24 m ρ c (Proc.devRef .tc main_v22_0) = (fun j => P0 m c ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) :=
  (W24_of m ρ c main_v22_0 (by decide)).trans (at23_v22_0 m ρ c)

/-- `v23_0` at boundary 8. -/
theorem at8_v23_0 : W8 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W8_of m ρ c main_v23_0 (by decide)).trans (cf_v23_0 m ρ c)

/-- `v23_0` at boundary 9. -/
theorem at9_v23_0 : W9 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W9_of m ρ c main_v23_0 (by decide)).trans (at8_v23_0 m ρ c)

/-- `v23_0` at boundary 10. -/
theorem at10_v23_0 : W10 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W10_of m ρ c main_v23_0 (by decide)).trans (at9_v23_0 m ρ c)

/-- `v23_0` at boundary 11. -/
theorem at11_v23_0 : W11 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W11_of m ρ c main_v23_0 (by decide)).trans (at10_v23_0 m ρ c)

/-- `v23_0` at boundary 12. -/
theorem at12_v23_0 : W12 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W12_of m ρ c main_v23_0 (by decide)).trans (at11_v23_0 m ρ c)

/-- `v23_0` at boundary 13. -/
theorem at13_v23_0 : W13 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W13_of m ρ c main_v23_0 (by decide)).trans (at12_v23_0 m ρ c)

/-- `v23_0` at boundary 14. -/
theorem at14_v23_0 : W14 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W14_of m ρ c main_v23_0 (by decide)).trans (at13_v23_0 m ρ c)

/-- `v23_0` at boundary 15. -/
theorem at15_v23_0 : W15 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W15_of m ρ c main_v23_0 (by decide)).trans (at14_v23_0 m ρ c)

/-- `v23_0` at boundary 16. -/
theorem at16_v23_0 : W16 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W16_of m ρ c main_v23_0 (by decide)).trans (at15_v23_0 m ρ c)

/-- `v23_0` at boundary 17. -/
theorem at17_v23_0 : W17 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W17_of m ρ c main_v23_0 (by decide)).trans (at16_v23_0 m ρ c)

/-- `v23_0` at boundary 18. -/
theorem at18_v23_0 : W18 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W18_of m ρ c main_v23_0 (by decide)).trans (at17_v23_0 m ρ c)

/-- `v23_0` at boundary 19. -/
theorem at19_v23_0 : W19 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W19_of m ρ c main_v23_0 (by decide)).trans (at18_v23_0 m ρ c)

/-- `v23_0` at boundary 20. -/
theorem at20_v23_0 : W20 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W20_of m ρ c main_v23_0 (by decide)).trans (at19_v23_0 m ρ c)

/-- `v23_0` at boundary 21. -/
theorem at21_v23_0 : W21 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W21_of m ρ c main_v23_0 (by decide)).trans (at20_v23_0 m ρ c)

/-- `v23_0` at boundary 22. -/
theorem at22_v23_0 : W22 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W22_of m ρ c main_v23_0 (by decide)).trans (at21_v23_0 m ρ c)

/-- `v23_0` at boundary 23. -/
theorem at23_v23_0 : W23 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W23_of m ρ c main_v23_0 (by decide)).trans (at22_v23_0 m ρ c)

/-- `v23_0` at boundary 24. -/
theorem at24_v23_0 : W24 m ρ c (Proc.devRef .tc main_v23_0) = (fun j => P0 m c ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) :=
  (W24_of m ρ c main_v23_0 (by decide)).trans (at23_v23_0 m ρ c)

/-- `v27_1` at boundary 12. -/
theorem at12_v27_1 : W12 m ρ c (Proc.devRef .tc main_v27_1) = (fun j => uu (P0 m c) (j 0) ⟨2046 + (j 1).val, by have h1 := (j 1).isLt; simp at h1; omega⟩ (j 2) : FVec Ideal S4x2x2048 .f32) :=
  (W12_of m ρ c main_v27_1 (by decide)).trans (cf_v27_1 m ρ c)

/-- `v27_1` at boundary 13. -/
theorem at13_v27_1 : W13 m ρ c (Proc.devRef .tc main_v27_1) = (fun j => uu (P0 m c) (j 0) ⟨2046 + (j 1).val, by have h1 := (j 1).isLt; simp at h1; omega⟩ (j 2) : FVec Ideal S4x2x2048 .f32) :=
  (W13_of m ρ c main_v27_1 (by decide)).trans (at12_v27_1 m ρ c)

/-- `v27_1` at boundary 14. -/
theorem at14_v27_1 : W14 m ρ c (Proc.devRef .tc main_v27_1) = (fun j => uu (P0 m c) (j 0) ⟨2046 + (j 1).val, by have h1 := (j 1).isLt; simp at h1; omega⟩ (j 2) : FVec Ideal S4x2x2048 .f32) :=
  (W14_of m ρ c main_v27_1 (by decide)).trans (at13_v27_1 m ρ c)

/-- `v27_1` at boundary 15. -/
theorem at15_v27_1 : W15 m ρ c (Proc.devRef .tc main_v27_1) = (fun j => uu (P0 m c) (j 0) ⟨2046 + (j 1).val, by have h1 := (j 1).isLt; simp at h1; omega⟩ (j 2) : FVec Ideal S4x2x2048 .f32) :=
  (W15_of m ρ c main_v27_1 (by decide)).trans (at14_v27_1 m ρ c)

/-- `v27_1` at boundary 16. -/
theorem at16_v27_1 : W16 m ρ c (Proc.devRef .tc main_v27_1) = (fun j => uu (P0 m c) (j 0) ⟨2046 + (j 1).val, by have h1 := (j 1).isLt; simp at h1; omega⟩ (j 2) : FVec Ideal S4x2x2048 .f32) :=
  (W16_of m ρ c main_v27_1 (by decide)).trans (at15_v27_1 m ρ c)

/-- `v27_1` at boundary 17. -/
theorem at17_v27_1 : W17 m ρ c (Proc.devRef .tc main_v27_1) = (fun j => uu (P0 m c) (j 0) ⟨2046 + (j 1).val, by have h1 := (j 1).isLt; simp at h1; omega⟩ (j 2) : FVec Ideal S4x2x2048 .f32) :=
  (W17_of m ρ c main_v27_1 (by decide)).trans (at16_v27_1 m ρ c)

/-- `v27_1` at boundary 18. -/
theorem at18_v27_1 : W18 m ρ c (Proc.devRef .tc main_v27_1) = (fun j => uu (P0 m c) (j 0) ⟨2046 + (j 1).val, by have h1 := (j 1).isLt; simp at h1; omega⟩ (j 2) : FVec Ideal S4x2x2048 .f32) :=
  (W18_of m ρ c main_v27_1 (by decide)).trans (at17_v27_1 m ρ c)

/-- `v27_1` at boundary 19. -/
theorem at19_v27_1 : W19 m ρ c (Proc.devRef .tc main_v27_1) = (fun j => uu (P0 m c) (j 0) ⟨2046 + (j 1).val, by have h1 := (j 1).isLt; simp at h1; omega⟩ (j 2) : FVec Ideal S4x2x2048 .f32) :=
  (W19_of m ρ c main_v27_1 (by decide)).trans (at18_v27_1 m ρ c)

/-- `v27_1` at boundary 20. -/
theorem at20_v27_1 : W20 m ρ c (Proc.devRef .tc main_v27_1) = (fun j => uu (P0 m c) (j 0) ⟨2046 + (j 1).val, by have h1 := (j 1).isLt; simp at h1; omega⟩ (j 2) : FVec Ideal S4x2x2048 .f32) :=
  (W20_of m ρ c main_v27_1 (by decide)).trans (at19_v27_1 m ρ c)

/-- `v27_1` at boundary 21. -/
theorem at21_v27_1 : W21 m ρ c (Proc.devRef .tc main_v27_1) = (fun j => uu (P0 m c) (j 0) ⟨2046 + (j 1).val, by have h1 := (j 1).isLt; simp at h1; omega⟩ (j 2) : FVec Ideal S4x2x2048 .f32) :=
  (W21_of m ρ c main_v27_1 (by decide)).trans (at20_v27_1 m ρ c)

/-- `v27_1` at boundary 22. -/
theorem at22_v27_1 : W22 m ρ c (Proc.devRef .tc main_v27_1) = (fun j => uu (P0 m c) (j 0) ⟨2046 + (j 1).val, by have h1 := (j 1).isLt; simp at h1; omega⟩ (j 2) : FVec Ideal S4x2x2048 .f32) :=
  (W22_of m ρ c main_v27_1 (by decide)).trans (at21_v27_1 m ρ c)

/-- `v27_1` at boundary 23. -/
theorem at23_v27_1 : W23 m ρ c (Proc.devRef .tc main_v27_1) = (fun j => uu (P0 m c) (j 0) ⟨2046 + (j 1).val, by have h1 := (j 1).isLt; simp at h1; omega⟩ (j 2) : FVec Ideal S4x2x2048 .f32) :=
  (W23_of m ρ c main_v27_1 (by decide)).trans (at22_v27_1 m ρ c)

/-- `v27_1` at boundary 24. -/
theorem at24_v27_1 : W24 m ρ c (Proc.devRef .tc main_v27_1) = (fun j => uu (P0 m c) (j 0) ⟨2046 + (j 1).val, by have h1 := (j 1).isLt; simp at h1; omega⟩ (j 2) : FVec Ideal S4x2x2048 .f32) :=
  (W24_of m ρ c main_v27_1 (by decide)).trans (at23_v27_1 m ρ c)

/-- `v37_0` at boundary 19. -/
theorem at19_v37_0 : W19 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W19_of m ρ c main_v37_0 (by decide)).trans (cf_v37_0 m ρ c)

/-- `v37_0` at boundary 20. -/
theorem at20_v37_0 : W20 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W20_of m ρ c main_v37_0 (by decide)).trans (at19_v37_0 m ρ c)

/-- `v37_0` at boundary 21. -/
theorem at21_v37_0 : W21 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W21_of m ρ c main_v37_0 (by decide)).trans (at20_v37_0 m ρ c)

/-- `v37_0` at boundary 22. -/
theorem at22_v37_0 : W22 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W22_of m ρ c main_v37_0 (by decide)).trans (at21_v37_0 m ρ c)

/-- `v37_0` at boundary 23. -/
theorem at23_v37_0 : W23 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W23_of m ρ c main_v37_0 (by decide)).trans (at22_v37_0 m ρ c)

/-- `v37_0` at boundary 24. -/
theorem at24_v37_0 : W24 m ρ c (Proc.devRef .tc main_v37_0) = (fun j => P1 m c ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) :=
  (W24_of m ρ c main_v37_0 (by decide)).trans (at23_v37_0 m ρ c)

/-- `v38_0` at boundary 20. -/
theorem at20_v38_0 : W20 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) :=
  (W20_of m ρ c main_v38_0 (by decide)).trans (cf_v38_0 m ρ c)

/-- `v38_0` at boundary 21. -/
theorem at21_v38_0 : W21 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) :=
  (W21_of m ρ c main_v38_0 (by decide)).trans (at20_v38_0 m ρ c)

/-- `v38_0` at boundary 22. -/
theorem at22_v38_0 : W22 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) :=
  (W22_of m ρ c main_v38_0 (by decide)).trans (at21_v38_0 m ρ c)

/-- `v38_0` at boundary 23. -/
theorem at23_v38_0 : W23 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) :=
  (W23_of m ρ c main_v38_0 (by decide)).trans (at22_v38_0 m ρ c)

/-- `v38_0` at boundary 24. -/
theorem at24_v38_0 : W24 m ρ c (Proc.devRef .tc main_v38_0) = (fun j => P1 m c ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) :=
  (W24_of m ρ c main_v38_0 (by decide)).trans (at23_v38_0 m ρ c)

/-- `v41_1` at boundary 23. -/
theorem at23_v41_1 : W23 m ρ c (Proc.devRef .tc main_v41_1) = (fun j => uu (P1 m c) (j 0) ⟨62 + (j 1).val, by have h1 := (j 1).isLt; simp at h1; omega⟩ (j 2) : FVec Ideal S32x2x2048 .f32) :=
  (W23_of m ρ c main_v41_1 (by decide)).trans (cf_v41_1 m ρ c)

/-- `v41_1` at boundary 24. -/
theorem at24_v41_1 : W24 m ρ c (Proc.devRef .tc main_v41_1) = (fun j => uu (P1 m c) (j 0) ⟨62 + (j 1).val, by have h1 := (j 1).isLt; simp at h1; omega⟩ (j 2) : FVec Ideal S32x2x2048 .f32) :=
  (W24_of m ρ c main_v41_1 (by decide)).trans (at23_v41_1 m ρ c)

/-- `v21_1` at boundary 6. -/
theorem at6_v21_1 : W6 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W6_of m ρ c main_v21_1 (by decide)).trans (cf_v21_1 m ρ c)

/-- `v21_1` at boundary 7. -/
theorem at7_v21_1 : W7 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W7_of m ρ c main_v21_1 (by decide)).trans (at6_v21_1 m ρ c)

/-- `v21_1` at boundary 8. -/
theorem at8_v21_1 : W8 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W8_of m ρ c main_v21_1 (by decide)).trans (at7_v21_1 m ρ c)

/-- `v21_1` at boundary 9. -/
theorem at9_v21_1 : W9 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W9_of m ρ c main_v21_1 (by decide)).trans (at8_v21_1 m ρ c)

/-- `v21_1` at boundary 10. -/
theorem at10_v21_1 : W10 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W10_of m ρ c main_v21_1 (by decide)).trans (at9_v21_1 m ρ c)

/-- `v21_1` at boundary 11. -/
theorem at11_v21_1 : W11 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W11_of m ρ c main_v21_1 (by decide)).trans (at10_v21_1 m ρ c)

/-- `v21_1` at boundary 12. -/
theorem at12_v21_1 : W12 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W12_of m ρ c main_v21_1 (by decide)).trans (at11_v21_1 m ρ c)

/-- `v21_1` at boundary 13. -/
theorem at13_v21_1 : W13 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W13_of m ρ c main_v21_1 (by decide)).trans (at12_v21_1 m ρ c)

/-- `v21_1` at boundary 14. -/
theorem at14_v21_1 : W14 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W14_of m ρ c main_v21_1 (by decide)).trans (at13_v21_1 m ρ c)

/-- `v21_1` at boundary 15. -/
theorem at15_v21_1 : W15 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W15_of m ρ c main_v21_1 (by decide)).trans (at14_v21_1 m ρ c)

/-- `v21_1` at boundary 16. -/
theorem at16_v21_1 : W16 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W16_of m ρ c main_v21_1 (by decide)).trans (at15_v21_1 m ρ c)

/-- `v21_1` at boundary 17. -/
theorem at17_v21_1 : W17 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W17_of m ρ c main_v21_1 (by decide)).trans (at16_v21_1 m ρ c)

/-- `v21_1` at boundary 18. -/
theorem at18_v21_1 : W18 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W18_of m ρ c main_v21_1 (by decide)).trans (at17_v21_1 m ρ c)

/-- `v21_1` at boundary 19. -/
theorem at19_v21_1 : W19 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W19_of m ρ c main_v21_1 (by decide)).trans (at18_v21_1 m ρ c)

/-- `v21_1` at boundary 20. -/
theorem at20_v21_1 : W20 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W20_of m ρ c main_v21_1 (by decide)).trans (at19_v21_1 m ρ c)

/-- `v21_1` at boundary 21. -/
theorem at21_v21_1 : W21 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W21_of m ρ c main_v21_1 (by decide)).trans (at20_v21_1 m ρ c)

/-- `v21_1` at boundary 22. -/
theorem at22_v21_1 : W22 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W22_of m ρ c main_v21_1 (by decide)).trans (at21_v21_1 m ρ c)

/-- `v21_1` at boundary 23. -/
theorem at23_v21_1 : W23 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W23_of m ρ c main_v21_1 (by decide)).trans (at22_v21_1 m ρ c)

/-- `v21_1` at boundary 24. -/
theorem at24_v21_1 : W24 m ρ c (Proc.devRef .tc main_v21_1) = (fun j => P0 m c ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) :=
  (W24_of m ρ c main_v21_1 (by decide)).trans (at23_v21_1 m ρ c)

/-- `v24_1` at boundary 9. -/
theorem at9_v24_1 : W9 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W9_of m ρ c main_v24_1 (by decide)).trans (cf_v24_1 m ρ c)

/-- `v24_1` at boundary 10. -/
theorem at10_v24_1 : W10 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W10_of m ρ c main_v24_1 (by decide)).trans (at9_v24_1 m ρ c)

/-- `v24_1` at boundary 11. -/
theorem at11_v24_1 : W11 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W11_of m ρ c main_v24_1 (by decide)).trans (at10_v24_1 m ρ c)

/-- `v24_1` at boundary 12. -/
theorem at12_v24_1 : W12 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W12_of m ρ c main_v24_1 (by decide)).trans (at11_v24_1 m ρ c)

/-- `v24_1` at boundary 13. -/
theorem at13_v24_1 : W13 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W13_of m ρ c main_v24_1 (by decide)).trans (at12_v24_1 m ρ c)

/-- `v24_1` at boundary 14. -/
theorem at14_v24_1 : W14 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W14_of m ρ c main_v24_1 (by decide)).trans (at13_v24_1 m ρ c)

/-- `v24_1` at boundary 15. -/
theorem at15_v24_1 : W15 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W15_of m ρ c main_v24_1 (by decide)).trans (at14_v24_1 m ρ c)

/-- `v24_1` at boundary 16. -/
theorem at16_v24_1 : W16 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W16_of m ρ c main_v24_1 (by decide)).trans (at15_v24_1 m ρ c)

/-- `v24_1` at boundary 17. -/
theorem at17_v24_1 : W17 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W17_of m ρ c main_v24_1 (by decide)).trans (at16_v24_1 m ρ c)

/-- `v24_1` at boundary 18. -/
theorem at18_v24_1 : W18 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W18_of m ρ c main_v24_1 (by decide)).trans (at17_v24_1 m ρ c)

/-- `v24_1` at boundary 19. -/
theorem at19_v24_1 : W19 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W19_of m ρ c main_v24_1 (by decide)).trans (at18_v24_1 m ρ c)

/-- `v24_1` at boundary 20. -/
theorem at20_v24_1 : W20 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W20_of m ρ c main_v24_1 (by decide)).trans (at19_v24_1 m ρ c)

/-- `v24_1` at boundary 21. -/
theorem at21_v24_1 : W21 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W21_of m ρ c main_v24_1 (by decide)).trans (at20_v24_1 m ρ c)

/-- `v24_1` at boundary 22. -/
theorem at22_v24_1 : W22 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W22_of m ρ c main_v24_1 (by decide)).trans (at21_v24_1 m ρ c)

/-- `v24_1` at boundary 23. -/
theorem at23_v24_1 : W23 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W23_of m ρ c main_v24_1 (by decide)).trans (at22_v24_1 m ρ c)

/-- `v24_1` at boundary 24. -/
theorem at24_v24_1 : W24 m ρ c (Proc.devRef .tc main_v24_1) = (fun j => P0 m c ⟨(j 0).val / 2048, by have h0 := (j 0).isLt; simp at h0; omega⟩ ⟨(j 0).val % 2048, by omega⟩ ⟨6144 + (j 1).val, by have h1 := (j 1).isLt; simp at h1; omega⟩ * sg (P0 m c ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) :=
  (W24_of m ρ c main_v24_1 (by decide)).trans (at23_v24_1 m ρ c)

/-- `v36` at boundary 18. -/
theorem at18_v36 : W18 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W18_of m ρ c main_v36 (by decide)).trans (cf_v36 m ρ c)

/-- `v36` at boundary 19. -/
theorem at19_v36 : W19 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W19_of m ρ c main_v36 (by decide)).trans (at18_v36 m ρ c)

/-- `v36` at boundary 20. -/
theorem at20_v36 : W20 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W20_of m ρ c main_v36 (by decide)).trans (at19_v36 m ρ c)

/-- `v36` at boundary 21. -/
theorem at21_v36 : W21 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W21_of m ρ c main_v36 (by decide)).trans (at20_v36 m ρ c)

/-- `v36` at boundary 22. -/
theorem at22_v36 : W22 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W22_of m ρ c main_v36 (by decide)).trans (at21_v36 m ρ c)

/-- `v36` at boundary 23. -/
theorem at23_v36 : W23 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W23_of m ρ c main_v36 (by decide)).trans (at22_v36 m ρ c)

/-- `v36` at boundary 24. -/
theorem at24_v36 : W24 m ρ c (Proc.devRef .tc main_v36) = (fun j => P1 m c ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) :=
  (W24_of m ρ c main_v36 (by decide)).trans (at23_v36 m ρ c)

/-- `v39` at boundary 21. -/
theorem at21_v39 : W21 m ρ c (Proc.devRef .tc main_v39) = (fun j => P1 m c ⟨(j 0).val / 64, by have h0 := (j 0).isLt; simp at h0; omega⟩ ⟨(j 0).val % 64, by omega⟩ ⟨6144 + (j 1).val, by have h1 := (j 1).isLt; simp at h1; omega⟩ * sg (P1 m c ⟨(j 0).val / 64, by have h0 := (j 0).isLt; simp at h0; omega⟩ ⟨(j 0).val % 64, by omega⟩ ⟨6144 + (j 1).val, by have h1 := (j 1).isLt; simp at h1; omega⟩) : FVec Ideal S2048x2048 .bf16) :=
  (W21_of m ρ c main_v39 (by decide)).trans (cf_v39 m ρ c)

/-- `v39` at boundary 22. -/
theorem at22_v39 : W22 m ρ c (Proc.devRef .tc main_v39) = (fun j => P1 m c ⟨(j 0).val / 64, by have h0 := (j 0).isLt; simp at h0; omega⟩ ⟨(j 0).val % 64, by omega⟩ ⟨6144 + (j 1).val, by have h1 := (j 1).isLt; simp at h1; omega⟩ * sg (P1 m c ⟨(j 0).val / 64, by have h0 := (j 0).isLt; simp at h0; omega⟩ ⟨(j 0).val % 64, by omega⟩ ⟨6144 + (j 1).val, by have h1 := (j 1).isLt; simp at h1; omega⟩) : FVec Ideal S2048x2048 .bf16) :=
  (W22_of m ρ c main_v39 (by decide)).trans (at21_v39 m ρ c)

/-- `v39` at boundary 23. -/
theorem at23_v39 : W23 m ρ c (Proc.devRef .tc main_v39) = (fun j => P1 m c ⟨(j 0).val / 64, by have h0 := (j 0).isLt; simp at h0; omega⟩ ⟨(j 0).val % 64, by omega⟩ ⟨6144 + (j 1).val, by have h1 := (j 1).isLt; simp at h1; omega⟩ * sg (P1 m c ⟨(j 0).val / 64, by have h0 := (j 0).isLt; simp at h0; omega⟩ ⟨(j 0).val % 64, by omega⟩ ⟨6144 + (j 1).val, by have h1 := (j 1).isLt; simp at h1; omega⟩) : FVec Ideal S2048x2048 .bf16) :=
  (W23_of m ρ c main_v39 (by decide)).trans (at22_v39 m ρ c)

/-- `v39` at boundary 24. -/
theorem at24_v39 : W24 m ρ c (Proc.devRef .tc main_v39) = (fun j => P1 m c ⟨(j 0).val / 64, by have h0 := (j 0).isLt; simp at h0; omega⟩ ⟨(j 0).val % 64, by omega⟩ ⟨6144 + (j 1).val, by have h1 := (j 1).isLt; simp at h1; omega⟩ * sg (P1 m c ⟨(j 0).val / 64, by have h0 := (j 0).isLt; simp at h0; omega⟩ ⟨(j 0).val % 64, by omega⟩ ⟨6144 + (j 1).val, by have h1 := (j 1).isLt; simp at h1; omega⟩) : FVec Ideal S2048x2048 .bf16) :=
  (W24_of m ρ c main_v39 (by decide)).trans (at23_v39 m ρ c)

end Cert.KernelIdeal.Val
-- ==== Proof.Val.RefP.lean ====
module

public import proofs.«01_k».proof.Proof.Val.Math
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Layer

/-- The projection. -/
theorem s_main_v13 (x0 : FVec Ideal S4x2048x4096 .f32) (x5 : FVec Ideal S1x4096x24576 .f32) (x6 : FVec Ideal S1x24576 .f32) : val_main_v13 (F := Ideal) x0 x5 x6 = (fun j => (proj x0 x5 x6) (j 0) (j 1) (j 2) : FVec Ideal S4x2048x24576 .f32) := by
  unfold val_main_v13 val_main_v12 val_main_v11 val_main_v10 val_main_v1 val_main_v0
  funext j
  pointwise [proj]

/-- The keys. -/
theorem s_main_v24 (x0 : FVec Ideal S4x2048x4096 .f32) (x5 : FVec Ideal S1x4096x24576 .f32) (x6 : FVec Ideal S1x24576 .f32) : val_main_v24 (F := Ideal) x0 x5 x6 = (fun j => (proj x0 x5 x6) ⟨(j 0).val / 2048, by have h0 := (j 0).isLt; simp at h0; omega⟩ ⟨(j 0).val % 2048, by omega⟩ ⟨2048 + ((j 1).val * 128 + (j 2).val), by have h1 := (j 1).isLt; have h2 := (j 2).isLt; simp at h1 h2; omega⟩ : FVec Ideal S8192x16x128 .f32) := by
  unfold val_main_v24 val_main_v15
  rw [s_main_v13]
  funext j
  pointwise []

/-- The values. -/
theorem s_main_v25 (x0 : FVec Ideal S4x2048x4096 .f32) (x5 : FVec Ideal S1x4096x24576 .f32) (x6 : FVec Ideal S1x24576 .f32) : val_main_v25 (F := Ideal) x0 x5 x6 = (fun j => (proj x0 x5 x6) ⟨(j 0).val / 2048, by have h0 := (j 0).isLt; simp at h0; omega⟩ ⟨(j 0).val % 2048, by omega⟩ ⟨4096 + ((j 1).val * 128 + (j 2).val), by have h1 := (j 1).isLt; have h2 := (j 2).isLt; simp at h1 h2; omega⟩ : FVec Ideal S8192x16x128 .f32) := by
  unfold val_main_v25 val_main_v16
  rw [s_main_v13]
  funext j
  pointwise []

/-- The scaled queries. -/
theorem s_main_v110 (x0 : FVec Ideal S4x2048x4096 .f32) (x5 : FVec Ideal S1x4096x24576 .f32) (x6 : FVec Ideal S1x24576 .f32) : val_main_v110 (F := Ideal) x0 x5 x6 = (fun j => (proj x0 x5 x6) ⟨(j 0).val / 2048, by have h0 := (j 0).isLt; simp at h0; omega⟩ ⟨(j 0).val % 2048, by omega⟩ ⟨(j 1).val, by have h1 := (j 1).isLt; simp at h1; omega⟩ * Ideal.ofBits .f32 0x3E0293EE#32 : FVec Ideal S8192x2048 .bf16) := by
  unfold val_main_v110 val_main_v28 val_main_v27 val_main_v26 val_main_cst_0 val_main_v14
  rw [s_main_v13]
  funext j
  pointwise []

/-- The attention gate. -/
theorem s_main_v111 (x0 : FVec Ideal S4x2048x4096 .f32) (x5 : FVec Ideal S1x4096x24576 .f32) (x6 : FVec Ideal S1x24576 .f32) : val_main_v111 (F := Ideal) x0 x5 x6 = (fun j => (proj x0 x5 x6) ⟨(j 0).val / 2048, by have h0 := (j 0).isLt; simp at h0; omega⟩ ⟨(j 0).val % 2048, by omega⟩ ⟨6144 + (j 1).val, by have h1 := (j 1).isLt; simp at h1; omega⟩ * sg ((proj x0 x5 x6) ⟨(j 0).val / 2048, by have h0 := (j 0).isLt; simp at h0; omega⟩ ⟨(j 0).val % 2048, by omega⟩ ⟨6144 + (j 1).val, by have h1 := (j 1).isLt; simp at h1; omega⟩) : FVec Ideal S8192x2048 .bf16) := by
  unfold val_main_v111 val_main_v30 val_main_v29 val_main_call0_v5 val_main_call0_v4 val_main_call0_cst_0 val_main_call0_v3 val_main_call0_v2 val_main_call0_cst val_main_call0_v1 val_main_call0_v0 val_main_v17
  rw [s_main_v13]
  funext j
  pointwise [sg]

/-- The convolution's input. -/
theorem s_main_v34 (x0 : FVec Ideal S4x2048x4096 .f32) (x5 : FVec Ideal S1x4096x24576 .f32) (x6 : FVec Ideal S1x24576 .f32) : val_main_v34 (F := Ideal) x0 x5 x6 = (fun j => uu (proj x0 x5 x6) (j 0) (j 1) (j 2) : FVec Ideal S4x2048x2048 .f32) := by
  unfold val_main_v34 val_main_v20 val_main_v19
  rw [s_main_v13]
  funext j
  pointwise [uu]

/-- The state and the input, one after the other. -/
theorem s_main_v35 (x0 : FVec Ideal S4x2048x4096 .f32) (x5 : FVec Ideal S1x4096x24576 .f32) (x6 : FVec Ideal S1x24576 .f32) : val_main_v35 (F := Ideal) x0 x5 x6 = (fun j => if h : (j 1).val < 2 then 0 else uu (proj x0 x5 x6) (j 0) ⟨(j 1).val - 2, by have h1 := (j 1).isLt; simp at h1; omega⟩ (j 2) : FVec Ideal S4x2050x2048 .f32) := by
  unfold val_main_v35 val_main_v9 val_main_cst
  rw [s_main_v34]
  funext j
  pointwise []

/-- The new state. -/
theorem s_main_v61 (x0 : FVec Ideal S4x2048x4096 .f32) (x5 : FVec Ideal S1x4096x24576 .f32) (x6 : FVec Ideal S1x24576 .f32) : val_main_v61 (F := Ideal) x0 x5 x6 = (fun j => uu (proj x0 x5 x6) (j 0) ⟨2046 + (j 1).val, by have h1 := (j 1).isLt; simp at h1; omega⟩ (j 2) : FVec Ideal S4x2x2048 .f32) := by
  unfold val_main_v61
  rw [s_main_v35]
  funext j
  pointwise
  rw [dif_neg (by omega)]
  exact congrArg (fun t => uu (proj x0 x5 x6) (j 0) t (j 2)) (Fin.ext (by show 2048 + (j 1).val - 2 = 2046 + (j 1).val; omega))

/-- The convolution's gate. -/
theorem s_main_v63 (x0 : FVec Ideal S4x2048x4096 .f32) (x5 : FVec Ideal S1x4096x24576 .f32) (x6 : FVec Ideal S1x24576 .f32) : val_main_v63 (F := Ideal) x0 x5 x6 = (fun j => gateB (proj x0 x5 x6) (j 0) (j 1) (j 2) : FVec Ideal S4x2048x2048 .f32) := by
  unfold val_main_v63 val_main_v62 val_main_call1_v5 val_main_call1_v4 val_main_call1_cst_0 val_main_call1_v3 val_main_call1_v2 val_main_call1_cst val_main_call1_v1 val_main_call1_v0 val_main_v21 val_main_v18
  rw [s_main_v13]
  funext j
  pointwise [gateB, sg]

/-- The convolution's branch. -/
theorem s_main_v64 (x0 : FVec Ideal S4x2048x4096 .f32) (x5 : FVec Ideal S1x4096x24576 .f32) (x6 : FVec Ideal S1x24576 .f32) (x7 : FVec Ideal S1x3x2048 .f32) (x8 : FVec Ideal S1x2048 .f32) : val_main_v64 (F := Ideal) x0 x5 x6 x7 x8 = (fun j => (yb (proj x0 x5 x6) (fun _ _ _ => 0) x7 x8) (j 0) (j 1) (j 2) : FVec Ideal S4x2048x2048 .f32) := by
  unfold val_main_v64 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_cst_1 val_main_v41 val_main_v40 val_main_v39 val_main_v38 val_main_v37 val_main_v36 val_main_v3 val_main_v2
  rw [s_main_v35, s_main_v63]
  funext j
  pointwise [yb, conv]
  split_ifs <;> first | omega | (simp only [add_assoc] <;> blk_point [] <;> exact Fin.ext (by show 1 + (j 1).val - 2 = (j 1).val - 1; omega))

/-- The merged branches. -/
theorem s_main_v80 (x0 : FVec Ideal S4x2048x4096 .f32) (x2 : FVec Ideal S8192x2048 .bf16) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) : val_main_v80 (F := Ideal) x0 x2 x5 x6 x7 x8 x9 x10 = (fun j => (merged (proj x0 x5 x6) (fun b t n => x2 (ix2 ⟨b.val * 2048 + t.val, by omega⟩ n)) (yb (proj x0 x5 x6) (fun _ _ _ => 0) x7 x8) x9 x10) (j 0) (j 1) (j 2) : FVec Ideal S4x2048x4096 .f32) := by
  unfold val_main_v80 val_main_v79 val_main_v78 val_main_v77 val_main_cst_5 val_main_v76 val_main_v75 val_main_cst_4 val_main_v74 val_main_v73 val_main_v72 val_main_v71 val_main_v70 val_main_cst_3 val_main_v69 val_main_v68 val_main_cst_2 val_main_v67 val_main_v66 val_main_v65 val_main_v33 val_main_v32 val_main_v31 val_main_v23 val_main_v22 val_main_v5 val_main_v4
  rw [s_main_v13, s_main_v64]
  funext j
  pointwise [merged, sg]

/-- The scaled input plus the merged branches through the last weight. -/
theorem s_main_v84 (x0 : FVec Ideal S4x2048x4096 .f32) (x2 : FVec Ideal S8192x2048 .bf16) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v84 (F := Ideal) x0 x2 x5 x6 x7 x8 x9 x10 x11 = (fun j => (pre x0 (merged (proj x0 x5 x6) (fun b t n => x2 (ix2 ⟨b.val * 2048 + t.val, by omega⟩ n)) (yb (proj x0 x5 x6) (fun _ _ _ => 0) x7 x8) x9 x10) x11) (j 0) (j 1) (j 2) : FVec Ideal S4x2048x4096 .f32) := by
  unfold val_main_v84 val_main_v83 val_main_v82 val_main_cst_6 val_main_v81 val_main_v6
  rw [s_main_v80]
  funext j
  pointwise [pre]

/-- The mean of every row. -/
theorem s_main_v88 (x0 : FVec Ideal S4x2048x4096 .f32) (x2 : FVec Ideal S8192x2048 .bf16) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v88 (F := Ideal) x0 x2 x5 x6 x7 x8 x9 x10 x11 = (fun j => mean ((pre x0 (merged (proj x0 x5 x6) (fun b t n => x2 (ix2 ⟨b.val * 2048 + t.val, by omega⟩ n)) (yb (proj x0 x5 x6) (fun _ _ _ => 0) x7 x8) x9 x10) x11) (j 0) (j 1)) : FVec Ideal S4x2048x1 .f32) := by
  unfold val_main_v88 val_main_v87 val_main_cst_8 val_main_v86 val_main_v85 val_main_cst_7
  rw [s_main_v84]
  funext j
  pointwise [mean]

/-- The variance of every row. -/
theorem s_main_v95 (x0 : FVec Ideal S4x2048x4096 .f32) (x2 : FVec Ideal S8192x2048 .bf16) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v95 (F := Ideal) x0 x2 x5 x6 x7 x8 x9 x10 x11 = (fun j => mean (fun l => ((pre x0 (merged (proj x0 x5 x6) (fun b t n => x2 (ix2 ⟨b.val * 2048 + t.val, by omega⟩ n)) (yb (proj x0 x5 x6) (fun _ _ _ => 0) x7 x8) x9 x10) x11) (j 0) (j 1) l - mean ((pre x0 (merged (proj x0 x5 x6) (fun b t n => x2 (ix2 ⟨b.val * 2048 + t.val, by omega⟩ n)) (yb (proj x0 x5 x6) (fun _ _ _ => 0) x7 x8) x9 x10) x11) (j 0) (j 1))) * ((pre x0 (merged (proj x0 x5 x6) (fun b t n => x2 (ix2 ⟨b.val * 2048 + t.val, by omega⟩ n)) (yb (proj x0 x5 x6) (fun _ _ _ => 0) x7 x8) x9 x10) x11) (j 0) (j 1) l - mean ((pre x0 (merged (proj x0 x5 x6) (fun b t n => x2 (ix2 ⟨b.val * 2048 + t.val, by omega⟩ n)) (yb (proj x0 x5 x6) (fun _ _ _ => 0) x7 x8) x9 x10) x11) (j 0) (j 1)))) : FVec Ideal S4x2048x1 .f32) := by
  unfold val_main_v95 val_main_v94 val_main_cst_10 val_main_v93 val_main_v92 val_main_cst_9 val_main_v91 val_main_v90 val_main_v89
  rw [s_main_v84, s_main_v88]
  funext j
  pointwise [mean]

/-- The layer norm. -/
theorem s_main_v109 (x0 : FVec Ideal S4x2048x4096 .f32) (x2 : FVec Ideal S8192x2048 .bf16) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) (x12 : FVec Ideal S1x4096 .f32) (x13 : FVec Ideal S1x4096 .f32) : val_main_v109 (F := Ideal) x0 x2 x5 x6 x7 x8 x9 x10 x11 x12 x13 = (fun j => layerNorm ((pre x0 (merged (proj x0 x5 x6) (fun b t n => x2 (ix2 ⟨b.val * 2048 + t.val, by omega⟩ n)) (yb (proj x0 x5 x6) (fun _ _ _ => 0) x7 x8) x9 x10) x11) ⟨(j 0).val / 2048, by have h0 := (j 0).isLt; simp at h0; omega⟩ ⟨(j 0).val % 2048, by omega⟩) x12 x13 (j 1) : FVec Ideal S8192x4096 .f32) := by
  unfold val_main_v109 val_main_v108 val_main_v107 val_main_v106 val_main_v105 val_main_v104 val_main_v103 val_main_v102 val_main_v101 val_main_v100 val_main_v99 val_main_v98 val_main_cst_11 val_main_v97 val_main_v96 val_main_v8 val_main_v7
  rw [s_main_v84, s_main_v88, s_main_v95]
  funext j
  pointwise [layerNorm]

end Cert.ReferenceIdeal.Val
-- ==== Proof.Val.RefS.lean ====
module

public import proofs.«01_k».proof.Proof.Val.Math
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Layer

/-- The projection. -/
theorem s_main_v116 (x1 : FVec Ideal S32x64x4096 .f32) (x5 : FVec Ideal S1x4096x24576 .f32) (x6 : FVec Ideal S1x24576 .f32) : val_main_v116 (F := Ideal) x1 x5 x6 = (fun j => (proj x1 x5 x6) (j 0) (j 1) (j 2) : FVec Ideal S32x64x24576 .f32) := by
  unfold val_main_v116 val_main_v115 val_main_v114 val_main_v113 val_main_v1 val_main_v0
  funext j
  pointwise [proj]

/-- The keys. -/
theorem s_main_v127 (x1 : FVec Ideal S32x64x4096 .f32) (x5 : FVec Ideal S1x4096x24576 .f32) (x6 : FVec Ideal S1x24576 .f32) : val_main_v127 (F := Ideal) x1 x5 x6 = (fun j => (proj x1 x5 x6) ⟨(j 0).val / 64, by have h0 := (j 0).isLt; simp at h0; omega⟩ ⟨(j 0).val % 64, by omega⟩ ⟨2048 + ((j 1).val * 128 + (j 2).val), by have h1 := (j 1).isLt; have h2 := (j 2).isLt; simp at h1 h2; omega⟩ : FVec Ideal S2048x16x128 .f32) := by
  unfold val_main_v127 val_main_v118
  rw [s_main_v116]
  funext j
  pointwise []

/-- The values. -/
theorem s_main_v128 (x1 : FVec Ideal S32x64x4096 .f32) (x5 : FVec Ideal S1x4096x24576 .f32) (x6 : FVec Ideal S1x24576 .f32) : val_main_v128 (F := Ideal) x1 x5 x6 = (fun j => (proj x1 x5 x6) ⟨(j 0).val / 64, by have h0 := (j 0).isLt; simp at h0; omega⟩ ⟨(j 0).val % 64, by omega⟩ ⟨4096 + ((j 1).val * 128 + (j 2).val), by have h1 := (j 1).isLt; have h2 := (j 2).isLt; simp at h1 h2; omega⟩ : FVec Ideal S2048x16x128 .f32) := by
  unfold val_main_v128 val_main_v119
  rw [s_main_v116]
  funext j
  pointwise []

/-- The scaled queries. -/
theorem s_main_v213 (x1 : FVec Ideal S32x64x4096 .f32) (x5 : FVec Ideal S1x4096x24576 .f32) (x6 : FVec Ideal S1x24576 .f32) : val_main_v213 (F := Ideal) x1 x5 x6 = (fun j => (proj x1 x5 x6) ⟨(j 0).val / 64, by have h0 := (j 0).isLt; simp at h0; omega⟩ ⟨(j 0).val % 64, by omega⟩ ⟨(j 1).val, by have h1 := (j 1).isLt; simp at h1; omega⟩ * Ideal.ofBits .f32 0x3E0293EE#32 : FVec Ideal S2048x2048 .bf16) := by
  unfold val_main_v213 val_main_v131 val_main_v130 val_main_v129 val_main_cst_12 val_main_v117
  rw [s_main_v116]
  funext j
  pointwise []

/-- The attention gate. -/
theorem s_main_v214 (x1 : FVec Ideal S32x64x4096 .f32) (x5 : FVec Ideal S1x4096x24576 .f32) (x6 : FVec Ideal S1x24576 .f32) : val_main_v214 (F := Ideal) x1 x5 x6 = (fun j => (proj x1 x5 x6) ⟨(j 0).val / 64, by have h0 := (j 0).isLt; simp at h0; omega⟩ ⟨(j 0).val % 64, by omega⟩ ⟨6144 + (j 1).val, by have h1 := (j 1).isLt; simp at h1; omega⟩ * sg ((proj x1 x5 x6) ⟨(j 0).val / 64, by have h0 := (j 0).isLt; simp at h0; omega⟩ ⟨(j 0).val % 64, by omega⟩ ⟨6144 + (j 1).val, by have h1 := (j 1).isLt; simp at h1; omega⟩) : FVec Ideal S2048x2048 .bf16) := by
  unfold val_main_v214 val_main_v133 val_main_v132 val_main_call2_v5 val_main_call2_v4 val_main_call2_cst_0 val_main_call2_v3 val_main_call2_v2 val_main_call2_cst val_main_call2_v1 val_main_call2_v0 val_main_v120
  rw [s_main_v116]
  funext j
  pointwise [sg]

/-- The convolution's input. -/
theorem s_main_v137 (x1 : FVec Ideal S32x64x4096 .f32) (x5 : FVec Ideal S1x4096x24576 .f32) (x6 : FVec Ideal S1x24576 .f32) : val_main_v137 (F := Ideal) x1 x5 x6 = (fun j => uu (proj x1 x5 x6) (j 0) (j 1) (j 2) : FVec Ideal S32x64x2048 .f32) := by
  unfold val_main_v137 val_main_v123 val_main_v122
  rw [s_main_v116]
  funext j
  pointwise [uu]

/-- The state and the input, one after the other. -/
theorem s_main_v138 (x1 : FVec Ideal S32x64x4096 .f32) (x4 : FVec Ideal S1x32x2x2048 .f32) (x5 : FVec Ideal S1x4096x24576 .f32) (x6 : FVec Ideal S1x24576 .f32) : val_main_v138 (F := Ideal) x1 x4 x5 x6 = (fun j => if h : (j 1).val < 2 then x4 (ix4 0 (j 0) ⟨(j 1).val, by omega⟩ (j 2)) else uu (proj x1 x5 x6) (j 0) ⟨(j 1).val - 2, by have h1 := (j 1).isLt; simp at h1; omega⟩ (j 2) : FVec Ideal S32x66x2048 .f32) := by
  unfold val_main_v138 val_main_v112
  rw [s_main_v137]
  funext j
  pointwise []

/-- The new state. -/
theorem s_main_v164 (x1 : FVec Ideal S32x64x4096 .f32) (x4 : FVec Ideal S1x32x2x2048 .f32) (x5 : FVec Ideal S1x4096x24576 .f32) (x6 : FVec Ideal S1x24576 .f32) : val_main_v164 (F := Ideal) x1 x4 x5 x6 = (fun j => uu (proj x1 x5 x6) (j 0) ⟨62 + (j 1).val, by have h1 := (j 1).isLt; simp at h1; omega⟩ (j 2) : FVec Ideal S32x2x2048 .f32) := by
  unfold val_main_v164
  rw [s_main_v138]
  funext j
  pointwise
  rw [dif_neg (by omega)]
  exact congrArg (fun t => uu (proj x1 x5 x6) (j 0) t (j 2)) (Fin.ext (by show 64 + (j 1).val - 2 = 62 + (j 1).val; omega))

/-- The convolution's gate. -/
theorem s_main_v166 (x1 : FVec Ideal S32x64x4096 .f32) (x5 : FVec Ideal S1x4096x24576 .f32) (x6 : FVec Ideal S1x24576 .f32) : val_main_v166 (F := Ideal) x1 x5 x6 = (fun j => gateB (proj x1 x5 x6) (j 0) (j 1) (j 2) : FVec Ideal S32x64x2048 .f32) := by
  unfold val_main_v166 val_main_v165 val_main_call3_v5 val_main_call3_v4 val_main_call3_cst_0 val_main_call3_v3 val_main_call3_v2 val_main_call3_cst val_main_call3_v1 val_main_call3_v0 val_main_v124 val_main_v121
  rw [s_main_v116]
  funext j
  pointwise [gateB, sg]

/-- The convolution's branch. -/
theorem s_main_v167 (x1 : FVec Ideal S32x64x4096 .f32) (x4 : FVec Ideal S1x32x2x2048 .f32) (x5 : FVec Ideal S1x4096x24576 .f32) (x6 : FVec Ideal S1x24576 .f32) (x7 : FVec Ideal S1x3x2048 .f32) (x8 : FVec Ideal S1x2048 .f32) : val_main_v167 (F := Ideal) x1 x4 x5 x6 x7 x8 = (fun j => (yb (proj x1 x5 x6) (fun b r n => x4 (ix4 0 b r n)) x7 x8) (j 0) (j 1) (j 2) : FVec Ideal S32x64x2048 .f32) := by
  unfold val_main_v167 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_cst_13 val_main_v144 val_main_v143 val_main_v142 val_main_v141 val_main_v140 val_main_v139 val_main_v3 val_main_v2
  rw [s_main_v138, s_main_v166]
  funext j
  pointwise [yb, conv]
  split_ifs <;> first | omega | (simp only [add_assoc] <;> blk_point [] <;> exact Fin.ext (by show 1 + (j 1).val - 2 = (j 1).val - 1; omega))

/-- The merged branches. -/
theorem s_main_v183 (x1 : FVec Ideal S32x64x4096 .f32) (x3 : FVec Ideal S2048x2048 .bf16) (x4 : FVec Ideal S1x32x2x2048 .f32) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) : val_main_v183 (F := Ideal) x1 x3 x4 x5 x6 x7 x8 x9 x10 = (fun j => (merged (proj x1 x5 x6) (fun b t n => x3 (ix2 ⟨b.val * 64 + t.val, by omega⟩ n)) (yb (proj x1 x5 x6) (fun b r n => x4 (ix4 0 b r n)) x7 x8) x9 x10) (j 0) (j 1) (j 2) : FVec Ideal S32x64x4096 .f32) := by
  unfold val_main_v183 val_main_v182 val_main_v181 val_main_v180 val_main_cst_17 val_main_v179 val_main_v178 val_main_cst_16 val_main_v177 val_main_v176 val_main_v175 val_main_v174 val_main_v173 val_main_cst_15 val_main_v172 val_main_v171 val_main_cst_14 val_main_v170 val_main_v169 val_main_v168 val_main_v136 val_main_v135 val_main_v134 val_main_v126 val_main_v125 val_main_v5 val_main_v4
  rw [s_main_v116, s_main_v167]
  funext j
  pointwise [merged, sg]

/-- The scaled input plus the merged branches through the last weight. -/
theorem s_main_v187 (x1 : FVec Ideal S32x64x4096 .f32) (x3 : FVec Ideal S2048x2048 .bf16) (x4 : FVec Ideal S1x32x2x2048 .f32) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v187 (F := Ideal) x1 x3 x4 x5 x6 x7 x8 x9 x10 x11 = (fun j => (pre x1 (merged (proj x1 x5 x6) (fun b t n => x3 (ix2 ⟨b.val * 64 + t.val, by omega⟩ n)) (yb (proj x1 x5 x6) (fun b r n => x4 (ix4 0 b r n)) x7 x8) x9 x10) x11) (j 0) (j 1) (j 2) : FVec Ideal S32x64x4096 .f32) := by
  unfold val_main_v187 val_main_v186 val_main_v185 val_main_cst_18 val_main_v184 val_main_v6
  rw [s_main_v183]
  funext j
  pointwise [pre]

/-- The mean of every row. -/
theorem s_main_v191 (x1 : FVec Ideal S32x64x4096 .f32) (x3 : FVec Ideal S2048x2048 .bf16) (x4 : FVec Ideal S1x32x2x2048 .f32) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v191 (F := Ideal) x1 x3 x4 x5 x6 x7 x8 x9 x10 x11 = (fun j => mean ((pre x1 (merged (proj x1 x5 x6) (fun b t n => x3 (ix2 ⟨b.val * 64 + t.val, by omega⟩ n)) (yb (proj x1 x5 x6) (fun b r n => x4 (ix4 0 b r n)) x7 x8) x9 x10) x11) (j 0) (j 1)) : FVec Ideal S32x64x1 .f32) := by
  unfold val_main_v191 val_main_v190 val_main_cst_20 val_main_v189 val_main_v188 val_main_cst_19
  rw [s_main_v187]
  funext j
  pointwise [mean]

/-- The variance of every row. -/
theorem s_main_v198 (x1 : FVec Ideal S32x64x4096 .f32) (x3 : FVec Ideal S2048x2048 .bf16) (x4 : FVec Ideal S1x32x2x2048 .f32) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) : val_main_v198 (F := Ideal) x1 x3 x4 x5 x6 x7 x8 x9 x10 x11 = (fun j => mean (fun l => ((pre x1 (merged (proj x1 x5 x6) (fun b t n => x3 (ix2 ⟨b.val * 64 + t.val, by omega⟩ n)) (yb (proj x1 x5 x6) (fun b r n => x4 (ix4 0 b r n)) x7 x8) x9 x10) x11) (j 0) (j 1) l - mean ((pre x1 (merged (proj x1 x5 x6) (fun b t n => x3 (ix2 ⟨b.val * 64 + t.val, by omega⟩ n)) (yb (proj x1 x5 x6) (fun b r n => x4 (ix4 0 b r n)) x7 x8) x9 x10) x11) (j 0) (j 1))) * ((pre x1 (merged (proj x1 x5 x6) (fun b t n => x3 (ix2 ⟨b.val * 64 + t.val, by omega⟩ n)) (yb (proj x1 x5 x6) (fun b r n => x4 (ix4 0 b r n)) x7 x8) x9 x10) x11) (j 0) (j 1) l - mean ((pre x1 (merged (proj x1 x5 x6) (fun b t n => x3 (ix2 ⟨b.val * 64 + t.val, by omega⟩ n)) (yb (proj x1 x5 x6) (fun b r n => x4 (ix4 0 b r n)) x7 x8) x9 x10) x11) (j 0) (j 1)))) : FVec Ideal S32x64x1 .f32) := by
  unfold val_main_v198 val_main_v197 val_main_cst_22 val_main_v196 val_main_v195 val_main_cst_21 val_main_v194 val_main_v193 val_main_v192
  rw [s_main_v187, s_main_v191]
  funext j
  pointwise [mean]

/-- The layer norm. -/
theorem s_main_v212 (x1 : FVec Ideal S32x64x4096 .f32) (x3 : FVec Ideal S2048x2048 .bf16) (x4 : FVec Ideal S1x32x2x2048 .f32) (x5 : FVec Ideal S1x4096x24576 .f32) (x6 : FVec Ideal S1x24576 .f32) (x7 : FVec Ideal S1x3x2048 .f32) (x8 : FVec Ideal S1x2048 .f32) (x9 : FVec Ideal S1x2048x4096 .f32) (x10 : FVec Ideal S1x2048x4096 .f32) (x11 : FVec Ideal S1x4096x4096 .f32) (x12 : FVec Ideal S1x4096 .f32) (x13 : FVec Ideal S1x4096 .f32) : val_main_v212 (F := Ideal) x1 x3 x4 x5 x6 x7 x8 x9 x10 x11 x12 x13 = (fun j => layerNorm ((pre x1 (merged (proj x1 x5 x6) (fun b t n => x3 (ix2 ⟨b.val * 64 + t.val, by omega⟩ n)) (yb (proj x1 x5 x6) (fun b r n => x4 (ix4 0 b r n)) x7 x8) x9 x10) x11) ⟨(j 0).val / 64, by have h0 := (j 0).isLt; simp at h0; omega⟩ ⟨(j 0).val % 64, by omega⟩) x12 x13 (j 1) : FVec Ideal S2048x4096 .f32) := by
  unfold val_main_v212 val_main_v211 val_main_v210 val_main_v209 val_main_v208 val_main_v207 val_main_v206 val_main_v205 val_main_v204 val_main_v203 val_main_v202 val_main_v201 val_main_cst_23 val_main_v200 val_main_v199 val_main_v8 val_main_v7
  rw [s_main_v187, s_main_v191, s_main_v198]
  funext j
  pointwise [layerNorm]

end Cert.ReferenceIdeal.Val
-- ==== Proof.Val.Run.lean ====
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run of the kernel program ends with each array outside the kernels' own scopes at the contents
    the fold over the program's segments gives it. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h hz => h)

/-- Every run of the kernel program ends with its twelve results at the fold's contents and its arguments
    as launched. -/
theorem valueRun : θ_run defs (onTc (τ := τ) (main (F := F))) ⟨m, fun _ => 0, ρ⟩ (fun r => ∀ c : Dev nD,
      r.2.mem ((c.tc : Thread nD τ).loc main_v29) = W24 m ρ c (Proc.devRef .tc main_v29)
      ∧ r.2.mem ((c.tc : Thread nD τ).loc main_v43) = W24 m ρ c (Proc.devRef .tc main_v43)
      ∧ r.2.mem ((c.tc : Thread nD τ).loc main_v22_0) = W24 m ρ c (Proc.devRef .tc main_v22_0)
      ∧ r.2.mem ((c.tc : Thread nD τ).loc main_v23_0) = W24 m ρ c (Proc.devRef .tc main_v23_0)
      ∧ r.2.mem ((c.tc : Thread nD τ).loc main_v27_1) = W24 m ρ c (Proc.devRef .tc main_v27_1)
      ∧ r.2.mem ((c.tc : Thread nD τ).loc main_v37_0) = W24 m ρ c (Proc.devRef .tc main_v37_0)
      ∧ r.2.mem ((c.tc : Thread nD τ).loc main_v38_0) = W24 m ρ c (Proc.devRef .tc main_v38_0)
      ∧ r.2.mem ((c.tc : Thread nD τ).loc main_v41_1) = W24 m ρ c (Proc.devRef .tc main_v41_1)
      ∧ r.2.mem ((c.tc : Thread nD τ).loc main_v21_1) = W24 m ρ c (Proc.devRef .tc main_v21_1)
      ∧ r.2.mem ((c.tc : Thread nD τ).loc main_v24_1) = W24 m ρ c (Proc.devRef .tc main_v24_1)
      ∧ r.2.mem ((c.tc : Thread nD τ).loc main_v36) = W24 m ρ c (Proc.devRef .tc main_v36)
      ∧ r.2.mem ((c.tc : Thread nD τ).loc main_v39) = W24 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨h c _ (mem_uc main_v29 (by decide)),
     h c _ (mem_uc main_v43 (by decide)),
     h c _ (mem_uc main_v22_0 (by decide)),
     h c _ (mem_uc main_v23_0 (by decide)),
     h c _ (mem_uc main_v27_1 (by decide)),
     h c _ (mem_uc main_v37_0 (by decide)),
     h c _ (mem_uc main_v38_0 (by decide)),
     h c _ (mem_uc main_v41_1 (by decide)),
     h c _ (mem_uc main_v21_1 (by decide)),
     h c _ (mem_uc main_v24_1 (by decide)),
     h c _ (mem_uc main_v36 (by decide)),
     h c _ (mem_uc main_v39 (by decide)),
     (h c _ (mem_uc main_arg0 (by decide))).trans (W24_main_arg0 m ρ c),
     (h c _ (mem_uc main_arg1 (by decide))).trans (W24_main_arg1 m ρ c),
     (h c _ (mem_uc main_arg2 (by decide))).trans (W24_main_arg2 m ρ c),
     (h c _ (mem_uc main_arg3 (by decide))).trans (W24_main_arg3 m ρ c),
     (h c _ (mem_uc main_arg4 (by decide))).trans (W24_main_arg4 m ρ c),
     (h c _ (mem_uc main_arg5 (by decide))).trans (W24_main_arg5 m ρ c),
     (h c _ (mem_uc main_arg6 (by decide))).trans (W24_main_arg6 m ρ c),
     (h c _ (mem_uc main_arg7 (by decide))).trans (W24_main_arg7 m ρ c),
     (h c _ (mem_uc main_arg8 (by decide))).trans (W24_main_arg8 m ρ c),
     (h c _ (mem_uc main_arg9 (by decide))).trans (W24_main_arg9 m ρ c),
     (h c _ (mem_uc main_arg10 (by decide))).trans (W24_main_arg10 m ρ c),
     (h c _ (mem_uc main_arg11 (by decide))).trans (W24_main_arg11 m ρ c),
     (h c _ (mem_uc main_arg12 (by decide))).trans (W24_main_arg12 m ρ c),
     (h c _ (mem_uc main_arg13 (by decide))).trans (W24_main_arg13 m ρ c)⟩) (runAll m ρ)

end Cert.KernelIdeal.Val

end
-- ==== Proof.Val.Agree.lean ====
module

public import proofs.«01_k».proof.Defs
public import proofs.«01_k».proof.Proof.Val.C3
public import proofs.«01_k».proof.Proof.Val.RefP
public import proofs.«01_k».proof.Proof.Val.RefS
public import proofs.«01_k».proof.Proof.Val.Run

@[expose] public section

set_option maxRecDepth 16384

noncomputable section

namespace Cert.Value

open Idealize.ShloMosaic Idealize.ShloMosaic.TcCoe Idealize.SL.Sem Idealize.ShloMosaic.StableHlo
open Cert.KernelIdeal.Val (a0 a1 a2 a3 a4 a5 a6 a7 a8 a9 a10 a11 a12 a13)

variable (m : (ℓ : Loc Cert.KernelIdeal.nD Cert.KernelIdeal.τ Cert.KernelIdeal.sig) → Buf (Elt Ideal) ℓ)
  (g : Dev Cert.KernelIdeal.nD → PrngReg)
  (V : Valuation Cert.ReferenceIdeal.τ Cert.ReferenceIdeal.sig (Elt Ideal)) (c : Dev Cert.KernelIdeal.nD)

/-- Over the same arguments the reference's stage for the normalized output of the prompt rows is what the kernel's run leaves there. -/
theorem agree_v109 (h0 : V (Proc.devRef .tc Cert.ReferenceIdeal.main_arg0) = a0 m c) (h2 : V (Proc.devRef .tc Cert.ReferenceIdeal.main_arg2) = a2 m c) (h5 : V (Proc.devRef .tc Cert.ReferenceIdeal.main_arg5) = a5 m c) (h6 : V (Proc.devRef .tc Cert.ReferenceIdeal.main_arg6) = a6 m c) (h7 : V (Proc.devRef .tc Cert.ReferenceIdeal.main_arg7) = a7 m c) (h8 : V (Proc.devRef .tc Cert.ReferenceIdeal.main_arg8) = a8 m c) (h9 : V (Proc.devRef .tc Cert.ReferenceIdeal.main_arg9) = a9 m c) (h10 : V (Proc.devRef .tc Cert.ReferenceIdeal.main_arg10) = a10 m c) (h11 : V (Proc.devRef .tc Cert.ReferenceIdeal.main_arg11) = a11 m c) (h12 : V (Proc.devRef .tc Cert.ReferenceIdeal.main_arg12) = a12 m c) (h13 : V (Proc.devRef .tc Cert.ReferenceIdeal.main_arg13) = a13 m c) :
    Cert.ReferenceIdeal.Read.val_main_v109 (F := Ideal) (V (Proc.devRef .tc Cert.ReferenceIdeal.main_arg0)) (V (Proc.devRef .tc Cert.ReferenceIdeal.main_arg2)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13))
      = Cert.KernelIdeal.Gen.W24 m g c (Proc.devRef .tc Cert.KernelIdeal.main_v29) := by
  rw [h0, h2, h5, h6, h7, h8, h9, h10, h11, h12, h13]
  exact (Cert.ReferenceIdeal.Val.s_main_v109 _ _ _ _ _ _ _ _ _ _ _).trans (Cert.KernelIdeal.Val.at24_v29 m g c).symm

/-- Over the same arguments the reference's stage for the normalized output of the sample rows is what the kernel's run leaves there. -/
theorem agree_v212 (h1 : V (Proc.devRef .tc Cert.ReferenceIdeal.main_arg1) = a1 m c) (h3 : V (Proc.devRef .tc Cert.ReferenceIdeal.main_arg3) = a3 m c) (h4 : V (Proc.devRef .tc Cert.ReferenceIdeal.main_arg4) = a4 m c) (h5 : V (Proc.devRef .tc Cert.ReferenceIdeal.main_arg5) = a5 m c) (h6 : V (Proc.devRef .tc Cert.ReferenceIdeal.main_arg6) = a6 m c) (h7 : V (Proc.devRef .tc Cert.ReferenceIdeal.main_arg7) = a7 m c) (h8 : V (Proc.devRef .tc Cert.ReferenceIdeal.main_arg8) = a8 m c) (h9 : V (Proc.devRef .tc Cert.ReferenceIdeal.main_arg9) = a9 m c) (h10 : V (Proc.devRef .tc Cert.ReferenceIdeal.main_arg10) = a10 m c) (h11 : V (Proc.devRef .tc Cert.ReferenceIdeal.main_arg11) = a11 m c) (h12 : V (Proc.devRef .tc Cert.ReferenceIdeal.main_arg12) = a12 m c) (h13 : V (Proc.devRef .tc Cert.ReferenceIdeal.main_arg13) = a13 m c) :
    Cert.ReferenceIdeal.Read.val_main_v212 (F := Ideal) (V (Proc.devRef .tc Cert.ReferenceIdeal.main_arg1)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13))
      = Cert.KernelIdeal.Gen.W24 m g c (Proc.devRef .tc Cert.KernelIdeal.main_v43) := by
  rw [h1, h3, h4, h5, h6, h7, h8, h9, h10, h11, h12, h13]
  exact (Cert.ReferenceIdeal.Val.s_main_v212 _ _ _ _ _ _ _ _ _ _ _ _).trans (Cert.KernelIdeal.Val.cf_v43 m g c).symm

/-- Over the same arguments the reference's stage for the new keys of the prompt is what the kernel's run leaves there. -/
theorem agree_v24 (h0 : V (Proc.devRef .tc Cert.ReferenceIdeal.main_arg0) = a0 m c) (h5 : V (Proc.devRef .tc Cert.ReferenceIdeal.main_arg5) = a5 m c) (h6 : V (Proc.devRef .tc Cert.ReferenceIdeal.main_arg6) = a6 m c) :
    Cert.ReferenceIdeal.Read.val_main_v24 (F := Ideal) (V (Proc.devRef .tc Cert.ReferenceIdeal.main_arg0)) (V (Proc.devRef .tc Cert.ReferenceIdeal.main_arg5)) (V (Proc.devRef .tc Cert.ReferenceIdeal.main_arg6))
      = Cert.KernelIdeal.Gen.W24 m g c (Proc.devRef .tc Cert.KernelIdeal.main_v22_0) := by
  rw [h0, h5, h6]
  exact (Cert.ReferenceIdeal.Val.s_main_v24 _ _ _).trans (Cert.KernelIdeal.Val.at24_v22_0 m g c).symm

/-- Over the same arguments the reference's stage for the new values of the prompt is what the kernel's run leaves there. -/
theorem agree_v25 (h0 : V (Proc.devRef .tc Cert.ReferenceIdeal.main_arg0) = a0 m c) (h5 : V (Proc.devRef .tc Cert.ReferenceIdeal.main_arg5) = a5 m c) (h6 : V (Proc.devRef .tc Cert.ReferenceIdeal.main_arg6) = a6 m c) :
    Cert.ReferenceIdeal.Read.val_main_v25 (F := Ideal) (V (Proc.devRef .tc Cert.ReferenceIdeal.main_arg0)) (V (Proc.devRef .tc Cert.ReferenceIdeal.main_arg5)) (V (Proc.devRef .tc Cert.ReferenceIdeal.main_arg6))
      = Cert.KernelIdeal.Gen.W24 m g c (Proc.devRef .tc Cert.KernelIdeal.main_v23_0) := by
  rw [h0, h5, h6]
  exact (Cert.ReferenceIdeal.Val.s_main_v25 _ _ _).trans (Cert.KernelIdeal.Val.at24_v23_0 m g c).symm

/-- Over the same arguments the reference's stage for the last convolution inputs of the prompt is what the kernel's run leaves there. -/
theorem agree_v61 (h0 : V (Proc.devRef .tc Cert.ReferenceIdeal.main_arg0) = a0 m c) (h5 : V (Proc.devRef .tc Cert.ReferenceIdeal.main_arg5) = a5 m c) (h6 : V (Proc.devRef .tc Cert.ReferenceIdeal.main_arg6) = a6 m c) :
    Cert.ReferenceIdeal.Read.val_main_v61 (F := Ideal) (V (Proc.devRef .tc Cert.ReferenceIdeal.main_arg0)) (V (Proc.devRef .tc Cert.ReferenceIdeal.main_arg5)) (V (Proc.devRef .tc Cert.ReferenceIdeal.main_arg6))
      = Cert.KernelIdeal.Gen.W24 m g c (Proc.devRef .tc Cert.KernelIdeal.main_v27_1) := by
  rw [h0, h5, h6]
  exact (Cert.ReferenceIdeal.Val.s_main_v61 _ _ _).trans (Cert.KernelIdeal.Val.at24_v27_1 m g c).symm

/-- Over the same arguments the reference's stage for the new keys of the samples is what the kernel's run leaves there. -/
theorem agree_v127 (h1 : V (Proc.devRef .tc Cert.ReferenceIdeal.main_arg1) = a1 m c) (h5 : V (Proc.devRef .tc Cert.ReferenceIdeal.main_arg5) = a5 m c) (h6 : V (Proc.devRef .tc Cert.ReferenceIdeal.main_arg6) = a6 m c) :
    Cert.ReferenceIdeal.Read.val_main_v127 (F := Ideal) (V (Proc.devRef .tc Cert.ReferenceIdeal.main_arg1)) (V (Proc.devRef .tc Cert.ReferenceIdeal.main_arg5)) (V (Proc.devRef .tc Cert.ReferenceIdeal.main_arg6))
      = Cert.KernelIdeal.Gen.W24 m g c (Proc.devRef .tc Cert.KernelIdeal.main_v37_0) := by
  rw [h1, h5, h6]
  exact (Cert.ReferenceIdeal.Val.s_main_v127 _ _ _).trans (Cert.KernelIdeal.Val.at24_v37_0 m g c).symm

/-- Over the same arguments the reference's stage for the new values of the samples is what the kernel's run leaves there. -/
theorem agree_v128 (h1 : V (Proc.devRef .tc Cert.ReferenceIdeal.main_arg1) = a1 m c) (h5 : V (Proc.devRef .tc Cert.ReferenceIdeal.main_arg5) = a5 m c) (h6 : V (Proc.devRef .tc Cert.ReferenceIdeal.main_arg6) = a6 m c) :
    Cert.ReferenceIdeal.Read.val_main_v128 (F := Ideal) (V (Proc.devRef .tc Cert.ReferenceIdeal.main_arg1)) (V (Proc.devRef .tc Cert.ReferenceIdeal.main_arg5)) (V (Proc.devRef .tc Cert.ReferenceIdeal.main_arg6))
      = Cert.KernelIdeal.Gen.W24 m g c (Proc.devRef .tc Cert.KernelIdeal.main_v38_0) := by
  rw [h1, h5, h6]
  exact (Cert.ReferenceIdeal.Val.s_main_v128 _ _ _).trans (Cert.KernelIdeal.Val.at24_v38_0 m g c).symm

/-- Over the same arguments the reference's stage for the last convolution inputs of the samples is what the kernel's run leaves there. -/
theorem agree_v164 (h1 : V (Proc.devRef .tc Cert.ReferenceIdeal.main_arg1) = a1 m c) (h4 : V (Proc.devRef .tc Cert.ReferenceIdeal.main_arg4) = a4 m c) (h5 : V (Proc.devRef .tc Cert.ReferenceIdeal.main_arg5) = a5 m c) (h6 : V (Proc.devRef .tc Cert.ReferenceIdeal.main_arg6) = a6 m c) :
    Cert.ReferenceIdeal.Read.val_main_v164 (F := Ideal) (V (Proc.devRef .tc Cert.ReferenceIdeal.main_arg1)) (V (Proc.devRef .tc Cert.ReferenceIdeal.main_arg4)) (V (Proc.devRef .tc Cert.ReferenceIdeal.main_arg5)) (V (Proc.devRef .tc Cert.ReferenceIdeal.main_arg6))
      = Cert.KernelIdeal.Gen.W24 m g c (Proc.devRef .tc Cert.KernelIdeal.main_v41_1) := by
  rw [h1, h4, h5, h6]
  exact (Cert.ReferenceIdeal.Val.s_main_v164 _ _ _ _).trans (Cert.KernelIdeal.Val.at24_v41_1 m g c).symm

/-- Over the same arguments the reference's stage for the queries of the prompt is what the kernel's run leaves there. -/
theorem agree_v110 (h0 : V (Proc.devRef .tc Cert.ReferenceIdeal.main_arg0) = a0 m c) (h5 : V (Proc.devRef .tc Cert.ReferenceIdeal.main_arg5) = a5 m c) (h6 : V (Proc.devRef .tc Cert.ReferenceIdeal.main_arg6) = a6 m c) :
    Cert.ReferenceIdeal.Read.val_main_v110 (F := Ideal) (V (Proc.devRef .tc Cert.ReferenceIdeal.main_arg0)) (V (Proc.devRef .tc Cert.ReferenceIdeal.main_arg5)) (V (Proc.devRef .tc Cert.ReferenceIdeal.main_arg6))
      = Cert.KernelIdeal.Gen.W24 m g c (Proc.devRef .tc Cert.KernelIdeal.main_v21_1) := by
  rw [h0, h5, h6]
  exact (Cert.ReferenceIdeal.Val.s_main_v110 _ _ _).trans (Cert.KernelIdeal.Val.at24_v21_1 m g c).symm

/-- Over the same arguments the reference's stage for the output gate of the prompt is what the kernel's run leaves there. -/
theorem agree_v111 (h0 : V (Proc.devRef .tc Cert.ReferenceIdeal.main_arg0) = a0 m c) (h5 : V (Proc.devRef .tc Cert.ReferenceIdeal.main_arg5) = a5 m c) (h6 : V (Proc.devRef .tc Cert.ReferenceIdeal.main_arg6) = a6 m c) :
    Cert.ReferenceIdeal.Read.val_main_v111 (F := Ideal) (V (Proc.devRef .tc Cert.ReferenceIdeal.main_arg0)) (V (Proc.devRef .tc Cert.ReferenceIdeal.main_arg5)) (V (Proc.devRef .tc Cert.ReferenceIdeal.main_arg6))
      = Cert.KernelIdeal.Gen.W24 m g c (Proc.devRef .tc Cert.KernelIdeal.main_v24_1) := by
  rw [h0, h5, h6]
  exact (Cert.ReferenceIdeal.Val.s_main_v111 _ _ _).trans (Cert.KernelIdeal.Val.at24_v24_1 m g c).symm

/-- Over the same arguments the reference's stage for the queries of the samples is what the kernel's run leaves there. -/
theorem agree_v213 (h1 : V (Proc.devRef .tc Cert.ReferenceIdeal.main_arg1) = a1 m c) (h5 : V (Proc.devRef .tc Cert.ReferenceIdeal.main_arg5) = a5 m c) (h6 : V (Proc.devRef .tc Cert.ReferenceIdeal.main_arg6) = a6 m c) :
    Cert.ReferenceIdeal.Read.val_main_v213 (F := Ideal) (V (Proc.devRef .tc Cert.ReferenceIdeal.main_arg1)) (V (Proc.devRef .tc Cert.ReferenceIdeal.main_arg5)) (V (Proc.devRef .tc Cert.ReferenceIdeal.main_arg6))
      = Cert.KernelIdeal.Gen.W24 m g c (Proc.devRef .tc Cert.KernelIdeal.main_v36) := by
  rw [h1, h5, h6]
  exact (Cert.ReferenceIdeal.Val.s_main_v213 _ _ _).trans (Cert.KernelIdeal.Val.at24_v36 m g c).symm

/-- Over the same arguments the reference's stage for the output gate of the samples is what the kernel's run leaves there. -/
theorem agree_v214 (h1 : V (Proc.devRef .tc Cert.ReferenceIdeal.main_arg1) = a1 m c) (h5 : V (Proc.devRef .tc Cert.ReferenceIdeal.main_arg5) = a5 m c) (h6 : V (Proc.devRef .tc Cert.ReferenceIdeal.main_arg6) = a6 m c) :
    Cert.ReferenceIdeal.Read.val_main_v214 (F := Ideal) (V (Proc.devRef .tc Cert.ReferenceIdeal.main_arg1)) (V (Proc.devRef .tc Cert.ReferenceIdeal.main_arg5)) (V (Proc.devRef .tc Cert.ReferenceIdeal.main_arg6))
      = Cert.KernelIdeal.Gen.W24 m g c (Proc.devRef .tc Cert.KernelIdeal.main_v39) := by
  rw [h1, h5, h6]
  exact (Cert.ReferenceIdeal.Val.s_main_v214 _ _ _).trans (Cert.KernelIdeal.Val.at24_v39 m g c).symm

end Cert.Value

end
-- ==== Proof.Att.Body.lean ====
/-
  The attention call on the sample batch, written as loops: the copies of the past keys and values into
  the two slots of the scratch, one head after the other, the waits for them, and the four groups of
  four heads. The printed body is this program, by unfolding.
-/
module

public import proofs.«01_k».proof.Proof.Gen.Kernel2Ideal.Skeleton

@[expose] public section

set_option synthInstance.maxSize 4096
set_option maxRecDepth 65536

noncomputable section

namespace Cert.Kernel2Ideal.Att

open Cert.Kernel2Ideal Cert.Kernel2Ideal.Gen
open Idealize.ShloMosaic Idealize.SL.Sem

variable {F : FTy → Type} [FloatOps F] [Named F]

theorem inbSlot {s : ℕ} (hs : s < 2) (h : Fin 16) : ∀ a, (![s, h.val, 0, 0] : Fin 4 → Nat) a + S1x1x1024x128.size a ≤ S2x16x1024x128.size a := by
  have := h.isLt; intro a; fin_cases a <;> simp <;> omega
theorem inbSrc {b : ℕ} (hb : b < 32) (h : Fin 16) : ∀ a, (![b, 0, h.val, 0] : Fin 4 → Nat) a + S1x1024x1x128.size a ≤ S32x1024x16x128.size a := by
  have := h.isLt; intro a; fin_cases a <;> simp <;> omega
theorem inbCell {s : ℕ} (hs : s < 2) (a : Fin 2) (h : Fin 16) : ∀ x, (![s, a.val, h.val] : Fin 3 → Nat) x + S1x1x1.size x ≤ S2x2x16.size x := by
  have := h.isLt; have := a.isLt; intro x; fin_cases x <;> simp <;> omega
theorem inbCol (h : Fin 16) : ∀ a, (![0, 128 * h.val] : Fin 2 → Nat) a + S64x128.size a ≤ S64x2048.size a := by
  have := h.isLt; intro a; fin_cases a <;> simp <;> omega

/-- Head `h`'s box in slot `s` of a scratch array. -/
abbrev slotR {s : ℕ} (hs : s < 2) (h : Fin 16) : Rect S2x16x1024x128 := Rect.unit (s := S2x16x1024x128) ![s, h.val, 0, 0] S1x1x1024x128.size (inbSlot hs h)
/-- Head `h`'s columns of a block. -/
abbrev colR (h : Fin 16) : Rect S64x2048 := Rect.unit (s := S64x2048) ![0, 128 * h.val] S64x128.size (inbCol h)

/-- Head `h`'s box in slot `s`, as a transfer's destination. -/
def slotM (M : Memref sig .tc .vmem S2x16x1024x128 .f32) {s : ℕ} (hs : s < 2) (h : Fin 16) : Memref sig .tc .vmem S1024x128 .f32 :=
  (M.slice (slotR hs h) (fun _ => rfl)).squeeze S1024x128 squeezes_S1x1x1024x128_S1024x128
/-- Head `h` of stream `b`'s past, as a transfer's source. -/
def srcM (N : Memref sig .tc .hbm S32x1024x16x128 .f32) {b : ℕ} (hb : b < 32) (h : Fin 16) : Memref sig .tc .hbm S1024x128 .f32 :=
  (N.slice (Rect.unit (s := S32x1024x16x128) ![b, 0, h.val, 0] S1x1024x1x128.size (inbSrc hb h)) (fun _ => rfl)).squeeze S1024x128 squeezes_S1x1024x1x128_S1024x128
/-- The cell that counts array `a`'s copy of head `h` into slot `s`. -/
def cellM (C : DmaSems sig S2x2x16) {s : ℕ} (hs : s < 2) (a : Fin 2) (h : Fin 16) : DmaSem sig :=
  ((C.slice (Rect.unit (s := S2x2x16) ![s, a.val, h.val] S1x1x1.size (inbCell hs a h))).squeeze S_ squeezes_S1x1x1_S_).sem

section Copies
variable (M : Memref sig .tc .vmem S2x16x1024x128 .f32) (N : Memref sig .tc .hbm S32x1024x16x128 .f32) (C : DmaSems sig S2x2x16) (a : Fin 2)
  {s b : ℕ} (hs : s < 2) (hb : b < 32)

/-- The copies of the listed heads of stream `b` into slot `s`, started one after the other. -/
def starts : List (Fin 16) → Prog (TpuEff nD τ sig (Elt F) Λ₀ .tc) PUnit
  | [] => pure ⟨⟩
  | h :: l => do
    Prog.lift (.enqueueDma (srcM N hb h) (.here (slotM M hs h)) (.dma (cellM C hs a h)) ((View.wordExact_bits rfl).reshape _ _) ((View.wordExact_bits rfl).reshape _ _) ⟨Or.inl rfl, trivial⟩)
    starts l
/-- The waits for them. -/
def waits : List (Fin 16) → Prog (TpuEff nD τ sig (Elt F) Λ₀ .tc) PUnit
  | [] => pure ⟨⟩
  | h :: l => do
    Prog.lift (.waitDma2 (cellM C hs a h) (srcM N hb h) (slotM M hs h) ((View.wordExact_bits rfl).reshape _ _) ((View.wordExact_bits rfl).reshape _ _))
    waits l
end Copies

/-- The sixteen heads. -/
abbrev heads : List (Fin 16) := [0, 1, 2, 3, 4, 5, 6, 7, 8, 9, 10, 11, 12, 13, 14, 15]

/-- A group's scores against its past keys, the four heads stacked. -/
def zPast (q0 q1 q2 q3 : Vec F S64x128 .bf16) (k0 k1 k2 k3 : Vec F S1x1x1024x128 .f32) : FVec F S256x1024 .f32 :=
  k0_pay7 (k0_pay5 q0 k0) q1 k1 q2 k2 q3 k3
/-- A group's masked scores against its new keys. -/
def zNew (q0 q1 q2 q3 k0 k1 k2 k3 : Vec F S64x128 .bf16) : FVec F S256x64 .f32 :=
  k0_pay8 k0_pay4 (k0_pay6 k0_pay4 q0 k0) q1 k1 q2 k2 q3 k3
/-- The logarithms of the factors `β` of the new keys. -/
def lsNew (z : FVec F S256x64 .f32) : FVec F S256x64 .f32 :=
  k0_pay11 (minimumf z (broadcast S256x64 (Scalar.ofBits .f32 0x00000000#32))) (exp2 (subf (broadcast S256x64 (Scalar.ofBits .f32 0x00000000#32)) (absf z))) (Scalar.ofBits .f32 0x3F800000#32)
/-- The weights of the new keys. -/
def wNew (z : FVec F S256x64 .f32) : FVec F S256x64 .bf16 :=
  k0_pay13 k0_pay3 z (minimumf z (broadcast S256x64 (Scalar.ofBits .f32 0x00000000#32))) (exp2 (subf (broadcast S256x64 (Scalar.ofBits .f32 0x00000000#32)) (absf z))) (Scalar.ofBits .f32 0x3F800000#32)
/-- The weights of the past keys, a chunk of 256 after the other from the last. -/
def wPast (z : FVec F S256x64 .f32) (y : FVec F S256x1024 .f32) : FVec F S256x1024 .bf16 :=
  let mn := minimumf z (broadcast S256x64 (Scalar.ofBits .f32 0x00000000#32))
  let ex := exp2 (subf (broadcast S256x64 (Scalar.ofBits .f32 0x00000000#32)) (absf z))
  let one := Scalar.ofBits .f32 0x3F800000#32
  k0_pay23 k0_pay2 (k0_pay15 y) (k0_pay16 y) (k0_pay18 k0_pay2 y z mn ex one) (k0_pay19 y z mn ex one) (k0_pay21 k0_pay2 y z mn ex one) (k0_pay22 y)
/-- One head's result, from its rows of the weights. -/
def headOut (wp : FVec F S64x1024 .bf16) (wn : FVec F S64x64 .bf16) (vp : Vec F S1x1x1024x128 .f32) (vn z : Vec F S64x128 .bf16) : FVec F S64x128 .bf16 :=
  k0_pay30 (matmul dot_S64x1024_S1024x128_S64x128_1_0_0_1_n_n none wp (truncf .bf16 (shapeCast S1024x128 vp shapeCasts_S1x1x1024x128_S1024x128) bitsLt_bf16_f32) (constant S64x128 .f32 0x00000000#32)) wn vn z

/-- Every head's columns of a block are whole words. -/
theorem packedCol : ∀ h : Fin 16, (colR h).PackedRows (EltTy.packing .bf16) := by decide

section Compute
variable (arg1 : Memref sig .tc .vmem S64x2048 .bf16) (arg4 arg5 arg6 arg7 : Memref sig .tc .vmem S64x2048 .bf16) (harg7 : arg7.IsWhole)
  (arg8 arg9 : Memref sig .tc .vmem S2x16x1024x128 .f32) {s : ℕ} (hs : s < 2)

abbrev ldCol (A : Memref sig .tc .vmem S64x2048 .bf16) (h : Fin 16) : Prog (TpuEff nD τ sig (Elt F) Λ₀ .tc) (Vec F S64x128 .bf16) :=
  Prog.lift (.load A (colR h).toLoadRect (View.loadsAt_vmem h_S64x128))
abbrev ldSlot (A : Memref sig .tc .vmem S2x16x1024x128 .f32) (h : Fin 16) : Prog (TpuEff nD τ sig (Elt F) Λ₀ .tc) (Vec F S1x1x1024x128 .f32) :=
  Prog.lift (.load A (slotR hs h).toLoadRect (View.loadsAt_vmem h_S1x1x1024x128))

/-- One head's end: its past and new values and its gate read, its result stored. -/
def headEnd (h : Fin 16) (wp : FVec F S64x1024 .bf16) (wn : FVec F S64x64 .bf16) : Prog (TpuEff nD τ sig (Elt F) Λ₀ .tc) PUnit := do
  let vp ← ldSlot hs arg9 h
  let vn ← ldCol arg5 h
  let z ← ldCol arg6 h
  let _ ← ldCol arg7 h
  Prog.lift (.store arg7 (colR h) (headOut wp wn vp vn z) Finset.univ (View.stores_vmem h_S64x128 (harg7.storeExact_slice rfl _ (packedCol h)) (fun _ => rfl)) (.inl rfl))

/-- One group of four heads. -/
def group (h0 h1 h2 h3 : Fin 16) : Prog (TpuEff nD τ sig (Elt F) Λ₀ .tc) PUnit := do
  let q0 ← ldCol arg1 h0
  let k0 ← ldSlot hs arg8 h0
  let n0 ← ldCol arg4 h0
  let q1 ← ldCol arg1 h1
  let k1 ← ldSlot hs arg8 h1
  let n1 ← ldCol arg4 h1
  let q2 ← ldCol arg1 h2
  let k2 ← ldSlot hs arg8 h2
  let n2 ← ldCol arg4 h2
  let q3 ← ldCol arg1 h3
  let k3 ← ldSlot hs arg8 h3
  let n3 ← ldCol arg4 h3
  let wn := wNew (zNew q0 q1 q2 q3 n0 n1 n2 n3)
  let wp := wPast (zNew q0 q1 q2 q3 n0 n1 n2 n3) (zPast q0 q1 q2 q3 k0 k1 k2 k3)
  headEnd arg5 arg6 arg7 harg7 arg9 hs h0 (extractStridedSlice S64x1024 ![0, 0] wp slices_S256x1024_o0_0_S64x1024) (extractStridedSlice S64x64 ![0, 0] wn slices_S256x64_o0_0_S64x64)
  headEnd arg5 arg6 arg7 harg7 arg9 hs h1 (extractStridedSlice S64x1024 ![64, 0] wp slices_S256x1024_o64_0_S64x1024) (extractStridedSlice S64x64 ![64, 0] wn slices_S256x64_o64_0_S64x64)
  headEnd arg5 arg6 arg7 harg7 arg9 hs h2 (extractStridedSlice S64x1024 ![128, 0] wp slices_S256x1024_o128_0_S64x1024) (extractStridedSlice S64x64 ![128, 0] wn slices_S256x64_o128_0_S64x64)
  headEnd arg5 arg6 arg7 harg7 arg9 hs h3 (extractStridedSlice S64x1024 ![192, 0] wp slices_S256x1024_o192_0_S64x1024) (extractStridedSlice S64x64 ![192, 0] wn slices_S256x64_o192_0_S64x64)

/-- The four groups. -/
def groups : Prog (TpuEff nD τ sig (Elt F) Λ₀ .tc) PUnit := do
  group arg1 arg4 arg5 arg6 arg7 harg7 arg8 arg9 hs 0 1 2 3
  group arg1 arg4 arg5 arg6 arg7 harg7 arg8 arg9 hs 4 5 6 7
  group arg1 arg4 arg5 arg6 arg7 harg7 arg8 arg9 hs 8 9 10 11
  group arg1 arg4 arg5 arg6 arg7 harg7 arg8 arg9 hs 12 13 14 15
end Compute

/-- The grid point's number as the kernel computes with it, its slot, and the other one. -/
abbrev ptB (i : grid0.Coords) : BitVec 32 := BitVec.ofNat 32 (i 0).val
abbrev slB (i : grid0.Coords) : BitVec 32 := Scalar.remsi (ptB i) 2#32
abbrev slN (i : grid0.Coords) : BitVec 32 := Scalar.subi 1#32 (slB i)
abbrev ptN (i : grid0.Coords) : BitVec 32 := Scalar.addi (ptB i) 1#32
theorem slB_lt : ∀ i : grid0.Coords, (slB i).toNat < 2 := by decide +kernel
theorem slN_lt : ∀ i : grid0.Coords, (slN i).toNat < 2 := by decide +kernel
theorem ptB_lt : ∀ i : grid0.Coords, (ptB i).toNat < 32 := by decide +kernel
theorem ptN_lt : ∀ i : grid0.Coords, k0_cond2 i = 1#1 → (ptN i).toNat < 32 := by decide +kernel
/-- The first branch's condition. -/
abbrev cond1 (i : grid0.Coords) : Prop := Scalar.cmpi .ne (Scalar.extui (Scalar.cmpi .eq (ptB i) 0#32)) 0#32 = 1#1

section Body
variable (i : grid0.Coords) (arg1 : Memref sig .tc .vmem S64x2048 .bf16) (harg1 : arg1.IsWhole) (arg2 : Memref sig .tc .hbm S32x1024x16x128 .f32) (harg2 : arg2.IsWhole) (arg3 : Memref sig .tc .hbm S32x1024x16x128 .f32) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S2x16x1024x128 .f32) (harg8 : arg8.IsWhole) (arg9 : Memref sig .tc .vmem S2x16x1024x128 .f32) (harg9 : arg9.IsWhole) (arg10 : DmaSems sig S2x2x16)

/-- The first point's copies of its own stream. -/
def firstStarts : Prog (TpuEff nD τ sig (Elt F) Λ₀ .tc) PUnit := do
  starts arg8 arg2 arg10 0 (s := 0) (b := 0) (by decide) (by decide) heads
  starts arg9 arg3 arg10 1 (s := 0) (b := 0) (by decide) (by decide) heads
/-- The copies of the next stream into the other slot. -/
def nextStarts (h : k0_cond2 i = 1#1) : Prog (TpuEff nD τ sig (Elt F) Λ₀ .tc) PUnit := do
  starts arg8 arg2 arg10 0 (slN_lt i) (ptN_lt i h) heads
  starts arg9 arg3 arg10 1 (slN_lt i) (ptN_lt i h) heads
/-- The waits for this point's stream. -/
def allWaits : Prog (TpuEff nD τ sig (Elt F) Λ₀ .tc) PUnit := do
  waits arg8 arg2 arg10 0 (slB_lt i) (ptB_lt i) heads
  waits arg9 arg3 arg10 1 (slB_lt i) (ptB_lt i) heads

/-- The whole body. -/
def body : Prog (TpuEff nD τ sig (Elt F) Λ₀ .tc) PUnit := do
  (if cond1 i then firstStarts arg2 arg3 arg8 arg9 arg10 else pure ⟨⟩ : Prog (TpuEff nD τ sig (Elt F) Λ₀ .tc) PUnit)
  (if h : k0_cond2 i = 1#1 then nextStarts i arg2 arg3 arg8 arg9 arg10 h else pure ⟨⟩ : Prog (TpuEff nD τ sig (Elt F) Λ₀ .tc) PUnit)
  allWaits i arg2 arg3 arg8 arg9 arg10
  groups arg1 arg4 arg5 arg6 arg7 harg7 arg8 arg9 (slB_lt i)

theorem part18_eq :
    k0_part18 (F := F) i arg1 harg1 arg2 harg2 arg3 harg3 arg4 harg4 arg5 harg5 arg6 harg6 arg7 harg7 arg8 harg8 arg9 harg9 arg10
     = (if cond1 i then firstStarts arg2 arg3 arg8 arg9 arg10 else pure ⟨⟩) >>= fun _ =>
       (if h : k0_cond2 i = 1#1 then nextStarts i arg2 arg3 arg8 arg9 arg10 h else pure ⟨⟩) >>= fun _ =>
       waits arg8 arg2 arg10 0 (slB_lt i) (ptB_lt i) [0] >>= fun _ => pure ⟨k0_pay2, k0_pay3, k0_pay4, slB i⟩ := by
  rw [k0_part18_eq_skeleton]
  unfold k0_part18_skel
  by_cases h1 : cond1 i <;> by_cases h2 : k0_cond2 i = 1#1
  · rw [if_pos h1, dif_pos h2]
    simp only [dif_pos h1, dif_pos h2]
    rfl
  · rw [if_pos h1, dif_neg h2]
    simp only [dif_pos h1, dif_neg h2]
    rfl
  · rw [if_neg h1, dif_pos h2]
    simp only [dif_neg h1, dif_pos h2]
    rfl
  · rw [if_neg h1, dif_neg h2]
    simp only [dif_neg h1, dif_neg h2]
    rfl

set_option maxHeartbeats 4000000 in
/-- The printed body is the program written as loops. -/
theorem body_eq :
    cc0_attn_sample (F := F) i arg1 harg1 arg2 harg2 arg3 harg3 arg4 harg4 arg5 harg5 arg6 harg6 arg7 harg7 arg8 harg8 arg9 harg9 arg10
     = body i arg1 arg2 arg3 arg4 arg5 arg6 arg7 harg7 arg8 arg9 arg10 := by
  rw [cc0_attn_sample_eq_skeleton]
  unfold cc0_attn_sample_skel body
  rw [part18_eq]
  refine (Prog.bind_assoc _ _ _).trans ?_
  refine congrArg (fun k => (if cond1 i then firstStarts arg2 arg3 arg8 arg9 arg10 else pure ⟨⟩) >>= k) (funext fun _ => ?_)
  refine (Prog.bind_assoc _ _ _).trans ?_
  refine congrArg (fun k => (if h : k0_cond2 i = 1#1 then nextStarts i arg2 arg3 arg8 arg9 arg10 h else pure ⟨⟩) >>= k) (funext fun _ => ?_)
  rfl
end Body

end Cert.Kernel2Ideal.Att

end
-- ==== Proof.Att.Ring.lean ====
/-
  The copies into the scratch's two slots and the waits for them, head by head. A head's box of a slot is
  free (its cell at zero, the box at something, a share of the source array), in flight, or landed (it
  reads what the source's block reads). Starting a list of heads' copies turns free boxes into boxes in
  flight; waiting for them turns those into landed ones.
-/
module

public import proofs.«01_k».proof.Proof.Att.Body
public import proofs.«01_k».proof.Proof.Gen.Kernel2Ideal.Frame
public import Idealize.ShloMosaic.Lib.Ring
public import Idealize.ShloMosaic.Lib.Transfers

@[expose] public section

set_option maxRecDepth 16384

noncomputable section

namespace Cert.Kernel2Ideal.Att

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What a family holds over a list of heads. -/
def all (P : Fin 16 → sProp 𝕄) : List (Fin 16) → sProp 𝕄
  | [] => iprop(emp)
  | h :: l => iprop(P h ∗ all P l)

theorem all_mono {P Q : Fin 16 → sProp 𝕄} (hpq : ∀ h, P h ⊢ Q h) : ∀ l, all P l ⊢ all Q l
  | [] => .rfl
  | h :: l => by
    unfold all
    iintro ⟨H, Hl⟩
    isplitl [H]
    · iapply (hpq h) $$ H
    iapply (all_mono hpq l) $$ Hl

section Boxes
variable (c : Dev nD) (M : Memref sig .tc .vmem S2x16x1024x128 .f32) (N : Memref sig .tc .hbm S32x1024x16x128 .f32) (C : DmaSems sig S2x2x16) (a : Fin 2)
  (q : Fin 2 → Fin 16 → PosShare TreeShare) (W : Buf (Elt F) (N.view.loc (c : Thread nD τ)))
  {s b : ℕ} (hs : s < 2) (hb : b < 32)

abbrev slotP (h : Fin 16) (f : Buf (Elt F) ((slotM M hs h).view.loc (c : Thread nD τ))) : sProp 𝕄 :=
  (slotM M hs h).view.loc (c : Thread nD τ) ↦[(slotM M hs h).view.set]{fullShare} f
abbrev cellP (h : Fin 16) : sProp 𝕄 := semVal ((c : Thread nD τ), SemLoc.dma (cellM C hs a h)) 0
abbrev wholeP (h : Fin 16) : sProp 𝕄 := N.view.loc (c : Thread nD τ) ↦[Finset.univ]{q ⟨s, hs⟩ h} W
abbrev srcP (h : Fin 16) : sProp 𝕄 := (srcM N hb h).view.loc (c : Thread nD τ) ↦[(srcM N hb h).view.set]{q ⟨s, hs⟩ h} W
def restP (h : Fin 16) : sProp 𝕄 := N.view.loc (c : Thread nD τ) ↦[Finset.univ \ (srcM N hb h).view.set]{q ⟨s, hs⟩ h} W

/-- A share of an array is a head's source and the rest. -/
theorem src_split (h : Fin 16) : wholeP (F := F) c N q W hs h ⊣⊢ iprop(srcP c N q W hs hb h ∗ restP c N q W hs hb h) := by
  unfold restP; exact pointsTo_split_subset (Finset.subset_univ _)

/-- What block `b`'s head `h` leaves in a box it is copied over. -/
abbrev landedBuf (h : Fin 16) (f : Buf (Elt F) ((slotM M hs h).view.loc (c : Thread nD τ))) : Buf (Elt F) ((slotM M hs h).view.loc (c : Thread nD τ)) :=
  (slotM M hs h).view.write (Elt F) f (ReadAs.same.apply ((srcM N hb h).view.read (Elt F) W)) Finset.univ

/-- A free box. -/
def Free (h : Fin 16) : sProp 𝕄 := iprop(cellP (F := F) c C a hs h ∗ (∃ f, slotP c M hs h f) ∗ wholeP c N q W hs h)
/-- A box in flight. -/
def Fly (h : Fin 16) : sProp 𝕄 := iprop((∃ f, Transfers.Flight countersEmb (c : Thread nD τ) (SemLoc.dma (cellM C hs a h)) default ((slotM M hs h).view.amount (SemLoc.dma (cellM C hs a h)))
    iprop(slotP c M hs h (landedBuf c M N W hs hb h f) ∗ srcP c N q W hs hb h)) ∗ restP c N q W hs hb h)
/-- A landed box. -/
def Landed (h : Fin 16) : sProp 𝕄 := iprop(cellP (F := F) c C a hs h
    ∗ (∃ f, ⌜(slotM M hs h).view.read (Elt F) f = (srcM N hb h).view.read (Elt F) W⌝ ∗ slotP c M hs h f) ∗ wholeP c N q W hs h)

/-- A landed box is free again. -/
theorem landed_free (h : Fin 16) : Landed (F := F) c M N C a q W hs hb h ⊢ Free c M N C a q W hs h := by
  unfold Landed Free
  iintro ⟨Hc, ⟨%f, -, Hs⟩, Hw⟩
  isplitl [Hc]; · iexact Hc
  isplitl [Hs]; · iexists f; iexact Hs
  iexact Hw

/-- Starting the copies of a list of heads puts their boxes in flight. -/
theorem wp_starts (Q : PUnit → sProp 𝕄) : ∀ (l : List (Fin 16)) (k : PUnit → Prog (TpuEff nD τ sig (Elt F) Λ₀ .tc) PUnit),
    iprop(all (Free c M N C a q W hs) l ∗ (all (Fly c M N C a q W hs hb) l -∗ wp frame (wpE (defs₀ (F := F)) Variants.none (c : Thread nD τ) none) Set.univ (k ⟨⟩) Q))
      ⊢ wp frame (wpE (defs₀ (F := F)) Variants.none (c : Thread nD τ) none) Set.univ (starts M N C a hs hb l >>= k) Q
  | [], k => by
    unfold all starts
    iintro ⟨He, Hk⟩
    iapply Hk $$ He
  | h :: l, k => by
    unfold all starts
    iintro ⟨⟨Hf, Hl⟩, Hk⟩
    unfold Free
    icases Hf with ⟨Hc, ⟨%f, Hs⟩, Hw⟩
    ihave Hw' := (src_split c N q W hs hb h).1 $$ Hw
    icases Hw' with ⟨Hsrc, Hr⟩
    iapply (Transfers.wp_dmaLocal countersEmb Variants.none (c : Thread nD τ) none default ((slotM M hs h).view.amount (SemLoc.dma (cellM C hs a h))) rfl
      (View.amount_pos _ _ (by decide)) (Finset.Subset.refl _)) $$ [Hsrc Hs Hc]
    · isplitl [Hsrc]; · iexact Hsrc
      isplitl [Hs]; · iexact Hs
      iexact Hc
    iintro Hfl
    iapply (wp_starts Q l k)
    isplitl [Hl]; · iexact Hl
    iintro Hl'
    iapply Hk
    isplitl [Hfl Hr]
    · unfold Fly
      isplitl [Hfl]; · iexists f; iexact Hfl
      iexact Hr
    iexact Hl'

/-- Waiting for them lands the boxes. -/
theorem wp_waits (Q : PUnit → sProp 𝕄) : ∀ (l : List (Fin 16)) (k : PUnit → Prog (TpuEff nD τ sig (Elt F) Λ₀ .tc) PUnit) (X : Waits sig Unit),
    iprop(all (Fly c M N C a q W hs hb) l ∗ owes (c : Thread nD τ) 0 X
        ∗ (all (Landed c M N C a q W hs hb) l ∗ (∃ X', owes (c : Thread nD τ) 0 X') -∗ wp frame (wpE (defs₀ (F := F)) Variants.none (c : Thread nD τ) none) Set.univ (k ⟨⟩) Q))
      ⊢ wp frame (wpE (defs₀ (F := F)) Variants.none (c : Thread nD τ) none) Set.univ (waits M N C a hs hb l >>= k) Q
  | [], k, X => by
    unfold all waits
    iintro ⟨He, HO, Hk⟩
    iapply Hk
    isplitl [He]; · iexact He
    iexists X; iexact HO
  | h :: l, k, X => by
    unfold all waits
    iintro ⟨⟨Hf, Hl⟩, HO, Hk⟩
    unfold Fly
    icases Hf with ⟨⟨%f, Hf⟩, Hr⟩
    iapply (Transfers.wp_waitLocal countersEmb Variants.none (c : Thread nD τ) none default (N := (slotM M hs h).view.amount (SemLoc.dma (cellM C hs a h))) rfl) $$ [Hf HO]
    · isplitl [Hf]; · iexact Hf
      iexact HO
    iintro ⟨⟨Hs, Hsrc⟩, Hc, HO⟩
    iapply (wp_waits Q l k _)
    isplitl [Hl]; · iexact Hl
    isplitl [HO]; · iexact HO
    iintro ⟨Hl', HO'⟩
    iapply Hk
    isplitl [Hs Hsrc Hc Hr Hl']
    · isplitr [Hl']
      · unfold Landed
        isplitl [Hc]; · iexact Hc
        isplitl [Hs]
        · iexists _
          isplitr; swap; · iexact Hs
          ipureintro
          exact View.read_write_univ _ _
        iapply (src_split c N q W hs hb h).2
        isplitl [Hsrc]; · iexact Hsrc
        iexact Hr
      iexact Hl'
    iexact HO'
end Boxes

end Cert.Kernel2Ideal.Att

end
-- ==== Proof.Att.Compute.lean ====
/-
  The four groups of heads at one grid point: with the past keys and values landed in the point's slot and
  the blocks staged, the body stores every head's result, and what the output block ends at is named.
-/
module

public import proofs.«01_k».proof.Proof.Att.Ring
public import Idealize.ShloMosaic.Lib.Writes
public import Idealize.ShloMosaic.Lib.WritesUnit
public import Idealize.ShloMosaic.Lib.ValueIdxCore

@[expose] public section

set_option maxRecDepth 16384

noncomputable section

namespace Cert.Kernel2Ideal.Att

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- One of the heads of the list, taken out and put back. -/
theorem all_acc (P : Fin 16 → sProp 𝕄) (h : Fin 16) : ∀ l, h ∈ l → all P l ⊢ iprop(P h ∗ (P h -∗ all P l))
  | [], hm => absurd hm (List.not_mem_nil)
  | h' :: l, hm => by
    unfold all
    iintro ⟨H, Hl⟩
    by_cases e : h = h'
    · subst e
      isplitl [H]; · iexact H
      iintro H
      isplitl [H]; · iexact H
      iexact Hl
    · ihave Hx := (all_acc P h l ((List.mem_cons.mp hm).resolve_left e)) $$ Hl
      icases Hx with ⟨Hh, Hback⟩
      isplitl [Hh]; · iexact Hh
      iintro Hh
      isplitl [H]; · iexact H
      iapply Hback $$ Hh

theorem mem_heads : ∀ h : Fin 16, h ∈ heads := by decide

/-- Head `h`'s columns of a block. -/
def colOf (x : Vec F S64x2048 .bf16) (h : Fin 16) : Vec F S64x128 .bf16 := fun i => x ((colR h).emb i)

section
variable (c : Dev nD)

abbrev WP (p : Prog (TpuEff nD τ sig (Elt F) Λ₀ .tc) PUnit) (Q : PUnit → sProp 𝕄) : sProp 𝕄 :=
  wp frame (wpE (defs₀ (F := F)) Variants.none (c : Thread nD τ) none) Set.univ p Q

/-- Loading a head's columns of a block. -/
theorem wp_ldCol (Q : PUnit → sProp 𝕄) (A : Memref sig .tc .vmem S64x2048 .bf16) (h : Fin 16) (x : Vec F S64x2048 .bf16)
    (k : Vec F S64x128 .bf16 → Prog (TpuEff nD τ sig (Elt F) Λ₀ .tc) PUnit) :
    iprop(owns (c : Thread nD τ) A fullShare x ∗ (owns (c : Thread nD τ) A fullShare x -∗ WP c (k (colOf x h)) Q)) ⊢ WP c (ldCol A h >>= k) Q := by
  unfold owns
  iintro ⟨⟨%f, %hf, H⟩, Hk⟩
  iapply (wp_load_rect Variants.none (c : Thread nD τ) none Set.univ (m := A) (r := colR h) (S := A.view.set) (f := f) (View.set_slice_subset A.view (colR h))) $$ [H]
  · iexact H
  iintro H
  rw [show (A.access (colR h)).read (Elt F) f = colOf x h by subst hf; rfl]
  iapply Hk
  iexists f
  isplitr; · ipureintro; exact hf
  iexact H

section Slot
variable (M : Memref sig .tc .vmem S2x16x1024x128 .f32) (N : Memref sig .tc .hbm S32x1024x16x128 .f32) (C : DmaSems sig S2x2x16) (a : Fin 2)
  (q : Fin 2 → Fin 16 → PosShare TreeShare) (W : Buf (Elt F) (N.view.loc (c : Thread nD τ)))
  {s b : ℕ} (hs : s < 2) (hb : b < 32)

/-- Head `h` of stream `b`'s past, in the shape a slot's box is read in. -/
def pastBox (h : Fin 16) : Vec F S1x1x1024x128 .f32 :=
  fun x => (srcM N hb h).view.read (Elt F) W ((Shape.reshapeEquiv squeezes_S1x1x1024x128_S1024x128.numel_eq).symm x)

theorem read_box (h : Fin 16) (f : Buf (Elt F) ((slotM M hs h).view.loc (c : Thread nD τ)))
    (hf : (slotM M hs h).view.read (Elt F) f = (srcM N hb h).view.read (Elt F) W) : (M.access (slotR hs h)).read (Elt F) f = pastBox c N W hb h := by
  funext x
  unfold pastBox
  rw [← hf]
  obtain ⟨y, rfl⟩ := (Shape.reshapeEquiv squeezes_S1x1x1024x128_S1024x128.numel_eq).surjective x
  rw [Equiv.symm_apply_apply]
  rfl

/-- Loading a head from a landed slot. -/
theorem wp_ldSlot (Q : PUnit → sProp 𝕄) (h : Fin 16) (k : Vec F S1x1x1024x128 .f32 → Prog (TpuEff nD τ sig (Elt F) Λ₀ .tc) PUnit) :
    iprop(all (Landed c M N C a q W hs hb) heads ∗ (all (Landed c M N C a q W hs hb) heads -∗ WP c (k (pastBox c N W hb h)) Q)) ⊢ WP c (ldSlot hs M h >>= k) Q := by
  iintro ⟨Hall, Hk⟩
  ihave Hx := (all_acc (Landed c M N C a q W hs hb) h heads (mem_heads h)) $$ Hall
  icases Hx with ⟨Hh, Hback⟩
  unfold Landed
  icases Hh with ⟨Hc, ⟨%f, %hf, Hs⟩, Hw⟩
  iapply (wp_load_rect Variants.none (c : Thread nD τ) none Set.univ (m := M) (r := slotR hs h) (S := (slotM M hs h).view.set) (f := f)
    (le_of_eq (View.set_reshape (M.access (slotR hs h)) squeezes_S1x1x1024x128_S1024x128.numel_eq).symm)) $$ [Hs]
  · iexact Hs
  iintro Hs
  rw [read_box c M N W hs hb h f hf]
  iapply Hk
  iapply Hback
  isplitl [Hc]; · iexact Hc
  isplitl [Hs]
  · iexists f
    isplitr; · ipureintro; exact hf
    iexact Hs
  iexact Hw
end Slot

/-- The output block held, its first `n` columns at `X`'s. -/
def OutAt (A : Memref sig .tc .vmem S64x2048 .bf16) (X : Vec F S64x2048 .bf16) (n : ℕ) : sProp 𝕄 :=
  iprop(∃ f, ⌜∀ y : S64x2048.Idx, (y 1).val < n → A.view.read (Elt F) f y = X y⌝ ∗ A.view.loc (c : Thread nD τ) ↦[A.view.set]{fullShare} f)

/-- Storing a head's columns of the results. -/
theorem wp_stCol (Q : PUnit → sProp 𝕄) (A : Memref sig .tc .vmem S64x2048 .bf16) (hA : A.IsWhole) (h : Fin 16) (w : FVec F S64x128 .bf16) (X : Vec F S64x2048 .bf16)
    (hw : w = colOf X h) (k : PUnit → Prog (TpuEff nD τ sig (Elt F) Λ₀ .tc) PUnit) :
    iprop(OutAt c A X (128 * h.val) ∗ (OutAt c A X (128 * h.val + 128) -∗ WP c (k ⟨⟩) Q))
      ⊢ WP c (Prog.lift (.store A (colR h) w Finset.univ (View.stores_vmem h_S64x128 (hA.storeExact_slice rfl _ (packedCol h)) (fun _ => rfl)) (.inl rfl)) >>= k) Q := by
  unfold OutAt
  iintro ⟨⟨%f, %hf, H⟩, Hk⟩
  iapply (wp_store Variants.none (c : Thread nD τ) none Set.univ (m := A) (r := colR h) (w := w) (Mk := Finset.univ) (S := A.view.set) (f := f) (View.set_slice_subset A.view (colR h))) $$ [H]
  · iexact H
  iintro H
  iapply Hk
  iexists _
  isplitr; swap; · iexact H
  ipureintro
  intro y hy
  by_cases hlt : (y 1).val < 128 * h.val
  · refine (View.read_slice_write_of_not_mem (v := A.view) (colR h) f w Finset.univ ?_).trans (hf y hlt)
    rw [Rect.map_emb_univ, Rect.mem_set_unit]
    intro hall
    have := (hall 1).1
    simp at this
    omega
  · have e : (colR h).emb (Idealize.ShloMosaic.ValueIdx.ix2 (y 0) ⟨(y 1).val - 128 * h.val, by omega⟩ : S64x128.Idx) = y := by
      funext a
      refine Fin.ext ?_
      match a with
      | ⟨0, _⟩ => show 0 + 1 * (y 0).val = (y 0).val; omega
      | ⟨1, _⟩ => show 128 * h.val + 1 * ((y 1).val - 128 * h.val) = (y 1).val; omega
    rw [← e]
    refine (View.read_slice_write_emb (v := A.view) (colR h) f w (Finset.mem_univ _)).trans ?_
    rw [hw]; rfl

section Groups
variable (MK MV : Memref sig .tc .vmem S2x16x1024x128 .f32) (NK NV : Memref sig .tc .hbm S32x1024x16x128 .f32) (C : DmaSems sig S2x2x16)
  (q : Fin 2 → Fin 16 → PosShare TreeShare) (WK : Buf (Elt F) (NK.view.loc (c : Thread nD τ))) (WV : Buf (Elt F) (NV.view.loc (c : Thread nD τ)))
  {s b : ℕ} (hs : s < 2) (hb : b < 32)
  (arg1 arg4 arg5 arg6 arg7 : Memref sig .tc .vmem S64x2048 .bf16) (harg7 : arg7.IsWhole)
  (x1 x4 x5 x6 : Vec F S64x2048 .bf16) (X : Vec F S64x2048 .bf16)

/-- The end of a head: its values, its gate and its columns of the results. -/
theorem wp_headEnd (Q : PUnit → sProp 𝕄) (h : Fin 16) (n : ℕ) (hn : n = 128 * h.val) (wp : FVec F S64x1024 .bf16) (wn : FVec F S64x64 .bf16)
    (hX : headOut wp wn (pastBox c NV WV hb h) (colOf x5 h) (colOf x6 h) = colOf X h)
    (k : PUnit → Prog (TpuEff nD τ sig (Elt F) Λ₀ .tc) PUnit) :
    iprop(all (Landed c MV NV C 1 q WV hs hb) heads ∗ owns (c : Thread nD τ) arg5 fullShare x5 ∗ owns (c : Thread nD τ) arg6 fullShare x6 ∗ OutAt c arg7 X n
        ∗ (all (Landed c MV NV C 1 q WV hs hb) heads ∗ owns (c : Thread nD τ) arg5 fullShare x5 ∗ owns (c : Thread nD τ) arg6 fullShare x6 ∗ OutAt c arg7 X (n + 128) -∗ WP c (k ⟨⟩) Q))
      ⊢ WP c (headEnd arg5 arg6 arg7 harg7 MV hs h wp wn >>= k) Q := by
  subst hn
  unfold headEnd
  iintro ⟨Hv, H5, H6, H7, Hk⟩
  iapply (wp_ldSlot c MV NV C 1 q WV hs hb Q h _)
  isplitl [Hv]; · iexact Hv
  iintro Hv
  iapply (wp_ldCol c Q arg5 h x5 _)
  isplitl [H5]; · iexact H5
  iintro H5
  iapply (wp_ldCol c Q arg6 h x6 _)
  isplitl [H6]; · iexact H6
  iintro H6
  unfold OutAt
  icases H7 with ⟨%f, %hf, H7⟩
  iapply (wp_load_rect Variants.none (c : Thread nD τ) none Set.univ (m := arg7) (r := colR h) (S := arg7.view.set) (f := f) (View.set_slice_subset arg7.view (colR h))) $$ [H7]
  · iexact H7
  iintro H7
  iapply (wp_stCol c Q arg7 harg7 h _ X hX k)
  isplitl [H7]
  · unfold OutAt
    iexists f
    isplitr; · ipureintro; exact hf
    iexact H7
  iintro H7
  iapply Hk
  isplitl [Hv]; · iexact Hv
  isplitl [H5]; · iexact H5
  isplitl [H6]; · iexact H6
  unfold OutAt
  iexact H7

/-- A group's weights of the new keys and of the past ones, from the blocks. -/
def grpZN (h0 h1 h2 h3 : Fin 16) : FVec F S256x64 .f32 :=
  zNew (colOf x1 h0) (colOf x1 h1) (colOf x1 h2) (colOf x1 h3) (colOf x4 h0) (colOf x4 h1) (colOf x4 h2) (colOf x4 h3)
def grpZP (h0 h1 h2 h3 : Fin 16) : FVec F S256x1024 .f32 :=
  zPast (colOf x1 h0) (colOf x1 h1) (colOf x1 h2) (colOf x1 h3) (pastBox c NK WK hb h0) (pastBox c NK WK hb h1) (pastBox c NK WK hb h2) (pastBox c NK WK hb h3)

/-- One head of a group, its result from the group's weights: head `h`, the `j`-th of the group. -/
def outHead (h0 h1 h2 h3 h : Fin 16) (j : Fin 4) : FVec F S64x128 .bf16 :=
  headOut (extractStridedSlice S64x1024 ![64 * j.val, 0] (wPast (grpZN x1 x4 h0 h1 h2 h3) (grpZP c NK WK hb x1 h0 h1 h2 h3)) (by
      revert j; decide))
    (extractStridedSlice S64x64 ![64 * j.val, 0] (wNew (grpZN x1 x4 h0 h1 h2 h3)) (by revert j; decide))
    (pastBox c NV WV hb h) (colOf x5 h) (colOf x6 h)

/-- A group of four heads. -/
theorem wp_group (Q : PUnit → sProp 𝕄) (h0 h1 h2 h3 : Fin 16) (n : ℕ) (e0 : n = 128 * h0.val) (e1 : n + 128 = 128 * h1.val) (e2 : n + 128 + 128 = 128 * h2.val) (e3 : n + 128 + 128 + 128 = 128 * h3.val)
    (hX0 : outHead c NK NV WK WV hb x1 x4 x5 x6 h0 h1 h2 h3 h0 0 = colOf X h0) (hX1 : outHead c NK NV WK WV hb x1 x4 x5 x6 h0 h1 h2 h3 h1 1 = colOf X h1)
    (hX2 : outHead c NK NV WK WV hb x1 x4 x5 x6 h0 h1 h2 h3 h2 2 = colOf X h2) (hX3 : outHead c NK NV WK WV hb x1 x4 x5 x6 h0 h1 h2 h3 h3 3 = colOf X h3)
    (k : PUnit → Prog (TpuEff nD τ sig (Elt F) Λ₀ .tc) PUnit) :
    iprop(all (Landed c MK NK C 0 q WK hs hb) heads ∗ all (Landed c MV NV C 1 q WV hs hb) heads ∗ owns (c : Thread nD τ) arg1 fullShare x1 ∗ owns (c : Thread nD τ) arg4 fullShare x4
        ∗ owns (c : Thread nD τ) arg5 fullShare x5 ∗ owns (c : Thread nD τ) arg6 fullShare x6 ∗ OutAt c arg7 X n
        ∗ (all (Landed c MK NK C 0 q WK hs hb) heads ∗ all (Landed c MV NV C 1 q WV hs hb) heads ∗ owns (c : Thread nD τ) arg1 fullShare x1 ∗ owns (c : Thread nD τ) arg4 fullShare x4
        ∗ owns (c : Thread nD τ) arg5 fullShare x5 ∗ owns (c : Thread nD τ) arg6 fullShare x6 ∗ OutAt c arg7 X (n + 128 + 128 + 128 + 128) -∗ WP c (k ⟨⟩) Q))
      ⊢ WP c (group arg1 arg4 arg5 arg6 arg7 harg7 MK MV hs h0 h1 h2 h3 >>= k) Q := by
  unfold group
  iintro ⟨HK, HV, H1, H4, H5, H6, H7, Hk⟩
  iapply (wp_ldCol c Q arg1 h0 x1 _)
  isplitl [H1]; · iexact H1
  iintro H1
  iapply (wp_ldSlot c MK NK C 0 q WK hs hb Q h0 _)
  isplitl [HK]; · iexact HK
  iintro HK
  iapply (wp_ldCol c Q arg4 h0 x4 _)
  isplitl [H4]; · iexact H4
  iintro H4
  iapply (wp_ldCol c Q arg1 h1 x1 _)
  isplitl [H1]; · iexact H1
  iintro H1
  iapply (wp_ldSlot c MK NK C 0 q WK hs hb Q h1 _)
  isplitl [HK]; · iexact HK
  iintro HK
  iapply (wp_ldCol c Q arg4 h1 x4 _)
  isplitl [H4]; · iexact H4
  iintro H4
  iapply (wp_ldCol c Q arg1 h2 x1 _)
  isplitl [H1]; · iexact H1
  iintro H1
  iapply (wp_ldSlot c MK NK C 0 q WK hs hb Q h2 _)
  isplitl [HK]; · iexact HK
  iintro HK
  iapply (wp_ldCol c Q arg4 h2 x4 _)
  isplitl [H4]; · iexact H4
  iintro H4
  iapply (wp_ldCol c Q arg1 h3 x1 _)
  isplitl [H1]; · iexact H1
  iintro H1
  iapply (wp_ldSlot c MK NK C 0 q WK hs hb Q h3 _)
  isplitl [HK]; · iexact HK
  iintro HK
  iapply (wp_ldCol c Q arg4 h3 x4 _)
  isplitl [H4]; · iexact H4
  iintro H4
  iapply (wp_headEnd c MV NV C q WV hs hb arg5 arg6 arg7 harg7 x5 x6 X Q h0 _ e0 _ _ hX0 _)
  isplitl [HV]; · iexact HV
  isplitl [H5]; · iexact H5
  isplitl [H6]; · iexact H6
  isplitl [H7]; · iexact H7
  iintro ⟨HV, H5, H6, H7⟩
  iapply (wp_headEnd c MV NV C q WV hs hb arg5 arg6 arg7 harg7 x5 x6 X Q h1 _ e1 _ _ hX1 _)
  isplitl [HV]; · iexact HV
  isplitl [H5]; · iexact H5
  isplitl [H6]; · iexact H6
  isplitl [H7]; · iexact H7
  iintro ⟨HV, H5, H6, H7⟩
  iapply (wp_headEnd c MV NV C q WV hs hb arg5 arg6 arg7 harg7 x5 x6 X Q h2 _ e2 _ _ hX2 _)
  isplitl [HV]; · iexact HV
  isplitl [H5]; · iexact H5
  isplitl [H6]; · iexact H6
  isplitl [H7]; · iexact H7
  iintro ⟨HV, H5, H6, H7⟩
  iapply (wp_headEnd c MV NV C q WV hs hb arg5 arg6 arg7 harg7 x5 x6 X Q h3 _ e3 _ _ hX3 _)
  isplitl [HV]; · iexact HV
  isplitl [H5]; · iexact H5
  isplitl [H6]; · iexact H6
  isplitl [H7]; · iexact H7
  iintro ⟨HV, H5, H6, H7⟩
  iapply Hk
  isplitl [HK]; · iexact HK
  isplitl [HV]; · iexact HV
  isplitl [H1]; · iexact H1
  isplitl [H4]; · iexact H4
  isplitl [H5]; · iexact H5
  isplitl [H6]; · iexact H6
  iexact H7
end Groups
end

end Cert.Kernel2Ideal.Att

end
-- ==== Proof.Att.Point.lean ====
/-
  The body at one grid point. Before point `t` the copies of stream `t` are in flight into slot `t mod 2`
  (at the first point, and after the last, that slot is free) and the other slot is free; the body turns
  this into the same of `t + 1` and leaves the output block at the point's results.
-/
module

public import proofs.«01_k».proof.Proof.Att.Compute

@[expose] public section

set_option maxRecDepth 16384

noncomputable section

namespace Cert.Kernel2Ideal.Att

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (Pipeline.UD sig nD τ) ℕ

/-! ## The numbers of a point -/

theorem coord_val : ∀ t : Fin grid0.N, (grid0.coords t 0).val = t.val := by decide +kernel
theorem slB_val : ∀ t : Fin grid0.N, (slB (grid0.coords t)).toNat = t.val % 2 := by decide +kernel
theorem slN_val : ∀ t : Fin grid0.N, (slN (grid0.coords t)).toNat = (t.val + 1) % 2 := by decide +kernel
theorem ptB_val : ∀ t : Fin grid0.N, (ptB (grid0.coords t)).toNat = t.val := by decide +kernel
theorem ptN_val : ∀ t : Fin grid0.N, (ptN (grid0.coords t)).toNat = t.val + 1 := by decide +kernel
theorem cond1_iff : ∀ t : Fin grid0.N, cond1 (grid0.coords t) ↔ t.val = 0 := by decide +kernel
theorem cond2_iff : ∀ t : Fin grid0.N, k0_cond2 (grid0.coords t) = 1#1 ↔ t.val < 31 := by decide +kernel
theorem pt_lt (t : Fin grid0.N) : t.val < 32 := Nat.lt_of_lt_of_eq t.isLt N_0
theorem m2 (t : ℕ) : t % 2 < 2 := Nat.mod_lt t (by decide)

/-- The `j`-th head of group `g`. -/
abbrev hd (g j : Fin 4) : Fin 16 := ⟨4 * g.val + j.val, by omega⟩

section
variable (c : Dev nD)

section Congr
variable (M : Memref sig .tc .vmem S2x16x1024x128 .f32) (N : Memref sig .tc .hbm S32x1024x16x128 .f32) (C : DmaSems sig S2x2x16) (a : Fin 2)
  (q : Fin 2 → Fin 16 → PosShare TreeShare) (W : Buf (Elt F) (N.view.loc (c : Thread nD τ)))

theorem starts_congr {s s' b b' : ℕ} (hs : s < 2) (hs' : s' < 2) (hb : b < 32) (hb' : b' < 32) (es : s = s') (eb : b = b') (l : List (Fin 16)) :
    starts (F := F) M N C a hs hb l = starts M N C a hs' hb' l := by subst es eb; rfl
theorem waits_congr {s s' b b' : ℕ} (hs : s < 2) (hs' : s' < 2) (hb : b < 32) (hb' : b' < 32) (es : s = s') (eb : b = b') (l : List (Fin 16)) :
    waits (F := F) M N C a hs hb l = waits M N C a hs' hb' l := by subst es eb; rfl
theorem free_congr {s s' : ℕ} (hs : s < 2) (hs' : s' < 2) (es : s = s') : Free (F := F) c M N C a q W hs = Free c M N C a q W hs' := by subst es; rfl
theorem groups_congr (arg1 arg4 arg5 arg6 arg7 : Memref sig .tc .vmem S64x2048 .bf16) (harg7 : arg7.IsWhole) (M' : Memref sig .tc .vmem S2x16x1024x128 .f32)
    {s s' : ℕ} (hs : s < 2) (hs' : s' < 2) (es : s = s') :
    groups (F := F) arg1 arg4 arg5 arg6 arg7 harg7 M M' hs = groups arg1 arg4 arg5 arg6 arg7 harg7 M M' hs' := by subst es; rfl

/-- Slot `t mod 2` before point `t`: stream `t` in flight, or nothing. -/
def nextAt (t : ℕ) : sProp 𝕄 :=
  if h : 1 ≤ t ∧ t < 32 then all (Fly c M N C a q W (m2 t) h.2) heads else all (Free c M N C a q W (m2 t)) heads
/-- The ring before point `t`. -/
def ringAt (t : ℕ) : sProp 𝕄 := iprop(nextAt c M N C a q W t ∗ all (Free c M N C a q W (m2 (t + 1))) heads)
end Congr

section Body
variable (MK MV : Memref sig .tc .vmem S2x16x1024x128 .f32) (NK NV : Memref sig .tc .hbm S32x1024x16x128 .f32) (C : DmaSems sig S2x2x16)
  (q : Fin 2 → Fin 16 → PosShare TreeShare) (WK : Buf (Elt F) (NK.view.loc (c : Thread nD τ))) (WV : Buf (Elt F) (NV.view.loc (c : Thread nD τ)))

/-- The first point starts the copies of its own stream. -/
theorem wp_first (Q : PUnit → sProp 𝕄) (t : Fin grid0.N) (k : PUnit → Prog (TpuEff nD τ sig (Elt F) Λ₀ .tc) PUnit) :
    iprop(nextAt c MK NK C 0 q WK t.val ∗ nextAt c MV NV C 1 q WV t.val
        ∗ (all (Fly c MK NK C 0 q WK (m2 t.val) (pt_lt t)) heads ∗ all (Fly c MV NV C 1 q WV (m2 t.val) (pt_lt t)) heads -∗ WP c (k ⟨⟩) Q))
      ⊢ WP c ((if cond1 (grid0.coords t) then firstStarts NK NV MK MV C else pure ⟨⟩) >>= k) Q := by
  unfold nextAt
  by_cases h0 : t.val = 0
  · rw [if_pos ((cond1_iff t).mpr h0), dif_neg (by omega), dif_neg (by omega)]
    unfold firstStarts
    rw [starts_congr MK NK C 0 _ (m2 t.val) _ (pt_lt t) (by rw [h0]) h0.symm, starts_congr MV NV C 1 _ (m2 t.val) _ (pt_lt t) (by rw [h0]) h0.symm, bind_assoc]
    iintro ⟨HK, HV, Hk⟩
    iapply (wp_starts c MK NK C 0 q WK (m2 t.val) (pt_lt t) Q heads _)
    isplitl [HK]; · iexact HK
    iintro HK
    iapply (wp_starts c MV NV C 1 q WV (m2 t.val) (pt_lt t) Q heads k)
    isplitl [HV]; · iexact HV
    iintro HV
    iapply Hk
    isplitl [HK]; · iexact HK
    iexact HV
  · rw [if_neg (fun h => h0 ((cond1_iff t).mp h)), dif_pos ⟨by omega, pt_lt t⟩, dif_pos ⟨by omega, pt_lt t⟩]
    iintro ⟨HK, HV, Hk⟩
    iapply Hk
    isplitl [HK]; · iexact HK
    iexact HV

/-- A point starts the copies of the next stream, if there is one. -/
theorem wp_next (Q : PUnit → sProp 𝕄) (t : Fin grid0.N) (k : PUnit → Prog (TpuEff nD τ sig (Elt F) Λ₀ .tc) PUnit) :
    iprop(all (Free c MK NK C 0 q WK (m2 (t.val + 1))) heads ∗ all (Free c MV NV C 1 q WV (m2 (t.val + 1))) heads
        ∗ (nextAt c MK NK C 0 q WK (t.val + 1) ∗ nextAt c MV NV C 1 q WV (t.val + 1) -∗ WP c (k ⟨⟩) Q))
      ⊢ WP c ((if h : k0_cond2 (grid0.coords t) = 1#1 then nextStarts (grid0.coords t) NK NV MK MV C h else pure ⟨⟩) >>= k) Q := by
  unfold nextAt
  by_cases h1 : t.val < 31
  · rw [dif_pos ((cond2_iff t).mpr h1), dif_pos (⟨by omega, by omega⟩ : 1 ≤ t.val + 1 ∧ t.val + 1 < 32), dif_pos (⟨by omega, by omega⟩ : 1 ≤ t.val + 1 ∧ t.val + 1 < 32)]
    have hb : t.val + 1 < 32 := by omega
    unfold nextStarts
    rw [starts_congr MK NK C 0 _ (m2 (t.val + 1)) _ hb (slN_val t) (ptN_val t), starts_congr MV NV C 1 _ (m2 (t.val + 1)) _ hb (slN_val t) (ptN_val t), bind_assoc]
    iintro ⟨HK, HV, Hk⟩
    iapply (wp_starts c MK NK C 0 q WK (m2 (t.val + 1)) hb Q heads _)
    isplitl [HK]; · iexact HK
    iintro HK
    iapply (wp_starts c MV NV C 1 q WV (m2 (t.val + 1)) hb Q heads k)
    isplitl [HV]; · iexact HV
    iintro HV
    iapply Hk
    isplitl [HK]; · iexact HK
    iexact HV
  · rw [dif_neg (fun h => h1 ((cond2_iff t).mp h)), dif_neg (by omega), dif_neg (by omega)]
    iintro ⟨HK, HV, Hk⟩
    iapply Hk
    isplitl [HK]; · iexact HK
    iexact HV

section Out
variable {b : ℕ} (hb : b < 32) (x1 x4 x5 x6 : Vec F S64x2048 .bf16)

/-- The `j`-th head of group `g`. -/
def outB (g j : Fin 4) : FVec F S64x128 .bf16 := outHead c NK NV WK WV hb x1 x4 x5 x6 (hd g 0) (hd g 1) (hd g 2) (hd g 3) (hd g j) j
/-- The block of results. -/
def blkOut : Vec F S64x2048 .bf16 := fun y =>
  outB c NK NV WK WV hb x1 x4 x5 x6 ⟨(y 1).val / 512, by have := idx2_lt1 y; omega⟩ ⟨(y 1).val / 128 % 4, by omega⟩ (ix2 (y 0) ⟨(y 1).val % 128, by omega⟩)

theorem outB_eq (g j : Fin 4) : outB c NK NV WK WV hb x1 x4 x5 x6 g j = colOf (blkOut c NK NV WK WV hb x1 x4 x5 x6) (hd g j) := by
  funext x
  have h1 : (x 1).val < 128 := (x 1).isLt
  have e : (((colR (hd g j)).emb x) 1).val = 128 * (4 * g.val + j.val) + (x 1).val := by
    show 128 * (4 * g.val + j.val) + 1 * (x 1).val = _; omega
  have e0 : (((colR (hd g j)).emb x) 0) = x 0 := Fin.ext (by show 0 + 1 * (x 0).val = _; omega)
  unfold colOf blkOut
  have eg : (⟨(((colR (hd g j)).emb x) 1).val / 512, by rw [e]; omega⟩ : Fin 4) = g := Fin.ext (by show (((colR (hd g j)).emb x) 1).val / 512 = _; rw [e]; omega)
  have ej : (⟨(((colR (hd g j)).emb x) 1).val / 128 % 4, by omega⟩ : Fin 4) = j := Fin.ext (by show (((colR (hd g j)).emb x) 1).val / 128 % 4 = _; rw [e]; omega)
  have ex : (ix2 (((colR (hd g j)).emb x) 0) ⟨(((colR (hd g j)).emb x) 1).val % 128, by omega⟩ : S64x128.Idx) = x := by
    funext a
    match a with
    | ⟨0, _⟩ => exact e0
    | ⟨1, _⟩ => exact Fin.ext (by show (((colR (hd g j)).emb x) 1).val % 128 = (x 1).val; rw [e]; omega)
  rw [eg, ej, ex]

variable (arg1 arg4 arg5 arg6 arg7 : Memref sig .tc .vmem S64x2048 .bf16) (harg7 : arg7.IsWhole) {s : ℕ} (hs : s < 2)

/-- The four groups, one after the other. -/
theorem wp_groups (Q : PUnit → sProp 𝕄) (k : PUnit → Prog (TpuEff nD τ sig (Elt F) Λ₀ .tc) PUnit) :
    iprop(all (Landed c MK NK C 0 q WK hs hb) heads ∗ all (Landed c MV NV C 1 q WV hs hb) heads ∗ owns (c : Thread nD τ) arg1 fullShare x1 ∗ owns (c : Thread nD τ) arg4 fullShare x4
        ∗ owns (c : Thread nD τ) arg5 fullShare x5 ∗ owns (c : Thread nD τ) arg6 fullShare x6 ∗ (∃ d, owns (c : Thread nD τ) arg7 fullShare d)
        ∗ (all (Landed c MK NK C 0 q WK hs hb) heads ∗ all (Landed c MV NV C 1 q WV hs hb) heads ∗ owns (c : Thread nD τ) arg1 fullShare x1 ∗ owns (c : Thread nD τ) arg4 fullShare x4
        ∗ owns (c : Thread nD τ) arg5 fullShare x5 ∗ owns (c : Thread nD τ) arg6 fullShare x6 ∗ owns (c : Thread nD τ) arg7 fullShare (blkOut c NK NV WK WV hb x1 x4 x5 x6) -∗ WP c (k ⟨⟩) Q))
      ⊢ WP c (groups arg1 arg4 arg5 arg6 arg7 harg7 MK MV hs >>= k) Q := by
  unfold groups
  simp only [bind_assoc]
  iintro ⟨HK, HV, H1, H4, H5, H6, ⟨%d, H7⟩, Hk⟩
  ihave H7 : OutAt c arg7 (blkOut c NK NV WK WV hb x1 x4 x5 x6) 0 $$ [H7]
  · unfold owns OutAt
    icases H7 with ⟨%f, -, H7⟩
    iexists f
    isplitr; · ipureintro; exact fun y hy => absurd hy (Nat.not_lt_zero _)
    iexact H7
  iapply (wp_group c MK MV NK NV C q WK WV hs hb arg1 arg4 arg5 arg6 arg7 harg7 x1 x4 x5 x6 (blkOut c NK NV WK WV hb x1 x4 x5 x6) Q (hd 0 0) (hd 0 1) (hd 0 2) (hd 0 3) _ rfl rfl rfl rfl
    (outB_eq c NK NV WK WV hb x1 x4 x5 x6 0 0) (outB_eq c NK NV WK WV hb x1 x4 x5 x6 0 1) (outB_eq c NK NV WK WV hb x1 x4 x5 x6 0 2) (outB_eq c NK NV WK WV hb x1 x4 x5 x6 0 3) _)
  isplitl [HK]; · iexact HK
  isplitl [HV]; · iexact HV
  isplitl [H1]; · iexact H1
  isplitl [H4]; · iexact H4
  isplitl [H5]; · iexact H5
  isplitl [H6]; · iexact H6
  isplitl [H7]; · iexact H7
  iintro ⟨HK, HV, H1, H4, H5, H6, H7⟩
  iapply (wp_group c MK MV NK NV C q WK WV hs hb arg1 arg4 arg5 arg6 arg7 harg7 x1 x4 x5 x6 (blkOut c NK NV WK WV hb x1 x4 x5 x6) Q (hd 1 0) (hd 1 1) (hd 1 2) (hd 1 3) _ rfl rfl rfl rfl
    (outB_eq c NK NV WK WV hb x1 x4 x5 x6 1 0) (outB_eq c NK NV WK WV hb x1 x4 x5 x6 1 1) (outB_eq c NK NV WK WV hb x1 x4 x5 x6 1 2) (outB_eq c NK NV WK WV hb x1 x4 x5 x6 1 3) _)
  isplitl [HK]; · iexact HK
  isplitl [HV]; · iexact HV
  isplitl [H1]; · iexact H1
  isplitl [H4]; · iexact H4
  isplitl [H5]; · iexact H5
  isplitl [H6]; · iexact H6
  isplitl [H7]; · iexact H7
  iintro ⟨HK, HV, H1, H4, H5, H6, H7⟩
  iapply (wp_group c MK MV NK NV C q WK WV hs hb arg1 arg4 arg5 arg6 arg7 harg7 x1 x4 x5 x6 (blkOut c NK NV WK WV hb x1 x4 x5 x6) Q (hd 2 0) (hd 2 1) (hd 2 2) (hd 2 3) _ rfl rfl rfl rfl
    (outB_eq c NK NV WK WV hb x1 x4 x5 x6 2 0) (outB_eq c NK NV WK WV hb x1 x4 x5 x6 2 1) (outB_eq c NK NV WK WV hb x1 x4 x5 x6 2 2) (outB_eq c NK NV WK WV hb x1 x4 x5 x6 2 3) _)
  isplitl [HK]; · iexact HK
  isplitl [HV]; · iexact HV
  isplitl [H1]; · iexact H1
  isplitl [H4]; · iexact H4
  isplitl [H5]; · iexact H5
  isplitl [H6]; · iexact H6
  isplitl [H7]; · iexact H7
  iintro ⟨HK, HV, H1, H4, H5, H6, H7⟩
  iapply (wp_group c MK MV NK NV C q WK WV hs hb arg1 arg4 arg5 arg6 arg7 harg7 x1 x4 x5 x6 (blkOut c NK NV WK WV hb x1 x4 x5 x6) Q (hd 3 0) (hd 3 1) (hd 3 2) (hd 3 3) _ rfl rfl rfl rfl
    (outB_eq c NK NV WK WV hb x1 x4 x5 x6 3 0) (outB_eq c NK NV WK WV hb x1 x4 x5 x6 3 1) (outB_eq c NK NV WK WV hb x1 x4 x5 x6 3 2) (outB_eq c NK NV WK WV hb x1 x4 x5 x6 3 3) _)
  isplitl [HK]; · iexact HK
  isplitl [HV]; · iexact HV
  isplitl [H1]; · iexact H1
  isplitl [H4]; · iexact H4
  isplitl [H5]; · iexact H5
  isplitl [H6]; · iexact H6
  isplitl [H7]; · iexact H7
  iintro ⟨HK, HV, H1, H4, H5, H6, H7⟩
  iapply Hk
  isplitl [HK]; · iexact HK
  isplitl [HV]; · iexact HV
  isplitl [H1]; · iexact H1
  isplitl [H4]; · iexact H4
  isplitl [H5]; · iexact H5
  isplitl [H6]; · iexact H6
  unfold owns OutAt
  icases H7 with ⟨%f, %hf, H7⟩
  iexists f
  isplitr; · ipureintro; exact funext fun y => hf y (idx2_lt1 y)
  iexact H7
end Out

theorem landed_all_free (M : Memref sig .tc .vmem S2x16x1024x128 .f32) (N : Memref sig .tc .hbm S32x1024x16x128 .f32) (a : Fin 2) (W : Buf (Elt F) (N.view.loc (c : Thread nD τ)))
    (t : Fin grid0.N) : all (Landed c M N C a q W (m2 t.val) (pt_lt t)) heads ⊢ all (Free c M N C a q W (m2 (t.val + 1 + 1))) heads := by
  rw [free_congr c M N C a q W (m2 (t.val + 1 + 1)) (m2 t.val) (by omega)]
  exact all_mono (landed_free c M N C a q W (m2 t.val) (pt_lt t)) heads

/-- The body at a point. -/
theorem wp_body (Q : PUnit → sProp 𝕄) (t : Fin grid0.N) (arg1 arg4 arg5 arg6 arg7 : Memref sig .tc .vmem S64x2048 .bf16) (harg7 : arg7.IsWhole)
    (x1 x4 x5 x6 : Vec F S64x2048 .bf16) (X : Waits sig Unit) :
    iprop(ringAt c MK NK C 0 q WK t.val ∗ ringAt c MV NV C 1 q WV t.val ∗ owns (c : Thread nD τ) arg1 fullShare x1 ∗ owns (c : Thread nD τ) arg4 fullShare x4
        ∗ owns (c : Thread nD τ) arg5 fullShare x5 ∗ owns (c : Thread nD τ) arg6 fullShare x6 ∗ (∃ d, owns (c : Thread nD τ) arg7 fullShare d) ∗ owes (c : Thread nD τ) 0 X
        ∗ (ringAt c MK NK C 0 q WK (t.val + 1) ∗ ringAt c MV NV C 1 q WV (t.val + 1) ∗ owns (c : Thread nD τ) arg1 fullShare x1 ∗ owns (c : Thread nD τ) arg4 fullShare x4
        ∗ owns (c : Thread nD τ) arg5 fullShare x5 ∗ owns (c : Thread nD τ) arg6 fullShare x6 ∗ owns (c : Thread nD τ) arg7 fullShare (blkOut c NK NV WK WV (pt_lt t) x1 x4 x5 x6)
        ∗ (∃ X', owes (c : Thread nD τ) 0 X') -∗ Q ⟨⟩))
      ⊢ WP c (body (grid0.coords t) arg1 NK NV arg4 arg5 arg6 arg7 harg7 MK MV C) Q := by
  unfold body ringAt allWaits
  rw [waits_congr MK NK C 0 _ (m2 t.val) _ (pt_lt t) (slB_val t) (ptB_val t), waits_congr MV NV C 1 _ (m2 t.val) _ (pt_lt t) (slB_val t) (ptB_val t),
    groups_congr MK arg1 arg4 arg5 arg6 arg7 harg7 MV _ (m2 t.val) (slB_val t)]
  simp only [bind_assoc]
  iintro ⟨⟨HK, HKf⟩, ⟨HV, HVf⟩, H1, H4, H5, H6, H7, HO, Hk⟩
  iapply (wp_first c MK MV NK NV C q WK WV Q t _)
  isplitl [HK]; · iexact HK
  isplitl [HV]; · iexact HV
  iintro ⟨HK, HV⟩
  iapply (wp_next c MK MV NK NV C q WK WV Q t _)
  isplitl [HKf]; · iexact HKf
  isplitl [HVf]; · iexact HVf
  iintro ⟨HKn, HVn⟩
  iapply (wp_waits c MK NK C 0 q WK (m2 t.val) (pt_lt t) Q heads _ X)
  isplitl [HK]; · iexact HK
  isplitl [HO]; · iexact HO
  iintro ⟨HK, ⟨%X1, HO⟩⟩
  iapply (wp_waits c MV NV C 1 q WV (m2 t.val) (pt_lt t) Q heads _ X1)
  isplitl [HV]; · iexact HV
  isplitl [HO]; · iexact HO
  iintro ⟨HV, HO⟩
  rw [← Prog.bind_pure (groups arg1 arg4 arg5 arg6 arg7 harg7 MK MV (m2 t.val))]
  iapply (wp_groups c MK MV NK NV C q WK WV (pt_lt t) x1 x4 x5 x6 arg1 arg4 arg5 arg6 arg7 harg7 (m2 t.val) Q _)
  isplitl [HK]; · iexact HK
  isplitl [HV]; · iexact HV
  isplitl [H1]; · iexact H1
  isplitl [H4]; · iexact H4
  isplitl [H5]; · iexact H5
  isplitl [H6]; · iexact H6
  isplitl [H7]; · iexact H7
  iintro ⟨HK, HV, H1, H4, H5, H6, H7⟩
  iapply le_wp_ret
  iapply Hk
  isplitl [HKn HK]
  · isplitl [HKn]; · iexact HKn
    iapply (landed_all_free c C q MK NK 0 WK t) $$ HK
  isplitl [HVn HV]
  · isplitl [HVn]; · iexact HVn
    iapply (landed_all_free c C q MV NV 1 WV t) $$ HV
  isplitl [H1]; · iexact H1
  isplitl [H4]; · iexact H4
  isplitl [H5]; · iexact H5
  isplitl [H6]; · iexact H6
  isplitl [H7]; · iexact H7
  iexact HO
end Body
end

end Cert.Kernel2Ideal.Att

end
-- ==== Proof.Att.Ends.lean ====
/-
  What the launch hands the two rings and takes back: the two scratch arrays whole, the cells at zero and
  the two past arrays whole are, head by head and slot by slot, the free boxes.
-/
module

public import proofs.«01_k».proof.Proof.Att.Point

@[expose] public section

set_option maxRecDepth 16384

noncomputable section

namespace Cert.Kernel2Ideal.Att

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem all_toFinset (P : Fin 16 → sProp 𝕄) : ∀ l : List (Fin 16), l.Nodup → all P l = bigSep l.toFinset P
  | [], _ => (bigSep_empty (Φ := P)).symm
  | h :: l, hl => by
    rw [List.toFinset_cons, bigSep_insert (fun hm => (List.nodup_cons.mp hl).1 (List.mem_toFinset.mp hm)), ← all_toFinset P l (List.nodup_cons.mp hl).2]
    rfl
theorem all_heads (P : Fin 16 → sProp 𝕄) : all P heads = bigSep Finset.univ P := by
  rw [all_toFinset P heads (by decide), show heads.toFinset = Finset.univ by decide]

/-- A family over slots and heads, slot by slot. -/
theorem boxes_eq (P : Fin 2 → Fin 16 → sProp 𝕄) :
    bigSep Finset.univ (fun b : Fin 2 × Fin 16 => P b.1 b.2) = iprop(all (P 0) heads ∗ all (P 1) heads) := by
  rw [bigSep_univ_prod, Ring.bigSep_fin2, all_heads, all_heads]

/-! ## The shares of an array the copies read -/

/-- What is left of a share after `n` halves were taken. -/
def left_ (b : PosShare TreeShare) : ℕ → PosShare TreeShare
  | 0 => b
  | n + 1 => (left_ b n).right
/-- Head `h`'s part of a share. -/
def part (b : PosShare TreeShare) (h : Fin 16) : PosShare TreeShare := if h.val = 15 then left_ b 15 else (left_ b h.val).left
/-- The part of slot `s` and head `h`. -/
def shr (s : Fin 2) (h : Fin 16) : PosShare TreeShare := part (if s = 0 then fullShare.left else fullShare.right) h

theorem heads_drop : ∀ k : Fin 15, heads.drop k.val = ⟨k.val, by omega⟩ :: heads.drop (k.val + 1) := by decide

section
variable {ℓ : Loc nD τ sig} (W : Buf (Elt F) ℓ)

theorem parts_from (b : PosShare TreeShare) : ∀ n k : ℕ, n + k = 15 →
    (ℓ ↦{left_ b k} W : sProp 𝕄) = all (fun h => ℓ ↦{part b h} W) (heads.drop k)
  | 0, k, e => by
    obtain rfl : k = 15 := by omega
    show _ = iprop((ℓ ↦{part b 15} W) ∗ emp)
    exact (BI.equiv_iff.mp ⟨sep_emp.1, sep_emp.2⟩).symm
  | n + 1, k, e => by
    rw [heads_drop ⟨k, by omega⟩]
    have h := parts_from b n (k + 1) (by omega)
    show _ = iprop((ℓ ↦{part b ⟨k, _⟩} W) ∗ all _ (heads.drop (k + 1)))
    rw [← h]
    have hp : part b ⟨k, by omega⟩ = (left_ b k).left := if_neg (by show k ≠ 15; omega)
    rw [hp]
    have e := pointsTo_share (nD := nD) (τ := τ) (ℓ := ℓ) (I := Finset.univ) (f := W) (U := Pipeline.UD sig nD τ) (Lvl := ℕ) (Name := ℕ) (Ix := Unit) (PosShare.mem_left_op_right (left_ b k))
    exact BI.equiv_iff.mp ⟨e.1, e.2⟩

/-- An array whole is its parts. -/
theorem parts_eq : (ℓ ↦{fullShare} W : sProp 𝕄) = bigSep Finset.univ (fun b : Fin 2 × Fin 16 => (ℓ ↦{shr b.1 b.2} W : sProp 𝕄)) := by
  rw [boxes_eq (fun s h => (ℓ ↦{shr s h} W : sProp 𝕄))]
  have h0 := parts_from W fullShare.left 15 0 rfl
  have h1 := parts_from W fullShare.right 15 0 rfl
  have e := pointsTo_share (nD := nD) (τ := τ) (ℓ := ℓ) (I := Finset.univ) (f := W) (U := Pipeline.UD sig nD τ) (Lvl := ℕ) (Name := ℕ) (Ix := Unit) (PosShare.mem_left_op_right fullShare)
  refine (BI.equiv_iff.mp ⟨e.1, e.2⟩).trans ?_
  exact congrArg₂ (fun x y => iprop(x ∗ y)) h0 h1
end

/-! ## The boxes of a scratch array -/

def boxSet (b : Fin 2 × Fin 16) : Finset S2x16x1024x128.Idx := (slotR b.1.isLt b.2).set

theorem mem_boxSet (b : Fin 2 × Fin 16) (i : S2x16x1024x128.Idx) : i ∈ boxSet b ↔ (i 0).val = b.1.val ∧ (i 1).val = b.2.val := by
  unfold boxSet
  rw [Rect.mem_set_unit]
  have h2 : (i 2).val < 1024 := (i 2).isLt
  have h3 : (i 3).val < 128 := (i 3).isLt
  constructor
  · intro h
    have a0 := h 0
    have a1 := h 1
    change b.1.val ≤ (i 0).val ∧ (i 0).val < b.1.val + 1 at a0
    change b.2.val ≤ (i 1).val ∧ (i 1).val < b.2.val + 1 at a1
    omega
  · rintro ⟨e0, e1⟩ a
    match a with
    | ⟨0, _⟩ => show b.1.val ≤ (i 0).val ∧ (i 0).val < b.1.val + 1; omega
    | ⟨1, _⟩ => show b.2.val ≤ (i 1).val ∧ (i 1).val < b.2.val + 1; omega
    | ⟨2, _⟩ => show 0 ≤ (i 2).val ∧ (i 2).val < 0 + 1024; omega
    | ⟨3, _⟩ => show 0 ≤ (i 3).val ∧ (i 3).val < 0 + 128; omega

theorem boxes_disjoint (b b' : Fin 2 × Fin 16) (h : b ≠ b') : Disjoint (boxSet b) (boxSet b') :=
  Finset.disjoint_left.mpr fun i hi hi' => by
    rw [mem_boxSet] at hi hi'
    exact h (Prod.ext (Fin.ext (hi.1.symm.trans hi'.1)) (Fin.ext (hi.2.symm.trans hi'.2)))
theorem boxes_cover : Finset.univ.biUnion boxSet = Finset.univ :=
  Finset.eq_univ_iff_forall.mpr fun i => Finset.mem_biUnion.mpr ⟨(i 0, i 1), Finset.mem_univ _, (mem_boxSet _ i).mpr ⟨rfl, rfl⟩⟩

section
variable (c : Dev nD)

theorem slot_set0 {s : ℕ} (hs : s < 2) (h : Fin 16) : (slotM (Memref.whole cc0_scratch0) hs h).view.set = boxSet (⟨s, hs⟩, h) := by
  simp only [slotM, Memref.view_squeeze, View.set_reshape]; exact View.set_slice_whole _ _
theorem slotP_set0 (b : Fin 2 × Fin 16) (f : Buf (Elt F) ((c : Thread nD τ).loc cc0_scratch0)) :
    slotP c (Memref.whole cc0_scratch0) b.1.isLt b.2 f = (((c : Thread nD τ).loc cc0_scratch0) ↦[boxSet b]{fullShare} f : sProp 𝕄) := by
  unfold slotP; rw [slot_set0]; rfl
theorem box_in0 (b : Fin 2 × Fin 16) (f : Buf (Elt F) ((c : Thread nD τ).loc cc0_scratch0)) :
    (((c : Thread nD τ).loc cc0_scratch0) ↦[boxSet b]{fullShare} f : sProp 𝕄) ⊢ iprop(∃ f, slotP c (Memref.whole cc0_scratch0) b.1.isLt b.2 f) := by
  rw [← slotP_set0]
  iintro H
  iexists f
  iexact H
theorem box_out0 (b : Fin 2 × Fin 16) :
    iprop(∃ f, slotP c (Memref.whole cc0_scratch0) b.1.isLt b.2 f) ⊢ (iprop(∃ f : Buf (Elt F) ((c : Thread nD τ).loc cc0_scratch0), ((c : Thread nD τ).loc cc0_scratch0) ↦[boxSet b]{fullShare} f) : sProp 𝕄) := by
  have e : ∀ f, slotP c (Memref.whole cc0_scratch0) b.1.isLt b.2 f ⊢ (((c : Thread nD τ).loc cc0_scratch0) ↦[boxSet b]{fullShare} f : sProp 𝕄) := fun f => le_of_eq (slotP_set0 c b f)
  iintro ⟨%f, H⟩
  iexists f
  iapply (e f) $$ H

/-- Scratch array 0 whole, at anything, is its boxes; -/
theorem slots_in0 : (iprop(∃ f : Buf (Elt F) ((c : Thread nD τ).loc cc0_scratch0), ((c : Thread nD τ).loc cc0_scratch0) ↦{fullShare} f) : sProp 𝕄)
    ⊢ bigSep Finset.univ (fun b : Fin 2 × Fin 16 => iprop(∃ f, slotP c (Memref.whole cc0_scratch0) b.1.isLt b.2 f)) := by
  have e : ∀ f : Buf (Elt F) ((c : Thread nD τ).loc cc0_scratch0), (((c : Thread nD τ).loc cc0_scratch0) ↦{fullShare} f : sProp 𝕄)
      ⊢ bigSep Finset.univ (fun b : Fin 2 × Fin 16 => iprop(∃ f, slotP c (Memref.whole cc0_scratch0) b.1.isLt b.2 f)) := fun f => by
    rw [Ring.pointsTo_blocks (ℓ := (c : Thread nD τ).loc cc0_scratch0) boxSet boxes_disjoint boxes_cover f]
    exact bigSep_mono fun b _ => box_in0 c b f
  iintro ⟨%f, H⟩
  iapply (e f) $$ H
/-- and back. -/
theorem slots_out0 : bigSep Finset.univ (fun b : Fin 2 × Fin 16 => iprop(∃ f, slotP c (Memref.whole cc0_scratch0) b.1.isLt b.2 f))
    ⊢ (iprop(∃ f : Buf (Elt F) ((c : Thread nD τ).loc cc0_scratch0), ((c : Thread nD τ).loc cc0_scratch0) ↦{fullShare} f) : sProp 𝕄) := by
  exact (bigSep_mono fun b _ => box_out0 c b).trans (Ring.pointsTo_blocks_join_exists (ℓ := (c : Thread nD τ).loc cc0_scratch0) boxSet boxes_disjoint boxes_cover (fun _ => Classical.choice inferInstance))

theorem slot_set1 {s : ℕ} (hs : s < 2) (h : Fin 16) : (slotM (Memref.whole cc0_scratch1) hs h).view.set = boxSet (⟨s, hs⟩, h) := by
  simp only [slotM, Memref.view_squeeze, View.set_reshape]; exact View.set_slice_whole _ _
theorem slotP_set1 (b : Fin 2 × Fin 16) (f : Buf (Elt F) ((c : Thread nD τ).loc cc0_scratch1)) :
    slotP c (Memref.whole cc0_scratch1) b.1.isLt b.2 f = (((c : Thread nD τ).loc cc0_scratch1) ↦[boxSet b]{fullShare} f : sProp 𝕄) := by
  unfold slotP; rw [slot_set1]; rfl
theorem box_in1 (b : Fin 2 × Fin 16) (f : Buf (Elt F) ((c : Thread nD τ).loc cc0_scratch1)) :
    (((c : Thread nD τ).loc cc0_scratch1) ↦[boxSet b]{fullShare} f : sProp 𝕄) ⊢ iprop(∃ f, slotP c (Memref.whole cc0_scratch1) b.1.isLt b.2 f) := by
  rw [← slotP_set1]
  iintro H
  iexists f
  iexact H
theorem box_out1 (b : Fin 2 × Fin 16) :
    iprop(∃ f, slotP c (Memref.whole cc0_scratch1) b.1.isLt b.2 f) ⊢ (iprop(∃ f : Buf (Elt F) ((c : Thread nD τ).loc cc0_scratch1), ((c : Thread nD τ).loc cc0_scratch1) ↦[boxSet b]{fullShare} f) : sProp 𝕄) := by
  have e : ∀ f, slotP c (Memref.whole cc0_scratch1) b.1.isLt b.2 f ⊢ (((c : Thread nD τ).loc cc0_scratch1) ↦[boxSet b]{fullShare} f : sProp 𝕄) := fun f => le_of_eq (slotP_set1 c b f)
  iintro ⟨%f, H⟩
  iexists f
  iapply (e f) $$ H

/-- Scratch array 1 whole, at anything, is its boxes; -/
theorem slots_in1 : (iprop(∃ f : Buf (Elt F) ((c : Thread nD τ).loc cc0_scratch1), ((c : Thread nD τ).loc cc0_scratch1) ↦{fullShare} f) : sProp 𝕄)
    ⊢ bigSep Finset.univ (fun b : Fin 2 × Fin 16 => iprop(∃ f, slotP c (Memref.whole cc0_scratch1) b.1.isLt b.2 f)) := by
  have e : ∀ f : Buf (Elt F) ((c : Thread nD τ).loc cc0_scratch1), (((c : Thread nD τ).loc cc0_scratch1) ↦{fullShare} f : sProp 𝕄)
      ⊢ bigSep Finset.univ (fun b : Fin 2 × Fin 16 => iprop(∃ f, slotP c (Memref.whole cc0_scratch1) b.1.isLt b.2 f)) := fun f => by
    rw [Ring.pointsTo_blocks (ℓ := (c : Thread nD τ).loc cc0_scratch1) boxSet boxes_disjoint boxes_cover f]
    exact bigSep_mono fun b _ => box_in1 c b f
  iintro ⟨%f, H⟩
  iapply (e f) $$ H
/-- and back. -/
theorem slots_out1 : bigSep Finset.univ (fun b : Fin 2 × Fin 16 => iprop(∃ f, slotP c (Memref.whole cc0_scratch1) b.1.isLt b.2 f))
    ⊢ (iprop(∃ f : Buf (Elt F) ((c : Thread nD τ).loc cc0_scratch1), ((c : Thread nD τ).loc cc0_scratch1) ↦{fullShare} f) : sProp 𝕄) := by
  exact (bigSep_mono fun b _ => box_out1 c b).trans (Ring.pointsTo_blocks_join_exists (ℓ := (c : Thread nD τ).loc cc0_scratch1) boxSet boxes_disjoint boxes_cover (fun _ => Classical.choice inferInstance))

/-- The cells of both rings, numbered by array, slot and head. -/
abbrev osem (k : Fin 2 × Fin 2 × Fin 16) : SemLoc sig := SemLoc.dma (cellM cc0_scratch2 k.2.1.isLt k.1 k.2.2)

theorem cell_num : ∀ k : Fin 2 × Fin 2 × Fin 16, (cellM cc0_scratch2 k.2.1.isLt k.1 k.2.2).val = 10 + 32 * k.2.1.val + 16 * k.1.val + k.2.2.val := by decide +kernel

theorem osem_inj : Function.Injective osem := fun k k' h => by
  have h' : cellM cc0_scratch2 k.2.1.isLt k.1 k.2.2 = cellM cc0_scratch2 k'.2.1.isLt k'.1 k'.2.2 := by injection h
  have h'' := congrArg Fin.val h'
  rw [cell_num, cell_num] at h''
  obtain ⟨a, s, x⟩ := k
  obtain ⟨a', s', x'⟩ := k'
  have := a.isLt; have := s.isLt; have := x.isLt; have := a'.isLt; have := s'.isLt; have := x'.isLt
  simp only at h''
  refine Prod.ext (Fin.ext ?_) (Prod.ext (Fin.ext ?_) (Fin.ext ?_)) <;> simp only <;> omega

theorem osem_facts : Pipeline.OwnSemFacts spec0 osem where
  isScoped := by decide +kernel
  inj := osem_inj
  disj := by decide +kernel

theorem cells_eq : (Pipeline.ownSems0 (Ix := Unit) (Name := ℕ) (U := Pipeline.UD sig nD τ) (Lvl := ℕ) (Val := Elt F) (τ := τ) osem c : sProp 𝕄)
    = iprop(bigSep Finset.univ (fun b : Fin 2 × Fin 16 => cellP c cc0_scratch2 0 b.1.isLt b.2) ∗ bigSep Finset.univ (fun b : Fin 2 × Fin 16 => cellP c cc0_scratch2 1 b.1.isLt b.2)) := by
  unfold Pipeline.ownSems0
  rw [bigSep_univ_prod, Ring.bigSep_fin2]
end

section
variable (c : Dev nD) (M : Memref sig .tc .vmem S2x16x1024x128 .f32) (N : Memref sig .tc .hbm S32x1024x16x128 .f32) (a : Fin 2) (W : Buf (Elt F) (N.view.loc (c : Thread nD τ)))

theorem sep3 {I : Type} (S : Finset I) (P Q R : I → sProp 𝕄) : iprop(bigSep S P ∗ bigSep S Q ∗ bigSep S R) = bigSep S (fun i => iprop(P i ∗ Q i ∗ R i)) :=
  (congrArg (fun x => iprop(bigSep S P ∗ x)) (bigSep_sep S Q R).symm).trans (bigSep_sep S P _).symm

/-- A ring at its first point, from its pieces; -/
theorem ring_in :
    iprop(bigSep Finset.univ (fun b : Fin 2 × Fin 16 => cellP (F := F) c cc0_scratch2 a b.1.isLt b.2) ∗ bigSep Finset.univ (fun b : Fin 2 × Fin 16 => iprop(∃ f, slotP c M b.1.isLt b.2 f))
        ∗ bigSep Finset.univ (fun b : Fin 2 × Fin 16 => wholeP c N shr W b.1.isLt b.2))
      ⊢ ringAt c M N cc0_scratch2 a shr W 0 := by
  have e : iprop(bigSep Finset.univ (fun b : Fin 2 × Fin 16 => cellP (F := F) c cc0_scratch2 a b.1.isLt b.2) ∗ bigSep Finset.univ (fun b : Fin 2 × Fin 16 => iprop(∃ f, slotP c M b.1.isLt b.2 f))
        ∗ bigSep Finset.univ (fun b : Fin 2 × Fin 16 => wholeP c N shr W b.1.isLt b.2)) = ringAt c M N cc0_scratch2 a shr W 0 := by
    rw [sep3]
    exact boxes_eq (fun s h => Free c M N cc0_scratch2 a shr W s.isLt h)
  exact le_of_eq e
/-- and at its last, taken apart. -/
theorem ring_out :
    ringAt c M N cc0_scratch2 a shr W 32 ⊢ iprop(bigSep Finset.univ (fun b : Fin 2 × Fin 16 => cellP (F := F) c cc0_scratch2 a b.1.isLt b.2) ∗ bigSep Finset.univ (fun b : Fin 2 × Fin 16 => iprop(∃ f, slotP c M b.1.isLt b.2 f))
        ∗ bigSep Finset.univ (fun b : Fin 2 × Fin 16 => wholeP c N shr W b.1.isLt b.2)) := by
  have e : iprop(bigSep Finset.univ (fun b : Fin 2 × Fin 16 => cellP (F := F) c cc0_scratch2 a b.1.isLt b.2) ∗ bigSep Finset.univ (fun b : Fin 2 × Fin 16 => iprop(∃ f, slotP c M b.1.isLt b.2 f))
        ∗ bigSep Finset.univ (fun b : Fin 2 × Fin 16 => wholeP c N shr W b.1.isLt b.2)) = ringAt c M N cc0_scratch2 a shr W 32 := by
    rw [sep3]
    exact boxes_eq (fun s h => Free c M N cc0_scratch2 a shr W s.isLt h)
  exact le_of_eq e.symm
end

end Cert.Kernel2Ideal.Att

end
-- ==== Proof.Att.Launch.lean ====
/-
  The attention call's run: from any memory, at any floats, every execution ends, the argument arrays
  unchanged, the counters at zero, and the result array at the blocks named in `blkOut`, block by block.
-/
module

public import proofs.«01_k».proof.Proof.Att.Ends
public import proofs.«01_k».proof.Proof.Gen.Kernel2Ideal.Frame

@[expose] public section

set_option maxRecDepth 16384

noncomputable section

namespace Cert.Kernel2Ideal.Att

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

def H0 : Finset (Ref sig .tc) := {main_arg1, main_arg2}
theorem H0_sub : H0 ⊆ Pipeline.restRefs sig spec0 := by decide

/-- The block of results at point `t`. -/
def outBlk (c : Dev nD) (t : Fin cfg0.N) : Vec F S64x2048 .bf16 :=
  blkOut c (Memref.whole main_arg1) (Memref.whole main_arg2) (V m c main_arg1) (V m c main_arg2) (pt_lt t) (iblk m c 0 t) (iblk m c 1 t) (iblk m c 2 t) (iblk m c 3 t)

/-- The invariant before point `k`. -/
def inv (c : Dev nD) (k : ℕ) : sProp 𝕄 :=
  iprop((∃ r, prngReg c r) ∗ ringAt c (Memref.whole cc0_scratch0) (Memref.whole main_arg1) cc0_scratch2 0 shr (V m c main_arg1) k
    ∗ ringAt c (Memref.whole cc0_scratch1) (Memref.whole main_arg2) cc0_scratch2 1 shr (V m c main_arg2) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlk m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point, from its resources. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, inv_castSucc m c t, inv_succ m c t, body_eq]
  unfold Dat.owesAt Pipeline.owesWithin
  rw [show (dats m 0 c).owed t.castSucc = 0 from rfl, show (dats m 0 c).owed t.succ = 0 from rfl]
  unfold inv
  iintro ⟨⟨Hg, HK, HV⟩, ⟨%X, -, HW⟩, ⟨%d0, H0⟩, ⟨%d1, H1⟩, ⟨%d2, H2⟩, ⟨%d3, H3⟩, ⟨%d4, H4⟩⟩
  iapply (wp_body c (Memref.whole cc0_scratch0) (Memref.whole cc0_scratch1) (Memref.whole main_arg1) (Memref.whole main_arg2) cc0_scratch2 shr (V m c main_arg1) (V m c main_arg2)
    _ t (st0_0 t) (st0_1 t) (st0_2 t) (st0_3 t) (st0_4 t) (hstage0_4 ((cfg0.slots t 4).cast nbuf0_4)) (iblk m c 0 t) (iblk m c 1 t) (iblk m c 2 t) (iblk m c 3 t) X)
  isplitl [HK]; · iexact HK
  isplitl [HV]; · iexact HV
  isplitl [H0]; · iexact H0
  isplitl [H1]; · iexact H1
  isplitl [H2]; · iexact H2
  isplitl [H3]; · iexact H3
  isplitl [H4]; · iexists _; iexact H4
  isplitl [HW]; · iexact HW
  iintro ⟨HK, HV, H0, H1, H2, H3, H4, ⟨%X', HW⟩⟩
  isplitl [Hg HK HV]
  · isplitl [Hg]; · iexact Hg
    isplitl [HK]; · iexact HK
    iexact HV
  isplitl [HW]
  · iexists X'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the call, in pieces. -/
theorem ends_eq (c : Dev nD) :
    (Pipeline.ΦD osem spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r)
        ∗ iprop(bigSep Finset.univ (fun b : Fin 2 × Fin 16 => cellP c cc0_scratch2 0 b.1.isLt b.2) ∗ bigSep Finset.univ (fun b : Fin 2 × Fin 16 => cellP c cc0_scratch2 1 b.1.isLt b.2))
        ∗ iprop(bigSep Finset.univ (fun b : Fin 2 × Fin 16 => wholeP c (Memref.whole main_arg1) shr (V m c main_arg1) b.1.isLt b.2)
          ∗ bigSep Finset.univ (fun b : Fin 2 × Fin 16 => wholeP c (Memref.whole main_arg2) shr (V m c main_arg2) b.1.isLt b.2))) := by
  have h1 := parts_eq (F := F) (ℓ := (c : Thread nD τ).loc main_arg1) (V m c main_arg1)
  have h2 := parts_eq (F := F) (ℓ := (c : Thread nD τ).loc main_arg2) (V m c main_arg2)
  have h : (bigSep H0 (fun b => ((c : Thread nD τ).loc b) ↦{fullShare} V m c b) : sProp 𝕄)
      = iprop((((c : Thread nD τ).loc main_arg1) ↦{fullShare} V m c main_arg1) ∗ (((c : Thread nD τ).loc main_arg2) ↦{fullShare} V m c main_arg2)) := by
    rw [BI.bigSep_eq_bigSepL_of_eq [main_arg1, main_arg2] (by decide) (by decide)]; rfl
  rw [Pipeline.ΦD_eq, scopedRest0_eq, cells_eq, h, h1, h2]

/-- What the launch hands over is the invariant before the first point. -/
theorem hin (c : Dev nD) : Pipeline.ΦD osem spec0 H0 (V m) c ⊢ (dats m 0 c).Φ 0 := by
  rw [ends_eq, show (dats m 0 c).Φ 0 = inv m c 0 from rfl]
  unfold inv
  iintro ⟨⟨HS0, HS1⟩, Hg, ⟨HC0, HC1⟩, ⟨HW0, HW1⟩⟩
  isplitl [Hg]; · iexact Hg
  isplitl [HS0 HC0 HW0]
  · iapply (ring_in c (Memref.whole cc0_scratch0) (Memref.whole main_arg1) 0 (V m c main_arg1))
    isplitl [HC0]; · iexact HC0
    isplitl [HS0]; · iapply (slots_in0 c) $$ HS0
    iexact HW0
  iapply (ring_in c (Memref.whole cc0_scratch1) (Memref.whole main_arg2) 1 (V m c main_arg2))
  isplitl [HC1]; · iexact HC1
  isplitl [HS1]; · iapply (slots_in1 c) $$ HS1
  iexact HW1

/-- The invariant after the last point is what the launch takes back. -/
theorem hout (c : Dev nD) : (dats m 0 c).Φ (Fin.last cfg0.N) ⊢ Pipeline.ΦD osem spec0 H0 (V m) c := by
  rw [ends_eq, show (dats m 0 c).Φ (Fin.last cfg0.N) = inv m c grid0.N from rfl]
  unfold inv
  rw [N_0]
  iintro ⟨Hg, HK, HV⟩
  ihave HK' := (ring_out c (Memref.whole cc0_scratch0) (Memref.whole main_arg1) 0 (V m c main_arg1)) $$ HK
  icases HK' with ⟨HC0, HS0, HW0⟩
  ihave HV' := (ring_out c (Memref.whole cc0_scratch1) (Memref.whole main_arg2) 1 (V m c main_arg2)) $$ HV
  icases HV' with ⟨HC1, HS1, HW1⟩
  isplitl [HS0 HS1]
  · isplitl [HS0]; · iapply (slots_out0 c) $$ HS0
    iapply (slots_out1 c) $$ HS1
  isplitl [Hg]; · iexact Hg
  isplitl [HC0 HC1]
  · isplitl [HC0]; · iexact HC0
    iexact HC1
  isplitl [HW0]; · iexact HW0
  iexact HW1

set_option backward.isDefEq.respectTransparency.types false in
/-- The run. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- The result array after the run. -/
def result (c : Dev nD) := (dats m 0 c).arrAt 4 cfg0.N

/-- The frame, with the result array named. -/
theorem frame_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)
      ∧ ∀ c : Dev nD, r.2.mem ((cfg0.spec 4).arr.view.loc (c.tc : Thread nD τ)) = result m c) :=
  (θ_run defs _ _).mono (fun _ h => ⟨⟨fun c => ⟨((h.1 c).1 0).trans (((dats m 0 c).arrAt_in 0 rfl _).trans (A_eq m c 0)),
      (h.1 c).2 main_arg1 (Pipeline.mem_restRefs_of main_arg1 (by decide) (by decide)),
      (h.1 c).2 main_arg2 (Pipeline.mem_restRefs_of main_arg2 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩, fun c => (h.1 c).1 4⟩) (run_main m ρ)

end Cert.Kernel2Ideal.Att

end
-- ==== Proof.Att.Bits.lean ====
/-
  The attention call as it was written, over machine floats: it is the idealized program read over
  machine floats, where a named constant is the float it was written as.
-/
module

public import proofs.«01_k».proof.Proof.Att.Launch
public import proofs.«01_k».proof.Proof.Gen.Kernel2.Skeleton
public import Idealize.ShloMosaic.PureOps.BitExact

@[expose] public section

set_option maxRecDepth 65536
set_option synthInstance.maxSize 4096

noncomputable section

namespace Cert.Kernel2Ideal.Att

open Cert.Kernel2Ideal Cert.Kernel2Ideal.Gen
open Idealize.ShloMosaic Idealize.SL.Sem

/-- Over machine floats a named constant is the float it was written as. -/
@[reducible] def namedBits : Named Bits := ⟨fun _ _ φ b => Scalar.ofBits φ b⟩

attribute [local instance] namedBits

section Body
variable (i : Cert.Kernel2.grid0.Coords) (arg1 : Memref Cert.Kernel2.sig .tc .vmem Cert.Kernel2.S64x2048 .bf16) (harg1 : arg1.IsWhole)
  (arg2 : Memref Cert.Kernel2.sig .tc .hbm Cert.Kernel2.S32x1024x16x128 .f32) (harg2 : arg2.IsWhole)
  (arg3 : Memref Cert.Kernel2.sig .tc .hbm Cert.Kernel2.S32x1024x16x128 .f32) (harg3 : arg3.IsWhole)
  (arg4 : Memref Cert.Kernel2.sig .tc .vmem Cert.Kernel2.S64x2048 .bf16) (harg4 : arg4.IsWhole)
  (arg5 : Memref Cert.Kernel2.sig .tc .vmem Cert.Kernel2.S64x2048 .bf16) (harg5 : arg5.IsWhole)
  (arg6 : Memref Cert.Kernel2.sig .tc .vmem Cert.Kernel2.S64x2048 .bf16) (harg6 : arg6.IsWhole)
  (arg7 : Memref Cert.Kernel2.sig .tc .vmem Cert.Kernel2.S64x2048 .bf16) (harg7 : arg7.IsWhole)
  (arg8 : Memref Cert.Kernel2.sig .tc .vmem Cert.Kernel2.S2x16x1024x128 .f32) (harg8 : arg8.IsWhole)
  (arg9 : Memref Cert.Kernel2.sig .tc .vmem Cert.Kernel2.S2x16x1024x128 .f32) (harg9 : arg9.IsWhole)
  (arg10 : DmaSems Cert.Kernel2.sig Cert.Kernel2.S2x2x16)

/-- The first branch's condition. -/
abbrev condB (i : Cert.Kernel2.grid0.Coords) : Prop :=
  Scalar.cmpi .ne (Scalar.extui (Scalar.cmpi .eq (BitVec.ofNat 32 (i 0).val) 0#32)) 0#32 = 1#1

set_option maxHeartbeats 4000000 in
/-- Its first part, written as loops. -/
theorem part18_bits :
    Cert.Kernel2.k0_part18 (F := Bits) i arg1 harg1 arg2 harg2 arg3 harg3 arg4 harg4 arg5 harg5 arg6 harg6 arg7 harg7 arg8 harg8 arg9 harg9 arg10
     = (if condB i then firstStarts arg2 arg3 arg8 arg9 arg10 else pure ⟨⟩) >>= fun _ =>
       (if h : Cert.Kernel2.k0_cond2 i = 1#1 then nextStarts i arg2 arg3 arg8 arg9 arg10 h else pure ⟨⟩) >>= fun _ =>
       waits arg8 arg2 arg10 0 (slB_lt i) (ptB_lt i) [0] >>= fun _ => pure ⟨k0_pay2, k0_pay3, k0_pay4, slB i⟩ := by
  rw [Cert.Kernel2.Gen.k0_part18_eq_skeleton]
  unfold Cert.Kernel2.Gen.k0_part18_skel
  by_cases h1 : condB i <;> by_cases h2 : Cert.Kernel2.k0_cond2 i = 1#1
  · rw [if_pos h1, dif_pos h2]
    simp only [dif_pos h1, dif_pos h2]
    rfl
  · rw [if_pos h1, dif_neg h2]
    simp only [dif_pos h1, dif_neg h2]
    rfl
  · rw [if_neg h1, dif_pos h2]
    simp only [dif_neg h1, dif_pos h2]
    rfl
  · rw [if_neg h1, dif_neg h2]
    simp only [dif_neg h1, dif_neg h2]
    rfl

set_option maxHeartbeats 8000000 in
/-- The printed body over machine floats is the program written as loops. -/
theorem body_bits :
    Cert.Kernel2.cc0_attn_sample (F := Bits) i arg1 harg1 arg2 harg2 arg3 harg3 arg4 harg4 arg5 harg5 arg6 harg6 arg7 harg7 arg8 harg8 arg9 harg9 arg10
     = body (F := Bits) i arg1 arg2 arg3 arg4 arg5 arg6 arg7 harg7 arg8 arg9 arg10 := by
  rw [Cert.Kernel2.Gen.cc0_attn_sample_eq_skeleton]
  unfold Cert.Kernel2.Gen.cc0_attn_sample_skel body
  rw [part18_bits]
  refine (Prog.bind_assoc _ _ _).trans ?_
  refine congrArg (fun k => (if condB i then firstStarts arg2 arg3 arg8 arg9 arg10 else pure ⟨⟩) >>= k) (funext fun _ => ?_)
  refine (Prog.bind_assoc _ _ _).trans ?_
  refine congrArg (fun k => (if h : Cert.Kernel2.k0_cond2 i = 1#1 then nextStarts i arg2 arg3 arg8 arg9 arg10 h else pure ⟨⟩) >>= k) (funext fun _ => ?_)
  rfl
end Body

/-- The two bodies are one program over machine floats. -/
theorem defs₀_bits : Cert.Kernel2.defs₀ (F := Bits) = Cert.Kernel2Ideal.defs₀ (F := Bits) := by
  unfold Cert.Kernel2.defs₀ Cert.Kernel2Ideal.defs₀
  refine congrArg Defs.onTc (funext fun l => ?_)
  match l with
  | 0 =>
    funext x
    obtain ⟨t, s⟩ := x
    exact (body_bits _ _ _ _ _ _ _ _ _ _ _ _ _ _ _ _ _ _ _ _).trans (body_eq _ _ _ _ _ _ _ _ _ _ _ _ _ _ _ _ _ _ _ _).symm

theorem defs_bits : Cert.Kernel2.defs (F := Bits) = Cert.Kernel2Ideal.defs (F := Bits) :=
  congrArg (Pipeline.defs (Cert.Kernel2Ideal.pcfgs (F := Bits))) defs₀_bits

/-- The call as written terminates, leaves its arguments as they were and every semaphore at zero. -/
theorem frame_bits (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) := by
  rw [defs_bits]
  exact (θ_run (Cert.Kernel2Ideal.defs (F := Bits)) _ _).mono (fun _ h => h.1) (frame_value (F := Bits) m g)

end Cert.Kernel2Ideal.Att

end
-- ==== Proof.Att.Stick.lean ====
/-
  Stick-breaking attention of a batch of streams as a formula over the extended reals, and the facts about sums,
  logarithms and comparisons that both sides use to reach it.
-/
module

public import Idealize.ShloMosaic.Lib.Pipeline.ValueKit

@[expose] public section

noncomputable section

open Idealize.ShloMosaic

/-! # Stick-breaking attention of one query over 1024 past keys and 64 new ones, over the extended reals

The scores are logarithms to base 2. -/

namespace Cert.Stick

/-- `log₂ β`: the logarithm of the logistic function of a score. -/
def lb (v : EReal) : EReal :=
  min v 0 - Ideal.log (1 + Ideal.exp2 (0 - max v (-v))) * (((Real.log 2)⁻¹ : ℝ) : EReal)
/-- `log₂ (1 - β)`. -/
def lk (v : EReal) : EReal := lb v - v

/-- A query's score against every key; a new key that is not strictly earlier has its score lowered. -/
def score (q : Fin 128 → EReal) (pk : Fin 1024 → Fin 128 → EReal) (nk : Fin 64 → Fin 128 → EReal) (a : Fin 64) (k : Fin 1088) : EReal :=
  if h : k.val < 1024 then ∑ d, q d * pk ⟨k.val, h⟩ d
  else (∑ d, q d * nk ⟨k.val - 1024, by omega⟩ d) + if k.val - 1024 < a.val then 0 else Ideal.ofBits .f32 0xF149F2CA#32

/-- A key's weight: its own factor times the factors `1 - β` of the keys after it. -/
def weight (z : Fin 1088 → EReal) (k : Fin 1088) : EReal :=
  Ideal.exp2 (lb (z k) + ∑ j : Fin 1088, if k.val < j.val then lk (z j) else 0)

/-- The weighted sum of one column of the values, times the gate. -/
def outAt (z : Fin 1088 → EReal) (pv : Fin 1024 → EReal) (nv : Fin 64 → EReal) (g : EReal) : EReal :=
  (∑ k : Fin 1088, weight z k * if h : k.val < 1024 then pv ⟨k.val, h⟩ else nv ⟨k.val - 1024, by omega⟩) * g

/-- The attention of a batch of streams at stream `b`, row `a`, head `h` and column `d`: the rows and columns of all
streams and heads lie one after the other in the matrices. -/
def attAt (Q : Fin 2048 → Fin 2048 → EReal) (PK PV : Fin 32 → Fin 1024 → Fin 16 → Fin 128 → EReal) (K V G : Fin 2048 → Fin 2048 → EReal)
    (b : Fin 32) (a : Fin 64) (h : Fin 16) (d : Fin 128) : EReal :=
  outAt (score (fun e => Q ⟨b.val * 64 + a.val, by omega⟩ ⟨h.val * 128 + e.val, by omega⟩) (fun k e => PK b k h e)
      (fun n e => K ⟨b.val * 64 + n.val, by omega⟩ ⟨h.val * 128 + e.val, by omega⟩) a)
    (fun k => PV b k h d) (fun n => V ⟨b.val * 64 + n.val, by omega⟩ ⟨h.val * 128 + d.val, by omega⟩)
    (G ⟨b.val * 64 + a.val, by omega⟩ ⟨h.val * 128 + d.val, by omega⟩)

section Sums
variable {M : Type} [AddCommMonoid M]

/-- A sum over the keys is the sum over the past ones and over the new ones. -/
theorem sum_keys (f : Fin 1088 → M) : ∑ k, f k = (∑ k : Fin 1024, f ⟨k.val, by omega⟩) + ∑ n : Fin 64, f ⟨1024 + n.val, by omega⟩ :=
  (Fin.sum_univ_add (a := 1024) (b := 64) f).trans rfl

/-- A sum over the past keys is the sum over its four chunks. -/
theorem sum_past (f : Fin 1024 → M) : ∑ k, f k = (∑ k : Fin 256, f ⟨k.val, by omega⟩) + (∑ k : Fin 256, f ⟨256 + k.val, by omega⟩)
    + (∑ k : Fin 256, f ⟨512 + k.val, by omega⟩) + ∑ k : Fin 256, f ⟨768 + k.val, by omega⟩ := by
  refine (Fin.sum_univ_add (a := 768) (b := 256) f).trans (congrArg₂ (· + ·) ?_ rfl)
  refine (Fin.sum_univ_add (a := 512) (b := 256) _).trans (congrArg₂ (· + ·) ?_ rfl)
  exact (Fin.sum_univ_add (a := 256) (b := 256) _).trans rfl

/-- The terms after a position before all of them are all the terms. -/
theorem sum_after {n : ℕ} (f : Fin n → M) (b a : ℕ) (h : a < b) : (∑ x : Fin n, if a < b + x.val then f x else 0) = ∑ x, f x :=
  Finset.sum_congr rfl fun x _ => if_pos (by omega)
/-- None of the terms is after a position that is past all of them. -/
theorem sum_before {n : ℕ} (f : Fin n → M) (b a : ℕ) (h : b + n ≤ a + 1) : (∑ x : Fin n, if a < b + x.val then f x else 0) = 0 :=
  Finset.sum_eq_zero fun x _ => if_neg (by omega)
/-- The terms after one of them. -/
theorem sum_within {n : ℕ} (f : Fin n → M) (b i : ℕ) : (∑ x : Fin n, if b + i < b + x.val then f x else 0) = ∑ x : Fin n, if i < x.val then f x else 0 :=
  Finset.sum_congr rfl fun x _ => if_congr (by omega) rfl rfl
theorem sum_before' {n : ℕ} (f : Fin n → M) (a : ℕ) (h : n ≤ a + 1) : (∑ x : Fin n, if a < x.val then f x else 0) = 0 :=
  Finset.sum_eq_zero fun x _ => if_neg (by omega)

variable (f : Fin 1088 → M)

/-- The sum over the keys after a new key. -/
theorem later_new (n : Fin 64) : (∑ j : Fin 1088, if 1024 + n.val < j.val then f j else 0) = ∑ x : Fin 64, if n.val < x.val then f ⟨1024 + x.val, by omega⟩ else 0 := by
  rw [sum_keys, sum_before' (fun k : Fin 1024 => f ⟨k.val, by omega⟩) _ (by omega), zero_add]
  exact sum_within (fun x : Fin 64 => f ⟨1024 + x.val, by omega⟩) 1024 n.val

/-- The sum over the keys after one of the last chunk. -/
theorem later3 (i : Fin 256) : (∑ j : Fin 1088, if 768 + i.val < j.val then f j else 0)
    = (∑ x : Fin 256, if i.val < x.val then f ⟨768 + x.val, by omega⟩ else 0) + ∑ x : Fin 64, f ⟨1024 + x.val, by omega⟩ := by
  rw [sum_keys, sum_past, sum_before' (fun x : Fin 256 => f ⟨x.val, by omega⟩) _ (by omega),
    sum_before (fun x : Fin 256 => f ⟨256 + x.val, by omega⟩) 256 _ (by omega), sum_before (fun x : Fin 256 => f ⟨512 + x.val, by omega⟩) 512 _ (by omega),
    sum_within (fun x : Fin 256 => f ⟨768 + x.val, by omega⟩) 768 i.val, sum_after (fun x : Fin 64 => f ⟨1024 + x.val, by omega⟩) 1024 _ (by omega)]
  simp only [zero_add]
/-- The sum over the keys after one of the third chunk. -/
theorem later2 (i : Fin 256) : (∑ j : Fin 1088, if 512 + i.val < j.val then f j else 0)
    = (∑ x : Fin 256, if i.val < x.val then f ⟨512 + x.val, by omega⟩ else 0) + ((∑ x : Fin 64, f ⟨1024 + x.val, by omega⟩) + ∑ x : Fin 256, f ⟨768 + x.val, by omega⟩) := by
  rw [sum_keys, sum_past, sum_before' (fun x : Fin 256 => f ⟨x.val, by omega⟩) _ (by omega),
    sum_before (fun x : Fin 256 => f ⟨256 + x.val, by omega⟩) 256 _ (by omega), sum_within (fun x : Fin 256 => f ⟨512 + x.val, by omega⟩) 512 i.val,
    sum_after (fun x : Fin 256 => f ⟨768 + x.val, by omega⟩) 768 _ (by omega), sum_after (fun x : Fin 64 => f ⟨1024 + x.val, by omega⟩) 1024 _ (by omega)]
  simp only [zero_add]; abel
/-- The sum over the keys after one of the second chunk. -/
theorem later1 (i : Fin 256) : (∑ j : Fin 1088, if 256 + i.val < j.val then f j else 0)
    = (∑ x : Fin 256, if i.val < x.val then f ⟨256 + x.val, by omega⟩ else 0)
      + ((∑ x : Fin 64, f ⟨1024 + x.val, by omega⟩) + (∑ x : Fin 256, f ⟨768 + x.val, by omega⟩) + ∑ x : Fin 256, f ⟨512 + x.val, by omega⟩) := by
  rw [sum_keys, sum_past, sum_before' (fun x : Fin 256 => f ⟨x.val, by omega⟩) _ (by omega),
    sum_within (fun x : Fin 256 => f ⟨256 + x.val, by omega⟩) 256 i.val, sum_after (fun x : Fin 256 => f ⟨512 + x.val, by omega⟩) 512 _ (by omega),
    sum_after (fun x : Fin 256 => f ⟨768 + x.val, by omega⟩) 768 _ (by omega), sum_after (fun x : Fin 64 => f ⟨1024 + x.val, by omega⟩) 1024 _ (by omega)]
  simp only [zero_add]; abel
/-- The sum over the keys after one of the first chunk. -/
theorem later0 (i : Fin 256) : (∑ j : Fin 1088, if i.val < j.val then f j else 0)
    = (∑ x : Fin 256, if i.val < x.val then f ⟨x.val, by omega⟩ else 0)
      + ((∑ x : Fin 64, f ⟨1024 + x.val, by omega⟩) + (∑ x : Fin 256, f ⟨768 + x.val, by omega⟩) + (∑ x : Fin 256, f ⟨512 + x.val, by omega⟩)
        + ∑ x : Fin 256, f ⟨256 + x.val, by omega⟩) := by
  rw [sum_keys, sum_past, sum_after (fun x : Fin 256 => f ⟨256 + x.val, by omega⟩) 256 _ (by omega), sum_after (fun x : Fin 256 => f ⟨512 + x.val, by omega⟩) 512 _ (by omega),
    sum_after (fun x : Fin 256 => f ⟨768 + x.val, by omega⟩) 768 _ (by omega), sum_after (fun x : Fin 64 => f ⟨1024 + x.val, by omega⟩) 1024 _ (by omega)]
  abel
end Sums

/-- The past keys' part and the new keys' part of the weighted sum. -/
theorem outAt_eq (z : Fin 1088 → EReal) (pv : Fin 1024 → EReal) (nv : Fin 64 → EReal) (g : EReal) :
    ((∑ k : Fin 1024, weight z ⟨k.val, by omega⟩ * pv k) + ∑ n : Fin 64, weight z ⟨1024 + n.val, by omega⟩ * nv n) * g = outAt z pv nv g := by
  unfold outAt
  rw [sum_keys]
  congr 2

/-- Two to a power, through the exponential. -/
theorem exp_log2_mul (x : EReal) : Ideal.exp (((Real.log 2 : ℝ) : EReal) * x) = Ideal.exp2 x := by
  have h2 : (0 : ℝ) < Real.log 2 := Real.log_pos (by norm_num)
  induction x with
  | bot => rw [EReal.coe_mul_bot_of_pos h2]; rfl
  | top => rw [EReal.coe_mul_top_of_pos h2]; rfl
  | coe r =>
    rw [← EReal.coe_mul]
    show ((Real.exp (Real.log 2 * r) : ℝ) : EReal) = ((Real.rpow 2 r : ℝ) : EReal)
    congr 1
    exact (Real.rpow_def_of_pos (by norm_num) r).symm

/-- Dividing by the logarithm of two. -/
theorem div_log2 (x : EReal) : Ideal.div x ((Real.log 2 : ℝ) : EReal) = x * (((Real.log 2)⁻¹ : ℝ) : EReal) := by
  have h2 : (0 : ℝ) < Real.log 2 := Real.log_pos (by norm_num)
  unfold Ideal.div
  rw [if_neg (by simpa using h2.ne'), ← EReal.coe_inv]

/-- The word of two is two, and its logarithm that of two. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  show (if (2 : ℝ) ≤ 0 then ⊥ else ((Real.log 2 : ℝ) : EReal)) = _
  rw [if_neg (by norm_num)]

/-- A comparison of two small words is the comparison of the numbers. -/
theorem sgt_small {n m : ℕ} (hn : n < 2 ^ 31) (hm : m < 2 ^ 31) : IntOp.cmpi .sgt (BitVec.ofNat 32 n) (BitVec.ofNat 32 m) = if m < n then 1#1 else 0#1 := by
  have e : (BitVec.ofNat 32 m).slt (BitVec.ofNat 32 n) = decide (m < n) := by
    rw [BitVec.slt_eq_decide, BitVec.toInt_eq_toNat_of_lt (by simp; omega), BitVec.toInt_eq_toNat_of_lt (by simp; omega)]
    simp only [BitVec.toNat_ofNat, Nat.mod_eq_of_lt (show n < 2 ^ 32 by omega), Nat.mod_eq_of_lt (show m < 2 ^ 32 by omega)]
    simp
  by_cases h : m < n <;> simp [IntOp.cmpi, e, h]
theorem slt_small {n m : ℕ} (hn : n < 2 ^ 31) (hm : m < 2 ^ 31) : IntOp.cmpi .slt (BitVec.ofNat 32 n) (BitVec.ofNat 32 m) = if n < m then 1#1 else 0#1 := by
  rw [← sgt_small hm hn]; rfl

end Cert.Stick
-- ==== Proof.Att.Value.lean ====
/-
  What one grid point of the attention call computes: the weights of a group of four heads against the new keys and,
  chunk by chunk from the last, against the past ones, and each head's columns of the result.
-/
module

public import proofs.«01_k».proof.Proof.Att.Launch
public import proofs.«01_k».proof.Proof.Att.Stick

@[expose] public section

set_option maxRecDepth 65536
set_option synthInstance.maxSize 4096

noncomputable section

namespace Cert.Kernel2Ideal.Att

open Cert.Kernel2Ideal Cert.Kernel2Ideal.Gen Cert.Stick
open Idealize.ShloMosaic Idealize.SL.Sem

theorem sitofp_one : FloatOps.sitofp (F := Ideal) .f32 (1#32) = 1 := by
  show (((1#32 : BitVec 32).toInt : ℝ) : EReal) = 1
  simp
theorem sitofp_zero : FloatOps.sitofp (F := Ideal) .f32 (0#32) = 0 := by
  show (((0#32 : BitVec 32).toInt : ℝ) : EReal) = 0
  simp
/-- The triangular matrix of ones of a chunk. -/
theorem uMat (a b : Fin 256) : k0_pay2 (F := Ideal) (ix2 a b) = if b.val < a.val then 1 else 0 := by
  pointwise [k0_pay2]
  rw [sgt_small (by omega) (by omega)]
  split_ifs
  · exact sitofp_one
  · exact sitofp_zero
/-- The triangular matrix of ones of the new keys. -/
theorem uNew (a b : Fin 64) : k0_pay3 (F := Ideal) (ix2 a b) = if b.val < a.val then 1 else 0 := by
  pointwise [k0_pay3]
  rw [sgt_small (by omega) (by omega)]
  split_ifs
  · exact sitofp_one
  · exact sitofp_zero
/-- The mask of the new keys. -/
theorem biasNew (a b : Fin 64) : k0_pay4 (F := Ideal) (ix2 a b) = if b.val < a.val then 0 else Ideal.ofBits .f32 0xF149F2CA#32 := by
  pointwise [k0_pay4]
  rw [slt_small (by omega) (by omega)]
  split_ifs <;> simp [Scalar.select]

/-- Multiplying by the triangular matrix is the sum over the later entries. -/
theorem sum_mul_ite {n : ℕ} (f : Fin n → EReal) (i : ℕ) : (∑ x : Fin n, f x * if i < x.val then 1 else 0) = ∑ x : Fin n, if i < x.val then f x else 0 :=
  Finset.sum_congr rfl fun x _ => by split_ifs <;> simp

section Weights
variable (zn : FVec Ideal S256x64 .f32) (y : FVec Ideal S256x1024 .f32)

abbrev mnOf : FVec Ideal S256x64 .f32 := minimumf zn (broadcast S256x64 (Scalar.ofBits .f32 0x00000000#32))
abbrev exOf : FVec Ideal S256x64 .f32 := exp2 (subf (broadcast S256x64 (Scalar.ofBits .f32 0x00000000#32)) (absf zn))
abbrev oneOf : Ideal .f32 := Scalar.ofBits .f32 0x3F800000#32

/-- `log₂ β` of a score against a new key. -/
theorem lbNew (i) : k0_pay11 (mnOf zn) (exOf zn) oneOf i = lb (zn i) := by
  pointwise [k0_pay11]; rfl
/-- `log₂ (1 - β)` of it. -/
theorem lkNew (i) : k0_pay12 zn (mnOf zn) (exOf zn) oneOf i = lk (zn i) := by
  unfold k0_pay12
  show k0_pay11 (mnOf zn) (exOf zn) oneOf i - zn i = _
  rw [lbNew]; rfl
/-- `log₂ β` of a score against a past key. -/
theorem lbPast (i) : k0_pay15 y i = lb (y i) := by
  pointwise [k0_pay15]; rfl
/-- `log₂ (1 - β)` of it. -/
theorem lkPast (i) : k0_pay16 y i = lk (y i) := by
  unfold k0_pay16
  show k0_pay15 y i - y i = _
  rw [lbPast]; rfl

variable (r : Fin 256) (z : Fin 1088 → EReal) (hy : ∀ k : Fin 1024, y (ix2 r k) = z ⟨k.val, by omega⟩)
  (hz : ∀ n : Fin 64, zn (ix2 r n) = z ⟨1024 + n.val, by omega⟩)
include hz

/-- The weight of a new key. -/
theorem wNew_eq (n : Fin 64) : wNew zn (ix2 r n) = weight z ⟨1024 + n.val, by omega⟩ := by
  have eb := lbNew zn
  have ek := lkNew zn
  have eu := uNew
  unfold wNew k0_pay13
  generalize k0_pay11 (mnOf zn) (exOf zn) oneOf = L at *
  generalize k0_pay12 zn (mnOf zn) (exOf zn) oneOf = K at *
  generalize k0_pay3 (F := Ideal) = U at *
  pointwise []
  simp only [eb, ek, eu, sum_mul_ite, hz]
  unfold weight
  rw [later_new]
  rfl

/-- The sum over the new keys. -/
theorem off4 : k0_pay14 zn (mnOf zn) (exOf zn) oneOf (ix2 r 0) = ∑ x : Fin 64, lk (z ⟨1024 + x.val, by omega⟩) := by
  have ek := lkNew zn
  unfold k0_pay14
  generalize k0_pay12 zn (mnOf zn) (exOf zn) oneOf = K at *
  pointwise []
  simp only [ek, hz]

include hy

/-- What the new keys leave of the stick: the logarithm that the last chunk starts from. -/
theorem off3 : k0_pay19 y zn (mnOf zn) (exOf zn) oneOf (ix2 r 0)
    = (∑ x : Fin 64, lk (z ⟨1024 + x.val, by omega⟩)) + ∑ x : Fin 256, lk (z ⟨768 + x.val, by omega⟩) := by
  have o4 := off4 zn r z hz
  unfold k0_pay19
  generalize k0_pay14 zn (mnOf zn) (exOf zn) oneOf = O at *
  pointwise [k0_pay17]
  rw [o4]
  simp only [lkPast, hy]

/-- The weight of a key of the last chunk. -/
theorem w3 (i : Fin 256) : k0_pay18 k0_pay2 y zn (mnOf zn) (exOf zn) oneOf (ix2 r i) = weight z ⟨768 + i.val, by omega⟩ := by
  have o4 := off4 zn r z hz
  unfold k0_pay18
  generalize k0_pay14 zn (mnOf zn) (exOf zn) oneOf = O at *
  pointwise [k0_pay17]
  rw [o4]
  simp only [lbPast, lkPast, uMat, sum_mul_ite, hy]
  unfold weight
  rw [later3]
  exact congrArg Ideal.exp2 (add_assoc _ _ _)

/-- The weight of a key of the chunk before it. -/
theorem w2 (i : Fin 256) : k0_pay21 k0_pay2 y zn (mnOf zn) (exOf zn) oneOf (ix2 r i) = weight z ⟨512 + i.val, by omega⟩ := by
  have o3 := off3 zn y r z hy hz
  unfold k0_pay21
  generalize k0_pay19 y zn (mnOf zn) (exOf zn) oneOf = O at *
  pointwise [k0_pay20]
  rw [o3]
  simp only [lbPast, lkPast, uMat, sum_mul_ite, hy]
  unfold weight
  rw [later2]
  exact congrArg Ideal.exp2 (add_assoc _ _ _)

set_option maxHeartbeats 4000000 in
/-- The weight of a past key. -/
theorem wPast_eq (k : Fin 1024) : wPast zn y (ix2 r k) = weight z ⟨k.val, by omega⟩ := by
  have e3 := w3 zn y r z hy hz
  have e2 := w2 zn y r z hy hz
  have o3 := off3 zn y r z hy hz
  have o2 : k0_pay22 y (ix1 r) = ∑ x : Fin 256, lk (z ⟨512 + x.val, by omega⟩) := by
    pointwise [k0_pay22, k0_pay20]
    simp only [lkPast, hy]
  unfold wPast
  show k0_pay23 k0_pay2 (k0_pay15 y) (k0_pay16 y) (k0_pay18 k0_pay2 y zn (mnOf zn) (exOf zn) oneOf) (k0_pay19 y zn (mnOf zn) (exOf zn) oneOf)
    (k0_pay21 k0_pay2 y zn (mnOf zn) (exOf zn) oneOf) (k0_pay22 y) (ix2 r k) = _
  generalize k0_pay18 k0_pay2 y zn (mnOf zn) (exOf zn) oneOf = W3 at *
  generalize k0_pay19 y zn (mnOf zn) (exOf zn) oneOf = O3 at *
  generalize k0_pay21 k0_pay2 y zn (mnOf zn) (exOf zn) oneOf = W2 at *
  generalize k0_pay22 y = O2 at *
  have eb := lbPast y
  have ek := lkPast y
  generalize k0_pay15 y = B at *
  generalize k0_pay16 y = K at *
  have eu := uMat
  generalize k0_pay2 (F := Ideal) = U at *
  pointwise [k0_pay23]
  simp only [eb, ek, eu, o3, o2, e2, e3, sum_mul_ite, hy]
  by_cases h0 : k.val < 256
  · rw [dif_pos h0]
    unfold weight
    rw [later0 (fun j => lk (z j)) ⟨k.val, h0⟩]
    exact congrArg Ideal.exp2 (add_assoc _ _ _)
  rw [dif_neg h0]
  by_cases h1 : k.val - 256 < 256
  · rw [dif_pos h1]
    obtain ⟨n, hn⟩ := k
    obtain ⟨m, rfl⟩ := Nat.exists_eq_add_of_le (Nat.le_of_not_lt h0)
    have hm : 256 + m - 256 = m := by omega
    simp only [hm] at h1 ⊢
    unfold weight
    rw [later1 (fun j => lk (z j)) ⟨m, h1⟩]
    exact congrArg Ideal.exp2 (add_assoc _ _ _)
  rw [dif_neg h1]
  by_cases h2 : k.val - 256 - 256 < 256
  · rw [dif_pos h2]
    refine congrArg (weight z) (Fin.ext ?_)
    simp only []
    omega
  rw [dif_neg h2]
  refine congrArg (weight z) (Fin.ext ?_)
  simp only []
  omega
end Weights

section Head

/-- A row of four stacked blocks is a row of one of them. -/
theorem pick4 (f : Fin 4 → Fin 64 → EReal) (j : Fin 4) (a : Fin 64) :
    (if h : 64 * j.val + a.val < 64 then f 0 ⟨64 * j.val + a.val, h⟩
      else if h : 64 * j.val + a.val - 64 < 64 then f 1 ⟨64 * j.val + a.val - 64, h⟩
      else if h : 64 * j.val + a.val - 64 - 64 < 64 then f 2 ⟨64 * j.val + a.val - 64 - 64, h⟩
      else f 3 ⟨64 * j.val + a.val - 64 - 64 - 64, by omega⟩) = f j a := by
  have ha := a.isLt
  have h : j.val = 0 ∨ j.val = 1 ∨ j.val = 2 ∨ j.val = 3 := by omega
  rcases h with h | h | h | h
  · rw [dif_pos (by omega)]
    exact congrArg₂ f (Fin.ext h.symm) (Fin.ext (by simp only []; omega))
  · rw [dif_neg (by omega), dif_pos (by omega)]
    exact congrArg₂ f (Fin.ext h.symm) (Fin.ext (by simp only []; omega))
  · rw [dif_neg (by omega), dif_neg (by omega), dif_pos (by omega)]
    exact congrArg₂ f (Fin.ext h.symm) (Fin.ext (by simp only []; omega))
  · rw [dif_neg (by omega), dif_neg (by omega), dif_neg (by omega)]
    exact congrArg₂ f (Fin.ext h.symm) (Fin.ext (by simp only []; omega))

/-- The scores against the past keys of the `j`-th head of a group. -/
theorem zPast_eq (q : Fin 4 → Vec Ideal S64x128 .bf16) (k : Fin 4 → Vec Ideal S1x1x1024x128 .f32) (j : Fin 4) (a : Fin 64) (n : Fin 1024) :
    zPast (q 0) (q 1) (q 2) (q 3) (k 0) (k 1) (k 2) (k 3) (ix2 ⟨64 * j.val + a.val, by omega⟩ n) = ∑ d, q j (ix2 a d) * k j (ix4 0 0 n d) := by
  pointwise [zPast, k0_pay7, k0_pay5]
  exact pick4 (fun j a => ∑ d, q j (ix2 a d) * k j (ix4 0 0 n d)) j a
/-- The masked scores against the new keys of the `j`-th head of a group. -/
theorem zNew_eq (q k : Fin 4 → Vec Ideal S64x128 .bf16) (j : Fin 4) (a n : Fin 64) :
    zNew (q 0) (q 1) (q 2) (q 3) (k 0) (k 1) (k 2) (k 3) (ix2 ⟨64 * j.val + a.val, by omega⟩ n)
      = (∑ d, q j (ix2 a d) * k j (ix2 n d)) + if n.val < a.val then 0 else Ideal.ofBits .f32 0xF149F2CA#32 := by
  have eb := biasNew a n
  unfold zNew
  generalize k0_pay4 (F := Ideal) = U at *
  pointwise [k0_pay8, k0_pay6]
  rw [← eb]
  exact pick4 (fun j a => (∑ d, q j (ix2 a d) * k j (ix2 n d)) + U (ix2 a n)) j a

/-- One head's result, from its rows of the weights. -/
theorem headOut_eq (wp : FVec Ideal S64x1024 .bf16) (wn : FVec Ideal S64x64 .bf16) (vp : Vec Ideal S1x1x1024x128 .f32) (vn g : Vec Ideal S64x128 .bf16) (a : Fin 64) (d : Fin 128) :
    headOut wp wn vp vn g (ix2 a d) = ((∑ k, wp (ix2 a k) * vp (ix4 0 0 k d)) + ∑ n, wn (ix2 a n) * vn (ix2 n d)) * g (ix2 a d) := by
  pointwise [headOut, k0_pay30]

/-- One head's result at a row and a column: stick-breaking attention of that row's query. -/
theorem head_eq (q n : Fin 4 → Vec Ideal S64x128 .bf16) (k : Fin 4 → Vec Ideal S1x1x1024x128 .f32) (vp : Vec Ideal S1x1x1024x128 .f32) (vn g : Vec Ideal S64x128 .bf16)
    (j : Fin 4) (h1) (h2) (a : Fin 64) (d : Fin 128) :
    headOut (extractStridedSlice S64x1024 ![64 * j.val, 0] (wPast (zNew (q 0) (q 1) (q 2) (q 3) (n 0) (n 1) (n 2) (n 3)) (zPast (q 0) (q 1) (q 2) (q 3) (k 0) (k 1) (k 2) (k 3))) h1)
        (extractStridedSlice S64x64 ![64 * j.val, 0] (wNew (zNew (q 0) (q 1) (q 2) (q 3) (n 0) (n 1) (n 2) (n 3))) h2) vp vn g (ix2 a d)
      = outAt (score (fun e => q j (ix2 a e)) (fun i e => k j (ix4 0 0 i e)) (fun i e => n j (ix2 i e)) a) (fun i => vp (ix4 0 0 i d)) (fun i => vn (ix2 i d)) (g (ix2 a d)) := by
  rw [headOut_eq, ← outAt_eq]
  have hp : ∀ i : Fin 1024, zPast (q 0) (q 1) (q 2) (q 3) (k 0) (k 1) (k 2) (k 3) (ix2 ⟨64 * j.val + a.val, by omega⟩ i)
      = score (fun e => q j (ix2 a e)) (fun i e => k j (ix4 0 0 i e)) (fun i e => n j (ix2 i e)) a ⟨i.val, by omega⟩ := fun i => by
    rw [zPast_eq]; unfold score; rw [dif_pos i.isLt]
  have hn : ∀ i : Fin 64, zNew (q 0) (q 1) (q 2) (q 3) (n 0) (n 1) (n 2) (n 3) (ix2 ⟨64 * j.val + a.val, by omega⟩ i)
      = score (fun e => q j (ix2 a e)) (fun i e => k j (ix4 0 0 i e)) (fun i e => n j (ix2 i e)) a ⟨1024 + i.val, by omega⟩ := fun i => by
    rw [zNew_eq]; unfold score; rw [dif_neg (by simp)]; simp
  refine congrArg (· * _) (congrArg₂ (· + ·) ?_ ?_)
  · refine Finset.sum_congr rfl fun i _ => congrArg (· * _) ?_
    rw [← wPast_eq _ _ _ _ hp hn i]
    pointwise []
  · refine Finset.sum_congr rfl fun i _ => congrArg (· * _) ?_
    rw [← wNew_eq _ _ _ hn i]
    pointwise []
end Head

end Cert.Kernel2Ideal.Att
-- ==== Proof.Att.Out.lean ====
/-
  The array of results of the attention call at every index, as stick-breaking attention of the call's arguments.
-/
module

public import proofs.«01_k».proof.Proof.Att.Value
public import Idealize.ShloMosaic.Lib.Pipeline.ValueKit

@[expose] public section

set_option maxRecDepth 65536
set_option synthInstance.maxSize 4096

noncomputable section

namespace Cert.Kernel2Ideal.Att

open Cert.Kernel2Ideal Cert.Kernel2Ideal.Gen Cert.Stick
open Idealize.ShloMosaic Idealize.ShloMosaic.TcCoe Idealize.SL.Sem

/-- A head's columns of a block, at an index. -/
theorem colOf_apply (x : Vec Ideal S64x2048 .bf16) (h : Fin 16) (a : Fin 64) (d : Fin 128) : colOf x h (ix2 a d) = x (ix2 a ⟨h.val * 128 + d.val, by omega⟩) := by
  unfold colOf
  refine congrArg x (funext fun i => Fin.ext ?_)
  match i with
  | ⟨0, _⟩ => show 0 + 1 * a.val = a.val; omega
  | ⟨1, _⟩ => show 128 * h.val + 1 * d.val = h.val * 128 + d.val; omega

/-- An index of a head of a stream, with the axes of size one dropped. -/
theorem squeeze_ix {k : Fin 1024} {d : Fin 128} : (Shape.reshapeEquiv squeezes_S1x1024x1x128_S1024x128.numel_eq) (ix2 k d : S1024x128.Idx) = (ix4 0 k 0 d : S1x1024x1x128.Idx) :=
  Shape.reshapeEquiv_eq_of_rowMajor _ (by
    rw [Shape.rowMajor_val_four, Shape.rowMajor_val_two]
    show (((0 * 1024 + k.val) * 1 + 0) * 128 + d.val) = k.val * 128 + d.val
    omega)

/-- A head of a stream's past, at an index. -/
theorem past_ix {b : ℕ} (hb : b < 32) (h : Fin 16) (k : Fin 1024) (d : Fin 128) :
    (Rect.unit (s := S32x1024x16x128) ![b, 0, h.val, 0] S1x1024x1x128.size (inbSrc hb h)).emb (ix4 0 k 0 d : S1x1024x1x128.Idx) = ix4 ⟨b, hb⟩ k h d := by
  funext i
  refine Fin.ext ?_
  match i with
  | ⟨0, _⟩ => show b + 1 * 0 = b; omega
  | ⟨1, _⟩ => show 0 + 1 * k.val = k.val; omega
  | ⟨2, _⟩ => show h.val + 1 * 0 = h.val; omega
  | ⟨3, _⟩ => show 0 + 1 * d.val = d.val; omega

/-- An index of a slot's box, with the axes of size one dropped. -/
theorem box_ix (k : Fin 1024) (d : Fin 128) : (Shape.reshapeEquiv squeezes_S1x1x1024x128_S1024x128.numel_eq).symm (ix4 0 0 k d : S1x1x1024x128.Idx) = (ix2 k d : S1024x128.Idx) := by
  rw [Equiv.symm_apply_eq]
  exact (Shape.reshapeEquiv_eq_of_rowMajor _ (by
    rw [Shape.rowMajor_val_four, Shape.rowMajor_val_two]
    show (((0 * 1 + 0) * 1024 + k.val) * 128 + d.val) = k.val * 128 + d.val
    omega)).symm

/-- A head of a stream's past keys, at an index. -/
theorem pastBox_apply1 (c : Dev nD) (W : Buf (Elt Ideal) ((c : Thread nD τ).loc main_arg1)) {b : ℕ} (hb : b < 32) (h : Fin 16) (k : Fin 1024) (d : Fin 128) :
    pastBox c (Memref.whole main_arg1) W hb h (ix4 0 0 k d) = W (ix4 ⟨b, hb⟩ k h d) := by
  unfold pastBox
  rw [box_ix, ← past_ix hb h k d, ← squeeze_ix]
  rfl
/-- A head of a stream's past values, at an index. -/
theorem pastBox_apply2 (c : Dev nD) (W : Buf (Elt Ideal) ((c : Thread nD τ).loc main_arg2)) {b : ℕ} (hb : b < 32) (h : Fin 16) (k : Fin 1024) (d : Fin 128) :
    pastBox c (Memref.whole main_arg2) W hb h (ix4 0 0 k d) = W (ix4 ⟨b, hb⟩ k h d) := by
  unfold pastBox
  rw [box_ix, ← past_ix hb h k d, ← squeeze_ix]
  rfl

/-- One head of a group at a row and a column, from the blocks and the pasts. -/
theorem outB_apply (c : Dev nD) (WK : Buf (Elt Ideal) ((c : Thread nD τ).loc main_arg1)) (WV : Buf (Elt Ideal) ((c : Thread nD τ).loc main_arg2)) {b : ℕ} (hb : b < 32)
    (x1 x4 x5 x6 : Vec Ideal S64x2048 .bf16) (g j : Fin 4) (a : Fin 64) (d : Fin 128) :
    outB c (Memref.whole main_arg1) (Memref.whole main_arg2) WK WV hb x1 x4 x5 x6 g j (ix2 a d)
      = outAt (score (fun e => x1 (ix2 a ⟨(hd g j).val * 128 + e.val, by omega⟩)) (fun k e => WK (ix4 ⟨b, hb⟩ k (hd g j) e))
            (fun n e => x4 (ix2 n ⟨(hd g j).val * 128 + e.val, by omega⟩)) a)
          (fun k => WV (ix4 ⟨b, hb⟩ k (hd g j) d)) (fun n => x5 (ix2 n ⟨(hd g j).val * 128 + d.val, by omega⟩)) (x6 (ix2 a ⟨(hd g j).val * 128 + d.val, by omega⟩)) := by
  unfold outB outHead grpZN grpZP
  rw [head_eq (fun j => colOf x1 (hd g j)) (fun j => colOf x4 (hd g j)) (fun j => pastBox c (Memref.whole main_arg1) WK hb (hd g j))]
  simp only [colOf_apply, pastBox_apply1, pastBox_apply2]

variable (m : (ℓ : Loc nD τ sig) → Buf (Elt Ideal) ℓ)

/-- The block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The result as a function of the arguments. -/
abbrev G (Q K Vn ZA : FVec Ideal S2048x2048 .bf16) (PK PV : FVec Ideal S32x1024x16x128 .f32) : FVec Ideal S2048x2048 .bf16 := fun j =>
  attAt (fun r n => Q (ix2 r n)) (fun b k h d => PK (ix4 b k h d)) (fun b k h d => PV (ix4 b k h d)) (fun r n => K (ix2 r n)) (fun r n => Vn (ix2 r n)) (fun r n => ZA (ix2 r n))
    ⟨(j 0).val / 64, by have h0 := (j 0).isLt; simp at h0; omega⟩ ⟨(j 0).val % 64, by omega⟩ ⟨(j 1).val / 128, by have h0 := (j 1).isLt; simp at h0; omega⟩ ⟨(j 1).val % 128, by omega⟩

/-- That function at an index whose row and column are given by stream, row, head and column. -/
theorem G_at (Q K Vn ZA : FVec Ideal S2048x2048 .bf16) (PK PV : FVec Ideal S32x1024x16x128 .f32) (j : S2048x2048.Idx) (b : Fin 32) (a : Fin 64) (h : Fin 16) (d : Fin 128)
    (h0 : (j 0).val = b.val * 64 + a.val) (h1 : (j 1).val = h.val * 128 + d.val) :
    G Q K Vn ZA PK PV j = attAt (fun r n => Q (ix2 r n)) (fun b k h d => PK (ix4 b k h d)) (fun b k h d => PV (ix4 b k h d)) (fun r n => K (ix2 r n)) (fun r n => Vn (ix2 r n)) (fun r n => ZA (ix2 r n)) b a h d := by
  have eb : ∀ p, (⟨(j 0).val / 64, p⟩ : Fin 32) = b := fun p => Fin.ext (by show (j 0).val / 64 = b.val; omega)
  have ea : ∀ p, (⟨(j 0).val % 64, p⟩ : Fin 64) = a := fun p => Fin.ext (by show (j 0).val % 64 = a.val; omega)
  have eh : ∀ p, (⟨(j 1).val / 128, p⟩ : Fin 16) = h := fun p => Fin.ext (by show (j 1).val / 128 = h.val; omega)
  have ed : ∀ p, (⟨(j 1).val % 128, p⟩ : Fin 128) = d := fun p => Fin.ext (by show (j 1).val % 128 = d.val; omega)
  unfold G
  rw [eb, ea, eh, ed]

/-- The blocks at a point are the point's rows of the arrays. -/
theorem rows0 (c : Dev nD) (t : Fin cfg0.N) (a : Fin 64) (n : Fin 2048) : iblk m c 0 t (ix2 a n) = V m c main_arg0 (ix2 ⟨t.val * 64 + a.val, by have := pt_lt t; omega⟩ n) := by
  blk_point [iblk, idx t]
theorem rows1 (c : Dev nD) (t : Fin cfg0.N) (a : Fin 64) (n : Fin 2048) : iblk m c 1 t (ix2 a n) = V m c main_arg3 (ix2 ⟨t.val * 64 + a.val, by have := pt_lt t; omega⟩ n) := by
  blk_point [iblk, idx t]
theorem rows2 (c : Dev nD) (t : Fin cfg0.N) (a : Fin 64) (n : Fin 2048) : iblk m c 2 t (ix2 a n) = V m c main_arg4 (ix2 ⟨t.val * 64 + a.val, by have := pt_lt t; omega⟩ n) := by
  blk_point [iblk, idx t]
theorem rows3 (c : Dev nD) (t : Fin cfg0.N) (a : Fin 64) (n : Fin 2048) : iblk m c 3 t (ix2 a n) = V m c main_arg5 (ix2 ⟨t.val * 64 + a.val, by have := pt_lt t; omega⟩ n) := by
  blk_point [iblk, idx t]
/-- The row of the array that a block's index stands for. -/
theorem emb_row (t : Fin cfg0.N) (y : S64x2048.Idx) : ((((cfg0.win 4).blk t).view.emb y) 0).val = t.val * 64 + (y 0).val := by
  blk_point [idx t]
/-- Its column. -/
theorem emb_col (t : Fin cfg0.N) (y : S64x2048.Idx) : ((((cfg0.win 4).blk t).view.emb y) 1).val = (y 1).val := by
  blk_point [idx t]

/-- One head of a group at a row and a column, from the arrays. -/
theorem point (c : Dev nD) (t : Fin cfg0.N) (g j : Fin 4) (a : Fin 64) (d : Fin 128) :
    outB c (Memref.whole main_arg1) (Memref.whole main_arg2) (V m c main_arg1) (V m c main_arg2) (pt_lt t) (iblk m c 0 t) (iblk m c 1 t) (iblk m c 2 t) (iblk m c 3 t) g j (ix2 a d)
      = attAt (fun r n => V m c main_arg0 (ix2 r n)) (fun b k h d => V m c main_arg1 (ix4 b k h d)) (fun b k h d => V m c main_arg2 (ix4 b k h d)) (fun r n => V m c main_arg3 (ix2 r n))
          (fun r n => V m c main_arg4 (ix2 r n)) (fun r n => V m c main_arg5 (ix2 r n)) ⟨t.val, pt_lt t⟩ a (hd g j) d := by
  rw [outB_apply]
  simp only [rows0, rows1, rows2, rows3]
  unfold attAt
  rfl

/-- A point's block of results, at an index, from the blocks. -/
theorem outBlk_eq (c : Dev nD) (t : Fin cfg0.N) (y : S64x2048.Idx) (a : Fin 64) (g j : Fin 4) (d : Fin 128) (ha : (y 0).val = a.val) (hn : (y 1).val = (4 * g.val + j.val) * 128 + d.val) :
    outBlk m c t y = outB c (Memref.whole main_arg1) (Memref.whole main_arg2) (V m c main_arg1) (V m c main_arg2) (pt_lt t) (iblk m c 0 t) (iblk m c 1 t) (iblk m c 2 t) (iblk m c 3 t) g j (ix2 a d) := by
  have eg : ∀ p, (⟨(y 1).val / 512, p⟩ : Fin 4) = g := fun p => Fin.ext (by show (y 1).val / 512 = g.val; omega)
  have ej : ∀ p, (⟨(y 1).val / 128 % 4, p⟩ : Fin 4) = j := fun p => Fin.ext (by show (y 1).val / 128 % 4 = j.val; omega)
  have ed : ∀ p, (⟨(y 1).val % 128, p⟩ : Fin 128) = d := fun p => Fin.ext (by show (y 1).val % 128 = d.val; omega)
  have ea : y 0 = a := Fin.ext ha
  unfold outBlk blkOut
  rw [eg, ej, ed, ea]
  rfl

/-- The same from the arrays. -/
theorem outBlk_at (c : Dev nD) (t : Fin cfg0.N) (y : S64x2048.Idx) (a : Fin 64) (g j : Fin 4) (d : Fin 128) (ha : (y 0).val = a.val) (hn : (y 1).val = (4 * g.val + j.val) * 128 + d.val) :
    outBlk m c t y = G (V m c main_arg0) (V m c main_arg3) (V m c main_arg4) (V m c main_arg5) (V m c main_arg1) (V m c main_arg2) (((cfg0.win 4).blk t).view.emb y) := by
  have h0 : ((((cfg0.win 4).blk t).view.emb y) 0).val = (⟨t.val, pt_lt t⟩ : Fin 32).val * 64 + a.val := by rw [emb_row, ha]
  have h1 : ((((cfg0.win 4).blk t).view.emb y) 1).val = (hd g j).val * 128 + d.val := (emb_col t y).trans hn
  rw [outBlk_eq m c t y a g j d ha hn, point, G_at _ _ _ _ _ _ _ _ _ _ _ h0 h1]

/-- What the body stores, at the index it is written to. -/
theorem outBlk_apply (c : Dev nD) (t : Fin cfg0.N) (y : S64x2048.Idx) :
    outBlk m c t y = G (V m c main_arg0) (V m c main_arg3) (V m c main_arg4) (V m c main_arg5) (V m c main_arg1) (V m c main_arg2) (((cfg0.win 4).blk t).view.emb y) := by
  obtain ⟨g, j, d, hn⟩ : ∃ (g j : Fin 4) (d : Fin 128), (y 1).val = (4 * g.val + j.val) * 128 + d.val := by
    have h1 : (y 1).val < 2048 := (y 1).isLt
    exact ⟨⟨(y 1).val / 512, by omega⟩, ⟨(y 1).val / 128 % 4, by omega⟩, ⟨(y 1).val % 128, by omega⟩, by simp only []; omega⟩
  exact outBlk_at m c t y (y 0) g j d rfl hn

/-- The array of results. -/
theorem result_G (c : Dev nD) : result m c = G (V m c main_arg0) (V m c main_arg3) (V m c main_arg4) (V m c main_arg5) (V m c main_arg1) (V m c main_arg2) := by
  refine (dats m 0 c).arrAt_eq_of_covers 4 _ (by decide +kernel) fun t _ y => ?_
  blk_simp
  rw [after_4]
  exact outBlk_apply m c t y

end Cert.Kernel2Ideal.Att
-- ==== Proof.Att.RefA.lean ====
/-
  The reference of the attention call at every index, as stick-breaking attention of the same arguments.
-/
module

public import proofs.«01_k».proof.Proof.Att.Stick
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.Reference2Ideal.Att

open Cert.Reference2Ideal Cert.Reference2Ideal.Gen Cert.Reference2Ideal.Read Cert.Stick

variable (x0 x3 x4 x5 : FVec Ideal S2048x2048 .bf16) (x1 x2 : FVec Ideal S32x1024x16x128 .f32)

/-- All keys of a stream and head: the past ones, then the new ones. -/
theorem keys (j : S32x1088x16x128.Idx) : val_main_v3 (F := Ideal) x1 x3 j
    = if h : (j 1).val < 1024 then x1 (ix4 (j 0) ⟨(j 1).val, h⟩ (j 2) (j 3)) else x3 (ix2 ⟨(j 0).val * 64 + ((j 1).val - 1024), by have h0 := (j 0).isLt; have h1 := (j 1).isLt; simp at h0 h1; omega⟩ ⟨(j 2).val * 128 + (j 3).val, by have h0 := (j 2).isLt; have h1 := (j 3).isLt; simp at h0 h1; omega⟩) := by
  unfold val_main_v3 val_main_v2 val_main_v1
  pointwise []
/-- All values of a stream and head. -/
theorem values (j : S32x1088x16x128.Idx) : val_main_v6 (F := Ideal) x2 x4 j
    = if h : (j 1).val < 1024 then x2 (ix4 (j 0) ⟨(j 1).val, h⟩ (j 2) (j 3)) else x4 (ix2 ⟨(j 0).val * 64 + ((j 1).val - 1024), by have h0 := (j 0).isLt; have h1 := (j 1).isLt; simp at h0 h1; omega⟩ ⟨(j 2).val * 128 + (j 3).val, by have h0 := (j 2).isLt; have h1 := (j 3).isLt; simp at h0 h1; omega⟩) := by
  unfold val_main_v6 val_main_v5 val_main_v4
  pointwise []

/-- The masked scores. -/
theorem scores (j : S32x16x64x1088.Idx) : val_main_v22 (F := Ideal) x0 x1 x3 j
    = score (fun e => x0 (ix2 ⟨(j 0).val * 64 + (j 2).val, by have h0 := (j 0).isLt; have h1 := (j 2).isLt; simp at h0 h1; omega⟩ ⟨(j 1).val * 128 + e.val, by have h0 := (j 1).isLt; simp at h0; omega⟩))
        (fun k e => x1 (ix4 (j 0) k (j 1) e))
        (fun n e => x3 (ix2 ⟨(j 0).val * 64 + n.val, by have h0 := (j 0).isLt; simp at h0; omega⟩ ⟨(j 1).val * 128 + e.val, by have h0 := (j 1).isLt; simp at h0; omega⟩)) (j 2) (j 3) := by
  have ek := keys x3 x1
  unfold val_main_v22 val_main_v21 val_main_v20 val_main_v19 val_main_v18 val_main_v17 val_main_v16 val_main_v15 val_main_v14 val_main_v13 val_main_v12 val_main_v11 val_main_v10 val_main_v9 val_main_v8 val_main_v7 val_main_c val_main_call0_v0 val_main_call0_v1 val_main_cst_0 val_main_cst_1
  generalize val_main_v3 (F := Ideal) x1 x3 = A at *
  pointwise []
  have h2 : (j 2).val < 64 := (j 2).isLt
  have h3 : (j 3).val < 1088 := (j 3).isLt
  rw [show IntOp.addi (1024#32) (BitVec.ofNat 32 (j 2).val) = BitVec.ofNat 32 (1024 + (j 2).val) from (BitVec.ofNat_add ..).symm, slt_small (by omega) (by omega)]
  simp only [ek]
  unfold score
  by_cases h : (j 3).val < 1024
  · rw [dif_pos h]
    refine (congrArg₂ (· + ·) (Finset.sum_congr rfl fun d _ => congrArg (x0 _ * ·) (dif_pos h)) ?_).trans (add_zero _)
    rw [if_pos (by omega)]
    rfl
  · rw [dif_neg h]
    refine congrArg₂ (· + ·) (Finset.sum_congr rfl fun d _ => congrArg (x0 _ * ·) (dif_neg h)) ?_
    by_cases h' : (j 3).val - 1024 < (j 2).val
    · rw [if_pos (by omega), if_pos h']
      rfl
    · rw [if_neg (by omega), if_neg h']
      rfl

/-- The logarithm of two, from the word of two. -/
theorem ln2 (j) : val_main_v0 (F := Ideal) j = ((Real.log 2 : ℝ) : EReal) := log_two

/-- `log₂ β`. -/
theorem log_beta (j) : val_main_v35 (F := Ideal) x0 x1 x3 j = lb (val_main_v22 (F := Ideal) x0 x1 x3 j) := by
  have el := ln2
  unfold val_main_v35 val_main_v34 val_main_v33 val_main_v32 val_main_v31 val_main_v30 val_main_v29 val_main_v28 val_main_v27 val_main_v26 val_main_v25 val_main_v24 val_main_v23
  generalize val_main_v22 (F := Ideal) x0 x1 x3 = z at *
  generalize val_main_v0 (F := Ideal) = c at *
  pointwise [val_main_cst_2, val_main_cst_3]
  rw [el, exp_log2_mul, div_log2]
  unfold lb
  rw [zero_sub]
  rfl
/-- `log₂ (1 - β)`. -/
theorem log_keep (j) : val_main_v36 (F := Ideal) x0 x1 x3 j = lk (val_main_v22 (F := Ideal) x0 x1 x3 j) := by
  show val_main_v35 (F := Ideal) x0 x1 x3 j - val_main_v22 (F := Ideal) x0 x1 x3 j = _
  rw [log_beta]; rfl

/-- The weights. -/
theorem weights (j : S32x16x64x1088.Idx) : val_main_v48 (F := Ideal) x0 x1 x3 j = weight (fun k => val_main_v22 (F := Ideal) x0 x1 x3 (ix4 (j 0) (j 1) (j 2) k)) (j 3) := by
  have e1 := log_beta x0 x3 x1
  have e2 := log_keep x0 x3 x1
  have el := ln2
  unfold val_main_v48 val_main_v47 val_main_v46 val_main_v45 val_main_v44 val_main_v43 val_main_call1_v1 val_main_call1_v2 val_main_call1_v3 val_main_call1_v0 val_main_v42 val_main_v41 val_main_v40 val_main_v39 val_main_v38 val_main_v37 val_main_v7
  generalize val_main_v35 (F := Ideal) x0 x1 x3 = A at *
  generalize val_main_v36 (F := Ideal) x0 x1 x3 = B at *
  generalize val_main_v22 (F := Ideal) x0 x1 x3 = z at *
  generalize val_main_v0 (F := Ideal) = c at *
  pointwise [val_main_cst_4, val_main_cst_5]
  rw [el, exp_log2_mul, e1]
  unfold weight
  refine congrArg Ideal.exp2 (congrArg₂ (· + ·) (by congr 2; pointwise []) (Finset.sum_congr rfl fun k _ => ?_))
  rw [sgt_small (by omega) (by omega), e2]
  split_ifs
  · rfl
  · exact Ideal.ofBits_zero_f32

/-- The result. -/
theorem result_eq (j : S2048x2048.Idx) : val_main_v54 (F := Ideal) x0 x1 x2 x3 x4 x5 j
    = attAt (fun r n => x0 (ix2 r n)) (fun b k h d => x1 (ix4 b k h d)) (fun b k h d => x2 (ix4 b k h d)) (fun r n => x3 (ix2 r n)) (fun r n => x4 (ix2 r n)) (fun r n => x5 (ix2 r n))
        ⟨(j 0).val / 64, by have h0 := (j 0).isLt; simp at h0; omega⟩ ⟨(j 0).val % 64, by omega⟩ ⟨(j 1).val / 128, by have h0 := (j 1).isLt; simp at h0; omega⟩ ⟨(j 1).val % 128, by omega⟩ := by
  have ew := weights x0 x3 x1
  have ev := values x4 x2
  have es := scores x0 x3 x1
  unfold val_main_v54 val_main_v53 val_main_v52 val_main_v51 val_main_v50 val_main_v49
  generalize val_main_v48 (F := Ideal) x0 x1 x3 = W at *
  generalize val_main_v22 (F := Ideal) x0 x1 x3 = Z at *
  generalize val_main_v6 (F := Ideal) x2 x4 = V at *
  pointwise []
  unfold attAt outAt
  simp only [ew, es, ev]
  refine congrArg₂ (· * ·) (Finset.sum_congr rfl fun k _ => ?_) ?_
  · rw [mul_comm]
    rfl
  · refine congrArg x5 (funext fun i => Fin.ext ?_)
    match i with
    | ⟨0, _⟩ => show (j 0).val = (j 0).val / 64 * 64 + (j 0).val % 64; omega
    | ⟨1, _⟩ => show (j 1).val = (j 1).val / 128 * 128 + (j 1).val % 128; omega

end Cert.Reference2Ideal.Att
-- ==== Proof.Prompt.Safe.lean ====
/-
  Programs that only load, store and assume, told by what they may touch: `Safe` holds of a program that runs from a
  resource `R` whatever its buffers hold, gives `R` back, and returns only what `Q` allows.
-/
module

public import Idealize.ShloMosaic.Lib.Pipeline.Frame
public import Idealize.ShloMosaic.Lib.Tactic

@[expose] public section

noncomputable section

namespace Cert.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

/-- The variants that bound the loop: numbers. -/
abbrev 𝒱₀ : Variants := Variants.nat

variable (c : Dev nD)

/-- A buffer `R` lets be read. -/
class Reads (R : sProp 𝕄) {sp : Space} {s : Shape} {e : EltTy} (A : Memref sig .tc sp s e) : Prop where
  out : R ⊢ iprop(∃ X, owns (c : Thread nD τ) A fullShare X ∗ (owns (c : Thread nD τ) A fullShare X -∗ R))
/-- A buffer `R` lets be written. -/
class Writes (R : sProp 𝕄) {sp : Space} {s : Shape} {e : EltTy} (A : Memref sig .tc sp s e) : Prop where
  out : R ⊢ iprop((∃ X, owns (c : Thread nD τ) A fullShare X) ∗ ((∃ X, owns (c : Thread nD τ) A fullShare X) -∗ R))

instance {R : sProp 𝕄} {sp : Space} {s : Shape} {e : EltTy} (A : Memref sig .tc sp s e) [h : Writes c R A] : Reads c R A where
  out := h.out.trans (by
    iintro ⟨⟨%X, H⟩, Hk⟩
    iexists X
    isplitl [H]; · iexact H
    iintro H
    iapply Hk
    iexists X; iexact H)

/-- The program runs from `R` to `R` and returns what `Q` allows. -/
def Safe (D : Defs nD τ sig (Elt F) Λ) (R : sProp 𝕄) (bd : Option ℕ) {α : Type} (p : Prog (TpuEff nD τ sig (Elt F) Λ .tc) α) (Q : α → Prop) : Prop :=
  ∀ K : α → sProp 𝕄, iprop(R ∗ (∀ x, ⌜Q x⌝ -∗ R -∗ K x)) ⊢ wp frame (wpE D 𝒱₀ (c : Thread nD τ) bd) Set.univ p K

variable {c} {D : Defs nD τ sig (Elt F) Λ} {bd : Option ℕ} {α β : Type}

theorem Safe.ret {R : sProp 𝕄} {x : α} {Q : α → Prop} (h : Q x) : Safe c D R bd (pure x : Prog (TpuEff nD τ sig (Elt F) Λ .tc) α) Q := fun K => by
  rw [Prog.pure_eq_ret, wp_ret]
  iintro ⟨H, Hk⟩
  imodintro
  iapply Hk
  · ipureintro; exact h
  iexact H

theorem Safe.mono {R : sProp 𝕄} {p : Prog (TpuEff nD τ sig (Elt F) Λ .tc) α} {Q Q' : α → Prop} (h : Safe c D R bd p Q) (hQ : ∀ x, Q x → Q' x) : Safe c D R bd p Q' := fun K => by
  refine BIBase.Entails.trans ?_ (h K)
  iintro ⟨H, Hk⟩
  isplitl [H]; · iexact H
  iintro %x %hx H
  iapply Hk
  · ipureintro; exact hQ x hx
  iexact H

theorem Safe.bind {R : sProp 𝕄} {p : Prog (TpuEff nD τ sig (Elt F) Λ .tc) α} {k : α → Prog (TpuEff nD τ sig (Elt F) Λ .tc) β} {Q : α → Prop} {Q' : β → Prop}
    (h : Safe c D R bd p Q) (hk : ∀ x, Q x → Safe c D R bd (k x) Q') : Safe c D R bd (p >>= k) Q' := fun K => by
  rw [wp_bind]
  refine BIBase.Entails.trans ?_ (h _)
  iintro ⟨H, Hk⟩
  isplitl [H]; · iexact H
  iintro %x %hx H
  iapply (hk x hx K)
  isplitl [H]; · iexact H
  iexact Hk

theorem Safe.load {R : sProp 𝕄} {sh : Shape} {e : EltTy} {A : Memref sig .tc .vmem sh e} [hA : Reads c R A] {r : LoadRect sh} {hl : A.view.LoadsAt r}
    {k : (r.shape.Idx → Elt F e) → Prog (TpuEff nD τ sig (Elt F) Λ .tc) α} {Q : α → Prop} (hk : ∀ x, Safe c D R bd (k x) Q) :
    Safe c D R bd (Prog.lift (.load A r hl) >>= k) Q := fun K => by
  simp only [Prog.lift, Prog.bind_op, Prog.bind_ret]
  iintro ⟨H, Hk⟩
  ihave H' := hA.out $$ H
  unfold owns
  icases H' with ⟨%X, ⟨%f, %hf, H⟩, Hb⟩
  iapply (wp_load 𝒱₀ (c : Thread nD τ) bd Set.univ (m := A) (S := A.view.set) (f := f) (A.view.setOn_subset_set _)) $$ H
  iintro H
  iapply (hk _ K)
  isplitl [H Hb]
  · iapply Hb
    iexists f
    isplitr; · ipureintro; exact hf
    iexact H
  iexact Hk

theorem Safe.store {R : sProp 𝕄} {sh : Shape} {e : EltTy} {A : Memref sig .tc .vmem sh e} [hA : Writes c R A] {r : Rect sh} {w : r.shape.Idx → Elt F e} {Mk : Finset r.shape.Idx}
    {hx : (A.access r).Stores Mk} {hm : Mk = Finset.univ ∨ ∀ a, r.stride a = 1}
    {k : PUnit → Prog (TpuEff nD τ sig (Elt F) Λ .tc) α} {Q : α → Prop} (hk : Safe c D R bd (k ⟨⟩) Q) :
    Safe c D R bd (Prog.lift (.store A r w Mk hx hm) >>= k) Q := fun K => by
  simp only [Prog.lift, Prog.bind_op, Prog.bind_ret]
  iintro ⟨H, Hk⟩
  ihave H' := hA.out $$ H
  unfold owns
  icases H' with ⟨⟨%X, %f, %hf, H⟩, Hb⟩
  iapply (wp_store 𝒱₀ (c : Thread nD τ) bd Set.univ (m := A) (r := r) (w := w) (Mk := Mk) (hx := hx) (hm := hm) (S := A.view.set) (f := f)
    (((A.view.slice r).setOn_subset_set Mk).trans (A.view.set_slice_subset r))) $$ H
  iintro H
  iapply (hk K)
  isplitl [H Hb]
  · iapply Hb
    iexists _, _
    isplitr
    on_goal 2 => iexact H
    ipureintro; rfl
  iexact Hk

theorem Safe.assume {R : sProp 𝕄} {P : Prop} {d : Decidable P} (h : P) {k : PLift P → Prog (TpuEff nD τ sig (Elt F) Λ .tc) α} {Q : α → Prop} (hk : Safe c D R bd (k ⟨h⟩) Q) :
    Safe c D R bd (Prog.lift (.assume P d) >>= k) Q := fun K => by
  simp only [Prog.lift, Prog.bind_op, Prog.bind_ret]
  exact (hk K).trans (wp_assume 𝒱₀ (c : Thread nD τ) bd Set.univ h)

/-- An operation at the end of a program is one with nothing after it. -/
theorem Safe.tail {R : sProp 𝕄} {op : TpuEff nD τ sig (Elt F) Λ .tc α} {Q : α → Prop}
    (h : Safe c D R bd (Prog.lift op >>= fun x => (pure x : Prog (TpuEff nD τ sig (Elt F) Λ .tc) α)) Q) : Safe c D R bd (Prog.lift op) Q := by
  simp only [Prog.lift, Prog.bind_op, Prog.bind_ret, Prog.pure_eq_ret] at h ⊢
  exact h

/-- The specification `Safe` gives of a body. -/
def spec (R : sProp 𝕄) (Q : α → Prop) : sWPT 𝕄 α := do
  sWPT.consume R
  let r ← sWPT.arbitrary
  sWPT.assume (Q r)
  sWPT.produce R
  pure r
theorem spec_apply (R : sProp 𝕄) (Q : α → Prop) (K : α → sProp 𝕄) : spec R Q K = iprop(R ∗ ∀ x, ⌜Q x⌝ -∗ (R -∗ K x)) := rfl

/-- A call, at a variant below the bound, of a label whose body is safe under that variant. -/
theorem Safe.call {R : sProp 𝕄} {ℓ : Λ.Label} {a : Λ.Args ℓ} {Q' : Λ.Result ℓ → Prop} (v : ℕ) (hv : ∀ u ∈ bd, v < u)
    (h : Safe c D R (some v) (D .tc ℓ a) Q')
    {k : Λ.Result ℓ → Prog (TpuEff nD τ sig (Elt F) Λ .tc) α} {Q : α → Prop} (hk : ∀ x, Q' x → Safe c D R bd (k x) Q) :
    Safe c D R bd (Prog.lift (.call ℓ a) >>= k) Q := fun K => by
  simp only [Prog.lift, Prog.bind_op, Prog.bind_ret]
  refine BIBase.Entails.trans ?_ (wp_call_spec 𝒱₀ (c : Thread nD τ) bd Set.univ (spec R Q') v hv fun K' => by rw [spec_apply]; exact h K')
  rw [spec_apply]
  iintro ⟨H, Hk⟩
  isplitl [H]; · iexact H
  iintro %x %hx H
  iapply (hk x hx K)
  isplitl [H]; · iexact H
  iexact Hk

/-! ## Resources that are lists of buffers -/

section Lists
variable (c : Dev nD) {sp : Space} {s : Shape} {e : EltTy} (A : Memref sig .tc sp s e)

/-- The first buffer of a list is read at the contents it is known at, -/
instance reads_head (X : s.Idx → Elt F e) (P : sProp 𝕄) : Reads c iprop(owns (c : Thread nD τ) A fullShare X ∗ P) A where
  out := by
    iintro ⟨H, HP⟩
    iexists X
    isplitl [H]; · iexact H
    iintro H
    isplitl [H]; · iexact H
    iexact HP
/-- A buffer at some contents -/
def held : sProp 𝕄 := iprop(∃ X, owns (c : Thread nD τ) A fullShare X)
/-- is written. -/
instance writes_head (P : sProp 𝕄) : Writes c iprop(held c A ∗ P) A where
  out := by
    unfold held
    iintro ⟨H, HP⟩
    isplitl [H]; · iexact H
    iintro H
    isplitl [H]; · iexact H
    iexact HP
/-- So is a later one. -/
instance reads_tail (Q P : sProp 𝕄) [h : Reads c P A] : Reads c iprop(Q ∗ P) A where
  out := by
    iintro ⟨HQ, HP⟩
    ihave HP' := h.out $$ HP
    icases HP' with ⟨%X, H, Hk⟩
    iexists X
    isplitl [H]; · iexact H
    iintro H
    isplitl [HQ]; · iexact HQ
    iapply Hk; iexact H
instance writes_tail (Q P : sProp 𝕄) [h : Writes c P A] : Writes c iprop(Q ∗ P) A where
  out := by
    iintro ⟨HQ, HP⟩
    ihave HP' := h.out $$ HP
    icases HP' with ⟨H, Hk⟩
    isplitl [H]; · iexact H
    iintro H
    isplitl [HQ]; · iexact HQ
    iapply Hk; iexact H

/-- A whole buffer at some contents, held as a memory location and as a memref. -/
theorem whole_in (b : Ref sig .tc) : (iprop(∃ f : Buf (Elt F) ((c : Thread nD τ).loc b), ((c : Thread nD τ).loc b) ↦{fullShare} f) : sProp 𝕄)
    ⊢ iprop(∃ X, owns (c : Thread nD τ) (Memref.whole b) fullShare X) := by
  unfold owns; simp only [Memref.view_whole, View.read_whole, View.set_whole]
  iintro ⟨%f, H⟩
  iexists f, f
  isplitr; · ipureintro; rfl
  iexact H
theorem whole_out (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  unfold owns; simp only [Memref.view_whole, View.read_whole, View.set_whole]
  iintro ⟨%X, %f, -, H⟩
  iexists f
  iexact H
end Lists

end Cert.Prompt

end
-- ==== Proof.Prompt.Arith.lean ====
/-
  The prompt attention's loop, its ten counters: one step of them, what a trip does to them, that the offsets a
  trip reads and writes at are inside the blocks, and a number that a trip makes smaller.
-/
module

public import proofs.«01_k».proof.Kernel3

@[expose] public section

namespace Cert.Kernel3.Prompt

open Cert.Kernel3
open Idealize.ShloMosaic Idealize.ShloMosaic.TcCoe

/-- The word of a small number. -/
abbrev wd (n : ℕ) : BitVec 32 := BitVec.ofNat 32 n

/-- Whether a step leaves its row of blocks: the value read is live, below the threshold, and of the row at hand. -/
def skips (qa qb vb : BitVec 32) (v : BitVec 1) : BitVec 1 :=
  Scalar.andi (Scalar.andi (Scalar.cmpi .eq vb 1#32) v) (Scalar.andi (Scalar.cmpi .eq qa qb) (Scalar.cmpi .slt qa 8#32))
/-- The row and the column the step goes on at, -/
def rowOf (qa : BitVec 32) (sk : BitVec 1) : BitVec 32 := Scalar.select sk (Scalar.addi qa 1#32) qa
def colOf (qa ka : BitVec 32) (sk : BitVec 1) : BitVec 32 := Scalar.select sk (Scalar.addi qa 1#32) ka
/-- and those it hands on. -/
def nextRow (q k : BitVec 32) : BitVec 32 :=
  Scalar.select (Scalar.andi (Scalar.cmpi .eq k 0#32) (Scalar.cmpi .slt q 8#32)) (Scalar.addi q 1#32) q
def nextCol (q k : BitVec 32) : BitVec 32 := Scalar.select (Scalar.cmpi .eq k 0#32) (nextRow q k) (Scalar.subi k 1#32)
/-- Whether a row is one of the eight. -/
def liveOf (q : BitVec 32) : BitVec 32 := Scalar.extui (Scalar.cmpi .slt q 8#32)

/-- A step's row and column stay in bounds, as do all it hands on; it goes back in its row or on to a later one; and
    past the last row nothing it hands on is live. -/
theorem step_of : ∀ (qa ka : Fin 9) (qb : Fin 8) (vb : Fin 2) (v : BitVec 1),
    let sk := skips (wd qa.val) (wd qb.val) (wd vb.val) v
    let q := rowOf (wd qa.val) sk
    let k := colOf (wd qa.val) (wd ka.val) sk
    (nextRow q k).toNat < 9 ∧ (nextCol q k).toNat < 9 ∧ (Scalar.minsi q 7#32).toNat < 8 ∧ (Scalar.minsi k 7#32).toNat < 8 ∧ (liveOf q).toNat < 2
      ∧ (8 - (nextRow q k).toNat) * 10 + (nextCol q k).toNat + (if qa.val < 8 then 1 else 0) ≤ (8 - qa.val) * 10 + ka.val + (if qa.val < 8 then 0 else 8)
      ∧ (qa.val = 8 → (nextRow q k).toNat = 8 ∧ (liveOf q).toNat = 0) := by decide +kernel

theorem chk2_of : ∀ n : Fin 8, k0_chk2 (wd n.val) := by decide +kernel
theorem chk3_of : ∀ n : Fin 8, k0_chk3 (wd n.val) := by decide +kernel
theorem chk5_of : ∀ n : Fin 8, k0_chk5 (wd n.val) := by decide +kernel
theorem chk6_of : ∀ n : Fin 8, k0_chk6 (wd n.val) := by decide +kernel
theorem chk1_of : ∀ (qa ka : Fin 9) (qb : Fin 8) (vb : Fin 2) (v : BitVec 1), k0_chk1 (wd qa.val) (wd ka.val) (wd qb.val) (wd vb.val) v := by decide +kernel
theorem chk4_of : ∀ (qa ka : Fin 9) (qb : Fin 8) (vb : Fin 2) (v v' : BitVec 1), k0_chk4 (wd qa.val) (wd ka.val) (wd qb.val) (wd vb.val) v v' := by decide +kernel

/-- A word below `n` is the word of a number below `n`. -/
theorem wd_of {n : ℕ} {x : BitVec 32} (h : x.toNat < n) : ∃ k : Fin n, x = wd k.val := ⟨⟨x.toNat, h⟩, by simp [wd]⟩
theorem toNat_wd {n : ℕ} (k : Fin n) (h : n ≤ 9) : (wd k.val).toNat = k.val := by
  have := k.isLt
  simp only [wd, BitVec.toNat_ofNat]; omega

theorem chk2 {x : BitVec 32} (h : x.toNat < 8) : k0_chk2 x := by obtain ⟨n, rfl⟩ := wd_of h; exact chk2_of n
theorem chk3 {x : BitVec 32} (h : x.toNat < 8) : k0_chk3 x := by obtain ⟨n, rfl⟩ := wd_of h; exact chk3_of n
theorem chk5 {x : BitVec 32} (h : x.toNat < 8) : k0_chk5 x := by obtain ⟨n, rfl⟩ := wd_of h; exact chk5_of n
theorem chk6 {x : BitVec 32} (h : x.toNat < 8) : k0_chk6 x := by obtain ⟨n, rfl⟩ := wd_of h; exact chk6_of n
theorem chk1 {qa ka qb vb : BitVec 32} (h1 : qa.toNat < 9) (h2 : ka.toNat < 9) (h3 : qb.toNat < 8) (h4 : vb.toNat < 2) (v : BitVec 1) : k0_chk1 qa ka qb vb v := by
  obtain ⟨a, rfl⟩ := wd_of h1; obtain ⟨b, rfl⟩ := wd_of h2; obtain ⟨e, rfl⟩ := wd_of h3; obtain ⟨f, rfl⟩ := wd_of h4
  exact chk1_of a b e f v
theorem chk4 {qa ka qb vb : BitVec 32} (h1 : qa.toNat < 9) (h2 : ka.toNat < 9) (h3 : qb.toNat < 8) (h4 : vb.toNat < 2) (v v' : BitVec 1) : k0_chk4 qa ka qb vb v v' := by
  obtain ⟨a, rfl⟩ := wd_of h1; obtain ⟨b, rfl⟩ := wd_of h2; obtain ⟨e, rfl⟩ := wd_of h3; obtain ⟨f, rfl⟩ := wd_of h4
  exact chk4_of a b e f v v'

/-- What the counters keep to. -/
structure InBounds (qa ka qb kb vb qc kc vc : BitVec 32) : Prop where
  qa : qa.toNat < 9
  ka : ka.toNat < 9
  qb : qb.toNat < 8
  kb : kb.toNat < 8
  vb : vb.toNat < 2
  qc : qc.toNat < 8
  kc : kc.toNat < 8
  vc : vc.toNat < 2

/-- What a trip makes smaller. -/
def togo (qa ka vb vc : BitVec 32) : ℕ :=
  if qa.toNat < 8 then 2 + ((8 - qa.toNat) * 10 + ka.toNat) else if vb = 1#32 ∨ vc = 1#32 then 1 else 0

/-- Whether the loop goes on. -/
def goesOn (qa vb vc : BitVec 32) : BitVec 1 :=
  Scalar.ori (Scalar.cmpi .slt qa 8#32) (Scalar.ori (Scalar.cmpi .eq vb 1#32) (Scalar.cmpi .eq vc 1#32))

theorem goesOn_of : ∀ (qa : Fin 9) (vb vc : Fin 2), goesOn (wd qa.val) (wd vb.val) (wd vc.val) = 1#1 → qa.val < 8 ∨ wd vb.val = 1#32 ∨ wd vc.val = 1#32 := by
  decide +kernel

/-- A loop that goes on has something to go. -/
theorem togo_pos {qa ka vb vc : BitVec 32} (hq : qa.toNat < 9) (hb : vb.toNat < 2) (hc : vc.toNat < 2) (h : goesOn qa vb vc = 1#1) : 0 < togo qa ka vb vc := by
  obtain ⟨a, rfl⟩ := wd_of hq; obtain ⟨b, rfl⟩ := wd_of hb; obtain ⟨e, rfl⟩ := wd_of hc
  rcases goesOn_of a b e h with h | h
  · unfold togo; rw [if_pos (by rw [toNat_wd a (by omega)]; exact h)]; omega
  · unfold togo; split
    · omega
    · omega

/-- A step, for words in bounds. -/
theorem step {qa ka qb vb : BitVec 32} (v : BitVec 1) (h1 : qa.toNat < 9) (h2 : ka.toNat < 9) (h3 : qb.toNat < 8) (h4 : vb.toNat < 2) {sk : BitVec 1} {q k : BitVec 32}
    (hs : sk = skips qa qb vb v) (hq : q = rowOf qa sk) (hk : k = colOf qa ka sk) :
    (nextRow q k).toNat < 9 ∧ (nextCol q k).toNat < 9 ∧ (Scalar.minsi q 7#32).toNat < 8 ∧ (Scalar.minsi k 7#32).toNat < 8 ∧ (liveOf q).toNat < 2
      ∧ (qa.toNat < 8 → (8 - (nextRow q k).toNat) * 10 + (nextCol q k).toNat < (8 - qa.toNat) * 10 + ka.toNat)
      ∧ (qa.toNat = 8 → (nextRow q k).toNat = 8 ∧ (liveOf q).toNat = 0) := by
  obtain ⟨a, rfl⟩ := wd_of h1; obtain ⟨b, rfl⟩ := wd_of h2; obtain ⟨e, rfl⟩ := wd_of h3; obtain ⟨f, rfl⟩ := wd_of h4
  subst hs hq hk
  have := step_of a b e f v
  dsimp only at this
  rw [toNat_wd a (by omega), toNat_wd b (by omega)]
  refine ⟨this.1, this.2.1, this.2.2.1, this.2.2.2.1, this.2.2.2.2.1, fun h => ?_, this.2.2.2.2.2.2⟩
  have := this.2.2.2.2.2.1
  rw [if_pos h, if_pos h] at this; omega

/-- A trip's two steps: in bounds again, and less to go. -/
theorem trip {qa ka qb kb vb qc kc vc : BitVec 32} (H : InBounds qa ka qb kb vb qc kc vc) (hgo : goesOn qa vb vc = 1#1) (v v' : BitVec 1)
    {s₁ s₂ : BitVec 1} {q₁ k₁ q₂ k₂ : BitVec 32} (hs₁ : s₁ = skips qa qb vb v) (hq₁ : q₁ = rowOf qa s₁) (hk₁ : k₁ = colOf qa ka s₁)
    (hs₂ : s₂ = skips (nextRow q₁ k₁) (Scalar.minsi q₁ 7#32) (liveOf q₁) v') (hq₂ : q₂ = rowOf (nextRow q₁ k₁) s₂) (hk₂ : k₂ = colOf (nextRow q₁ k₁) (nextCol q₁ k₁) s₂) :
    InBounds (nextRow q₂ k₂) (nextCol q₂ k₂) (Scalar.minsi q₂ 7#32) (Scalar.minsi k₂ 7#32) (liveOf q₂) (Scalar.minsi q₁ 7#32) (Scalar.minsi k₁ 7#32) (liveOf q₁)
      ∧ togo (nextRow q₂ k₂) (nextCol q₂ k₂) (liveOf q₂) (liveOf q₁) < togo qa ka vb vc := by
  have S₁ := step v H.qa H.ka H.qb H.vb hs₁ hq₁ hk₁
  have S₂ := step v' S₁.1 S₁.2.1 S₁.2.2.1 S₁.2.2.2.2.1 hs₂ hq₂ hk₂
  refine ⟨⟨S₂.1, S₂.2.1, S₂.2.2.1, S₂.2.2.2.1, S₂.2.2.2.2.1, S₁.2.2.1, S₁.2.2.2.1, S₁.2.2.2.2.1⟩, ?_⟩
  have hpos := togo_pos (ka := ka) H.qa H.vb H.vc hgo
  have h8 := H.qa
  obtain ⟨a1, a2, -, -, -, a3, a4⟩ := S₁
  obtain ⟨b1, b2, -, -, -, b3, b4⟩ := S₂
  by_cases h : qa.toNat < 8
  · have e : togo qa ka vb vc = 2 + ((8 - qa.toNat) * 10 + ka.toNat) := by unfold togo; rw [if_pos h]
    rw [e]; unfold togo
    have a3 := a3 h
    split
    · have : (nextRow q₁ k₁).toNat < 8 := by
        by_contra hn; have := (b4 (by omega)).1; omega
      have := b3 this; omega
    · split <;> omega
  · have a4 := a4 (by omega)
    have b4 := b4 a4.1
    have z₁ : ¬liveOf q₁ = 1#32 := fun hh => by rw [hh] at a4; exact absurd a4.2 (by decide)
    have z₂ : ¬liveOf q₂ = 1#32 := fun hh => by rw [hh] at b4; exact absurd b4.2 (by decide)
    have e : togo (nextRow q₂ k₂) (nextCol q₂ k₂) (liveOf q₂) (liveOf q₁) = 0 := by
      unfold togo; rw [if_neg (by omega), if_neg (by rintro (h | h); exacts [z₂ h, z₁ h])]
    omega

end Cert.Kernel3.Prompt
-- ==== Proof.Prompt.Loop.lean ====
/-
  The prompt attention's loop runs: from the blocks and the scratch buffers, whatever they hold, for as many trips as
  its counters leave to go.
-/
module

public import proofs.«01_k».proof.Proof.Prompt.Safe
public import proofs.«01_k».proof.Proof.Prompt.Arith
public import proofs.«01_k».proof.Proof.Gen.Kernel3.Skeleton

@[expose] public section

set_option maxRecDepth 16384

noncomputable section

namespace Cert.Kernel3.Prompt

open Cert.Kernel3 Cert.Kernel3.Gen Cert.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (v5 : FVec F S256x256 .bf16)
  (arg2 : Memref sig .tc .vmem S2048x512 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x256 .f32) (harg7 : arg7.IsWhole)
  (arg8 : Memref sig .tc .vmem S2x4x256x256 .f32) (harg8 : arg8.IsWhole)
  (arg9 : Memref sig .tc .vmem S2x4x256x256 .f32) (harg9 : arg9.IsWhole)
  (arg10 : Memref sig .tc .vmem S2x4x256x256 .f32) (harg10 : arg10.IsWhole)
  (arg11 : Memref sig .tc .vmem S4x256x128 .f32) (harg11 : arg11.IsWhole)
  (arg12 : Memref sig .tc .vmem S4x256x128 .f32) (harg12 : arg12.IsWhole)

set_option maxHeartbeats 1600000 in
/-- The loop at `n` trips or fewer to go. -/
theorem loop {R : sProp 𝕄} [Reads c R arg2] [Reads c R arg3] [Reads c R arg4] [Reads c R arg5] [Writes c R arg6] [Writes c R arg7] [Writes c R arg8] [Writes c R arg9] [Writes c R arg10] [Writes c R arg11] [Writes c R arg12] :
    ∀ (n : ℕ) (arg13 arg14 arg15 arg16 arg17 arg18 arg19 arg20 arg21 arg22 : BitVec 32), InBounds arg13 arg14 arg15 arg16 arg18 arg19 arg20 arg22 → togo arg13 arg14 arg18 arg22 ≤ n →
      Safe c (defs₀ (F := F)) R (some n) (defs₀ (F := F) .tc 1 ⟨i, arg8, harg8, arg11, harg11, arg9, harg9, v5, arg7, harg7, arg2, harg2, arg3, harg3, arg10, harg10, arg12, harg12, arg4, harg4, arg5, harg5, arg6, harg6, arg13, arg14, arg15, arg16, arg17, arg18, arg19, arg20, arg21, arg22⟩) fun _ => True := by
  intro n
  induction n with
  | zero =>
    intro arg13 arg14 arg15 arg16 arg17 arg18 arg19 arg20 arg21 arg22 H hn
    show Safe c (defs₀ (F := F)) R (some 0) (cc0_while1 i arg8 harg8 arg11 harg11 arg9 harg9 v5 arg7 harg7 arg2 harg2 arg3 harg3 arg10 harg10 arg12 harg12 arg4 harg4 arg5 harg5 arg6 harg6 arg13 arg14 arg15 arg16 arg17 arg18 arg19 arg20 arg21 arg22) _
    unfold cc0_while1
    have hgo : ¬ goesOn arg13 arg18 arg22 = 1#1 := fun h => by have := togo_pos (ka := arg14) H.qa H.vb H.vc h; omega
    unfold goesOn at hgo
    dsimp only
    rw [if_neg hgo]
    exact Safe.ret trivial
  | succ n ih =>
    intro arg13 arg14 arg15 arg16 arg17 arg18 arg19 arg20 arg21 arg22 H hn
    show Safe c (defs₀ (F := F)) R (some (n + 1)) (cc0_while1 i arg8 harg8 arg11 harg11 arg9 harg9 v5 arg7 harg7 arg2 harg2 arg3 harg3 arg10 harg10 arg12 harg12 arg4 harg4 arg5 harg5 arg6 harg6 arg13 arg14 arg15 arg16 arg17 arg18 arg19 arg20 arg21 arg22) _
    rw [cc0_while1_eq_skeleton]; unfold cc0_while1_skel
    by_cases hgo : goesOn arg13 arg18 arg22 = 1#1
    swap
    · unfold goesOn at hgo
      dsimp only
      rw [if_neg hgo]
      exact Safe.ret trivial
    have hgo' := hgo
    unfold goesOn at hgo'
    dsimp only
    rw [if_pos hgo']
    refine Safe.bind (Q := fun _ => True) ?_ ?_
    · rw [k0_part4_eq_skeleton]; unfold k0_part4_skel; dsimp only; refine Safe.assume (chk6 H.qb) ?_; refine Safe.assume (chk5 H.kb) ?_; refine Safe.assume (chk3 H.qc) ?_; refine Safe.assume (chk2 H.kc) ?_; repeat with_reducible first | refine Safe.load fun _ => ?_ | refine Safe.store ?_
      exact Safe.ret trivial
    rintro ⟨hw6, hw5, hw3, hw2, v100, v122, v132, v134⟩ -
    dsimp only
    refine Safe.bind (Q := fun _ => True) ?_ ?_
    · rw [k0_part5_eq_skeleton]; unfold k0_part5_skel; dsimp only; repeat with_reducible first | refine Safe.load fun _ => ?_ | refine Safe.store ?_
      exact Safe.ret trivial
    rintro ⟨v144, v159, v166, v171⟩ -
    dsimp only
    refine Safe.bind (Q := fun _ => True) ?_ ?_
    · rw [k0_part6_eq_skeleton]; unfold k0_part6_skel; dsimp only; repeat with_reducible first | refine Safe.load fun _ => ?_ | refine Safe.store ?_
      exact Safe.ret trivial
    rintro ⟨v176, v189, v203, v204, v208, v209, cst_162⟩ -
    dsimp only
    refine Safe.bind (Q := fun _ => True) ?_ ?_
    · rw [k0_part7_eq_skeleton]; unfold k0_part7_skel; dsimp only; repeat with_reducible first | refine Safe.load fun _ => ?_ | refine Safe.store ?_
      exact Safe.ret trivial
    rintro ⟨v221, v234, v248, v249⟩ -
    dsimp only
    refine Safe.bind (Q := fun r => r.2.2.2.1 = skips arg13 arg15 arg18 r.2.1 ∧ r.2.2.2.2 = 1#32) ?_ ?_
    · rw [k0_part8_eq_skeleton]; unfold k0_part8_skel; dsimp only; repeat with_reducible first | refine Safe.load fun _ => ?_ | refine Safe.store ?_ | refine Safe.assume (chk1 H.qa H.ka H.qb H.vb _) ?_
      exact Safe.ret ⟨rfl, rfl⟩
    rintro ⟨v266, v281, hw1, v286, c1⟩ ⟨h286, hc1⟩
    dsimp only at h286 hc1 ⊢
    refine Safe.bind (Q := fun r => r.1 = rowOf arg13 (skips arg13 arg15 arg18 v281) ∧ r.2.1 = colOf arg13 arg14 (skips arg13 arg15 arg18 v281) ∧ r.2.2.2.1 = Scalar.cmpi .slt r.1 8#32) ?_ ?_
    · subst h286 hc1; rw [k0_part9_eq_skeleton]; unfold k0_part9_skel; dsimp only; repeat with_reducible first | refine Safe.load fun _ => ?_ | refine Safe.store ?_
      exact Safe.ret ⟨rfl, rfl, rfl⟩
    rintro ⟨v288, v290, v292, v293, v304, v309, v314, v319, v324, c256⟩ ⟨h288, h290, h293⟩
    dsimp only at h288 h290 h293 ⊢
    subst h293
    refine Safe.bind (Q := fun _ => True) ?_ ?_
    · rw [k0_part10_eq_skeleton]; unfold k0_part10_skel; dsimp only; repeat with_reducible first | refine Safe.load fun _ => ?_ | refine Safe.store ?_
      exact Safe.ret trivial
    rintro ⟨v326, v328, v331⟩ -
    dsimp only
    refine Safe.bind (Q := fun _ => True) ?_ ?_
    · rw [k0_part11_eq_skeleton]; unfold k0_part11_skel; dsimp only; repeat with_reducible first | refine Safe.load fun _ => ?_ | refine Safe.store ?_
      exact Safe.ret trivial
    rintro x11 -
    try dsimp only
    refine Safe.bind (Q := fun _ => True) ?_ ?_
    · rw [k0_part12_eq_skeleton]; unfold k0_part12_skel; dsimp only; repeat with_reducible first | refine Safe.load fun _ => ?_ | refine Safe.store ?_
      exact Safe.ret trivial
    rintro ⟨v419, v424⟩ -
    dsimp only
    refine Safe.bind (Q := fun _ => True) ?_ ?_
    · rw [k0_part13_eq_skeleton]; unfold k0_part13_skel; dsimp only; repeat with_reducible first | refine Safe.load fun _ => ?_ | refine Safe.store ?_
      exact Safe.ret trivial
    rintro x13 -
    try dsimp only
    refine Safe.bind (Q := fun r => r.1 = nextRow v288 v290 ∧ r.2.1 = nextCol v288 v290 ∧ r.2.2.1 = Scalar.minsi v288 7#32 ∧ r.2.2.2.1 = Scalar.minsi v290 7#32 ∧ r.2.2.2.2.2.1 = liveOf v288) ?_ ?_
    · rw [k0_part14_eq_skeleton]; unfold k0_part14_skel; dsimp only; repeat with_reducible first | refine Safe.load fun _ => ?_ | refine Safe.store ?_
      exact Safe.ret ⟨rfl, rfl, rfl, rfl, rfl⟩
    rintro ⟨v463, v465, v466, v467, v468, v469, v470, v472, v484⟩ ⟨h463, h465, h466, h467, h469⟩
    dsimp only at h463 h465 h466 h467 h469 ⊢
    refine Safe.bind (Q := fun _ => True) ?_ ?_
    · rw [k0_part15_eq_skeleton]; unfold k0_part15_skel; dsimp only; repeat with_reducible first | refine Safe.load fun _ => ?_ | refine Safe.store ?_
      exact Safe.ret trivial
    rintro ⟨v502, v514, v516, v518, v519, v520⟩ -
    dsimp only
    refine Safe.bind (Q := fun _ => True) ?_ ?_
    · rw [k0_part16_eq_skeleton]; unfold k0_part16_skel; dsimp only; repeat with_reducible first | refine Safe.load fun _ => ?_ | refine Safe.store ?_
      exact Safe.ret trivial
    rintro ⟨v546, v559⟩ -
    dsimp only
    refine Safe.bind (Q := fun _ => True) ?_ ?_
    · rw [k0_part17_eq_skeleton]; unfold k0_part17_skel; dsimp only; repeat with_reducible first | refine Safe.load fun _ => ?_ | refine Safe.store ?_
      exact Safe.ret trivial
    rintro ⟨v591, v596⟩ -
    dsimp only
    refine Safe.bind (Q := fun _ => True) ?_ ?_
    · rw [k0_part18_eq_skeleton]; unfold k0_part18_skel; dsimp only; repeat with_reducible first | refine Safe.load fun _ => ?_ | refine Safe.store ?_
      exact Safe.ret trivial
    rintro ⟨v604, v619, v626, v635⟩ -
    dsimp only
    refine Safe.bind (Q := fun r => r.2.2.2.1 = rowOf v463 (skips v463 v466 v469 r.2.1) ∧ r.2.2.2.2.1 = colOf v463 v465 (skips v463 v466 v469 r.2.1) ∧ r.2.2.2.2.2.2.1 = Scalar.cmpi .slt r.2.2.2.1 8#32) ?_ ?_
    · rw [k0_part19_eq_skeleton]; unfold k0_part19_skel; dsimp only; repeat with_reducible first | refine Safe.load fun _ => ?_ | refine Safe.store ?_ | refine Safe.assume (chk4 H.qa H.ka H.qb H.vb _ _) ?_
      exact Safe.ret ⟨rfl, rfl, rfl⟩
    rintro ⟨v636, v651, hw4, v658, v660, v662, v663, v666, v669, v674⟩ ⟨h658, h660, h663⟩
    dsimp only at h658 h660 h663 ⊢
    refine Safe.bind (Q := fun _ => True) ?_ ?_
    · rw [k0_part20_eq_skeleton]; unfold k0_part20_skel; dsimp only; repeat with_reducible first | refine Safe.load fun _ => ?_ | refine Safe.store ?_
      exact Safe.ret trivial
    rintro ⟨v679, v684, v689, v694, v696, v698, v701, v708⟩ -
    dsimp only
    refine Safe.bind (Q := fun _ => True) ?_ ?_
    · rw [k0_part21_eq_skeleton]; unfold k0_part21_skel; dsimp only; repeat with_reducible first | refine Safe.load fun _ => ?_ | refine Safe.store ?_
      exact Safe.ret trivial
    rintro ⟨v739, v743⟩ -
    dsimp only
    refine Safe.bind (Q := fun _ => True) ?_ ?_
    · rw [k0_part22_eq_skeleton]; unfold k0_part22_skel; dsimp only; repeat with_reducible first | refine Safe.load fun _ => ?_ | refine Safe.store ?_
      exact Safe.ret trivial
    rintro x22 -
    try dsimp only
    refine Safe.bind (Q := fun _ => True) ?_ ?_
    · rw [k0_part23_eq_skeleton]; unfold k0_part23_skel; dsimp only; repeat with_reducible first | refine Safe.load fun _ => ?_ | refine Safe.store ?_
      exact Safe.ret trivial
    rintro x23 -
    try dsimp only
    refine Safe.bind (Q := fun r => r.1 = Scalar.cmpi .eq v660 0#32 ∧ r.2.1 = Scalar.andi (Scalar.cmpi .eq v660 0#32) v663 ∧ r.2.2 = Scalar.addi v658 1#32) ?_ ?_
    · rw [k0_part24_eq_skeleton]; unfold k0_part24_skel; dsimp only; repeat with_reducible first | refine Safe.load fun _ => ?_ | refine Safe.store ?_
      exact Safe.ret ⟨rfl, rfl, rfl⟩
    rintro ⟨v830, v831, v832⟩ ⟨h830, h831, h832⟩
    dsimp only at h830 h831 h832 ⊢
    subst h288 h290 h463 h465 h466 h467 h469
    have T := trip H hgo v281 v651 rfl rfl rfl rfl h658 h660
    subst h658 h660 h663 h830 h831 h832
    refine Safe.tail (Safe.call n (fun u hu => by cases hu; exact Nat.lt_succ_self n) (ih _ _ _ _ _ _ _ _ _ _ T.1 (by have := T.2; omega)) fun _ _ => Safe.ret trivial)

end Cert.Kernel3.Prompt

end
-- ==== Proof.Prompt.Body.lean ====
/-
  The body of the attention call of the prompt streams: it clears its rings, and loops.
-/
module

public import proofs.«01_k».proof.Proof.Prompt.Loop

@[expose] public section

set_option maxRecDepth 16384

noncomputable section

namespace Cert.Kernel3.Prompt

open Cert.Kernel3 Cert.Kernel3.Gen Cert.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x256 .f32) (harg7 : arg7.IsWhole)
  (arg8 : Memref sig .tc .vmem S2x4x256x256 .f32) (harg8 : arg8.IsWhole)
  (arg9 : Memref sig .tc .vmem S2x4x256x256 .f32) (harg9 : arg9.IsWhole)
  (arg10 : Memref sig .tc .vmem S2x4x256x256 .f32) (harg10 : arg10.IsWhole)
  (arg11 : Memref sig .tc .vmem S4x256x128 .f32) (harg11 : arg11.IsWhole)
  (arg12 : Memref sig .tc .vmem S4x256x128 .f32) (harg12 : arg12.IsWhole)

set_option maxHeartbeats 1600000 in
/-- The body runs and ends, whatever its buffers hold. -/
theorem body {R : sProp 𝕄} [Reads c R arg2] [Reads c R arg3] [Reads c R arg4] [Reads c R arg5] [Writes c R arg6] [Writes c R arg7] [Writes c R arg8] [Writes c R arg9] [Writes c R arg10] [Writes c R arg11] [Writes c R arg12] :
    Safe c (defs₀ (F := F)) R none (cc0_attn_prompt (F := F) i arg2 harg2 arg3 harg3 arg4 harg4 arg5 harg5 arg6 harg6 arg7 harg7 arg8 harg8 arg9 harg9 arg10 harg10 arg11 harg11 arg12 harg12) fun _ => True := by
  rw [cc0_attn_prompt_eq_skeleton]; unfold cc0_attn_prompt_skel
  refine Safe.bind (Q := fun _ => True) ?_ ?_
  · rw [k0_part1_eq_skeleton]; unfold k0_part1_skel; dsimp only; repeat with_reducible first | refine Safe.load fun _ => ?_ | refine Safe.store ?_
    exact Safe.ret trivial
  rintro v5 -
  refine Safe.bind (Q := fun _ => True) ?_ ?_
  · rw [k0_part2_eq_skeleton]; unfold k0_part2_skel; dsimp only; repeat with_reducible first | refine Safe.load fun _ => ?_ | refine Safe.store ?_
    exact Safe.ret trivial
  rintro v55 -
  refine Safe.bind (Q := fun _ => True) ?_ ?_
  · rw [k0_part3_eq_skeleton]; unfold k0_part3_skel; dsimp only; repeat with_reducible first | refine Safe.load fun _ => ?_ | refine Safe.store ?_
    exact Safe.ret trivial
  rintro v79 -
  dsimp only
  repeat with_reducible first | refine Safe.load fun _ => ?_ | refine Safe.store ?_
  refine Safe.call (Q' := fun _ => True) (togo 0#32 0#32 0#32 0#32) (fun u hu => absurd hu (Option.not_mem_none u))
    (loop c i v5 arg2 harg2 arg3 harg3 arg4 harg4 arg5 harg5 arg6 harg6 arg7 harg7 arg8 harg8 arg9 harg9 arg10 harg10 arg11 harg11 arg12 harg12 _ 0#32 0#32 0#32 0#32 0#32 0#32 0#32 0#32 0#32 0#32 (by constructor <;> decide) le_rfl) ?_
  rintro ⟨v0, v1, v2, v3, v4, v5, v6, v7, v8, v9⟩ -
  exact Safe.ret trivial

end Cert.Kernel3.Prompt

end
-- ==== Proof.Prompt.Launch.lean ====
/-
  The prompt attention call's run: from any memory, at any floats, every execution ends, the argument arrays
  unchanged and the counters at zero. Nothing is said of the result.
-/
module

public import proofs.«01_k».proof.Proof.Prompt.Body
public import proofs.«01_k».proof.Proof.Gen.Kernel3.Launch
public import proofs.«01_k».proof.Proof.Gen.Kernel3.Points
public import Idealize.ShloMosaic.Lib.Pipeline.FrameBody
public import Idealize.ShloMosaic.Lib.Pipeline.Kit
public import Idealize.ShloMosaic.Lib.Pipeline.Regions

@[expose] public section

set_option maxRecDepth 16384

noncomputable section

namespace Cert.Kernel3.Prompt

open Cert.Kernel3 Cert.Kernel3.Gen Cert.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The body from its buffers -/

section Buffers
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x256 .f32) (harg7 : arg7.IsWhole)
  (arg8 : Memref sig .tc .vmem S2x4x256x256 .f32) (harg8 : arg8.IsWhole)
  (arg9 : Memref sig .tc .vmem S2x4x256x256 .f32) (harg9 : arg9.IsWhole)
  (arg10 : Memref sig .tc .vmem S2x4x256x256 .f32) (harg10 : arg10.IsWhole)
  (arg11 : Memref sig .tc .vmem S4x256x128 .f32) (harg11 : arg11.IsWhole)
  (arg12 : Memref sig .tc .vmem S4x256x128 .f32) (harg12 : arg12.IsWhole)
  (x2 x3 x4 x5 : Vec F S2048x512 .bf16)

/-- The buffers: four at known contents, the others at any. -/
def bufs : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5
    ∗ held c arg6 ∗ held c arg7 ∗ held c arg8
    ∗ held c arg9 ∗ held c arg10 ∗ held c arg11
    ∗ held c arg12 ∗ ∃ r, prngReg c r)

theorem body_safe : Safe c (defs₀ (F := F)) (bufs c arg2 arg3 arg4 arg5 arg6 arg7 arg8 arg9 arg10 arg11 arg12 x2 x3 x4 x5) none
    (cc0_attn_prompt (F := F) i arg2 harg2 arg3 harg3 arg4 harg4 arg5 harg5 arg6 harg6 arg7 harg7 arg8 harg8 arg9 harg9 arg10 harg10 arg11 harg11 arg12 harg12) fun _ => True := by
  unfold bufs
  exact body c i arg2 harg2 arg3 harg3 arg4 harg4 arg5 harg5 arg6 harg6 arg7 harg7 arg8 harg8 arg9 harg9 arg10 harg10 arg11 harg11 arg12 harg12
end Buffers

variable (m : (ℓ : Loc nD τ sig) → Buf (Elt F) ℓ) (ρ : Dev nD → PrngReg)

/-- What the core's buffers hold when the call is entered: what they were launched with. -/
abbrev V (c : Dev nD) (b : Ref sig .tc) : Buf (Elt F) ((c : Thread nD τ).loc b) := m ((c : Thread nD τ).loc b)

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Nothing is named of what the output window holds. -/
def forgets : Fin 5 → Bool := fun w => w.val == 4

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0 (F := F)) ⟨4, h⟩ t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; rfl) t d).trans rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))
/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at a point, from its resources. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, show (dats m 0 c).Φ t.castSucc = Pipeline.ΦA spec0 c from rfl]
  unfold Pipeline.ΦA
  rw [scopedRest0_eq]
  iintro ⟨⟨⟨HS0, HS1, HS2, HS3, HS4, HS5⟩, Hg⟩, Ho, ⟨%d0, H0⟩, ⟨%d1, H1⟩, ⟨%d2, H2⟩, ⟨%d3, H3⟩, H4⟩
  iapply (body_safe c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (iblk m c 0 t) (iblk m c 1 t) (iblk m c 2 t) (iblk m c 3 t) _)
  unfold bufs held
  isplitl [HS0 HS1 HS2 HS3 HS4 HS5 Hg H0 H1 H2 H3 H4]
  · isplitl [H0]; · iexact H0
    isplitl [H1]; · iexact H1
    isplitl [H2]; · iexact H2
    isplitl [H3]; · iexact H3
    isplitl [H4]; · iexact H4
    isplitl [HS0]; · iapply (whole_in c cc0_scratch0) $$ HS0
    isplitl [HS1]; · iapply (whole_in c cc0_scratch1) $$ HS1
    isplitl [HS2]; · iapply (whole_in c cc0_scratch2) $$ HS2
    isplitl [HS3]; · iapply (whole_in c cc0_scratch3) $$ HS3
    isplitl [HS4]; · iapply (whole_in c cc0_scratch4) $$ HS4
    isplitl [HS5]; · iapply (whole_in c cc0_scratch5) $$ HS5
    iexact Hg
  iintro %x - ⟨H0, H1, H2, H3, H4, HS0, HS1, HS2, HS3, HS4, HS5, Hg⟩
  isplitl [HS0 HS1 HS2 HS3 HS4 HS5 Hg]
  · isplitl [HS0 HS1 HS2 HS3 HS4 HS5]
    · isplitl [HS0]; · iapply (whole_out c cc0_scratch0) $$ HS0
      isplitl [HS1]; · iapply (whole_out c cc0_scratch1) $$ HS1
      isplitl [HS2]; · iapply (whole_out c cc0_scratch2) $$ HS2
      isplitl [HS3]; · iapply (whole_out c cc0_scratch3) $$ HS3
      isplitl [HS4]; · iapply (whole_out c cc0_scratch4) $$ HS4
      iapply (whole_out c cc0_scratch5) $$ HS5
    iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ forgets := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame. -/
theorem frame_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ ⟨h, hz⟩ => ⟨fun c => ⟨(Pipeline.RDat.FramePost.arr_in h c 0 rfl).trans (A_eq m c 0),
      (Pipeline.RDat.FramePost.arr_in h c 1 rfl).trans (A_eq m c 1),
      (Pipeline.RDat.FramePost.arr_in h c 2 rfl).trans (A_eq m c 2),
      (Pipeline.RDat.FramePost.arr_in h c 3 rfl).trans (A_eq m c 3)⟩, hz⟩) (run_main m ρ)

end Cert.Kernel3.Prompt

end
-- ==== Proof.lean ====
/-
  The proof of the claims about one decoder layer without its attention calls, about the attention call of the sample
  streams, and about that of the prompts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import Idealize.ShloMosaic.Adequacy
public import Idealize.ShloMosaic.Init
public import proofs.«01_k».proof.Proof.Val.Agree
public import proofs.«01_k».proof.Proof.Gen.Kernel2Ideal.Frame
public import proofs.«01_k».proof.Proof.Gen.Kernel2Ideal.Points
public import proofs.«01_k».proof.Proof.Gen.Kernel2Ideal.Launch
public import proofs.«01_k».proof.Proof.Gen.Kernel2Ideal.Skeleton
public import proofs.«01_k».proof.Proof.Gen.Kernel2Ideal
public import proofs.«01_k».proof.Proof.Gen.Kernel2
public import proofs.«01_k».proof.Proof.Gen.Kernel2.Skeleton
public import proofs.«01_k».proof.Proof.Gen.Reference2Ideal
public import proofs.«01_k».proof.Proof.Gen.Reference2Ideal.Read
public import proofs.«01_k».proof.Proof.Gen.Kernel3
public import proofs.«01_k».proof.Proof.Gen.Kernel3.Points
public import proofs.«01_k».proof.Proof.Gen.Kernel3.Launch
public import proofs.«01_k».proof.Proof.Gen.Kernel3.Skeleton
public import proofs.«01_k».proof.Proof.Att.Bits
public import proofs.«01_k».proof.Proof.Att.Out
public import proofs.«01_k».proof.Proof.Att.RefA
public import proofs.«01_k».proof.Proof.Prompt.Launch

@[expose] public section

set_option maxRecDepth 16384

noncomputable section

namespace Cert.Proof

open Idealize.ShloMosaic Idealize.SL.Sem Idealize.ShloMosaic.StableHlo

/-- The kernel program terminates, leaves its arguments as they were and every semaphore at zero. -/
theorem frameKernel : Cert.quiescent_Kernel := fun m ρ _ => Cert.Kernel.Gen.frame m ρ

/-- The same of its idealization. -/
theorem frameKernelIdeal : Cert.quiescent_KernelIdeal := fun m ρ _ => Cert.KernelIdeal.Gen.frame m ρ

/-- The same of the reference. -/
theorem frameReferenceIdeal : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run (F := Ideal) m ρ)
  obtain ⟨_, _, _, _, _, _, _, _, _, _, _, _, h⟩ := h c
  exact h

/-- Whatever the arguments, the kernel and the reference end with the same twelve results over the extended reals. -/
theorem algebraic : Cert.algebraic_KernelIdeal_ReferenceIdeal := by
  intro m g m' g' _ hag
  refine ⟨fun c => Cert.KernelIdeal.Gen.W24 m g c (Proc.devRef .tc Cert.KernelIdeal.main_v29),
    fun c => Cert.KernelIdeal.Gen.W24 m g c (Proc.devRef .tc Cert.KernelIdeal.main_v43),
    fun c => Cert.KernelIdeal.Gen.W24 m g c (Proc.devRef .tc Cert.KernelIdeal.main_v22_0),
    fun c => Cert.KernelIdeal.Gen.W24 m g c (Proc.devRef .tc Cert.KernelIdeal.main_v23_0),
    fun c => Cert.KernelIdeal.Gen.W24 m g c (Proc.devRef .tc Cert.KernelIdeal.main_v27_1),
    fun c => Cert.KernelIdeal.Gen.W24 m g c (Proc.devRef .tc Cert.KernelIdeal.main_v37_0),
    fun c => Cert.KernelIdeal.Gen.W24 m g c (Proc.devRef .tc Cert.KernelIdeal.main_v38_0),
    fun c => Cert.KernelIdeal.Gen.W24 m g c (Proc.devRef .tc Cert.KernelIdeal.main_v41_1),
    fun c => Cert.KernelIdeal.Gen.W24 m g c (Proc.devRef .tc Cert.KernelIdeal.main_v21_1),
    fun c => Cert.KernelIdeal.Gen.W24 m g c (Proc.devRef .tc Cert.KernelIdeal.main_v24_1),
    fun c => Cert.KernelIdeal.Gen.W24 m g c (Proc.devRef .tc Cert.KernelIdeal.main_v36),
    fun c => Cert.KernelIdeal.Gen.W24 m g c (Proc.devRef .tc Cert.KernelIdeal.main_v39), Cert.KernelIdeal.Val.valueRun m g,
    (θ_run Cert.ReferenceIdeal.defs _ _).mono (fun r h c => ?_) (Cert.ReferenceIdeal.Value.run (F := Ideal) m' g')⟩
  obtain ⟨h0, h1, h2, h3, h4, h5, h6, h7, h8, h9, h10, h11, h12, h13⟩ := hag c
  obtain ⟨rv109, rv212, rv24, rv25, rv61, rv127, rv128, rv164, rv110, rv111, rv213, rv214, ht⟩ := h c
  exact ⟨rv109.trans ((Cert.ReferenceIdeal.Read.val_main_v109_eq (launchContents m' c)).trans
      (Cert.Value.agree_v109 m g (launchContents m' c) c h0 h2 h5 h6 h7 h8 h9 h10 h11 h12 h13)),
    rv212.trans ((Cert.ReferenceIdeal.Read.val_main_v212_eq (launchContents m' c)).trans
      (Cert.Value.agree_v212 m g (launchContents m' c) c h1 h3 h4 h5 h6 h7 h8 h9 h10 h11 h12 h13)),
    rv24.trans ((Cert.ReferenceIdeal.Read.val_main_v24_eq (launchContents m' c)).trans
      (Cert.Value.agree_v24 m g (launchContents m' c) c h0 h5 h6)),
    rv25.trans ((Cert.ReferenceIdeal.Read.val_main_v25_eq (launchContents m' c)).trans
      (Cert.Value.agree_v25 m g (launchContents m' c) c h0 h5 h6)),
    rv61.trans ((Cert.ReferenceIdeal.Read.val_main_v61_eq (launchContents m' c)).trans
      (Cert.Value.agree_v61 m g (launchContents m' c) c h0 h5 h6)),
    rv127.trans ((Cert.ReferenceIdeal.Read.val_main_v127_eq (launchContents m' c)).trans
      (Cert.Value.agree_v127 m g (launchContents m' c) c h1 h5 h6)),
    rv128.trans ((Cert.ReferenceIdeal.Read.val_main_v128_eq (launchContents m' c)).trans
      (Cert.Value.agree_v128 m g (launchContents m' c) c h1 h5 h6)),
    rv164.trans ((Cert.ReferenceIdeal.Read.val_main_v164_eq (launchContents m' c)).trans
      (Cert.Value.agree_v164 m g (launchContents m' c) c h1 h4 h5 h6)),
    rv110.trans ((Cert.ReferenceIdeal.Read.val_main_v110_eq (launchContents m' c)).trans
      (Cert.Value.agree_v110 m g (launchContents m' c) c h0 h5 h6)),
    rv111.trans ((Cert.ReferenceIdeal.Read.val_main_v111_eq (launchContents m' c)).trans
      (Cert.Value.agree_v111 m g (launchContents m' c) c h0 h5 h6)),
    rv213.trans ((Cert.ReferenceIdeal.Read.val_main_v213_eq (launchContents m' c)).trans
      (Cert.Value.agree_v213 m g (launchContents m' c) c h1 h5 h6)),
    rv214.trans ((Cert.ReferenceIdeal.Read.val_main_v214_eq (launchContents m' c)).trans
      (Cert.Value.agree_v214 m g (launchContents m' c) c h1 h5 h6)), ht⟩

/-- The attention call of the sample streams terminates, leaves its arguments as they were and every semaphore at zero. -/
theorem frameKernel2 : Cert.quiescent_Kernel2 := fun m ρ _ => Cert.Kernel2Ideal.Att.frame_bits m ρ

/-- The same of its idealization. -/
theorem frameKernel2Ideal : Cert.quiescent_Kernel2Ideal := fun m ρ _ =>
  (θ_run Cert.Kernel2Ideal.defs _ _).mono (fun _ h => h.1) (Cert.Kernel2Ideal.Att.frame_value (F := Ideal) m ρ)

/-- The same of its reference. -/
theorem frameReference2Ideal : Cert.quiescent_Reference2Ideal := by
  intro m ρ _
  refine (θ_run Cert.Reference2Ideal.defs _ _).mono (fun r h => ⟨fun c => ?_, sem_eq_zero_of_no_sems (by decide) r.2⟩)
    (Cert.Reference2Ideal.Value.run (F := Ideal) m ρ)
  exact (h c).2

/-- The named constant of the call is the inverse of the logarithm of two. -/
theorem preserves2 : Cert.preserves_Kernel2_Kernel2Ideal :=
  IdealRules.named_const.statement Cert.Kernel2Ideal.κ "inv_ln2" .f32 0x3FB8AA3B#32 (((Real.log 2)⁻¹ : ℝ) : EReal) rfl

/-- Whatever the arguments, the call and its reference end with the same result over the extended reals. -/
theorem algebraic2 : Cert.algebraic_Kernel2Ideal_Reference2Ideal := by
  intro m g m' g' _ hag
  refine ⟨fun c => Cert.Kernel2Ideal.Att.result m c,
    (θ_run Cert.Kernel2Ideal.defs _ _).mono (fun r h c => ⟨h.2 c, h.1.1 c⟩) (Cert.Kernel2Ideal.Att.frame_value (F := Ideal) m g),
    (θ_run Cert.Reference2Ideal.defs _ _).mono (fun r h c => ⟨?_, (h c).2⟩) (Cert.Reference2Ideal.Value.run (F := Ideal) m' g')⟩
  obtain ⟨h0, h1, h2, h3, h4, h5⟩ := hag c
  refine (h c).1.trans ((Cert.Reference2Ideal.Read.val_main_v54_eq m' c).trans ?_)
  rw [h0, h1, h2, h3, h4, h5]
  refine Eq.trans (funext fun j => ?_) (Cert.Kernel2Ideal.Att.result_G m c).symm
  exact Cert.Reference2Ideal.Att.result_eq _ _ _ _ _ _ j

/-- The prompts' attention call terminates, leaves its arguments as they were and every semaphore at zero. -/
theorem frameKernel3 : Cert.quiescent_Kernel3 := fun m ρ _ => Cert.Kernel3.Prompt.frame_value (F := Bits) m ρ

/-- All claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    frameKernel, frameKernelIdeal, frameReferenceIdeal, frameKernel2, frameKernel2Ideal, frameReference2Ideal,
    frameKernel3, trivial, algebraic, preserves2, algebraic2⟩

end Cert.Proof

end
